-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v10) = v0 c
          ∧ r.2.mem ((c.tc : Thread Cert.Reference14Ideal.nD Cert.Reference14Ideal.τ).loc Cert.Reference14Ideal.main_v13) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v2) = v1 c
          ∧ r.2.mem ((c.tc : Thread Cert.Reference15Ideal.nD Cert.Reference15Ideal.τ).loc Cert.Reference15Ideal.main_v5) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v33) = v0 c
          ∧ r.2.mem ((c.tc : Thread Cert.Reference16Ideal.nD Cert.Reference16Ideal.τ).loc Cert.Reference16Ideal.main_v34) = v1 c
          ∧ r.2.mem ((c.tc : Thread Cert.Reference16Ideal.nD Cert.Reference16Ideal.τ).loc Cert.Reference16Ideal.main_v36) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v20) = v0 c
          ∧ r.2.mem ((c.tc : Thread Cert.Reference25Ideal.nD Cert.Reference25Ideal.τ).loc Cert.Reference25Ideal.main_v18) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v10) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite2 : Cert.Pre_finite2.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_finite2.lean ====
abbrev S8192x1024 : Shape := ⟨2, ![8192, 1024]⟩
abbrev S2816x1024 : Shape := ⟨2, ![2816, 1024]⟩
abbrev S2x8192x2816 : Shape := ⟨3, ![2, 8192, 2816]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S2816x1024 : S_.BroadcastsInDim S2816x1024 (![] : Fin 0 → Fin S2816x1024.rank)
  bcast_S_S2x8192x2816 : S_.BroadcastsInDim S2x8192x2816 (![] : Fin 0 → Fin S2x8192x2816.rank)

variable [Facts]

def fn {F : FTy → Type} [FloatOps F] (main_arg0 : FVec F S8192x1024 .bf16) (main_arg1 : FVec F S2816x1024 .bf16) (main_arg2 : FVec F S2x8192x2816 .bf16) : IVec S8192x1024 1 × IVec S2816x1024 1 × IVec S2x8192x2816 1 :=
  let main_v0 : FVec F S8192x1024 .f32 := (extf .f32 · bitsLt_bf16_f32) main_arg0
  let main_v1 : FVec F S2816x1024 .f32 := (extf .f32 · bitsLt_bf16_f32) main_arg1
  let main_v2 : FVec F S2x8192x2816 .f32 := (extf .f32 · bitsLt_bf16_f32) main_arg2
  let main_v3 : FVec F S8192x1024 .f32 := subf main_v0 main_v0
  let main_cst : FVec F S_ .f32 := constant S_ .f32 0x00000000#32
  let main_v4 : FVec F S8192x1024 .f32 := broadcastInDim S8192x1024 ![] bcast_S_S8192x1024 main_cst
  let main_v5 : IVec S8192x1024 1 := cmpf .oeq main_v3 main_v4
  let main_v6 : FVec F S2816x1024 .f32 := subf main_v1 main_v1
  let main_cst_0 : FVec F S_ .f32 := constant S_ .f32 0x00000000#32
  let main_v7 : FVec F S2816x1024 .f32 := broadcastInDim S2816x1024 ![] bcast_S_S2816x1024 main_cst_0
  let main_v8 : IVec S2816x1024 1 := cmpf .oeq main_v6 main_v7
  let main_v9 : FVec F S2x8192x2816 .f32 := subf main_v2 main_v2
  let main_cst_1 : FVec F S_ .f32 := constant S_ .f32 0x00000000#32
  let main_v10 : FVec F S2x8192x2816 .f32 := broadcastInDim S2x8192x2816 ![] bcast_S_S2x8192x2816 main_cst_1
  let main_v11 : IVec S2x8192x2816 1 := cmpf .oeq main_v9 main_v10
  (main_v5, main_v8, main_v11)
-- ==== Kernel.lean ====
abbrev S8192x7168 : Shape := ⟨2, ![8192, 7168]⟩
abbrev S8192x1024 : Shape := ⟨2, ![8192, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x16x2048 : Shape := ⟨3, ![4, 16, 2048]⟩
abbrev S4x16x2048x1 : Shape := ⟨4, ![4, 16, 2048, 1]⟩
abbrev S256x128 : Shape := ⟨2, ![256, 128]⟩
abbrev S2048x128 : Shape := ⟨2, ![2048, 128]⟩
abbrev S2x2x256x256 : Shape := ⟨4, ![2, 2, 256, 256]⟩
abbrev S2x2x1x256 : Shape := ⟨4, ![2, 2, 1, 256]⟩
abbrev S2x1x256 : Shape := ⟨3, ![2, 1, 256]⟩
abbrev S2x128x256 : Shape := ⟨3, ![2, 128, 256]⟩
abbrev S128x256 : Shape := ⟨2, ![128, 256]⟩
abbrev S1x256 : Shape := ⟨2, ![1, 256]⟩
abbrev S256x256 : Shape := ⟨2, ![256, 256]⟩
abbrev S256x512 : Shape := ⟨2, ![256, 512]⟩
abbrev S512x256 : Shape := ⟨2, ![512, 256]⟩
abbrev S1x1x256x256 : Shape := ⟨4, ![1, 1, 256, 256]⟩
abbrev S256 : Shape := ⟨1, ![256]⟩
abbrev S1x1x1x256 : Shape := ⟨4, ![1, 1, 1, 256]⟩
abbrev S1x1x256 : Shape := ⟨3, ![1, 1, 256]⟩
abbrev S1x128x256 : Shape := ⟨3, ![1, 128, 256]⟩

abbrev nBuf : Space → Nat
  | .hbm => 53
  | .vmem => 25
  | .smem => 0
  | _ => 0

abbrev bufTy : (tb : Table) → Fin (tcTables nBuf tb) → BufTy
  | .hbm, ⟨0, _⟩ => ⟨S8192x7168, .f32⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S4x2048x16x64, .f32⟩
  | .hbm, ⟨6, _⟩ => ⟨S4x16x2048x64, .f32⟩
  | .hbm, ⟨7, _⟩ => ⟨S4x2048x16x64, .f32⟩
  | .hbm, ⟨8, _⟩ => ⟨S4x16x2048x64, .f32⟩
  | .hbm, ⟨9, _⟩ => ⟨S4x2048x16x64, .f32⟩
  | .hbm, ⟨10, _⟩ => ⟨S4x16x2048x64, .f32⟩
  | .hbm, ⟨11, _⟩ => ⟨S4x16x2048x2048, .f32⟩
  | .hbm, ⟨12, _⟩ => ⟨S_, .f32⟩
  | .hbm, ⟨13, _⟩ => ⟨S4x16x2048x2048, .f32⟩
  | .hbm, ⟨14, _⟩ => ⟨S4x16x2048x2048, .f32⟩
  | .hbm, ⟨15, _⟩ => ⟨S2048, .i32⟩
  | .hbm, ⟨16, _⟩ => ⟨S2048x1, .i32⟩
  | .hbm, ⟨17, _⟩ => ⟨S2048, .i32⟩
  | .hbm, ⟨18, _⟩ => ⟨S1x2048, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S4x16x2048x2048, .f32⟩
  | .hbm, ⟨23, _⟩ => ⟨S4x16x2048x2048, .f32⟩
  | .hbm, ⟨24, _⟩ => ⟨S_, .f32⟩
  | .hbm, ⟨25, _⟩ => ⟨S4x16x2048x2048, .f32⟩
  | .hbm, ⟨26, _⟩ => ⟨S4x16x2048x2048, .f32⟩
  | .hbm, ⟨27, _⟩ => ⟨S4x16x2048x2048, .f32⟩
  | .hbm, ⟨28, _⟩ => ⟨S4x16x2048x2048, .f32⟩
  | .hbm, ⟨29, _⟩ => ⟨S4x16x2048x2048, .i1⟩
  | .hbm, ⟨30, _⟩ => ⟨S4x16x2048x2048, .f32⟩
  | .hbm, ⟨31, _⟩ => ⟨S4x16x2048x2048, .f32⟩
  | .hbm, ⟨32, _⟩ => ⟨S4x16x2048x2048, .f32⟩
  | .hbm, ⟨33, _⟩ => ⟨S4x16x2048x2048, .f32⟩
  | .hbm, ⟨34, _⟩ => ⟨S4x16x2048x2048, .f32⟩
  | .hbm, ⟨35, _⟩ => ⟨S4x16x2048x2048, .f32⟩
  | .hbm, ⟨36, _⟩ => ⟨S4x16x2048x2048, .f32⟩
  | .hbm, ⟨37, _⟩ => ⟨S4x16x2048x2048, .f32⟩
  | .hbm, ⟨38, _⟩ => ⟨S4x16x2048x2048, .f32⟩
  | .hbm, ⟨39, _⟩ => ⟨S_, .f32⟩
  | .hbm, ⟨40, _⟩ => ⟨S_, .f32⟩
  | .hbm, ⟨41, _⟩ => ⟨S4x16x2048x2048, .i1⟩
  | .hbm, ⟨42, _⟩ => ⟨S4x16x2048x2048, .f32⟩
  | .hbm, ⟨43, _⟩ => ⟨S4x16x2048x2048, .f32⟩
  | .hbm, ⟨44, _⟩ => ⟨S_, .f32⟩
  | .hbm, ⟨45, _⟩ => ⟨S4x16x2048, .f32⟩
  | .hbm, ⟨46, _⟩ => ⟨S4x16x2048x1, .f32⟩
  | .hbm, ⟨47, _⟩ => ⟨S4x16x2048x64, .f32⟩
  | .hbm, ⟨48, _⟩ => ⟨S4x2048x16x64, .f32⟩
  | .hbm, ⟨49, _⟩ => ⟨S8192x1024, .f32⟩
  | .hbm, ⟨50, _⟩ => ⟨S8192x1024, .bf16⟩
  | .hbm, ⟨51, _⟩ => ⟨S8192x1024, .bf16⟩
  | .hbm, ⟨52, _⟩ => ⟨S8192x1024, .bf16⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x128, .bf16⟩
  | .local _ .vmem, ⟨7, _⟩ => ⟨S256x128, .bf16⟩
  | .local _ .vmem, ⟨8, _⟩ => ⟨S256x128, .f32⟩
  | .local _ .vmem, ⟨9, _⟩ => ⟨S256x128, .f32⟩
  | .local _ .vmem, ⟨10, _⟩ => ⟨S256x128, .bf16⟩
  | .local _ .vmem, ⟨11, _⟩ => ⟨S256x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .f32⟩
  | .local _ .vmem, ⟨17, _⟩ => ⟨S2048x128, .f32⟩
  | .local _ .vmem, ⟨18, _⟩ => ⟨S2x2x256x256, .f32⟩
  | .local _ .vmem, ⟨19, _⟩ => ⟨S2x2x256x256, .f32⟩
  | .local _ .vmem, ⟨20, _⟩ => ⟨S2x2x256x256, .f32⟩
  | .local _ .vmem, ⟨21, _⟩ => ⟨S2x2x1x256, .f32⟩
  | .local _ .vmem, ⟨22, _⟩ => ⟨S2x1x256, .f32⟩
  | .local _ .vmem, ⟨23, _⟩ => ⟨S2x1x256, .f32⟩
  | .local _ .vmem, ⟨24, _⟩ => ⟨S2x128x256, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v20 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v21 : Ref sig .tc := ⟨.hbm, 43, rfl⟩
abbrev main_cst_1 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27_0 : Ref sig .tc := ⟨.hbm, 50, rfl⟩
abbrev main_v27_1 : Ref sig .tc := ⟨.hbm, 51, rfl⟩
abbrev main_v27_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 8, 8], ![false, false, false]⟩

def k0_mult1 : BitVec 32 :=
  let c0_i32_27 : BitVec 32 := 0#32
  c0_i32_27
@[reducible] def k0_t1_loop (i : grid0.Coords) : Scf.Loop 32 :=
  let c0_i32_90 : BitVec 32 := 0#32
  let arg2 : BitVec 32 := BitVec.ofNat 32 (i 2).val
  let c0_i32_84 : BitVec 32 := 0#32
  let v165 : BitVec 1 := Scalar.cmpi .sgt arg2 c0_i32_84
  let v166 : BitVec 32 := Scalar.extui v165
  let c0_i32_85 : BitVec 32 := 0#32
  let v167 : BitVec 1 := Scalar.cmpi .slt arg2 c0_i32_85
  let v168 : BitVec 32 := Scalar.extui v167
  let v169 : BitVec 32 := Scalar.subi v166 v168
  let c2_i32 : BitVec 32 := 2#32
  let c0_i32_86 : BitVec 32 := 0#32
  let v170 : BitVec 1 := Scalar.cmpi .sgt c2_i32 c0_i32_86
  let v171 : BitVec 32 := Scalar.extui v170
  let c0_i32_87 : BitVec 32 := 0#32
  let v172 : BitVec 1 := Scalar.cmpi .slt c2_i32 c0_i32_87
  let v173 : BitVec 32 := Scalar.extui v172
  let v174 : BitVec 32 := Scalar.subi v171 v173
  let v175 : BitVec 1 := Scalar.cmpi .ne v169 v174
  let v176 : BitVec 32 := Scalar.remsi arg2 c2_i32
  let c0_i32_88 : BitVec 32 := 0#32
  let v177 : BitVec 1 := Scalar.cmpi .ne v176 c0_i32_88
  let v178 : BitVec 1 := Scalar.andi v175 v177
  let v164 : BitVec 32 := Scalar.divsi arg2 c2_i32
  let c1_i32 : BitVec 32 := 1#32
  let v179 : BitVec 32 := Scalar.subi v164 c1_i32
  let v180 : BitVec 32 := Scalar.select v178 v179 v164
  let v181 : BitVec 32 := Scalar.subi v180 c0_i32_90
  let c1_i32_91 : BitVec 32 := 1#32
  let v183 : BitVec 32 := Scalar.divsi v181 c1_i32_91
  let v184 : BitVec 32 := Scalar.muli v183 c1_i32_91
  let v185 : BitVec 32 := Scalar.addi c0_i32_90 v184
  let c1_i32_92 : BitVec 32 := 1#32
  ⟨c0_i32_90, v185, c1_i32_92⟩
def k0_mult2 (i : grid0.Coords) (k0_t1 : Fin (k0_t1_loop i).trips) : BitVec 32 :=
  let c2_i32_120 : BitVec 32 := 2#32
  let c0_i32_90 : BitVec 32 := 0#32
  let c1_i32_92 : BitVec 32 := 1#32
  let arg20 : BitVec 32 := Scf.iv c0_i32_90 c1_i32_92 k0_t1
  let v225 : BitVec 32 := Scalar.muli c2_i32_120 arg20
  let c1_i32_121 : BitVec 32 := 1#32
  let v226 : BitVec 32 := Scalar.addi v225 c1_i32_121
  let c256_i32 : BitVec 32 := 256#32
  let v227 : BitVec 32 := Scalar.muli v226 c256_i32
  v227
def k0_off1 (i : grid0.Coords) (k0_t1 : Fin (k0_t1_loop i).trips) (c1_i32_121 : BitVec 32) : Fin 2 → Nat :=
  let c2_i32_120 : BitVec 32 := 2#32
  let c0_i32_90 : BitVec 32 := 0#32
  let c1_i32_92 : BitVec 32 := 1#32
  let arg20 : BitVec 32 := Scf.iv c0_i32_90 c1_i32_92 k0_t1
  let v225 : BitVec 32 := Scalar.muli c2_i32_120 arg20
  let v226 : BitVec 32 := Scalar.addi v225 c1_i32_121
  let c256_i32 : BitVec 32 := 256#32
  let v227 : BitVec 32 := Scalar.muli v226 c256_i32
  let v228 : BitVec 32 := v227
  let v229 : Index := Scalar.indexCast v228
  let c0_122 : Index := 0#32
  ![v229.toNat, 0]
def k0_mult3 (i : grid0.Coords) (k0_t1 : Fin (k0_t1_loop i).trips) : BitVec 32 :=
  let c2_i32_120 : BitVec 32 := 2#32
  let c0_i32_90 : BitVec 32 := 0#32
  let c1_i32_92 : BitVec 32 := 1#32
  let arg20 : BitVec 32 := Scf.iv c0_i32_90 c1_i32_92 k0_t1
  let v225 : BitVec 32 := Scalar.muli c2_i32_120 arg20
  let c256_i32_178 : BitVec 32 := 256#32
  let v322 : BitVec 32 := Scalar.muli v225 c256_i32_178
  v322
def k0_off2 (i : grid0.Coords) (k0_t1 : Fin (k0_t1_loop i).trips) : Fin 2 → Nat :=
  let c2_i32_120 : BitVec 32 := 2#32
  let c0_i32_90 : BitVec 32 := 0#32
  let c1_i32_92 : BitVec 32 := 1#32
  let arg20 : BitVec 32 := Scf.iv c0_i32_90 c1_i32_92 k0_t1
  let v225 : BitVec 32 := Scalar.muli c2_i32_120 arg20
  let c256_i32_178 : BitVec 32 := 256#32
  let v322 : BitVec 32 := Scalar.muli v225 c256_i32_178
  let v323 : BitVec 32 := v322
  let v324 : Index := Scalar.indexCast v323
  let c0_179 : Index := 0#32
  ![v324.toNat, 0]
def k0_mult4 (i : grid0.Coords) (k0_t1 : Fin (k0_t1_loop i).trips) : BitVec 32 :=
  let c2_i32_120 : BitVec 32 := 2#32
  let c0_i32_90 : BitVec 32 := 0#32
  let c1_i32_92 : BitVec 32 := 1#32
  let arg20 : BitVec 32 := Scf.iv c0_i32_90 c1_i32_92 k0_t1
  let v225 : BitVec 32 := Scalar.muli c2_i32_120 arg20
  let c2_i32_266 : BitVec 32 := 2#32
  let v452 : BitVec 32 := Scalar.addi v225 c2_i32_266
  let c256_i32_268 : BitVec 32 := 256#32
  let v454 : BitVec 32 := Scalar.muli v452 c256_i32_268
  v454
def k0_mult5 (i : grid0.Coords) (k0_t1 : Fin (k0_t1_loop i).trips) : BitVec 32 :=
  let c2_i32_120 : BitVec 32 := 2#32
  let c0_i32_90 : BitVec 32 := 0#32
  let c1_i32_92 : BitVec 32 := 1#32
  let arg20 : BitVec 32 := Scf.iv c0_i32_90 c1_i32_92 k0_t1
  let v225 : BitVec 32 := Scalar.muli c2_i32_120 arg20
  let c1_i32_267 : BitVec 32 := 1#32
  let v453 : BitVec 32 := Scalar.addi v225 c1_i32_267
  let c256_i32_325 : BitVec 32 := 256#32
  let v549 : BitVec 32 := Scalar.muli v453 c256_i32_325
  v549
@[reducible] def k0_t2_loop (i : grid0.Coords) : Scf.Loop 32 :=
  let c0_i32_90 : BitVec 32 := 0#32
  let arg2 : BitVec 32 := BitVec.ofNat 32 (i 2).val
  let c0_i32_84 : BitVec 32 := 0#32
  let v165 : BitVec 1 := Scalar.cmpi .sgt arg2 c0_i32_84
  let v166 : BitVec 32 := Scalar.extui v165
  let c0_i32_85 : BitVec 32 := 0#32
  let v167 : BitVec 1 := Scalar.cmpi .slt arg2 c0_i32_85
  let v168 : BitVec 32 := Scalar.extui v167
  let v169 : BitVec 32 := Scalar.subi v166 v168
  let c2_i32 : BitVec 32 := 2#32
  let c0_i32_86 : BitVec 32 := 0#32
  let v170 : BitVec 1 := Scalar.cmpi .sgt c2_i32 c0_i32_86
  let v171 : BitVec 32 := Scalar.extui v170
  let c0_i32_87 : BitVec 32 := 0#32
  let v172 : BitVec 1 := Scalar.cmpi .slt c2_i32 c0_i32_87
  let v173 : BitVec 32 := Scalar.extui v172
  let v174 : BitVec 32 := Scalar.subi v171 v173
  let v175 : BitVec 1 := Scalar.cmpi .ne v169 v174
  let v176 : BitVec 32 := Scalar.remsi arg2 c2_i32
  let c0_i32_88 : BitVec 32 := 0#32
  let v177 : BitVec 1 := Scalar.cmpi .ne v176 c0_i32_88
  let v178 : BitVec 1 := Scalar.andi v175 v177
  let v164 : BitVec 32 := Scalar.divsi arg2 c2_i32
  let c1_i32 : BitVec 32 := 1#32
  let v179 : BitVec 32 := Scalar.subi v164 c1_i32
  let v180 : BitVec 32 := Scalar.select v178 v179 v164
  let v181 : BitVec 32 := Scalar.subi v180 c0_i32_90
  let c1_i32_91 : BitVec 32 := 1#32
  let v183 : BitVec 32 := Scalar.divsi v181 c1_i32_91
  let v184 : BitVec 32 := Scalar.muli v183 c1_i32_91
  let v185 : BitVec 32 := Scalar.addi c0_i32_90 v184
  let v182 : BitVec 32 := Scalar.addi c0_i32_90 v181
  let c1_i32_93 : BitVec 32 := 1#32
  ⟨v185, v182, c1_i32_93⟩
def k0_mult6 (i : grid0.Coords) (k0_t2 : Fin (k0_t2_loop i).trips) : BitVec 32 :=
  let c2_i32_120 : BitVec 32 := 2#32
  let c0_i32_90 : BitVec 32 := 0#32
  let arg2 : BitVec 32 := BitVec.ofNat 32 (i 2).val
  let c0_i32_84 : BitVec 32 := 0#32
  let v165 : BitVec 1 := Scalar.cmpi .sgt arg2 c0_i32_84
  let v166 : BitVec 32 := Scalar.extui v165
  let c0_i32_85 : BitVec 32 := 0#32
  let v167 : BitVec 1 := Scalar.cmpi .slt arg2 c0_i32_85
  let v168 : BitVec 32 := Scalar.extui v167
  let v169 : BitVec 32 := Scalar.subi v166 v168
  let c2_i32 : BitVec 32 := 2#32
  let c0_i32_86 : BitVec 32 := 0#32
  let v170 : BitVec 1 := Scalar.cmpi .sgt c2_i32 c0_i32_86
  let v171 : BitVec 32 := Scalar.extui v170
  let c0_i32_87 : BitVec 32 := 0#32
  let v172 : BitVec 1 := Scalar.cmpi .slt c2_i32 c0_i32_87
  let v173 : BitVec 32 := Scalar.extui v172
  let v174 : BitVec 32 := Scalar.subi v171 v173
  let v175 : BitVec 1 := Scalar.cmpi .ne v169 v174
  let v176 : BitVec 32 := Scalar.remsi arg2 c2_i32
  let c0_i32_88 : BitVec 32 := 0#32
  let v177 : BitVec 1 := Scalar.cmpi .ne v176 c0_i32_88
  let v178 : BitVec 1 := Scalar.andi v175 v177
  let v164 : BitVec 32 := Scalar.divsi arg2 c2_i32
  let c1_i32 : BitVec 32 := 1#32
  let v179 : BitVec 32 := Scalar.subi v164 c1_i32
  let v180 : BitVec 32 := Scalar.select v178 v179 v164
  let v181 : BitVec 32 := Scalar.subi v180 c0_i32_90
  let c1_i32_91 : BitVec 32 := 1#32
  let v183 : BitVec 32 := Scalar.divsi v181 c1_i32_91
  let v184 : BitVec 32 := Scalar.muli v183 c1_i32_91
  let v185 : BitVec 32 := Scalar.addi c0_i32_90 v184
  let c1_i32_93 : BitVec 32 := 1#32
  let arg20 : BitVec 32 := Scf.iv v185 c1_i32_93 k0_t2
  let v225 : BitVec 32 := Scalar.muli c2_i32_120 arg20
  let c1_i32_121 : BitVec 32 := 1#32
  let v226 : BitVec 32 := Scalar.addi v225 c1_i32_121
  let c256_i32 : BitVec 32 := 256#32
  let v227 : BitVec 32 := Scalar.muli v226 c256_i32
  v227
def k0_off3 (i : grid0.Coords) (k0_t2 : Fin (k0_t2_loop i).trips) (c1_i32_121 : BitVec 32) : Fin 2 → Nat :=
  let c2_i32_120 : BitVec 32 := 2#32
  let c0_i32_90 : BitVec 32 := 0#32
  let arg2 : BitVec 32 := BitVec.ofNat 32 (i 2).val
  let c0_i32_84 : BitVec 32 := 0#32
  let v165 : BitVec 1 := Scalar.cmpi .sgt arg2 c0_i32_84
  let v166 : BitVec 32 := Scalar.extui v165
  let c0_i32_85 : BitVec 32 := 0#32
  let v167 : BitVec 1 := Scalar.cmpi .slt arg2 c0_i32_85
  let v168 : BitVec 32 := Scalar.extui v167
  let v169 : BitVec 32 := Scalar.subi v166 v168
  let c2_i32 : BitVec 32 := 2#32
  let c0_i32_86 : BitVec 32 := 0#32
  let v170 : BitVec 1 := Scalar.cmpi .sgt c2_i32 c0_i32_86
  let v171 : BitVec 32 := Scalar.extui v170
  let c0_i32_87 : BitVec 32 := 0#32
  let v172 : BitVec 1 := Scalar.cmpi .slt c2_i32 c0_i32_87
  let v173 : BitVec 32 := Scalar.extui v172
  let v174 : BitVec 32 := Scalar.subi v171 v173
  let v175 : BitVec 1 := Scalar.cmpi .ne v169 v174
  let v176 : BitVec 32 := Scalar.remsi arg2 c2_i32
  let c0_i32_88 : BitVec 32 := 0#32
  let v177 : BitVec 1 := Scalar.cmpi .ne v176 c0_i32_88
  let v178 : BitVec 1 := Scalar.andi v175 v177
  let v164 : BitVec 32 := Scalar.divsi arg2 c2_i32
  let c1_i32 : BitVec 32 := 1#32
  let v179 : BitVec 32 := Scalar.subi v164 c1_i32
  let v180 : BitVec 32 := Scalar.select v178 v179 v164
  let v181 : BitVec 32 := Scalar.subi v180 c0_i32_90
  let c1_i32_91 : BitVec 32 := 1#32
  let v183 : BitVec 32 := Scalar.divsi v181 c1_i32_91
  let v184 : BitVec 32 := Scalar.muli v183 c1_i32_91
  let v185 : BitVec 32 := Scalar.addi c0_i32_90 v184
  let c1_i32_93 : BitVec 32 := 1#32
  let arg20 : BitVec 32 := Scf.iv v185 c1_i32_93 k0_t2
  let v225 : BitVec 32 := Scalar.muli c2_i32_120 arg20
  let v226 : BitVec 32 := Scalar.addi v225 c1_i32_121
  let c256_i32 : BitVec 32 := 256#32
  let v227 : BitVec 32 := Scalar.muli v226 c256_i32
  let v228 : BitVec 32 := v227
  let v229 : Index := Scalar.indexCast v228
  let c0_122 : Index := 0#32
  ![v229.toNat, 0]
def k0_mult7 (i : grid0.Coords) (k0_t2 : Fin (k0_t2_loop i).trips) : BitVec 32 :=
  let c2_i32_120 : BitVec 32 := 2#32
  let c0_i32_90 : BitVec 32 := 0#32
  let arg2 : BitVec 32 := BitVec.ofNat 32 (i 2).val
  let c0_i32_84 : BitVec 32 := 0#32
  let v165 : BitVec 1 := Scalar.cmpi .sgt arg2 c0_i32_84
  let v166 : BitVec 32 := Scalar.extui v165
  let c0_i32_85 : BitVec 32 := 0#32
  let v167 : BitVec 1 := Scalar.cmpi .slt arg2 c0_i32_85
  let v168 : BitVec 32 := Scalar.extui v167
  let v169 : BitVec 32 := Scalar.subi v166 v168
  let c2_i32 : BitVec 32 := 2#32
  let c0_i32_86 : BitVec 32 := 0#32
  let v170 : BitVec 1 := Scalar.cmpi .sgt c2_i32 c0_i32_86
  let v171 : BitVec 32 := Scalar.extui v170
  let c0_i32_87 : BitVec 32 := 0#32
  let v172 : BitVec 1 := Scalar.cmpi .slt c2_i32 c0_i32_87
  let v173 : BitVec 32 := Scalar.extui v172
  let v174 : BitVec 32 := Scalar.subi v171 v173
  let v175 : BitVec 1 := Scalar.cmpi .ne v169 v174
  let v176 : BitVec 32 := Scalar.remsi arg2 c2_i32
  let c0_i32_88 : BitVec 32 := 0#32
  let v177 : BitVec 1 := Scalar.cmpi .ne v176 c0_i32_88
  let v178 : BitVec 1 := Scalar.andi v175 v177
  let v164 : BitVec 32 := Scalar.divsi arg2 c2_i32
  let c1_i32 : BitVec 32 := 1#32
  let v179 : BitVec 32 := Scalar.subi v164 c1_i32
  let v180 : BitVec 32 := Scalar.select v178 v179 v164
  let v181 : BitVec 32 := Scalar.subi v180 c0_i32_90
  let c1_i32_91 : BitVec 32 := 1#32
  let v183 : BitVec 32 := Scalar.divsi v181 c1_i32_91
  let v184 : BitVec 32 := Scalar.muli v183 c1_i32_91
  let v185 : BitVec 32 := Scalar.addi c0_i32_90 v184
  let c1_i32_93 : BitVec 32 := 1#32
  let arg20 : BitVec 32 := Scf.iv v185 c1_i32_93 k0_t2
  let v225 : BitVec 32 := Scalar.muli c2_i32_120 arg20
  let c256_i32_178 : BitVec 32 := 256#32
  let v322 : BitVec 32 := Scalar.muli v225 c256_i32_178
  v322
def k0_off4 (i : grid0.Coords) (k0_t2 : Fin (k0_t2_loop i).trips) : Fin 2 → Nat :=
  let c2_i32_120 : BitVec 32 := 2#32
  let c0_i32_90 : BitVec 32 := 0#32
  let arg2 : BitVec 32 := BitVec.ofNat 32 (i 2).val
  let c0_i32_84 : BitVec 32 := 0#32
  let v165 : BitVec 1 := Scalar.cmpi .sgt arg2 c0_i32_84
  let v166 : BitVec 32 := Scalar.extui v165
  let c0_i32_85 : BitVec 32 := 0#32
  let v167 : BitVec 1 := Scalar.cmpi .slt arg2 c0_i32_85
  let v168 : BitVec 32 := Scalar.extui v167
  let v169 : BitVec 32 := Scalar.subi v166 v168
  let c2_i32 : BitVec 32 := 2#32
  let c0_i32_86 : BitVec 32 := 0#32
  let v170 : BitVec 1 := Scalar.cmpi .sgt c2_i32 c0_i32_86
  let v171 : BitVec 32 := Scalar.extui v170
  let c0_i32_87 : BitVec 32 := 0#32
  let v172 : BitVec 1 := Scalar.cmpi .slt c2_i32 c0_i32_87
  let v173 : BitVec 32 := Scalar.extui v172
  let v174 : BitVec 32 := Scalar.subi v171 v173
  let v175 : BitVec 1 := Scalar.cmpi .ne v169 v174
  let v176 : BitVec 32 := Scalar.remsi arg2 c2_i32
  let c0_i32_88 : BitVec 32 := 0#32
  let v177 : BitVec 1 := Scalar.cmpi .ne v176 c0_i32_88
  let v178 : BitVec 1 := Scalar.andi v175 v177
  let v164 : BitVec 32 := Scalar.divsi arg2 c2_i32
  let c1_i32 : BitVec 32 := 1#32
  let v179 : BitVec 32 := Scalar.subi v164 c1_i32
  let v180 : BitVec 32 := Scalar.select v178 v179 v164
  let v181 : BitVec 32 := Scalar.subi v180 c0_i32_90
  let c1_i32_91 : BitVec 32 := 1#32
  let v183 : BitVec 32 := Scalar.divsi v181 c1_i32_91
  let v184 : BitVec 32 := Scalar.muli v183 c1_i32_91
  let v185 : BitVec 32 := Scalar.addi c0_i32_90 v184
  let c1_i32_93 : BitVec 32 := 1#32
  let arg20 : BitVec 32 := Scf.iv v185 c1_i32_93 k0_t2
  let v225 : BitVec 32 := Scalar.muli c2_i32_120 arg20
  let c256_i32_178 : BitVec 32 := 256#32
  let v322 : BitVec 32 := Scalar.muli v225 c256_i32_178
  let v323 : BitVec 32 := v322
  let v324 : Index := Scalar.indexCast v323
  let c0_179 : Index := 0#32
  ![v324.toNat, 0]
def k0_mult8 (i : grid0.Coords) (k0_t2 : Fin (k0_t2_loop i).trips) : BitVec 32 :=
  let c2_i32_120 : BitVec 32 := 2#32
  let c0_i32_90 : BitVec 32 := 0#32
  let arg2 : BitVec 32 := BitVec.ofNat 32 (i 2).val
  let c0_i32_84 : BitVec 32 := 0#32
  let v165 : BitVec 1 := Scalar.cmpi .sgt arg2 c0_i32_84
  let v166 : BitVec 32 := Scalar.extui v165
  let c0_i32_85 : BitVec 32 := 0#32
  let v167 : BitVec 1 := Scalar.cmpi .slt arg2 c0_i32_85
  let v168 : BitVec 32 := Scalar.extui v167
  let v169 : BitVec 32 := Scalar.subi v166 v168
  let c2_i32 : BitVec 32 := 2#32
  let c0_i32_86 : BitVec 32 := 0#32
  let v170 : BitVec 1 := Scalar.cmpi .sgt c2_i32 c0_i32_86
  let v171 : BitVec 32 := Scalar.extui v170
  let c0_i32_87 : BitVec 32 := 0#32
  let v172 : BitVec 1 := Scalar.cmpi .slt c2_i32 c0_i32_87
  let v173 : BitVec 32 := Scalar.extui v172
  let v174 : BitVec 32 := Scalar.subi v171 v173
  let v175 : BitVec 1 := Scalar.cmpi .ne v169 v174
  let v176 : BitVec 32 := Scalar.remsi arg2 c2_i32
  let c0_i32_88 : BitVec 32 := 0#32
  let v177 : BitVec 1 := Scalar.cmpi .ne v176 c0_i32_88
  let v178 : BitVec 1 := Scalar.andi v175 v177
  let v164 : BitVec 32 := Scalar.divsi arg2 c2_i32
  let c1_i32 : BitVec 32 := 1#32
  let v179 : BitVec 32 := Scalar.subi v164 c1_i32
  let v180 : BitVec 32 := Scalar.select v178 v179 v164
  let v181 : BitVec 32 := Scalar.subi v180 c0_i32_90
  let c1_i32_91 : BitVec 32 := 1#32
  let v183 : BitVec 32 := Scalar.divsi v181 c1_i32_91
  let v184 : BitVec 32 := Scalar.muli v183 c1_i32_91
  let v185 : BitVec 32 := Scalar.addi c0_i32_90 v184
  let c1_i32_93 : BitVec 32 := 1#32
  let arg20 : BitVec 32 := Scf.iv v185 c1_i32_93 k0_t2
  let v225 : BitVec 32 := Scalar.muli c2_i32_120 arg20
  let c2_i32_266 : BitVec 32 := 2#32
  let v452 : BitVec 32 := Scalar.addi v225 c2_i32_266
  let c256_i32_268 : BitVec 32 := 256#32
  let v454 : BitVec 32 := Scalar.muli v452 c256_i32_268
  v454
def k0_mult9 (i : grid0.Coords) (k0_t2 : Fin (k0_t2_loop i).trips) : BitVec 32 :=
  let c2_i32_120 : BitVec 32 := 2#32
  let c0_i32_90 : BitVec 32 := 0#32
  let arg2 : BitVec 32 := BitVec.ofNat 32 (i 2).val
  let c0_i32_84 : BitVec 32 := 0#32
  let v165 : BitVec 1 := Scalar.cmpi .sgt arg2 c0_i32_84
  let v166 : BitVec 32 := Scalar.extui v165
  let c0_i32_85 : BitVec 32 := 0#32
  let v167 : BitVec 1 := Scalar.cmpi .slt arg2 c0_i32_85
  let v168 : BitVec 32 := Scalar.extui v167
  let v169 : BitVec 32 := Scalar.subi v166 v168
  let c2_i32 : BitVec 32 := 2#32
  let c0_i32_86 : BitVec 32 := 0#32
  let v170 : BitVec 1 := Scalar.cmpi .sgt c2_i32 c0_i32_86
  let v171 : BitVec 32 := Scalar.extui v170
  let c0_i32_87 : BitVec 32 := 0#32
  let v172 : BitVec 1 := Scalar.cmpi .slt c2_i32 c0_i32_87
  let v173 : BitVec 32 := Scalar.extui v172
  let v174 : BitVec 32 := Scalar.subi v171 v173
  let v175 : BitVec 1 := Scalar.cmpi .ne v169 v174
  let v176 : BitVec 32 := Scalar.remsi arg2 c2_i32
  let c0_i32_88 : BitVec 32 := 0#32
  let v177 : BitVec 1 := Scalar.cmpi .ne v176 c0_i32_88
  let v178 : BitVec 1 := Scalar.andi v175 v177
  let v164 : BitVec 32 := Scalar.divsi arg2 c2_i32
  let c1_i32 : BitVec 32 := 1#32
  let v179 : BitVec 32 := Scalar.subi v164 c1_i32
  let v180 : BitVec 32 := Scalar.select v178 v179 v164
  let v181 : BitVec 32 := Scalar.subi v180 c0_i32_90
  let c1_i32_91 : BitVec 32 := 1#32
  let v183 : BitVec 32 := Scalar.divsi v181 c1_i32_91
  let v184 : BitVec 32 := Scalar.muli v183 c1_i32_91
  let v185 : BitVec 32 := Scalar.addi c0_i32_90 v184
  let c1_i32_93 : BitVec 32 := 1#32
  let arg20 : BitVec 32 := Scf.iv v185 c1_i32_93 k0_t2
  let v225 : BitVec 32 := Scalar.muli c2_i32_120 arg20
  let c1_i32_267 : BitVec 32 := 1#32
  let v453 : BitVec 32 := Scalar.addi v225 c1_i32_267
  let c256_i32_325 : BitVec 32 := 256#32
  let v549 : BitVec 32 := Scalar.muli v453 c256_i32_325
  v549
def k0_cond2 (i : grid0.Coords) : BitVec 1 :=
  let arg2 : BitVec 32 := BitVec.ofNat 32 (i 2).val
  let c2_i32_94 : BitVec 32 := 2#32
  let c0_i32_95 : BitVec 32 := 0#32
  let v186 : BitVec 1 := Scalar.cmpi .eq c2_i32_94 c0_i32_95
  let c1_i32_96 : BitVec 32 := 1#32
  let v187 : BitVec 32 := Scalar.select v186 c1_i32_96 c2_i32_94
  let v188 : BitVec 32 := Scalar.remsi arg2 v187
  let c0_i32_98 : BitVec 32 := 0#32
  let v190 : BitVec 1 := Scalar.cmpi .slt v188 c0_i32_98
  let c0_i32_99 : BitVec 32 := 0#32
  let v191 : BitVec 1 := Scalar.cmpi .slt v187 c0_i32_99
  let v192 : BitVec 1 := Scalar.xori v190 v191
  let c0_i32_97 : BitVec 32 := 0#32
  let v189 : BitVec 1 := Scalar.cmpi .ne v188 c0_i32_97
  let v193 : BitVec 1 := Scalar.andi v192 v189
  let v194 : BitVec 32 := Scalar.addi v188 v187
  let v195 : BitVec 32 := Scalar.select v193 v194 v188
  let c1_i32_100 : BitVec 32 := 1#32
  let v196 : BitVec 1 := Scalar.cmpi .eq v195 c1_i32_100
  let v197 : BitVec 32 := Scalar.extui v196
  let c0_i32_101 : BitVec 32 := 0#32
  let v198 : BitVec 1 := Scalar.cmpi .ne v197 c0_i32_101
  v198

def k0_mult10 (i : grid0.Coords) : BitVec 32 :=
  let arg2 : BitVec 32 := BitVec.ofNat 32 (i 2).val
  let c256_i32 : BitVec 32 := 256#32
  let v226 : BitVec 32 := Scalar.muli arg2 c256_i32
  v226
def k0_off5 (i : grid0.Coords) : Fin 2 → Nat :=
  let arg2 : BitVec 32 := BitVec.ofNat 32 (i 2).val
  let c256_i32 : BitVec 32 := 256#32
  let v226 : BitVec 32 := Scalar.muli arg2 c256_i32
  let v227 : BitVec 32 := v226
  let v228 : Index := Scalar.indexCast v227
  let c0_121 : Index := 0#32
  ![v228.toNat, 0]
def k0_mult11 (i : grid0.Coords) : BitVec 32 :=
  let arg2 : BitVec 32 := BitVec.ofNat 32 (i 2).val
  let c1_i32_120 : BitVec 32 := 1#32
  let v225 : BitVec 32 := Scalar.subi arg2 c1_i32_120
  let c256_i32_177 : BitVec 32 := 256#32
  let v321 : BitVec 32 := Scalar.muli v225 c256_i32_177
  v321
def k0_off6 (i : grid0.Coords) : Fin 2 → Nat :=
  let arg2 : BitVec 32 := BitVec.ofNat 32 (i 2).val
  let c1_i32_120 : BitVec 32 := 1#32
  let v225 : BitVec 32 := Scalar.subi arg2 c1_i32_120
  let c256_i32_177 : BitVec 32 := 256#32
  let v321 : BitVec 32 := Scalar.muli v225 c256_i32_177
  let v322 : BitVec 32 := v321
  let v323 : Index := Scalar.indexCast v322
  let c0_178 : Index := 0#32
  ![v323.toNat, 0]
def k0_mult12 (i : grid0.Coords) : BitVec 32 :=
  let arg2 : BitVec 32 := BitVec.ofNat 32 (i 2).val
  let c256_i32_265 : BitVec 32 := 256#32
  let v451 : BitVec 32 := Scalar.muli arg2 c256_i32_265
  v451
def k0_cond3 (i : grid0.Coords) : BitVec 1 :=
  let arg2 : BitVec 32 := BitVec.ofNat 32 (i 2).val
  let c2_i32_102 : BitVec 32 := 2#32
  let c0_i32_103 : BitVec 32 := 0#32
  let v199 : BitVec 1 := Scalar.cmpi .eq c2_i32_102 c0_i32_103
  let c1_i32_104 : BitVec 32 := 1#32
  let v200 : BitVec 32 := Scalar.select v199 c1_i32_104 c2_i32_102
  let v201 : BitVec 32 := Scalar.remsi arg2 v200
  let c0_i32_106 : BitVec 32 := 0#32
  let v203 : BitVec 1 := Scalar.cmpi .slt v201 c0_i32_106
  let c0_i32_107 : BitVec 32 := 0#32
  let v204 : BitVec 1 := Scalar.cmpi .slt v200 c0_i32_107
  let v205 : BitVec 1 := Scalar.xori v203 v204
  let c0_i32_105 : BitVec 32 := 0#32
  let v202 : BitVec 1 := Scalar.cmpi .ne v201 c0_i32_105
  let v206 : BitVec 1 := Scalar.andi v205 v202
  let v207 : BitVec 32 := Scalar.addi v201 v200
  let v208 : BitVec 32 := Scalar.select v206 v207 v201
  let c0_i32_108 : BitVec 32 := 0#32
  let v209 : BitVec 1 := Scalar.cmpi .eq v208 c0_i32_108
  let v210 : BitVec 32 := Scalar.extui v209
  let c0_i32_109 : BitVec 32 := 0#32
  let v211 : BitVec 1 := Scalar.cmpi .ne v210 c0_i32_109
  v211

def k0_mult13 (i : grid0.Coords) : BitVec 32 :=
  let arg2 : BitVec 32 := BitVec.ofNat 32 (i 2).val
  let c256_i32 : BitVec 32 := 256#32
  let v225 : BitVec 32 := Scalar.muli arg2 c256_i32
  v225
def k0_off7 (i : grid0.Coords) : Fin 2 → Nat :=
  let arg2 : BitVec 32 := BitVec.ofNat 32 (i 2).val
  let c256_i32 : BitVec 32 := 256#32
  let v225 : BitVec 32 := Scalar.muli arg2 c256_i32
  let v226 : BitVec 32 := v225
  let v227 : Index := Scalar.indexCast v226
  let c0_120 : Index := 0#32
  ![v227.toNat, 0]
def k0_cond4 (i : grid0.Coords) : BitVec 1 :=
  let arg2 : BitVec 32 := BitVec.ofNat 32 (i 2).val
  let c7_i32 : BitVec 32 := 7#32
  let v222 : BitVec 1 := Scalar.cmpi .eq arg2 c7_i32
  let v223 : BitVec 32 := Scalar.extui v222
  let c0_i32_119 : BitVec 32 := 0#32
  let v224 : BitVec 1 := Scalar.cmpi .ne v223 c0_i32_119
  v224

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S8192x7168 : Shape := ⟨2, ![8192, 7168]⟩
abbrev S8192x1024 : Shape := ⟨2, ![8192, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x16x64x2048 : Shape := ⟨4, ![4, 16, 64, 2048]⟩

abbrev nBuf : Space → Nat
  | .hbm => 180
  | .vmem => 0
  | .smem => 0
  | _ => 0

abbrev hbmTy0_0 (i : Nat) : BufTy := match i % 128 with
  | 0 => ⟨S8192x7168, .f32⟩
  | 1 => ⟨S8192x1024, .bf16⟩
  | 2 => ⟨S8192x1024, .f32⟩
  | 3 => ⟨S8192x1024, .f32⟩
  | 4 => ⟨S8192x1024, .f32⟩
  | 5 => ⟨S4x2048x16x64, .f32⟩
  | 6 => ⟨S4x16x2048x64, .f32⟩
  | 7 => ⟨S4x2048x16x64, .f32⟩
  | 8 => ⟨S4x16x2048x64, .f32⟩
  | 9 => ⟨S4x2048x16x64, .f32⟩
  | 10 => ⟨S4x16x2048x64, .f32⟩
  | 11 => ⟨S8192x1024, .f32⟩
  | 12 => ⟨S4x2048x16x64, .f32⟩
  | 13 => ⟨S4x16x2048x64, .f32⟩
  | 14 => ⟨S4x16x2048x2048, .f32⟩
  | 15 => ⟨S_, .f32⟩
  | 16 => ⟨S4x16x2048x2048, .f32⟩
  | 17 => ⟨S4x16x2048x2048, .f32⟩
  | 18 => ⟨S2048, .i32⟩
  | 19 => ⟨S2048x1, .i32⟩
  | 20 => ⟨S2048, .i32⟩
  | 21 => ⟨S1x2048, .i32⟩
  | 22 => ⟨S2048x2048, .i32⟩
  | 23 => ⟨S2048x2048, .i32⟩
  | 24 => ⟨S2048x2048, .i1⟩
  | 25 => ⟨S4x16x2048x2048, .f32⟩
  | 26 => ⟨S4x16x2048x2048, .f32⟩
  | 27 => ⟨S_, .f32⟩
  | 28 => ⟨S4x16x2048x2048, .f32⟩
  | 29 => ⟨S4x16x2048x2048, .f32⟩
  | 30 => ⟨S4x16x2048x2048, .f32⟩
  | 31 => ⟨S4x16x2048x2048, .f32⟩
  | 32 => ⟨S4x16x2048x2048, .i1⟩
  | 33 => ⟨S4x16x2048x2048, .f32⟩
  | 34 => ⟨S4x16x2048x2048, .f32⟩
  | 35 => ⟨S4x16x2048x2048, .f32⟩
  | 36 => ⟨S4x16x2048x2048, .f32⟩
  | 37 => ⟨S4x16x2048x2048, .f32⟩
  | 38 => ⟨S4x16x2048x2048, .f32⟩
  | 39 => ⟨S4x16x2048x2048, .f32⟩
  | 40 => ⟨S4x16x2048x2048, .f32⟩
  | 41 => ⟨S_, .f32⟩
  | 42 => ⟨S4x16x2048x2048, .f32⟩
  | 43 => ⟨S4x16x2048x2048, .i1⟩
  | 44 => ⟨S_, .f32⟩
  | 45 => ⟨S4x16x2048x2048, .f32⟩
  | 46 => ⟨S4x16x2048x2048, .f32⟩
  | 47 => ⟨S_, .f32⟩
  | 48 => ⟨S4x16x2048x2048, .f32⟩
  | 49 => ⟨S4x16x2048x2048, .i1⟩
  | 50 => ⟨S_, .f32⟩
  | 51 => ⟨S4x16x2048x2048, .f32⟩
  | 52 => ⟨S4x16x2048x2048, .f32⟩
  | 53 => ⟨S4x16x2048x2048, .f32⟩
  | 54 => ⟨S4x16x2048x2048, .f32⟩
  | 55 => ⟨S_, .f32⟩
  | 56 => ⟨S_, .f32⟩
  | 57 => ⟨S_, .i1⟩
  | 58 => ⟨S_, .f32⟩
  | 59 => ⟨S_, .f32⟩
  | 60 => ⟨S_, .f32⟩
  | 61 => ⟨S_, .f32⟩
  | 62 => ⟨S4x16x2048x2048, .f32⟩
  | 63 => ⟨S4x16x2048x2048, .i1⟩
  | 64 => ⟨S_, .f32⟩
  | 65 => ⟨S4x16x2048x2048, .f32⟩
  | 66 => ⟨S4x16x2048x2048, .f32⟩
  | 67 => ⟨S4x16x2048x2048, .f32⟩
  | 68 => ⟨S4x16x2048x2048, .f32⟩
  | 69 => ⟨S4x16x2048x2048, .f32⟩
  | 70 => ⟨S_, .f32⟩
  | 71 => ⟨S4x16x2048x2048, .f32⟩
  | 72 => ⟨S4x16x2048x2048, .f32⟩
  | 73 => ⟨S4x16x2048x2048, .f32⟩
  | 74 => ⟨S_, .f32⟩
  | 75 => ⟨S_, .f32⟩
  | 76 => ⟨S4x16x2048x2048, .i1⟩
  | 77 => ⟨S4x16x2048x2048, .f32⟩
  | 78 => ⟨S4x16x2048x2048, .f32⟩
  | 79 => ⟨S_, .f32⟩
  | 80 => ⟨S4x16x2048x2048, .f32⟩
  | 81 => ⟨S_, .f32⟩
  | 82 => ⟨S_, .f32⟩
  | 83 => ⟨S4x16x2048x2048, .f32⟩
  | 84 => ⟨S4x16x2048x2048, .f32⟩
  | 85 => ⟨S4x16x2048x2048, .f32⟩
  | 86 => ⟨S_, .f32⟩
  | 87 => ⟨S4x16x2048x2048, .f32⟩
  | 88 => ⟨S4x16x2048x2048, .f32⟩
  | 89 => ⟨S4x16x2048x2048, .f32⟩
  | 90 => ⟨S4x16x2048x2048, .f32⟩
  | 91 => ⟨S4x16x2048x2048, .i1⟩
  | 92 => ⟨S4x16x2048x2048, .f32⟩
  | 93 => ⟨S4x16x2048x2048, .f32⟩
  | 94 => ⟨S4x16x2048x2048, .f32⟩
  | 95 => ⟨S4x16x2048x2048, .f32⟩
  | 96 => ⟨S4x16x2048x2048, .f32⟩
  | 97 => ⟨S4x16x2048x2048, .f32⟩
  | 98 => ⟨S4x16x2048x2048, .f32⟩
  | 99 => ⟨S4x16x2048x2048, .f32⟩
  | 100 => ⟨S_, .f32⟩
  | 101 => ⟨S4x16x2048x2048, .f32⟩
  | 102 => ⟨S4x16x2048x2048, .i1⟩
  | 103 => ⟨S_, .f32⟩
  | 104 => ⟨S4x16x2048x2048, .f32⟩
  | 105 => ⟨S4x16x2048x2048, .f32⟩
  | 106 => ⟨S_, .f32⟩
  | 107 => ⟨S4x16x2048x2048, .f32⟩
  | 108 => ⟨S4x16x2048x2048, .i1⟩
  | 109 => ⟨S_, .f32⟩
  | 110 => ⟨S4x16x2048x2048, .f32⟩
  | 111 => ⟨S4x16x2048x2048, .f32⟩
  | 112 => ⟨S4x16x2048x2048, .f32⟩
  | 113 => ⟨S4x16x2048x2048, .f32⟩
  | 114 => ⟨S_, .f32⟩
  | 115 => ⟨S_, .f32⟩
  | 116 => ⟨S_, .i1⟩
  | 117 => ⟨S_, .f32⟩
  | 118 => ⟨S_, .f32⟩
  | 119 => ⟨S_, .f32⟩
  | 120 => ⟨S_, .f32⟩
  | 121 => ⟨S4x16x2048x2048, .f32⟩
  | 122 => ⟨S4x16x2048x2048, .i1⟩
  | 123 => ⟨S_, .f32⟩
  | 124 => ⟨S4x16x2048x2048, .f32⟩
  | 125 => ⟨S4x16x2048x2048, .f32⟩
  | 126 => ⟨S4x16x2048x2048, .f32⟩
  | 127 => ⟨S4x16x2048x2048, .f32⟩
  | _ => ⟨S8192x7168, .f32⟩

abbrev hbmTy0_1 (i : Nat) : BufTy := match i % 128 with
  | 0 => ⟨S4x16x2048x2048, .f32⟩
  | 1 => ⟨S_, .f32⟩
  | 2 => ⟨S4x16x2048x2048, .f32⟩
  | 3 => ⟨S4x16x2048x2048, .f32⟩
  | 4 => ⟨S4x16x2048x2048, .f32⟩
  | 5 => ⟨S4x16x2048x2048, .f32⟩
  | 6 => ⟨S4x16x2048x2048, .f32⟩
  | 7 => ⟨S_, .f32⟩
  | 8 => ⟨S_, .f32⟩
  | 9 => ⟨S4x16x2048x2048, .i1⟩
  | 10 => ⟨S4x16x2048x2048, .f32⟩
  | 11 => ⟨S4x16x2048x2048, .f32⟩
  | 12 => ⟨S_, .f32⟩
  | 13 => ⟨S4x16x2048x2048, .f32⟩
  | 14 => ⟨S4x16x2048x64, .f32⟩
  | 15 => ⟨S4x16x64x2048, .f32⟩
  | 16 => ⟨S4x16x2048x64, .f32⟩
  | 17 => ⟨S4x16x2048x2048, .f32⟩
  | 18 => ⟨S_, .f32⟩
  | 19 => ⟨S4x16x2048x2048, .f32⟩
  | 20 => ⟨S4x16x2048x2048, .f32⟩
  | 21 => ⟨S4x16x2048x2048, .f32⟩
  | 22 => ⟨S4x16x2048x2048, .f32⟩
  | 23 => ⟨S4x16x2048x2048, .f32⟩
  | 24 => ⟨S4x16x2048x2048, .f32⟩
  | 25 => ⟨S4x16x2048x2048, .f32⟩
  | 26 => ⟨S_, .f32⟩
  | 27 => ⟨S_, .f32⟩
  | 28 => ⟨S4x16x2048x2048, .f32⟩
  | 29 => ⟨S4x16x2048x2048, .f32⟩
  | 30 => ⟨S_, .f32⟩
  | 31 => ⟨S4x16x2048x2048, .f32⟩
  | 32 => ⟨S4x16x2048x2048, .f32⟩
  | 33 => ⟨S4x16x2048x2048, .f32⟩
  | 34 => ⟨S4x16x2048x2048, .f32⟩
  | 35 => ⟨S4x16x2048x2048, .f32⟩
  | 36 => ⟨S4x16x2048x2048, .f32⟩
  | 37 => ⟨S4x16x2048x2048, .f32⟩
  | 38 => ⟨S_, .f32⟩
  | 39 => ⟨S4x16x2048x2048, .f32⟩
  | 40 => ⟨S4x16x2048x2048, .f32⟩
  | 41 => ⟨S4x16x2048x64, .f32⟩
  | 42 => ⟨S4x16x2048x64, .f32⟩
  | 43 => ⟨S4x2048x16x64, .f32⟩
  | 44 => ⟨S8192x1024, .f32⟩
  | 45 => ⟨S8192x1024, .bf16⟩
  | 46 => ⟨S4x2048x16x64, .f32⟩
  | 47 => ⟨S8192x1024, .f32⟩
  | 48 => ⟨S8192x1024, .bf16⟩
  | 49 => ⟨S4x2048x16x64, .f32⟩
  | 50 => ⟨S8192x1024, .f32⟩
  | 51 => ⟨S8192x1024, .bf16⟩
  | _ => ⟨S8192x7168, .f32⟩

abbrev hbmTy (i : Nat) : BufTy := match i / 128 with
  | 0 => hbmTy0_0 i
  | 1 => hbmTy0_1 i
  | _ => ⟨S8192x7168, .f32⟩

abbrev bufTy : (tb : Table) → Fin (tcTables nBuf tb) → BufTy
  | .hbm, ⟨i, _⟩ => hbmTy i
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1_0 : Ref sig .tc := ⟨.hbm, 40, rfl⟩
abbrev main_call0_call0_cst_0 : Ref sig .tc := ⟨.hbm, 41, rfl⟩
abbrev main_call0_call0_v13 : Ref sig .tc := ⟨.hbm, 42, rfl⟩
abbrev main_call0_call0_v14 : Ref sig .tc := ⟨.hbm, 43, rfl⟩
abbrev main_call0_call0_cst_1 : Ref sig .tc := ⟨.hbm, 44, rfl⟩
abbrev main_call0_call0_v15 : Ref sig .tc := ⟨.hbm, 45, rfl⟩
abbrev main_call0_call0_v16 : Ref sig .tc := ⟨.hbm, 46, rfl⟩
abbrev main_call0_call0_cst_2 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_cst_3 : Ref sig .tc := ⟨.hbm, 50, rfl⟩
abbrev main_call0_call0_v19 : Ref sig .tc := ⟨.hbm, 51, rfl⟩
abbrev main_call0_call0_v20 : Ref sig .tc := ⟨.hbm, 52, rfl⟩
abbrev main_call0_call0_v21 : Ref sig .tc := ⟨.hbm, 53, rfl⟩
abbrev main_v23_1 : Ref sig .tc := ⟨.hbm, 54, rfl⟩
abbrev main_call0_call0_cst_4 : Ref sig .tc := ⟨.hbm, 55, rfl⟩
abbrev main_call0_call0_cst_5 : Ref sig .tc := ⟨.hbm, 56, rfl⟩
abbrev main_call0_call0_v23 : Ref sig .tc := ⟨.hbm, 57, rfl⟩
abbrev main_call0_call0_cst_6 : Ref sig .tc := ⟨.hbm, 58, rfl⟩
abbrev main_call0_call0_cst_7 : Ref sig .tc := ⟨.hbm, 59, rfl⟩
abbrev main_call0_call0_v24 : Ref sig .tc := ⟨.hbm, 60, rfl⟩
abbrev main_call0_call0_cst_8 : Ref sig .tc := ⟨.hbm, 61, rfl⟩
abbrev main_call0_call0_v25 : Ref sig .tc := ⟨.hbm, 62, rfl⟩
abbrev main_call0_call0_v26 : Ref sig .tc := ⟨.hbm, 63, rfl⟩
abbrev main_call0_call0_cst_9 : Ref sig .tc := ⟨.hbm, 64, rfl⟩
abbrev main_call0_call0_v27 : Ref sig .tc := ⟨.hbm, 65, rfl⟩
abbrev main_call0_call0_v28 : Ref sig .tc := ⟨.hbm, 66, rfl⟩
abbrev main_call0_call0_v29 : Ref sig .tc := ⟨.hbm, 67, rfl⟩
abbrev main_call0_call0_v30 : Ref sig .tc := ⟨.hbm, 68, rfl⟩
abbrev main_call0_call0_v31 : Ref sig .tc := ⟨.hbm, 69, rfl⟩
abbrev main_call0_call0_cst_10 : Ref sig .tc := ⟨.hbm, 70, rfl⟩
abbrev main_call0_call0_v32 : Ref sig .tc := ⟨.hbm, 71, rfl⟩
abbrev main_v23_2 : Ref sig .tc := ⟨.hbm, 72, rfl⟩
abbrev main_v23_0 : Ref sig .tc := ⟨.hbm, 73, rfl⟩
abbrev main_cst_0 : Ref sig .tc := ⟨.hbm, 74, rfl⟩
abbrev main_call1_v0 : Ref sig .tc := ⟨.hbm, 75, rfl⟩
abbrev main_v24_1 : Ref sig .tc := ⟨.hbm, 76, rfl⟩
abbrev main_call1_v2 : Ref sig .tc := ⟨.hbm, 77, rfl⟩
abbrev main_v24_0 : Ref sig .tc := ⟨.hbm, 78, rfl⟩
abbrev main_call1_cst : Ref sig .tc := ⟨.hbm, 79, rfl⟩
abbrev main_v24_2 : Ref sig .tc := ⟨.hbm, 80, rfl⟩
abbrev main_call2_cst : Ref sig .tc := ⟨.hbm, 81, rfl⟩
abbrev main_call2_v0 : Ref sig .tc := ⟨.hbm, 82, rfl⟩
abbrev main_v25 : Ref sig .tc := ⟨.hbm, 83, rfl⟩
abbrev main_v26 : Ref sig .tc := ⟨.hbm, 84, rfl⟩
abbrev main_call3_v0 : Ref sig .tc := ⟨.hbm, 85, rfl⟩
abbrev main_call3_call0_cst : Ref sig .tc := ⟨.hbm, 86, rfl⟩
abbrev main_call3_call0_v0 : Ref sig .tc := ⟨.hbm, 87, rfl⟩
abbrev main_call3_call0_v1 : Ref sig .tc := ⟨.hbm, 88, rfl⟩
abbrev main_call3_call0_v2 : Ref sig .tc := ⟨.hbm, 89, rfl⟩
abbrev main_call3_call0_v3 : Ref sig .tc := ⟨.hbm, 90, rfl⟩
abbrev main_call3_call0_v4 : Ref sig .tc := ⟨.hbm, 91, rfl⟩
abbrev main_call3_call0_v5 : Ref sig .tc := ⟨.hbm, 92, rfl⟩
abbrev main_call3_call0_v6 : Ref sig .tc := ⟨.hbm, 93, rfl⟩
abbrev main_call3_call0_v7 : Ref sig .tc := ⟨.hbm, 94, rfl⟩
abbrev main_call3_call0_v8 : Ref sig .tc := ⟨.hbm, 95, rfl⟩
abbrev main_call3_call0_v9 : Ref sig .tc := ⟨.hbm, 96, rfl⟩
abbrev main_call3_call0_v10 : Ref sig .tc := ⟨.hbm, 97, rfl⟩
abbrev main_call3_call0_v11 : Ref sig .tc := ⟨.hbm, 98, rfl⟩
abbrev main_call3_v1_0 : Ref sig .tc := ⟨.hbm, 99, rfl⟩
abbrev main_call3_call0_cst_0 : Ref sig .tc := ⟨.hbm, 100, rfl⟩
abbrev main_call3_call0_v13 : Ref sig .tc := ⟨.hbm, 101, rfl⟩
abbrev main_call3_call0_v14 : Ref sig .tc := ⟨.hbm, 102, rfl⟩
abbrev main_call3_call0_cst_1 : Ref sig .tc := ⟨.hbm, 103, rfl⟩
abbrev main_call3_call0_v15 : Ref sig .tc := ⟨.hbm, 104, rfl⟩
abbrev main_call3_call0_v16 : Ref sig .tc := ⟨.hbm, 105, rfl⟩
abbrev main_call3_call0_cst_2 : Ref sig .tc := ⟨.hbm, 106, rfl⟩
abbrev main_call3_call0_v17 : Ref sig .tc := ⟨.hbm, 107, rfl⟩
abbrev main_call3_call0_v18 : Ref sig .tc := ⟨.hbm, 108, rfl⟩
abbrev main_call3_call0_cst_3 : Ref sig .tc := ⟨.hbm, 109, rfl⟩
abbrev main_call3_call0_v19 : Ref sig .tc := ⟨.hbm, 110, rfl⟩
abbrev main_call3_call0_v20 : Ref sig .tc := ⟨.hbm, 111, rfl⟩
abbrev main_call3_call0_v21 : Ref sig .tc := ⟨.hbm, 112, rfl⟩
abbrev main_v27_1 : Ref sig .tc := ⟨.hbm, 113, rfl⟩
abbrev main_call3_call0_cst_4 : Ref sig .tc := ⟨.hbm, 114, rfl⟩
abbrev main_call3_call0_cst_5 : Ref sig .tc := ⟨.hbm, 115, rfl⟩
abbrev main_call3_call0_v23 : Ref sig .tc := ⟨.hbm, 116, rfl⟩
abbrev main_call3_call0_cst_6 : Ref sig .tc := ⟨.hbm, 117, rfl⟩
abbrev main_call3_call0_cst_7 : Ref sig .tc := ⟨.hbm, 118, rfl⟩
abbrev main_call3_call0_v24 : Ref sig .tc := ⟨.hbm, 119, rfl⟩
abbrev main_call3_call0_cst_8 : Ref sig .tc := ⟨.hbm, 120, rfl⟩
abbrev main_call3_call0_v25 : Ref sig .tc := ⟨.hbm, 121, rfl⟩
abbrev main_call3_call0_v26 : Ref sig .tc := ⟨.hbm, 122, rfl⟩
abbrev main_call3_call0_cst_9 : Ref sig .tc := ⟨.hbm, 123, rfl⟩
abbrev main_call3_call0_v27 : Ref sig .tc := ⟨.hbm, 124, rfl⟩
abbrev main_call3_call0_v28 : Ref sig .tc := ⟨.hbm, 125, rfl⟩
abbrev main_call3_call0_v29 : Ref sig .tc := ⟨.hbm, 126, rfl⟩
abbrev main_call3_call0_v30 : Ref sig .tc := ⟨.hbm, 127, rfl⟩
abbrev main_call3_call0_v31 : Ref sig .tc := ⟨.hbm, 128, rfl⟩
abbrev main_call3_call0_cst_10 : Ref sig .tc := ⟨.hbm, 129, rfl⟩
abbrev main_call3_call0_v32 : Ref sig .tc := ⟨.hbm, 130, rfl⟩
abbrev main_v27_2 : Ref sig .tc := ⟨.hbm, 131, rfl⟩
abbrev main_v27_0 : Ref sig .tc := ⟨.hbm, 132, rfl⟩
abbrev main_v28 : Ref sig .tc := ⟨.hbm, 133, rfl⟩
abbrev main_v29 : Ref sig .tc := ⟨.hbm, 134, rfl⟩
abbrev main_cst_1 : Ref sig .tc := ⟨.hbm, 135, rfl⟩
abbrev main_call4_v0 : Ref sig .tc := ⟨.hbm, 136, rfl⟩
abbrev main_v30_1 : Ref sig .tc := ⟨.hbm, 137, rfl⟩
abbrev main_call4_v2 : Ref sig .tc := ⟨.hbm, 138, rfl⟩
abbrev main_v30_0 : Ref sig .tc := ⟨.hbm, 139, rfl⟩
abbrev main_call4_cst : Ref sig .tc := ⟨.hbm, 140, rfl⟩
abbrev main_v30_2 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_call5_cst : Ref sig .tc := ⟨.hbm, 146, rfl⟩
abbrev main_call5_v0 : Ref sig .tc := ⟨.hbm, 147, rfl⟩
abbrev main_v35 : Ref sig .tc := ⟨.hbm, 148, rfl⟩
abbrev main_v36 : Ref sig .tc := ⟨.hbm, 149, rfl⟩
abbrev main_call6_v0 : Ref sig .tc := ⟨.hbm, 150, rfl⟩
abbrev main_call6_v1 : Ref sig .tc := ⟨.hbm, 151, rfl⟩
abbrev main_v37 : Ref sig .tc := ⟨.hbm, 152, rfl⟩
abbrev main_v38 : Ref sig .tc := ⟨.hbm, 153, rfl⟩
abbrev main_call7_cst : Ref sig .tc := ⟨.hbm, 154, rfl⟩
abbrev main_call7_v0 : Ref sig .tc := ⟨.hbm, 155, rfl⟩
abbrev main_v39 : Ref sig .tc := ⟨.hbm, 156, rfl⟩
abbrev main_v40 : Ref sig .tc := ⟨.hbm, 157, rfl⟩
abbrev main_call8_cst : Ref sig .tc := ⟨.hbm, 158, rfl⟩
abbrev main_call8_v0 : Ref sig .tc := ⟨.hbm, 159, rfl⟩
abbrev main_v41 : Ref sig .tc := ⟨.hbm, 160, rfl⟩
abbrev main_call9_v0 : Ref sig .tc := ⟨.hbm, 161, rfl⟩
abbrev main_call9_v1 : Ref sig .tc := ⟨.hbm, 162, rfl⟩
abbrev main_v42 : Ref sig .tc := ⟨.hbm, 163, rfl⟩
abbrev main_v43 : Ref sig .tc := ⟨.hbm, 164, rfl⟩
abbrev main_v44 : Ref sig .tc := ⟨.hbm, 165, rfl⟩
abbrev main_cst_2 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩

abbrev nD : Nat := 1
abbrev τ : Topo := Topo.v7x

variable {F : FTy → Type} [FloatOps F]
-- ==== Kernel2.lean ====
abbrev S8192x1024 : Shape := ⟨2, ![8192, 1024]⟩
abbrev S2816x1024 : Shape := ⟨2, ![2816, 1024]⟩
abbrev S2x8192x2816 : Shape := ⟨3, ![2, 8192, 2816]⟩
abbrev S512x1024 : Shape := ⟨2, ![512, 1024]⟩
abbrev S1408x1024 : Shape := ⟨2, ![1408, 1024]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2x8192x2816, .bf16⟩
  | .hbm, ⟨3, _⟩ => ⟨S2x8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x1024 : Shape := ⟨2, ![8192, 1024]⟩
abbrev S2816x1024 : Shape := ⟨2, ![2816, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2x8192x2816, .bf16⟩
  | .hbm, ⟨3, _⟩ => ⟨S1x8192x2816, .bf16⟩
  | .hbm, ⟨4, _⟩ => ⟨S8192x2816, .bf16⟩
  | .hbm, ⟨5, _⟩ => ⟨S8192x2816, .f32⟩
  | .hbm, ⟨6, _⟩ => ⟨S1x8192x2816, .bf16⟩
  | .hbm, ⟨7, _⟩ => ⟨S8192x2816, .bf16⟩
  | .hbm, ⟨8, _⟩ => ⟨S8192x2816, .f32⟩
  | .hbm, ⟨9, _⟩ => ⟨S2816x1024, .f32⟩
  | .hbm, ⟨10, _⟩ => ⟨S8192x1024, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S1x8192x2816, .f32⟩
  | .hbm, ⟨34, _⟩ => ⟨S1x8192x2816, .f32⟩
  | .hbm, ⟨35, _⟩ => ⟨S2x8192x2816, .f32⟩
  | .hbm, ⟨36, _⟩ => ⟨S2x8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v8_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v8_1 : Ref sig .tc := ⟨.hbm, 22, rfl⟩
abbrev main_v8_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x1024 : Shape := ⟨2, ![8192, 1024]⟩
abbrev S2x8192x2816 : Shape := ⟨3, ![2, 8192, 2816]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S8192x1024, .f32⟩
  | .hbm, ⟨3, _⟩ => ⟨S1x8192x2816, .bf16⟩
  | .hbm, ⟨4, _⟩ => ⟨S8192x2816, .bf16⟩
  | .hbm, ⟨5, _⟩ => ⟨S1x8192x2816, .bf16⟩
  | .hbm, ⟨6, _⟩ => ⟨S8192x2816, .bf16⟩
  | .hbm, ⟨7, _⟩ => ⟨S8192x5632, .bf16⟩
  | .hbm, ⟨8, _⟩ => ⟨S8192x5632, .f32⟩
  | .hbm, ⟨9, _⟩ => ⟨S_, .f32⟩
  | .hbm, ⟨10, _⟩ => ⟨S1024x5632, .f32⟩
  | .hbm, ⟨11, _⟩ => ⟨S8192x5632, .f32⟩
  | .hbm, ⟨12, _⟩ => ⟨S5632x1024, .f32⟩
  | .hbm, ⟨13, _⟩ => ⟨S1024x5632, .f32⟩
  | .hbm, ⟨14, _⟩ => ⟨S1024x4x1408, .f32⟩
  | .hbm, ⟨15, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel5.lean ====
abbrev S2x8192x2816 : Shape := ⟨3, ![2, 8192, 2816]⟩
abbrev S4x1024x1408 : Shape := ⟨3, ![4, 1024, 1408]⟩
abbrev S8192x1024 : Shape := ⟨2, ![8192, 1024]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x2816, .bf16⟩
  | .hbm, ⟨1, _⟩ => ⟨S4x1024x1408, .bf16⟩
  | .hbm, ⟨2, _⟩ => ⟨S8192x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2x8192x2816 : Shape := ⟨3, ![2, 8192, 2816]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S8192x1024 : Shape := ⟨2, ![8192, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S4x1024x1408, .bf16⟩
  | .hbm, ⟨2, _⟩ => ⟨S4x1024x1408, .f32⟩
  | .hbm, ⟨3, _⟩ => ⟨S1024x4x1408, .f32⟩
  | .hbm, ⟨4, _⟩ => ⟨S1024x5632, .f32⟩
  | .hbm, ⟨5, _⟩ => ⟨S1x8192x2816, .bf16⟩
  | .hbm, ⟨6, _⟩ => ⟨S8192x2816, .bf16⟩
  | .hbm, ⟨7, _⟩ => ⟨S1x8192x2816, .bf16⟩
  | .hbm, ⟨8, _⟩ => ⟨S8192x2816, .bf16⟩
  | .hbm, ⟨9, _⟩ => ⟨S8192x5632, .bf16⟩
  | .hbm, ⟨10, _⟩ => ⟨S8192x5632, .f32⟩
  | .hbm, ⟨11, _⟩ => ⟨S_, .f32⟩
  | .hbm, ⟨12, _⟩ => ⟨S8192x1024, .f32⟩
  | .hbm, ⟨13, _⟩ => ⟨S8192x5632, .f32⟩
  | .hbm, ⟨14, _⟩ => ⟨S8192x1024, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel6.lean ====
abbrev S8192x1024 : Shape := ⟨2, ![8192, 1024]⟩
abbrev S8192x7168 : Shape := ⟨2, ![8192, 7168]⟩
abbrev S4x1024x1792 : Shape := ⟨3, ![4, 1024, 1792]⟩
abbrev S2048x1024 : Shape := ⟨2, ![2048, 1024]⟩
abbrev S2048x1792 : Shape := ⟨2, ![2048, 1792]⟩
abbrev S1x1024x1792 : Shape := ⟨3, ![1, 1024, 1792]⟩
abbrev S1024x1792 : Shape := ⟨2, ![1024, 1792]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S4x1024x1792, .f32⟩
  | .local _ .vmem, ⟨0, _⟩ => ⟨S2048x1024, .bf16⟩
  | .local _ .vmem, ⟨1, _⟩ => ⟨S2048x1024, .bf16⟩
  | .local _ .vmem, ⟨2, _⟩ => ⟨S2048x1792, .bf16⟩
  | .local _ .vmem, ⟨3, _⟩ => ⟨S2048x1792, .bf16⟩
  | .local _ .vmem, ⟨4, _⟩ => ⟨S1x1024x1792, .f32⟩
  | .local _ .vmem, ⟨5, _⟩ => ⟨S1x1024x1792, .f32⟩
  | .local _ .vmem, ⟨6, _⟩ => ⟨S1024x1792, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x7168 : Shape := ⟨2, ![8192, 7168]⟩
abbrev S_ : Shape := ⟨0, ![]⟩
abbrev S1024x7168 : Shape := ⟨2, ![1024, 7168]⟩
abbrev S7168x1024 : Shape := ⟨2, ![7168, 1024]⟩
abbrev S1024x4x1792 : Shape := ⟨3, ![1024, 4, 1792]⟩
abbrev S4x1024x1792 : Shape := ⟨3, ![4, 1024, 1792]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S8192x1024, .f32⟩
  | .hbm, ⟨3, _⟩ => ⟨S_, .f32⟩
  | .hbm, ⟨4, _⟩ => ⟨S1024x7168, .f32⟩
  | .hbm, ⟨5, _⟩ => ⟨S8192x7168, .f32⟩
  | .hbm, ⟨6, _⟩ => ⟨S8192x7168, .f32⟩
  | .hbm, ⟨7, _⟩ => ⟨S7168x1024, .f32⟩
  | .hbm, ⟨8, _⟩ => ⟨S1024x7168, .f32⟩
  | .hbm, ⟨9, _⟩ => ⟨S1024x4x1792, .f32⟩
  | .hbm, ⟨10, _⟩ => ⟨S4x1024x1792, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S8192x7168 : Shape := ⟨2, ![8192, 7168]⟩
abbrev S4x1024x1792 : Shape := ⟨3, ![4, 1024, 1792]⟩
abbrev S8192x1024 : Shape := ⟨2, ![8192, 1024]⟩
abbrev S1024x1792 : Shape := ⟨2, ![1024, 1792]⟩
abbrev S1x1024x1792 : Shape := ⟨3, ![1, 1024, 1792]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x7168, .bf16⟩
  | .hbm, ⟨1, _⟩ => ⟨S4x1024x1792, .bf16⟩
  | .hbm, ⟨2, _⟩ => ⟨S8192x1024, .f32⟩
  | .local _ .vmem, ⟨0, _⟩ => ⟨S1024x1792, .bf16⟩
  | .local _ .vmem, ⟨1, _⟩ => ⟨S1024x1792, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x7168 : Shape := ⟨2, ![8192, 7168]⟩
abbrev S4x1024x1792 : Shape := ⟨3, ![4, 1024, 1792]⟩
abbrev S1024x4x1792 : Shape := ⟨3, ![1024, 4, 1792]⟩
abbrev S1024x7168 : Shape := ⟨2, ![1024, 7168]⟩
abbrev S_ : Shape := ⟨0, ![]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S4x1024x1792, .bf16⟩
  | .hbm, ⟨2, _⟩ => ⟨S4x1024x1792, .f32⟩
  | .hbm, ⟨3, _⟩ => ⟨S1024x4x1792, .f32⟩
  | .hbm, ⟨4, _⟩ => ⟨S1024x7168, .f32⟩
  | .hbm, ⟨5, _⟩ => ⟨S_, .f32⟩
  | .hbm, ⟨6, _⟩ => ⟨S8192x1024, .f32⟩
  | .hbm, ⟨7, _⟩ => ⟨S8192x7168, .f32⟩
  | .hbm, ⟨8, _⟩ => ⟨S8192x7168, .f32⟩
  | .hbm, ⟨9, _⟩ => ⟨S8192x1024, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x1024 : Shape := ⟨2, ![8192, 1024]⟩
abbrev S4x1024x1792 : Shape := ⟨3, ![4, 1024, 1792]⟩
abbrev S8192x7168 : Shape := ⟨2, ![8192, 7168]⟩
abbrev S1024x1024 : Shape := ⟨2, ![1024, 1024]⟩
abbrev S1x1024x1792 : Shape := ⟨3, ![1, 1024, 1792]⟩
abbrev S1024x1792 : Shape := ⟨2, ![1024, 1792]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x1024x1792, .bf16⟩
  | .hbm, ⟨2, _⟩ => ⟨S8192x7168, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1024x1792, .f32⟩
  | .local _ .vmem, ⟨5, _⟩ => ⟨S1024x1792, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S4x1024x1792 : Shape := ⟨3, ![4, 1024, 1792]⟩
abbrev S1024x4x1792 : Shape := ⟨3, ![1024, 4, 1792]⟩
abbrev S1024x7168 : Shape := ⟨2, ![1024, 7168]⟩
abbrev S8192x7168 : Shape := ⟨2, ![8192, 7168]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1792, .bf16⟩
  | .hbm, ⟨2, _⟩ => ⟨S8192x1024, .f32⟩
  | .hbm, ⟨3, _⟩ => ⟨S4x1024x1792, .f32⟩
  | .hbm, ⟨4, _⟩ => ⟨S1024x4x1792, .f32⟩
  | .hbm, ⟨5, _⟩ => ⟨S1024x7168, .f32⟩
  | .hbm, ⟨6, _⟩ => ⟨S8192x7168, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S8192x1024 : Shape := ⟨2, ![8192, 1024]⟩
abbrev S4x1024x1408 : Shape := ⟨3, ![4, 1024, 1408]⟩
abbrev S2x8192x2816 : Shape := ⟨3, ![2, 8192, 2816]⟩
abbrev S8192x2816 : Shape := ⟨2, ![8192, 2816]⟩
abbrev S512x1024 : Shape := ⟨2, ![512, 1024]⟩
abbrev S1x1024x1408 : Shape := ⟨3, ![1, 1024, 1408]⟩
abbrev S2x512x1408 : Shape := ⟨3, ![2, 512, 1408]⟩
abbrev S512x1408 : Shape := ⟨2, ![512, 1408]⟩
abbrev S1024x1408 : Shape := ⟨2, ![1024, 1408]⟩
abbrev S1x512x1408 : Shape := ⟨3, ![1, 512, 1408]⟩

abbrev nBuf : Space → Nat
  | .hbm => 4
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .bf16⟩
  | .hbm, ⟨2, _⟩ => ⟨S2x8192x2816, .bf16⟩
  | .hbm, ⟨3, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference14Ideal.lean ====
abbrev S8192x1024 : Shape := ⟨2, ![8192, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .bf16⟩
  | .hbm, ⟨2, _⟩ => ⟨S8192x1024, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S1x8192x2816, .f32⟩
  | .hbm, ⟨10, _⟩ => ⟨S1x8192x2816, .f32⟩
  | .hbm, ⟨11, _⟩ => ⟨S2x8192x2816, .f32⟩
  | .hbm, ⟨12, _⟩ => ⟨S2x8192x2816, .bf16⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel15.lean ====
abbrev S8192x7168 : Shape := ⟨2, ![8192, 7168]⟩
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8192x7168, .f32⟩
  | .hbm, ⟨1, _⟩ => ⟨S8192x1024, .bf16⟩
  | .hbm, ⟨2, _⟩ => ⟨S8192x1024, .bf16⟩
  | .hbm, ⟨3, _⟩ => ⟨S1024x1024, .bf16⟩
  | .hbm, ⟨4, _⟩ => ⟨S1024x1024, .bf16⟩
  | .hbm, ⟨5, _⟩ => ⟨S8192x1024, .bf16⟩
  | .hbm, ⟨6, _⟩ => ⟨S8192x1024, .f32⟩
  | .hbm, ⟨7, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S8192x7168 : Shape := ⟨2, ![8192, 7168]⟩
abbrev S8192x1024 : Shape := ⟨2, ![8192, 1024]⟩
abbrev S1024x1024 : Shape := ⟨2, ![1024, 1024]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S8192x1024, .bf16⟩
  | .hbm, ⟨2, _⟩ => ⟨S8192x1024, .bf16⟩
  | .hbm, ⟨3, _⟩ => ⟨S1024x1024, .bf16⟩
  | .hbm, ⟨4, _⟩ => ⟨S1024x1024, .bf16⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel16.lean ====
abbrev S8192x7168 : Shape := ⟨2, ![8192, 7168]⟩
abbrev S8192x1024 : Shape := ⟨2, ![8192, 1024]⟩
abbrev S1024x1024 : Shape := ⟨2, ![1024, 1024]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 8
  | .vmem => 17
  | .smem => 0
  | _ => 0

abbrev bufTy : (tb : Table) → Fin (tcTables nBuf tb) → BufTy
  | .hbm, ⟨0, _⟩ => ⟨S8192x7168, .f32⟩
  | .hbm, ⟨1, _⟩ => ⟨S8192x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .bf16⟩
  | .hbm, ⟨6, _⟩ => ⟨S8192x1024, .bf16⟩
  | .hbm, ⟨7, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S8192x7168 : Shape := ⟨2, ![8192, 7168]⟩
abbrev S8192x1024 : Shape := ⟨2, ![8192, 1024]⟩
abbrev S1024x1024 : Shape := ⟨2, ![1024, 1024]⟩
abbrev S_ : Shape := ⟨0, ![]⟩
abbrev S8192x2048 : Shape := ⟨2, ![8192, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S8192x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .bf16⟩
  | .hbm, ⟨45, _⟩ => ⟨S8192x1024, .bf16⟩
  | .hbm, ⟨46, _⟩ => ⟨S8192x2048, .f32⟩
  | .hbm, ⟨47, _⟩ => ⟨S8192x2048, .bf16⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel17.lean ====
abbrev S1024x2304 : Shape := ⟨2, ![1024, 2304]⟩
abbrev S2 : Shape := ⟨1, ![2]⟩
abbrev S256x2304 : Shape := ⟨2, ![256, 2304]⟩

abbrev nBuf : Space → Nat
  | .hbm => 8
  | .vmem => 14
  | .smem => 0
  | _ => 0

abbrev bufTy : (tb : Table) → Fin (tcTables nBuf tb) → BufTy
  | .hbm, ⟨0, _⟩ => ⟨S1024x2304, .f32⟩
  | .hbm, ⟨1, _⟩ => ⟨S1024x2304, .f32⟩
  | .hbm, ⟨2, _⟩ => ⟨S1024x2304, .f32⟩
  | .hbm, ⟨3, _⟩ => ⟨S1024x2304, .f32⟩
  | .hbm, ⟨4, _⟩ => ⟨S2, .i32⟩
  | .hbm, ⟨5, _⟩ => ⟨S1024x2304, .f32⟩
  | .hbm, ⟨6, _⟩ => ⟨S1024x2304, .f32⟩
  | .hbm, ⟨7, _⟩ => ⟨S1024x2304, .f32⟩
  | .local _ .vmem, ⟨0, _⟩ => ⟨S256x2304, .f32⟩
  | .local _ .vmem, ⟨1, _⟩ => ⟨S256x2304, .f32⟩
  | .local _ .vmem, ⟨2, _⟩ => ⟨S256x2304, .f32⟩
  | .local _ .vmem, ⟨3, _⟩ => ⟨S256x2304, .f32⟩
  | .local _ .vmem, ⟨4, _⟩ => ⟨S256x2304, .f32⟩
  | .local _ .vmem, ⟨5, _⟩ => ⟨S256x2304, .f32⟩
  | .local _ .vmem, ⟨6, _⟩ => ⟨S256x2304, .f32⟩
  | .local _ .vmem, ⟨7, _⟩ => ⟨S256x2304, .f32⟩
  | .local _ .vmem, ⟨8, _⟩ => ⟨S256x2304, .f32⟩
  | .local _ .vmem, ⟨9, _⟩ => ⟨S256x2304, .f32⟩
  | .local _ .vmem, ⟨10, _⟩ => ⟨S256x2304, .f32⟩
  | .local _ .vmem, ⟨11, _⟩ => ⟨S256x2304, .f32⟩
  | .local _ .vmem, ⟨12, _⟩ => ⟨S256x2304, .f32⟩
  | .local _ .vmem, ⟨13, _⟩ => ⟨S256x2304, .f32⟩
  | _, _ => ⟨S1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel17Ideal.lean ====
abbrev S1024x2304 : Shape := ⟨2, ![1024, 2304]⟩
abbrev S2 : Shape := ⟨1, ![2]⟩
abbrev S256x2304 : Shape := ⟨2, ![256, 2304]⟩

abbrev nBuf : Space → Nat
  | .hbm => 8
  | .vmem => 14
  | .smem => 0
  | _ => 0

abbrev bufTy : (tb : Table) → Fin (tcTables nBuf tb) → BufTy
  | .hbm, ⟨0, _⟩ => ⟨S1024x2304, .f32⟩
  | .hbm, ⟨1, _⟩ => ⟨S1024x2304, .f32⟩
  | .hbm, ⟨2, _⟩ => ⟨S1024x2304, .f32⟩
  | .hbm, ⟨3, _⟩ => ⟨S1024x2304, .f32⟩
  | .hbm, ⟨4, _⟩ => ⟨S2, .i32⟩
  | .hbm, ⟨5, _⟩ => ⟨S1024x2304, .f32⟩
  | .hbm, ⟨6, _⟩ => ⟨S1024x2304, .f32⟩
  | .hbm, ⟨7, _⟩ => ⟨S1024x2304, .f32⟩
  | .local _ .vmem, ⟨0, _⟩ => ⟨S256x2304, .f32⟩
  | .local _ .vmem, ⟨1, _⟩ => ⟨S256x2304, .f32⟩
  | .local _ .vmem, ⟨2, _⟩ => ⟨S256x2304, .f32⟩
  | .local _ .vmem, ⟨3, _⟩ => ⟨S256x2304, .f32⟩
  | .local _ .vmem, ⟨4, _⟩ => ⟨S256x2304, .f32⟩
  | .local _ .vmem, ⟨5, _⟩ => ⟨S256x2304, .f32⟩
  | .local _ .vmem, ⟨6, _⟩ => ⟨S256x2304, .f32⟩
  | .local _ .vmem, ⟨7, _⟩ => ⟨S256x2304, .f32⟩
  | .local _ .vmem, ⟨8, _⟩ => ⟨S256x2304, .f32⟩
  | .local _ .vmem, ⟨9, _⟩ => ⟨S256x2304, .f32⟩
  | .local _ .vmem, ⟨10, _⟩ => ⟨S256x2304, .f32⟩
  | .local _ .vmem, ⟨11, _⟩ => ⟨S256x2304, .f32⟩
  | .local _ .vmem, ⟨12, _⟩ => ⟨S256x2304, .f32⟩
  | .local _ .vmem, ⟨13, _⟩ => ⟨S256x2304, .f32⟩
  | _, _ => ⟨S1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S1024x2304 : Shape := ⟨2, ![1024, 2304]⟩
abbrev S2 : Shape := ⟨1, ![2]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1024x2304, .f32⟩
  | .hbm, ⟨1, _⟩ => ⟨S1024x2304, .f32⟩
  | .hbm, ⟨2, _⟩ => ⟨S1024x2304, .f32⟩
  | .hbm, ⟨3, _⟩ => ⟨S1024x2304, .f32⟩
  | .hbm, ⟨4, _⟩ => ⟨S2, .i32⟩
  | .hbm, ⟨5, _⟩ => ⟨S_, .f32⟩
  | .hbm, ⟨6, _⟩ => ⟨S1024x2304, .f32⟩
  | .hbm, ⟨7, _⟩ => ⟨S1024x2304, .f32⟩
  | .hbm, ⟨8, _⟩ => ⟨S_, .f32⟩
  | .hbm, ⟨9, _⟩ => ⟨S1024x2304, .f32⟩
  | .hbm, ⟨10, _⟩ => ⟨S1024x2304, .f32⟩
  | .hbm, ⟨11, _⟩ => ⟨S1024x2304, .f32⟩
  | .hbm, ⟨12, _⟩ => ⟨S_, .f32⟩
  | .hbm, ⟨13, _⟩ => ⟨S1024x2304, .f32⟩
  | .hbm, ⟨14, _⟩ => ⟨S1024x2304, .f32⟩
  | .hbm, ⟨15, _⟩ => ⟨S1024x2304, .f32⟩
  | .hbm, ⟨16, _⟩ => ⟨S_, .f32⟩
  | .hbm, ⟨17, _⟩ => ⟨S1024x2304, .f32⟩
  | .hbm, ⟨18, _⟩ => ⟨S1024x2304, .f32⟩
  | .hbm, ⟨19, _⟩ => ⟨S1024x2304, .f32⟩
  | .hbm, ⟨20, _⟩ => ⟨S_, .f32⟩
  | .hbm, ⟨21, _⟩ => ⟨S1024x2304, .f32⟩
  | .hbm, ⟨22, _⟩ => ⟨S1024x2304, .f32⟩
  | .hbm, ⟨23, _⟩ => ⟨S_, .f32⟩
  | .hbm, ⟨24, _⟩ => ⟨S1024x2304, .f32⟩
  | .hbm, ⟨25, _⟩ => ⟨S1024x2304, .f32⟩
  | .hbm, ⟨26, _⟩ => ⟨S1024x2304, .f32⟩
  | .hbm, ⟨27, _⟩ => ⟨S_, .f32⟩
  | .hbm, ⟨28, _⟩ => ⟨S1024x2304, .f32⟩
  | .hbm, ⟨29, _⟩ => ⟨S1024x2304, .f32⟩
  | .hbm, ⟨30, _⟩ => ⟨S1024x2304, .f32⟩
  | .hbm, ⟨31, _⟩ => ⟨S_, .f32⟩
  | .hbm, ⟨32, _⟩ => ⟨S1024x2304, .f32⟩
  | .hbm, ⟨33, _⟩ => ⟨S1024x2304, .f32⟩
  | .hbm, ⟨34, _⟩ => ⟨S1024x2304, .f32⟩
  | .hbm, ⟨35, _⟩ => ⟨S_, .f32⟩
  | .hbm, ⟨36, _⟩ => ⟨S1024x2304, .f32⟩
  | .hbm, ⟨37, _⟩ => ⟨S1024x2304, .f32⟩
  | _, _ => ⟨S1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel18.lean ====
abbrev S1024x1408 : Shape := ⟨2, ![1024, 1408]⟩
abbrev S2 : Shape := ⟨1, ![2]⟩
abbrev S256x1408 : Shape := ⟨2, ![256, 1408]⟩

abbrev nBuf : Space → Nat
  | .hbm => 8
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S2, .i32⟩
  | .hbm, ⟨5, _⟩ => ⟨S1024x1408, .f32⟩
  | .hbm, ⟨6, _⟩ => ⟨S1024x1408, .f32⟩
  | .hbm, ⟨7, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel18Ideal.lean ====
abbrev S1024x1408 : Shape := ⟨2, ![1024, 1408]⟩
abbrev S2 : Shape := ⟨1, ![2]⟩
abbrev S256x1408 : Shape := ⟨2, ![256, 1408]⟩

abbrev nBuf : Space → Nat
  | .hbm => 8
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S2, .i32⟩
  | .hbm, ⟨5, _⟩ => ⟨S1024x1408, .f32⟩
  | .hbm, ⟨6, _⟩ => ⟨S1024x1408, .f32⟩
  | .hbm, ⟨7, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S1024x1408 : Shape := ⟨2, ![1024, 1408]⟩
abbrev S2 : Shape := ⟨1, ![2]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S2, .i32⟩
  | .hbm, ⟨5, _⟩ => ⟨S_, .f32⟩
  | .hbm, ⟨6, _⟩ => ⟨S1024x1408, .f32⟩
  | .hbm, ⟨7, _⟩ => ⟨S1024x1408, .f32⟩
  | .hbm, ⟨8, _⟩ => ⟨S_, .f32⟩
  | .hbm, ⟨9, _⟩ => ⟨S1024x1408, .f32⟩
  | .hbm, ⟨10, _⟩ => ⟨S1024x1408, .f32⟩
  | .hbm, ⟨11, _⟩ => ⟨S1024x1408, .f32⟩
  | .hbm, ⟨12, _⟩ => ⟨S_, .f32⟩
  | .hbm, ⟨13, _⟩ => ⟨S1024x1408, .f32⟩
  | .hbm, ⟨14, _⟩ => ⟨S1024x1408, .f32⟩
  | .hbm, ⟨15, _⟩ => ⟨S1024x1408, .f32⟩
  | .hbm, ⟨16, _⟩ => ⟨S_, .f32⟩
  | .hbm, ⟨17, _⟩ => ⟨S1024x1408, .f32⟩
  | .hbm, ⟨18, _⟩ => ⟨S1024x1408, .f32⟩
  | .hbm, ⟨19, _⟩ => ⟨S1024x1408, .f32⟩
  | .hbm, ⟨20, _⟩ => ⟨S_, .f32⟩
  | .hbm, ⟨21, _⟩ => ⟨S1024x1408, .f32⟩
  | .hbm, ⟨22, _⟩ => ⟨S1024x1408, .f32⟩
  | .hbm, ⟨23, _⟩ => ⟨S_, .f32⟩
  | .hbm, ⟨24, _⟩ => ⟨S1024x1408, .f32⟩
  | .hbm, ⟨25, _⟩ => ⟨S1024x1408, .f32⟩
  | .hbm, ⟨26, _⟩ => ⟨S1024x1408, .f32⟩
  | .hbm, ⟨27, _⟩ => ⟨S_, .f32⟩
  | .hbm, ⟨28, _⟩ => ⟨S1024x1408, .f32⟩
  | .hbm, ⟨29, _⟩ => ⟨S1024x1408, .f32⟩
  | .hbm, ⟨30, _⟩ => ⟨S1024x1408, .f32⟩
  | .hbm, ⟨31, _⟩ => ⟨S_, .f32⟩
  | .hbm, ⟨32, _⟩ => ⟨S1024x1408, .f32⟩
  | .hbm, ⟨33, _⟩ => ⟨S1024x1408, .f32⟩
  | .hbm, ⟨34, _⟩ => ⟨S1024x1408, .f32⟩
  | .hbm, ⟨35, _⟩ => ⟨S_, .f32⟩
  | .hbm, ⟨36, _⟩ => ⟨S1024x1408, .f32⟩
  | .hbm, ⟨37, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel19.lean ====
abbrev S704x1024 : Shape := ⟨2, ![704, 1024]⟩
abbrev S2 : Shape := ⟨1, ![2]⟩
abbrev S352x1024 : Shape := ⟨2, ![352, 1024]⟩

abbrev nBuf : Space → Nat
  | .hbm => 8
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S2, .i32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel19Ideal.lean ====
abbrev S704x1024 : Shape := ⟨2, ![704, 1024]⟩
abbrev S2 : Shape := ⟨1, ![2]⟩
abbrev S352x1024 : Shape := ⟨2, ![352, 1024]⟩

abbrev nBuf : Space → Nat
  | .hbm => 8
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S2, .i32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S704x1024 : Shape := ⟨2, ![704, 1024]⟩
abbrev S2 : Shape := ⟨1, ![2]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S2, .i32⟩
  | .hbm, ⟨5, _⟩ => ⟨S_, .f32⟩
  | .hbm, ⟨6, _⟩ => ⟨S704x1024, .f32⟩
  | .hbm, ⟨7, _⟩ => ⟨S704x1024, .f32⟩
  | .hbm, ⟨8, _⟩ => ⟨S_, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S_, .f32⟩
  | .hbm, ⟨13, _⟩ => ⟨S704x1024, .f32⟩
  | .hbm, ⟨14, _⟩ => ⟨S704x1024, .f32⟩
  | .hbm, ⟨15, _⟩ => ⟨S704x1024, .f32⟩
  | .hbm, ⟨16, _⟩ => ⟨S_, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S_, .f32⟩
  | .hbm, ⟨21, _⟩ => ⟨S704x1024, .f32⟩
  | .hbm, ⟨22, _⟩ => ⟨S704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S704x1024, .f32⟩
  | .hbm, ⟨31, _⟩ => ⟨S_, .f32⟩
  | .hbm, ⟨32, _⟩ => ⟨S704x1024, .f32⟩
  | .hbm, ⟨33, _⟩ => ⟨S704x1024, .f32⟩
  | .hbm, ⟨34, _⟩ => ⟨S704x1024, .f32⟩
  | .hbm, ⟨35, _⟩ => ⟨S_, .f32⟩
  | .hbm, ⟨36, _⟩ => ⟨S704x1024, .f32⟩
  | .hbm, ⟨37, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel20.lean ====
abbrev S1024x1792 : Shape := ⟨2, ![1024, 1792]⟩
abbrev S2 : Shape := ⟨1, ![2]⟩
abbrev S256x1792 : Shape := ⟨2, ![256, 1792]⟩

abbrev nBuf : Space → Nat
  | .hbm => 8
  | .vmem => 14
  | .smem => 0
  | _ => 0

abbrev bufTy : (tb : Table) → Fin (tcTables nBuf tb) → BufTy
  | .hbm, ⟨0, _⟩ => ⟨S1024x1792, .f32⟩
  | .hbm, ⟨1, _⟩ => ⟨S1024x1792, .f32⟩
  | .hbm, ⟨2, _⟩ => ⟨S1024x1792, .f32⟩
  | .hbm, ⟨3, _⟩ => ⟨S1024x1792, .f32⟩
  | .hbm, ⟨4, _⟩ => ⟨S2, .i32⟩
  | .hbm, ⟨5, _⟩ => ⟨S1024x1792, .f32⟩
  | .hbm, ⟨6, _⟩ => ⟨S1024x1792, .f32⟩
  | .hbm, ⟨7, _⟩ => ⟨S1024x1792, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | _, _ => ⟨S1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel20Ideal.lean ====
abbrev S1024x1792 : Shape := ⟨2, ![1024, 1792]⟩
abbrev S2 : Shape := ⟨1, ![2]⟩
abbrev S256x1792 : Shape := ⟨2, ![256, 1792]⟩

abbrev nBuf : Space → Nat
  | .hbm => 8
  | .vmem => 14
  | .smem => 0
  | _ => 0

abbrev bufTy : (tb : Table) → Fin (tcTables nBuf tb) → BufTy
  | .hbm, ⟨0, _⟩ => ⟨S1024x1792, .f32⟩
  | .hbm, ⟨1, _⟩ => ⟨S1024x1792, .f32⟩
  | .hbm, ⟨2, _⟩ => ⟨S1024x1792, .f32⟩
  | .hbm, ⟨3, _⟩ => ⟨S1024x1792, .f32⟩
  | .hbm, ⟨4, _⟩ => ⟨S2, .i32⟩
  | .hbm, ⟨5, _⟩ => ⟨S1024x1792, .f32⟩
  | .hbm, ⟨6, _⟩ => ⟨S1024x1792, .f32⟩
  | .hbm, ⟨7, _⟩ => ⟨S1024x1792, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | _, _ => ⟨S1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S1024x1792 : Shape := ⟨2, ![1024, 1792]⟩
abbrev S2 : Shape := ⟨1, ![2]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1024x1792, .f32⟩
  | .hbm, ⟨1, _⟩ => ⟨S1024x1792, .f32⟩
  | .hbm, ⟨2, _⟩ => ⟨S1024x1792, .f32⟩
  | .hbm, ⟨3, _⟩ => ⟨S1024x1792, .f32⟩
  | .hbm, ⟨4, _⟩ => ⟨S2, .i32⟩
  | .hbm, ⟨5, _⟩ => ⟨S_, .f32⟩
  | .hbm, ⟨6, _⟩ => ⟨S1024x1792, .f32⟩
  | .hbm, ⟨7, _⟩ => ⟨S1024x1792, .f32⟩
  | .hbm, ⟨8, _⟩ => ⟨S_, .f32⟩
  | .hbm, ⟨9, _⟩ => ⟨S1024x1792, .f32⟩
  | .hbm, ⟨10, _⟩ => ⟨S1024x1792, .f32⟩
  | .hbm, ⟨11, _⟩ => ⟨S1024x1792, .f32⟩
  | .hbm, ⟨12, _⟩ => ⟨S_, .f32⟩
  | .hbm, ⟨13, _⟩ => ⟨S1024x1792, .f32⟩
  | .hbm, ⟨14, _⟩ => ⟨S1024x1792, .f32⟩
  | .hbm, ⟨15, _⟩ => ⟨S1024x1792, .f32⟩
  | .hbm, ⟨16, _⟩ => ⟨S_, .f32⟩
  | .hbm, ⟨17, _⟩ => ⟨S1024x1792, .f32⟩
  | .hbm, ⟨18, _⟩ => ⟨S1024x1792, .f32⟩
  | .hbm, ⟨19, _⟩ => ⟨S1024x1792, .f32⟩
  | .hbm, ⟨20, _⟩ => ⟨S_, .f32⟩
  | .hbm, ⟨21, _⟩ => ⟨S1024x1792, .f32⟩
  | .hbm, ⟨22, _⟩ => ⟨S1024x1792, .f32⟩
  | .hbm, ⟨23, _⟩ => ⟨S_, .f32⟩
  | .hbm, ⟨24, _⟩ => ⟨S1024x1792, .f32⟩
  | .hbm, ⟨25, _⟩ => ⟨S1024x1792, .f32⟩
  | .hbm, ⟨26, _⟩ => ⟨S1024x1792, .f32⟩
  | .hbm, ⟨27, _⟩ => ⟨S_, .f32⟩
  | .hbm, ⟨28, _⟩ => ⟨S1024x1792, .f32⟩
  | .hbm, ⟨29, _⟩ => ⟨S1024x1792, .f32⟩
  | .hbm, ⟨30, _⟩ => ⟨S1024x1792, .f32⟩
  | .hbm, ⟨31, _⟩ => ⟨S_, .f32⟩
  | .hbm, ⟨32, _⟩ => ⟨S1024x1792, .f32⟩
  | .hbm, ⟨33, _⟩ => ⟨S1024x1792, .f32⟩
  | .hbm, ⟨34, _⟩ => ⟨S1024x1792, .f32⟩
  | .hbm, ⟨35, _⟩ => ⟨S_, .f32⟩
  | .hbm, ⟨36, _⟩ => ⟨S1024x1792, .f32⟩
  | .hbm, ⟨37, _⟩ => ⟨S1024x1792, .f32⟩
  | _, _ => ⟨S1024x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel21.lean ====
abbrev S256x1024 : Shape := ⟨2, ![256, 1024]⟩
abbrev S2 : Shape := ⟨1, ![2]⟩

abbrev nBuf : Space → Nat
  | .hbm => 8
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S2, .i32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel21Ideal.lean ====
abbrev S256x1024 : Shape := ⟨2, ![256, 1024]⟩
abbrev S2 : Shape := ⟨1, ![2]⟩

abbrev nBuf : Space → Nat
  | .hbm => 8
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S2, .i32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S256x1024 : Shape := ⟨2, ![256, 1024]⟩
abbrev S2 : Shape := ⟨1, ![2]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S2, .i32⟩
  | .hbm, ⟨5, _⟩ => ⟨S_, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel22.lean ====
abbrev S1x1024 : Shape := ⟨2, ![1, 1024]⟩
abbrev S2 : Shape := ⟨1, ![2]⟩

abbrev nBuf : Space → Nat
  | .hbm => 8
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2, .i32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel22Ideal.lean ====
abbrev S1x1024 : Shape := ⟨2, ![1, 1024]⟩
abbrev S2 : Shape := ⟨1, ![2]⟩

abbrev nBuf : Space → Nat
  | .hbm => 8
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2, .i32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference22Ideal.lean ====
abbrev S1x1024 : Shape := ⟨2, ![1, 1024]⟩
abbrev S2 : Shape := ⟨1, ![2]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2, .i32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S_, .f32⟩
  | .hbm, ⟨36, _⟩ => ⟨S1x1024, .f32⟩
  | .hbm, ⟨37, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel23.lean ====
abbrev S1x9216 : Shape := ⟨2, ![1, 9216]⟩
abbrev S2 : Shape := ⟨1, ![2]⟩

abbrev nBuf : Space → Nat
  | .hbm => 8
  | .vmem => 7
  | .smem => 0
  | _ => 0

abbrev bufTy : (tb : Table) → Fin (tcTables nBuf tb) → BufTy
  | .hbm, ⟨0, _⟩ => ⟨S1x9216, .f32⟩
  | .hbm, ⟨1, _⟩ => ⟨S1x9216, .f32⟩
  | .hbm, ⟨2, _⟩ => ⟨S1x9216, .f32⟩
  | .hbm, ⟨3, _⟩ => ⟨S1x9216, .f32⟩
  | .hbm, ⟨4, _⟩ => ⟨S2, .i32⟩
  | .hbm, ⟨5, _⟩ => ⟨S1x9216, .f32⟩
  | .hbm, ⟨6, _⟩ => ⟨S1x9216, .f32⟩
  | .hbm, ⟨7, _⟩ => ⟨S1x9216, .f32⟩
  | .local _ .vmem, ⟨0, _⟩ => ⟨S1x9216, .f32⟩
  | .local _ .vmem, ⟨1, _⟩ => ⟨S1x9216, .f32⟩
  | .local _ .vmem, ⟨2, _⟩ => ⟨S1x9216, .f32⟩
  | .local _ .vmem, ⟨3, _⟩ => ⟨S1x9216, .f32⟩
  | .local _ .vmem, ⟨4, _⟩ => ⟨S1x9216, .f32⟩
  | .local _ .vmem, ⟨5, _⟩ => ⟨S1x9216, .f32⟩
  | .local _ .vmem, ⟨6, _⟩ => ⟨S1x9216, .f32⟩
  | _, _ => ⟨S1x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel23Ideal.lean ====
abbrev S1x9216 : Shape := ⟨2, ![1, 9216]⟩
abbrev S2 : Shape := ⟨1, ![2]⟩

abbrev nBuf : Space → Nat
  | .hbm => 8
  | .vmem => 7
  | .smem => 0
  | _ => 0

abbrev bufTy : (tb : Table) → Fin (tcTables nBuf tb) → BufTy
  | .hbm, ⟨0, _⟩ => ⟨S1x9216, .f32⟩
  | .hbm, ⟨1, _⟩ => ⟨S1x9216, .f32⟩
  | .hbm, ⟨2, _⟩ => ⟨S1x9216, .f32⟩
  | .hbm, ⟨3, _⟩ => ⟨S1x9216, .f32⟩
  | .hbm, ⟨4, _⟩ => ⟨S2, .i32⟩
  | .hbm, ⟨5, _⟩ => ⟨S1x9216, .f32⟩
  | .hbm, ⟨6, _⟩ => ⟨S1x9216, .f32⟩
  | .hbm, ⟨7, _⟩ => ⟨S1x9216, .f32⟩
  | .local _ .vmem, ⟨0, _⟩ => ⟨S1x9216, .f32⟩
  | .local _ .vmem, ⟨1, _⟩ => ⟨S1x9216, .f32⟩
  | .local _ .vmem, ⟨2, _⟩ => ⟨S1x9216, .f32⟩
  | .local _ .vmem, ⟨3, _⟩ => ⟨S1x9216, .f32⟩
  | .local _ .vmem, ⟨4, _⟩ => ⟨S1x9216, .f32⟩
  | .local _ .vmem, ⟨5, _⟩ => ⟨S1x9216, .f32⟩
  | .local _ .vmem, ⟨6, _⟩ => ⟨S1x9216, .f32⟩
  | _, _ => ⟨S1x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference23Ideal.lean ====
abbrev S1x9216 : Shape := ⟨2, ![1, 9216]⟩
abbrev S2 : Shape := ⟨1, ![2]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x9216, .f32⟩
  | .hbm, ⟨1, _⟩ => ⟨S1x9216, .f32⟩
  | .hbm, ⟨2, _⟩ => ⟨S1x9216, .f32⟩
  | .hbm, ⟨3, _⟩ => ⟨S1x9216, .f32⟩
  | .hbm, ⟨4, _⟩ => ⟨S2, .i32⟩
  | .hbm, ⟨5, _⟩ => ⟨S_, .f32⟩
  | .hbm, ⟨6, _⟩ => ⟨S1x9216, .f32⟩
  | .hbm, ⟨7, _⟩ => ⟨S1x9216, .f32⟩
  | .hbm, ⟨8, _⟩ => ⟨S_, .f32⟩
  | .hbm, ⟨9, _⟩ => ⟨S1x9216, .f32⟩
  | .hbm, ⟨10, _⟩ => ⟨S1x9216, .f32⟩
  | .hbm, ⟨11, _⟩ => ⟨S1x9216, .f32⟩
  | .hbm, ⟨12, _⟩ => ⟨S_, .f32⟩
  | .hbm, ⟨13, _⟩ => ⟨S1x9216, .f32⟩
  | .hbm, ⟨14, _⟩ => ⟨S1x9216, .f32⟩
  | .hbm, ⟨15, _⟩ => ⟨S1x9216, .f32⟩
  | .hbm, ⟨16, _⟩ => ⟨S_, .f32⟩
  | .hbm, ⟨17, _⟩ => ⟨S1x9216, .f32⟩
  | .hbm, ⟨18, _⟩ => ⟨S1x9216, .f32⟩
  | .hbm, ⟨19, _⟩ => ⟨S1x9216, .f32⟩
  | .hbm, ⟨20, _⟩ => ⟨S_, .f32⟩
  | .hbm, ⟨21, _⟩ => ⟨S1x9216, .f32⟩
  | .hbm, ⟨22, _⟩ => ⟨S1x9216, .f32⟩
  | .hbm, ⟨23, _⟩ => ⟨S_, .f32⟩
  | .hbm, ⟨24, _⟩ => ⟨S1x9216, .f32⟩
  | .hbm, ⟨25, _⟩ => ⟨S1x9216, .f32⟩
  | .hbm, ⟨26, _⟩ => ⟨S1x9216, .f32⟩
  | .hbm, ⟨27, _⟩ => ⟨S_, .f32⟩
  | .hbm, ⟨28, _⟩ => ⟨S1x9216, .f32⟩
  | .hbm, ⟨29, _⟩ => ⟨S1x9216, .f32⟩
  | .hbm, ⟨30, _⟩ => ⟨S1x9216, .f32⟩
  | .hbm, ⟨31, _⟩ => ⟨S_, .f32⟩
  | .hbm, ⟨32, _⟩ => ⟨S1x9216, .f32⟩
  | .hbm, ⟨33, _⟩ => ⟨S1x9216, .f32⟩
  | .hbm, ⟨34, _⟩ => ⟨S1x9216, .f32⟩
  | .hbm, ⟨35, _⟩ => ⟨S_, .f32⟩
  | .hbm, ⟨36, _⟩ => ⟨S1x9216, .f32⟩
  | .hbm, ⟨37, _⟩ => ⟨S1x9216, .f32⟩
  | _, _ => ⟨S1x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel24.lean ====
abbrev S31x256 : Shape := ⟨2, ![31, 256]⟩
abbrev S2 : Shape := ⟨1, ![2]⟩

abbrev nBuf : Space → Nat
  | .hbm => 8
  | .vmem => 7
  | .smem => 0
  | _ => 0

abbrev bufTy : (tb : Table) → Fin (tcTables nBuf tb) → BufTy
  | .hbm, ⟨0, _⟩ => ⟨S31x256, .f32⟩
  | .hbm, ⟨1, _⟩ => ⟨S31x256, .f32⟩
  | .hbm, ⟨2, _⟩ => ⟨S31x256, .f32⟩
  | .hbm, ⟨3, _⟩ => ⟨S31x256, .f32⟩
  | .hbm, ⟨4, _⟩ => ⟨S2, .i32⟩
  | .hbm, ⟨5, _⟩ => ⟨S31x256, .f32⟩
  | .hbm, ⟨6, _⟩ => ⟨S31x256, .f32⟩
  | .hbm, ⟨7, _⟩ => ⟨S31x256, .f32⟩
  | .local _ .vmem, ⟨0, _⟩ => ⟨S31x256, .f32⟩
  | .local _ .vmem, ⟨1, _⟩ => ⟨S31x256, .f32⟩
  | .local _ .vmem, ⟨2, _⟩ => ⟨S31x256, .f32⟩
  | .local _ .vmem, ⟨3, _⟩ => ⟨S31x256, .f32⟩
  | .local _ .vmem, ⟨4, _⟩ => ⟨S31x256, .f32⟩
  | .local _ .vmem, ⟨5, _⟩ => ⟨S31x256, .f32⟩
  | .local _ .vmem, ⟨6, _⟩ => ⟨S31x256, .f32⟩
  | _, _ => ⟨S31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference24Ideal.lean ====
abbrev S31x256 : Shape := ⟨2, ![31, 256]⟩
abbrev S2 : Shape := ⟨1, ![2]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S31x256, .f32⟩
  | .hbm, ⟨1, _⟩ => ⟨S31x256, .f32⟩
  | .hbm, ⟨2, _⟩ => ⟨S31x256, .f32⟩
  | .hbm, ⟨3, _⟩ => ⟨S31x256, .f32⟩
  | .hbm, ⟨4, _⟩ => ⟨S2, .i32⟩
  | .hbm, ⟨5, _⟩ => ⟨S_, .f32⟩
  | .hbm, ⟨6, _⟩ => ⟨S31x256, .f32⟩
  | .hbm, ⟨7, _⟩ => ⟨S31x256, .f32⟩
  | .hbm, ⟨8, _⟩ => ⟨S_, .f32⟩
  | .hbm, ⟨9, _⟩ => ⟨S31x256, .f32⟩
  | .hbm, ⟨10, _⟩ => ⟨S31x256, .f32⟩
  | .hbm, ⟨11, _⟩ => ⟨S31x256, .f32⟩
  | .hbm, ⟨12, _⟩ => ⟨S_, .f32⟩
  | .hbm, ⟨13, _⟩ => ⟨S31x256, .f32⟩
  | .hbm, ⟨14, _⟩ => ⟨S31x256, .f32⟩
  | .hbm, ⟨15, _⟩ => ⟨S31x256, .f32⟩
  | .hbm, ⟨16, _⟩ => ⟨S_, .f32⟩
  | .hbm, ⟨17, _⟩ => ⟨S31x256, .f32⟩
  | .hbm, ⟨18, _⟩ => ⟨S31x256, .f32⟩
  | .hbm, ⟨19, _⟩ => ⟨S31x256, .f32⟩
  | .hbm, ⟨20, _⟩ => ⟨S_, .f32⟩
  | .hbm, ⟨21, _⟩ => ⟨S31x256, .f32⟩
  | .hbm, ⟨22, _⟩ => ⟨S31x256, .f32⟩
  | .hbm, ⟨23, _⟩ => ⟨S_, .f32⟩
  | .hbm, ⟨24, _⟩ => ⟨S31x256, .f32⟩
  | .hbm, ⟨25, _⟩ => ⟨S31x256, .f32⟩
  | .hbm, ⟨26, _⟩ => ⟨S31x256, .f32⟩
  | .hbm, ⟨27, _⟩ => ⟨S_, .f32⟩
  | .hbm, ⟨28, _⟩ => ⟨S31x256, .f32⟩
  | .hbm, ⟨29, _⟩ => ⟨S31x256, .f32⟩
  | .hbm, ⟨30, _⟩ => ⟨S31x256, .f32⟩
  | .hbm, ⟨31, _⟩ => ⟨S_, .f32⟩
  | .hbm, ⟨32, _⟩ => ⟨S31x256, .f32⟩
  | .hbm, ⟨33, _⟩ => ⟨S31x256, .f32⟩
  | .hbm, ⟨34, _⟩ => ⟨S31x256, .f32⟩
  | .hbm, ⟨35, _⟩ => ⟨S_, .f32⟩
  | .hbm, ⟨36, _⟩ => ⟨S31x256, .f32⟩
  | .hbm, ⟨37, _⟩ => ⟨S31x256, .f32⟩
  | _, _ => ⟨S31x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel25.lean ====
abbrev S8192x1024 : Shape := ⟨2, ![8192, 1024]⟩
abbrev S4x9x1024 : Shape := ⟨3, ![4, 9, 1024]⟩
abbrev S4x8x1024 : Shape := ⟨3, ![4, 8, 1024]⟩
abbrev S512x1024 : Shape := ⟨2, ![512, 1024]⟩
abbrev S1x9x1024 : Shape := ⟨3, ![1, 9, 1024]⟩
abbrev S1x8x1024 : Shape := ⟨3, ![1, 8, 1024]⟩
abbrev S1x1x1024 : Shape := ⟨3, ![1, 1, 1024]⟩
abbrev S1x1024 : Shape := ⟨2, ![1, 1024]⟩
abbrev S8x1024 : Shape := ⟨2, ![8, 1024]⟩
abbrev S1024 : Shape := ⟨1, ![1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x9x1024, .f32⟩
  | .hbm, ⟨4, _⟩ => ⟨S8192x1024, .f32⟩
  | .hbm, ⟨5, _⟩ => ⟨S4x8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x9x1024, .f32⟩
  | .local _ .vmem, ⟨7, _⟩ => ⟨S1x9x1024, .f32⟩
  | .local _ .vmem, ⟨8, _⟩ => ⟨S512x1024, .f32⟩
  | .local _ .vmem, ⟨9, _⟩ => ⟨S512x1024, .f32⟩
  | .local _ .vmem, ⟨10, _⟩ => ⟨S1x8x1024, .f32⟩
  | .local _ .vmem, ⟨11, _⟩ => ⟨S1x8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference25Ideal.lean ====
abbrev S8192x1024 : Shape := ⟨2, ![8192, 1024]⟩
abbrev S4x9x1024 : Shape := ⟨3, ![4, 9, 1024]⟩
abbrev S4x1x1024 : Shape := ⟨3, ![4, 1, 1024]⟩
abbrev S4x2048x1024 : Shape := ⟨3, ![4, 2048, 1024]⟩
abbrev S_ : Shape := ⟨0, ![]⟩
abbrev S4x1024 : Shape := ⟨2, ![4, 1024]⟩
abbrev S4x6x1024 : Shape := ⟨3, ![4, 6, 1024]⟩
abbrev S4x8x1024 : Shape := ⟨3, ![4, 8, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x9x1024, .f32⟩
  | .hbm, ⟨4, _⟩ => ⟨S4x1x1024, .f32⟩
  | .hbm, ⟨5, _⟩ => ⟨S4x1x1024, .f32⟩
  | .hbm, ⟨6, _⟩ => ⟨S4x2048x1024, .f32⟩
  | .hbm, ⟨7, _⟩ => ⟨S_, .f32⟩
  | .hbm, ⟨8, _⟩ => ⟨S4x1x1024, .f32⟩
  | .hbm, ⟨9, _⟩ => ⟨S4x1x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S_, .f32⟩
  | .hbm, ⟨16, _⟩ => ⟨S4x1024, .f32⟩
  | .hbm, ⟨17, _⟩ => ⟨S4x1x1024, .f32⟩
  | .hbm, ⟨18, _⟩ => ⟨S4x2048x1024, .f32⟩
  | .hbm, ⟨19, _⟩ => ⟨S_, .f32⟩
  | .hbm, ⟨20, _⟩ => ⟨S4x1024, .f32⟩
  | .hbm, ⟨21, _⟩ => ⟨S4x1x1024, .f32⟩
  | .hbm, ⟨22, _⟩ => ⟨S4x2048x1024, .f32⟩
  | .hbm, ⟨23, _⟩ => ⟨S4x2048x1024, .f32⟩
  | .hbm, ⟨24, _⟩ => ⟨S_, .f32⟩
  | .hbm, ⟨25, _⟩ => ⟨S4x6x1024, .f32⟩
  | .hbm, ⟨26, _⟩ => ⟨S4x8x1024, .f32⟩
  | .hbm, ⟨27, _⟩ => ⟨S8192x1024, .f32⟩
  | .hbm, ⟨28, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel26.lean ====
abbrev S8192x1024 : Shape := ⟨2, ![8192, 1024]⟩
abbrev S4x9x1024 : Shape := ⟨3, ![4, 9, 1024]⟩
abbrev S512x1024 : Shape := ⟨2, ![512, 1024]⟩
abbrev S1x9x1024 : Shape := ⟨3, ![1, 9, 1024]⟩
abbrev S1x1x1024 : Shape := ⟨3, ![1, 1, 1024]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S4x9x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S512x1024, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference26Ideal.lean ====
abbrev S8192x1024 : Shape := ⟨2, ![8192, 1024]⟩
abbrev S4x9x1024 : Shape := ⟨3, ![4, 9, 1024]⟩
abbrev S4x2048x1024 : Shape := ⟨3, ![4, 2048, 1024]⟩
abbrev S4x1x1024 : Shape := ⟨3, ![4, 1, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x9x1024, .f32⟩
  | .hbm, ⟨2, _⟩ => ⟨S4x2048x1024, .f32⟩
  | .hbm, ⟨3, _⟩ => ⟨S4x1x1024, .f32⟩
  | .hbm, ⟨4, _⟩ => ⟨S4x1x1024, .f32⟩
  | .hbm, ⟨5, _⟩ => ⟨S_, .f32⟩
  | .hbm, ⟨6, _⟩ => ⟨S4x1x1024, .f32⟩
  | .hbm, ⟨7, _⟩ => ⟨S4x1x1024, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S8192x1024, .f32⟩
  | .hbm, ⟨13, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Proof.PI.Closed.lean ====
module

public import proofs.«01_k».proof.Proof.Gen.KernelIdeal.Skeleton
public import proofs.«01_k».proof.Proof.Gen.KernelIdeal.Frame
public import Idealize.ShloMosaic.Lib.Ring
public import Idealize.ShloMosaic.Lib.Tactic

@[expose] public section

/-! The kernel's offsets and conditions as plain arithmetic of the grid point (`i 2` is the query block) and the trip. -/

namespace Cert.KernelIdeal.Att

open Cert.KernelIdeal Cert.KernelIdeal.Gen Idealize.ShloMosaic Idealize.ShloMosaic.Tactic

/-- The loop over key blocks makes half the query block's index of trips, two key blocks each. -/
theorem trips1_eq : ∀ i : grid0.Coords, (k0_t1_loop i).trips = (i 2).val / 2 := by decide +kernel
/-- The remainder loop makes none. -/
theorem trips2_eq : ∀ i : grid0.Coords, (k0_t2_loop i).trips = 0 := by decide +kernel
theorem off1_eq : ∀ (i : grid0.Coords) (k : Fin (k0_t1_loop i).trips), k0_off1 i k 1#32 = ![512 * k.val + 256, 0] := by decide +kernel
theorem off1b_eq : ∀ (i : grid0.Coords) (k : Fin (k0_t1_loop i).trips), k0_off1 i k 2#32 = ![512 * k.val + 512, 0] := by decide +kernel
theorem off2_eq : ∀ (i : grid0.Coords) (k : Fin (k0_t1_loop i).trips), k0_off2 i k = ![512 * k.val, 0] := by decide +kernel
theorem off5_eq : ∀ i : grid0.Coords, k0_off5 i = ![256 * (i 2).val, 0] := by decide +kernel
theorem off6_eq : ∀ i : grid0.Coords, k0_cond2 i = 1#1 → k0_off6 i = ![256 * (i 2).val - 256, 0] := by decide +kernel
theorem off7_eq : ∀ i : grid0.Coords, k0_off7 i = ![256 * (i 2).val, 0] := by decide +kernel

/-- The first conditional's test: the first query block. -/
abbrev cond1 (i : grid0.Coords) : Prop := (Scalar.cmpi .ne (Scalar.extui (Scalar.cmpi .eq (BitVec.ofNat 32 (i 2).val) 0#32)) 0#32) = 1#1
theorem cond1_iff : ∀ i : grid0.Coords, cond1 i ↔ (i 2).val = 0 := by decide +kernel
theorem cond2_iff : ∀ i : grid0.Coords, k0_cond2 i = 1#1 ↔ (i 2).val % 2 = 1 := by decide +kernel
theorem cond3_iff : ∀ i : grid0.Coords, k0_cond3 i = 1#1 ↔ (i 2).val % 2 = 0 := by decide +kernel
theorem cond4_iff : ∀ i : grid0.Coords, k0_cond4 i = 1#1 ↔ (i 2).val = 7 := by decide +kernel

instance (i : grid0.Coords) (k : Fin (k0_t1_loop i).trips) : ClosedOff (k0_off1 i k 1#32) := ⟨_, off1_eq i k⟩
instance (i : grid0.Coords) (k : Fin (k0_t1_loop i).trips) : ClosedOff (k0_off1 i k 2#32) := ⟨_, off1b_eq i k⟩
instance (i : grid0.Coords) (k : Fin (k0_t1_loop i).trips) : ClosedOff (k0_off2 i k) := ⟨_, off2_eq i k⟩
instance (i : grid0.Coords) : ClosedOff (k0_off5 i) := ⟨_, off5_eq i⟩
instance (i : grid0.Coords) [h : Fact (k0_cond2 i = 1#1)] : ClosedOff (k0_off6 i) := ⟨_, off6_eq i h.out⟩
instance (i : grid0.Coords) : ClosedOff (k0_off7 i) := ⟨_, off7_eq i⟩

end Cert.KernelIdeal.Att
end
-- ==== Proof.PI.Trip.lean ====
module

public import proofs.«01_k».proof.Proof.PI.Closed
public import proofs.«01_k».proof.Proof.Gen.KernelIdeal.Loops
public import Idealize.ShloMosaic.Lib.Ring
public import Idealize.ShloMosaic.Lib.Tactic

@[expose] public section

set_option maxRecDepth 16384

/-! One trip of the loop over key blocks, and the loop. -/

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕍" => Memref sig Kind.tc Space.vmem
local notation "𝕄" => MT nD τ sig Unit (Elt F) ℕ (UR sig nD τ) ℕ

/-- What the whole of the buffer under a view may hold. -/
abbrev Cl (F : FTy → Type) (c : Dev nD) {s : Shape} {e : EltTy} (a : Memref sig Kind.tc Space.vmem s e) : Type :=
  Buf (Elt F) (a.view.loc (c : Thread nD τ))

abbrev 𝒱₀ : Variants := Variants.none

/-- What the nine scratch buffers hold. -/
structure St9 (T11 T12 T13 T14 T15 T16 T17 T18 T19 : Type) where
  s11 : T11
  s12 : T12
  s13 : T13
  s14 : T14
  s15 : T15
  s16 : T16
  s17 : T17
  s18 : T18
  s19 : T19

/-- What the three results and the nine scratch buffers hold. -/
structure Out12 (T8 T9 T10 T11 T12 T13 T14 T15 T16 T17 T18 T19 : Type) where
  y8 : T8
  y9 : T9
  y10 : T10
  y11 : T11
  y12 : T12
  y13 : T13
  y14 : T14
  y15 : T15
  y16 : T16
  y17 : T17
  y18 : T18
  y19 : T19

/-- `f` at 0 and `g` from there on. -/
abbrev pick {α : Type} (k : ℕ) (f : α) (g : ℕ → α) : α := match k with
  | 0 => f
  | k + 1 => g (k + 1)

theorem pick_eq {α : Type} (k : ℕ) (f : α) (g : ℕ → α) (h : g 0 = f) : pick k f g = g k := by
  cases k with
  | zero => exact h.symm
  | succ k => rfl

variable (c : Dev nD) (i : grid0.Coords) (arg3 : 𝕍 S256x128 .f32) (harg3 : arg3.IsWhole) (arg4 : 𝕍 S2048x128 .f32) (harg4 : arg4.IsWhole) (arg5 : 𝕍 S2048x128 .f32) (harg5 : arg5.IsWhole) (arg6 : 𝕍 S256x128 .bf16) (harg6 : arg6.IsWhole) (arg7 : 𝕍 S256x128 .f32) (harg7 : arg7.IsWhole) (arg8 : 𝕍 S256x128 .bf16) (harg8 : arg8.IsWhole) (arg9 : 𝕍 S2048x128 .bf16) (harg9 : arg9.IsWhole) (arg10 : 𝕍 S2048x128 .bf16) (harg10 : arg10.IsWhole) (arg11 : 𝕍 S2048x128 .f32) (harg11 : arg11.IsWhole) (arg12 : 𝕍 S2048x128 .f32) (harg12 : arg12.IsWhole) (arg13 : 𝕍 S2x2x256x256 .f32) (harg13 : arg13.IsWhole) (arg14 : 𝕍 S2x2x256x256 .f32) (harg14 : arg14.IsWhole) (arg15 : 𝕍 S2x2x256x256 .f32) (harg15 : arg15.IsWhole) (arg16 : 𝕍 S2x2x1x256 .f32) (harg16 : arg16.IsWhole) (arg17 : 𝕍 S2x1x256 .f32) (harg17 : arg17.IsWhole) (arg18 : 𝕍 S2x1x256 .f32) (harg18 : arg18.IsWhole) (arg19 : 𝕍 S2x128x256 .f32) (harg19 : arg19.IsWhole)
  (arg2 : BitVec 32) (v8 : IVec S128x256 1) (v14 : FVec F S256x128 .bf16) (v17 : FVec F S256x128 .bf16) (v21 : FVec F S128x256 .bf16) (v24 : FVec F S128x256 .bf16) (v29 : FVec F S256x128 .bf16) (v32 : FVec F S256x128 .bf16) (v36 : FVec F S128x256 .bf16) (v39 : FVec F S128x256 .bf16) (v43 : FVec F S1x256 .f32) (v44 : FVec F S1x256 .f32) (v55 : FVec F S256x512 .bf16) (v56 : FVec F S256x512 .bf16) (v57 : IVec S256x256 1) (c0_i32_90 : BitVec 32) (v185 : BitVec 32)

set_option maxHeartbeats 4000000 in
set_option backward.proofsInPublic true in
/-- One trip at a symbolic `k`: from any contents of the scratch buffers, the trip runs and leaves each of them with the
    pieces it stored (last first), which the run finds. -/
@[irreducible] def trip (f4 : Cl F c arg4) (f5 : Cl F c arg5) (f11 : Cl F c arg11) (f12 : Cl F c arg12) (f13 : Cl F c arg13) (f14 : Cl F c arg14) (f15 : Cl F c arg15) (f16 : Cl F c arg16) (f17 : Cl F c arg17) (f18 : Cl F c arg18) (f19 : Cl F c arg19) (k : Fin (k0_t1_loop i).trips) :
    Σ' (L11 : List (View.Piece (Elt F) S2048x128 .f32)), Σ' (L12 : List (View.Piece (Elt F) S2048x128 .f32)), Σ' (L13 : List (View.Piece (Elt F) S2x2x256x256 .f32)), Σ' (L14 : List (View.Piece (Elt F) S2x2x256x256 .f32)), Σ' (L15 : List (View.Piece (Elt F) S2x2x256x256 .f32)), Σ' (L16 : List (View.Piece (Elt F) S2x2x1x256 .f32)), Σ' (L17 : List (View.Piece (Elt F) S2x1x256 .f32)), Σ' (L18 : List (View.Piece (Elt F) S2x1x256 .f32)), { L19 : List (View.Piece (Elt F) S2x128x256 .f32) //
      (iprop((arg4.view.loc c.tc ↦[arg4.view.set]{fullShare} f4) ∗ (arg5.view.loc c.tc ↦[arg5.view.set]{fullShare} f5) ∗ (arg11.view.loc c.tc ↦[arg11.view.set]{fullShare} f11) ∗ (arg12.view.loc c.tc ↦[arg12.view.set]{fullShare} f12) ∗ (arg13.view.loc c.tc ↦[arg13.view.set]{fullShare} f13) ∗ (arg14.view.loc c.tc ↦[arg14.view.set]{fullShare} f14) ∗ (arg15.view.loc c.tc ↦[arg15.view.set]{fullShare} f15) ∗ (arg16.view.loc c.tc ↦[arg16.view.set]{fullShare} f16) ∗ (arg17.view.loc c.tc ↦[arg17.view.set]{fullShare} f17) ∗ (arg18.view.loc c.tc ↦[arg18.view.set]{fullShare} f18) ∗ (arg19.view.loc c.tc ↦[arg19.view.set]{fullShare} f19)) : sProp 𝕄) ⊢ wp frame (wpE (defs₀ (F := F)) 𝒱₀ c.tc none) Set.univ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 k ())
        (fun _ => iprop((arg4.view.loc c.tc ↦[arg4.view.set]{fullShare} f4) ∗ (arg5.view.loc c.tc ↦[arg5.view.set]{fullShare} f5) ∗ (arg11.view.loc c.tc ↦[arg11.view.set]{fullShare} arg11.view.writes (Elt F) f11 L11) ∗ (arg12.view.loc c.tc ↦[arg12.view.set]{fullShare} arg12.view.writes (Elt F) f12 L12) ∗ (arg13.view.loc c.tc ↦[arg13.view.set]{fullShare} arg13.view.writes (Elt F) f13 L13) ∗ (arg14.view.loc c.tc ↦[arg14.view.set]{fullShare} arg14.view.writes (Elt F) f14 L14) ∗ (arg15.view.loc c.tc ↦[arg15.view.set]{fullShare} arg15.view.writes (Elt F) f15 L15) ∗ (arg16.view.loc c.tc ↦[arg16.view.set]{fullShare} arg16.view.writes (Elt F) f16 L16) ∗ (arg17.view.loc c.tc ↦[arg17.view.set]{fullShare} arg17.view.writes (Elt F) f17 L17) ∗ (arg18.view.loc c.tc ↦[arg18.view.set]{fullShare} arg18.view.writes (Elt F) f18 L18) ∗ (arg19.view.loc c.tc ↦[arg19.view.set]{fullShare} arg19.view.writes (Elt F) f19 L19))) } := by
  refine ⟨?_, ?_, ?_, ?_, ?_, ?_, ?_, ?_, ?_, ?run⟩
  case run =>
    unfold k0_t1_body
    iintro ⟨H4, H5, H11, H12, H13, H14, H15, H16, H17, H18, H19⟩
    sl_exec_parts
    sl_step
    sl_close

/-- The scratch buffers after trip `k` run from `s`. -/
def tripB (f4 : Cl F c arg4) (f5 : Cl F c arg5) (k : Fin (k0_t1_loop i).trips) (s : St9 (Cl F c arg11) (Cl F c arg12) (Cl F c arg13) (Cl F c arg14) (Cl F c arg15) (Cl F c arg16) (Cl F c arg17) (Cl F c arg18) (Cl F c arg19)) : St9 (Cl F c arg11) (Cl F c arg12) (Cl F c arg13) (Cl F c arg14) (Cl F c arg15) (Cl F c arg16) (Cl F c arg17) (Cl F c arg18) (Cl F c arg19) where
  s11 := arg11.view.writes (Elt F) s.s11 (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 s.s11 s.s12 s.s13 s.s14 s.s15 s.s16 s.s17 s.s18 s.s19 k).1
  s12 := arg12.view.writes (Elt F) s.s12 (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 s.s11 s.s12 s.s13 s.s14 s.s15 s.s16 s.s17 s.s18 s.s19 k).2.1
  s13 := arg13.view.writes (Elt F) s.s13 (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 s.s11 s.s12 s.s13 s.s14 s.s15 s.s16 s.s17 s.s18 s.s19 k).2.2.1
  s14 := arg14.view.writes (Elt F) s.s14 (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 s.s11 s.s12 s.s13 s.s14 s.s15 s.s16 s.s17 s.s18 s.s19 k).2.2.2.1
  s15 := arg15.view.writes (Elt F) s.s15 (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 s.s11 s.s12 s.s13 s.s14 s.s15 s.s16 s.s17 s.s18 s.s19 k).2.2.2.2.1
  s16 := arg16.view.writes (Elt F) s.s16 (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 s.s11 s.s12 s.s13 s.s14 s.s15 s.s16 s.s17 s.s18 s.s19 k).2.2.2.2.2.1
  s17 := arg17.view.writes (Elt F) s.s17 (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 s.s11 s.s12 s.s13 s.s14 s.s15 s.s16 s.s17 s.s18 s.s19 k).2.2.2.2.2.2.1
  s18 := arg18.view.writes (Elt F) s.s18 (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 s.s11 s.s12 s.s13 s.s14 s.s15 s.s16 s.s17 s.s18 s.s19 k).2.2.2.2.2.2.2.1
  s19 := arg19.view.writes (Elt F) s.s19 (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 s.s11 s.s12 s.s13 s.s14 s.s15 s.s16 s.s17 s.s18 s.s19 k).2.2.2.2.2.2.2.2.1

/-- The scratch buffers before trip `k` of the loop entered at `s`. -/
def loopB (f4 : Cl F c arg4) (f5 : Cl F c arg5) (s : St9 (Cl F c arg11) (Cl F c arg12) (Cl F c arg13) (Cl F c arg14) (Cl F c arg15) (Cl F c arg16) (Cl F c arg17) (Cl F c arg18) (Cl F c arg19)) : ℕ → St9 (Cl F c arg11) (Cl F c arg12) (Cl F c arg13) (Cl F c arg14) (Cl F c arg15) (Cl F c arg16) (Cl F c arg17) (Cl F c arg18) (Cl F c arg19)
  | 0 => s
  | k + 1 => if h : k < (k0_t1_loop i).trips then tripB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨k, h⟩ (loopB f4 f5 s k) else loopB f4 f5 s k

theorem loopB_succ (f4 : Cl F c arg4) (f5 : Cl F c arg5) (s : St9 (Cl F c arg11) (Cl F c arg12) (Cl F c arg13) (Cl F c arg14) (Cl F c arg15) (Cl F c arg16) (Cl F c arg17) (Cl F c arg18) (Cl F c arg19)) (k : Fin (k0_t1_loop i).trips) :
    loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 s (k.val + 1) = tripB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 k (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 s k.val) := by
  rw [loopB, dif_pos k.isLt]

set_option warn.classDefReducibility false in
/-- The loop: before trip `k` the scratch buffers hold `loopB … k`. -/
@[sl_loop] def loopInv1 (f4 : Cl F c arg4) (f5 : Cl F c arg5) (f11 : Cl F c arg11) (f12 : Cl F c arg12) (f13 : Cl F c arg13) (f14 : Cl F c arg14) (f15 : Cl F c arg15) (f16 : Cl F c arg16) (f17 : Cl F c arg17) (f18 : Cl F c arg18) (f19 : Cl F c arg19) :
    LoopInvTy_k0_t1 (F := F) Unit ℕ (UR sig nD τ) ℕ 𝒱₀ c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 where
  inv k _ := iprop((arg4.view.loc c.tc ↦[arg4.view.set]{fullShare} f4) ∗ (arg5.view.loc c.tc ↦[arg5.view.set]{fullShare} f5) ∗ (arg11.view.loc c.tc ↦[arg11.view.set]{fullShare} pick k f11 fun k => (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k).s11) ∗ (arg12.view.loc c.tc ↦[arg12.view.set]{fullShare} pick k f12 fun k => (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k).s12) ∗ (arg13.view.loc c.tc ↦[arg13.view.set]{fullShare} pick k f13 fun k => (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k).s13) ∗ (arg14.view.loc c.tc ↦[arg14.view.set]{fullShare} pick k f14 fun k => (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k).s14) ∗ (arg15.view.loc c.tc ↦[arg15.view.set]{fullShare} pick k f15 fun k => (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k).s15) ∗ (arg16.view.loc c.tc ↦[arg16.view.set]{fullShare} pick k f16 fun k => (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k).s16) ∗ (arg17.view.loc c.tc ↦[arg17.view.set]{fullShare} pick k f17 fun k => (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k).s17) ∗ (arg18.view.loc c.tc ↦[arg18.view.set]{fullShare} pick k f18 fun k => (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k).s18) ∗ (arg19.view.loc c.tc ↦[arg19.view.set]{fullShare} pick k f19 fun k => (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k).s19))
  step k _ := by
    rw [pick_eq k.val f11 (fun k => (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k).s11) rfl]; rw [pick_eq k.val f12 (fun k => (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k).s12) rfl]; rw [pick_eq k.val f13 (fun k => (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k).s13) rfl]; rw [pick_eq k.val f14 (fun k => (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k).s14) rfl]; rw [pick_eq k.val f15 (fun k => (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k).s15) rfl]; rw [pick_eq k.val f16 (fun k => (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k).s16) rfl]; rw [pick_eq k.val f17 (fun k => (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k).s17) rfl]; rw [pick_eq k.val f18 (fun k => (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k).s18) rfl]; rw [pick_eq k.val f19 (fun k => (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k).s19) rfl];
    dsimp only [pick]
    rw [loopB_succ]
    exact (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k.val).s11 (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k.val).s12 (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k.val).s13 (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k.val).s14 (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k.val).s15 (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k.val).s16 (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k.val).s17 (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k.val).s18 (loopB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v8 v14 v17 v21 v24 v29 v32 v36 v39 v43 v44 v55 v56 v57 c0_i32_90 v185 f4 f5 ⟨f11, f12, f13, f14, f15, f16, f17, f18, f19⟩ k.val).s19 k).2.2.2.2.2.2.2.2.2

end Cert.KernelIdeal.Att

end
-- ==== Proof.PI.RunA.lean ====
module

public import proofs.«01_k».proof.Proof.PI.Trip
public import Idealize.ShloMosaic.Lib.Ring
public import Idealize.ShloMosaic.Lib.Tactic

@[expose] public section

set_option maxRecDepth 16384

/-! The body at the first query block. -/

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕍" => Memref sig Kind.tc Space.vmem
local notation "𝕄" => MT nD τ sig Unit (Elt F) ℕ (UR sig nD τ) ℕ

variable (c : Dev nD) (i : grid0.Coords) (arg3 : 𝕍 S256x128 .f32) (harg3 : arg3.IsWhole) (arg4 : 𝕍 S2048x128 .f32) (harg4 : arg4.IsWhole) (arg5 : 𝕍 S2048x128 .f32) (harg5 : arg5.IsWhole) (arg6 : 𝕍 S256x128 .bf16) (harg6 : arg6.IsWhole) (arg7 : 𝕍 S256x128 .f32) (harg7 : arg7.IsWhole) (arg8 : 𝕍 S256x128 .bf16) (harg8 : arg8.IsWhole) (arg9 : 𝕍 S2048x128 .bf16) (harg9 : arg9.IsWhole) (arg10 : 𝕍 S2048x128 .bf16) (harg10 : arg10.IsWhole) (arg11 : 𝕍 S2048x128 .f32) (harg11 : arg11.IsWhole) (arg12 : 𝕍 S2048x128 .f32) (harg12 : arg12.IsWhole) (arg13 : 𝕍 S2x2x256x256 .f32) (harg13 : arg13.IsWhole) (arg14 : 𝕍 S2x2x256x256 .f32) (harg14 : arg14.IsWhole) (arg15 : 𝕍 S2x2x256x256 .f32) (harg15 : arg15.IsWhole) (arg16 : 𝕍 S2x2x1x256 .f32) (harg16 : arg16.IsWhole) (arg17 : 𝕍 S2x1x256 .f32) (harg17 : arg17.IsWhole) (arg18 : 𝕍 S2x1x256 .f32) (harg18 : arg18.IsWhole) (arg19 : 𝕍 S2x128x256 .f32) (harg19 : arg19.IsWhole)

set_option maxHeartbeats 8000000 in
set_option sl_exec.matchHeartbeats 8000 in
set_option backward.proofsInPublic true in
/-- The body at the first query block, from any contents of its buffers: what it leaves in the result's block and in the scratch buffers, which the
    run finds. -/
@[irreducible] def runA (hc1 : cond1 i) (hc2 : ¬k0_cond2 i = 1#1) (hc3 : k0_cond3 i = 1#1) (hc4 : ¬k0_cond4 i = 1#1) (f3 : Cl F c arg3) (f4 : Cl F c arg4) (f5 : Cl F c arg5) (f6 : Cl F c arg6) (f7 : Cl F c arg7) (f8 : Cl F c arg8) (f9 : Cl F c arg9) (f10 : Cl F c arg10) (f11 : Cl F c arg11) (f12 : Cl F c arg12) (f13 : Cl F c arg13) (f14 : Cl F c arg14) (f15 : Cl F c arg15) (f16 : Cl F c arg16) (f17 : Cl F c arg17) (f18 : Cl F c arg18) (f19 : Cl F c arg19) :
    {o : Out12 (Cl F c arg8) (Cl F c arg9) (Cl F c arg10) (Cl F c arg11) (Cl F c arg12) (Cl F c arg13) (Cl F c arg14) (Cl F c arg15) (Cl F c arg16) (Cl F c arg17) (Cl F c arg18) (Cl F c arg19) //
      (iprop((arg3.view.loc c.tc ↦[arg3.view.set]{fullShare} f3) ∗ (arg4.view.loc c.tc ↦[arg4.view.set]{fullShare} f4) ∗ (arg5.view.loc c.tc ↦[arg5.view.set]{fullShare} f5) ∗ (arg6.view.loc c.tc ↦[arg6.view.set]{fullShare} f6) ∗ (arg7.view.loc c.tc ↦[arg7.view.set]{fullShare} f7) ∗ (arg8.view.loc c.tc ↦[arg8.view.set]{fullShare} f8) ∗ (arg9.view.loc c.tc ↦[arg9.view.set]{fullShare} f9) ∗ (arg10.view.loc c.tc ↦[arg10.view.set]{fullShare} f10) ∗ (arg11.view.loc c.tc ↦[arg11.view.set]{fullShare} f11) ∗ (arg12.view.loc c.tc ↦[arg12.view.set]{fullShare} f12) ∗ (arg13.view.loc c.tc ↦[arg13.view.set]{fullShare} f13) ∗ (arg14.view.loc c.tc ↦[arg14.view.set]{fullShare} f14) ∗ (arg15.view.loc c.tc ↦[arg15.view.set]{fullShare} f15) ∗ (arg16.view.loc c.tc ↦[arg16.view.set]{fullShare} f16) ∗ (arg17.view.loc c.tc ↦[arg17.view.set]{fullShare} f17) ∗ (arg18.view.loc c.tc ↦[arg18.view.set]{fullShare} f18) ∗ (arg19.view.loc c.tc ↦[arg19.view.set]{fullShare} f19)) : sProp 𝕄) ⊢ wp frame (wpE (defs₀ (F := F)) 𝒱₀ c.tc none) Set.univ (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => iprop((arg3.view.loc c.tc ↦[arg3.view.set]{fullShare} f3) ∗ (arg4.view.loc c.tc ↦[arg4.view.set]{fullShare} f4) ∗ (arg5.view.loc c.tc ↦[arg5.view.set]{fullShare} f5) ∗ (arg6.view.loc c.tc ↦[arg6.view.set]{fullShare} f6) ∗ (arg7.view.loc c.tc ↦[arg7.view.set]{fullShare} f7) ∗ (arg8.view.loc c.tc ↦[arg8.view.set]{fullShare} o.y8) ∗ (arg9.view.loc c.tc ↦[arg9.view.set]{fullShare} o.y9) ∗ (arg10.view.loc c.tc ↦[arg10.view.set]{fullShare} o.y10) ∗ (arg11.view.loc c.tc ↦[arg11.view.set]{fullShare} o.y11) ∗ (arg12.view.loc c.tc ↦[arg12.view.set]{fullShare} o.y12) ∗ (arg13.view.loc c.tc ↦[arg13.view.set]{fullShare} o.y13) ∗ (arg14.view.loc c.tc ↦[arg14.view.set]{fullShare} o.y14) ∗ (arg15.view.loc c.tc ↦[arg15.view.set]{fullShare} o.y15) ∗ (arg16.view.loc c.tc ↦[arg16.view.set]{fullShare} o.y16) ∗ (arg17.view.loc c.tc ↦[arg17.view.set]{fullShare} o.y17) ∗ (arg18.view.loc c.tc ↦[arg18.view.set]{fullShare} o.y18) ∗ (arg19.view.loc c.tc ↦[arg19.view.set]{fullShare} o.y19))) } := by
  refine ⟨⟨?_, ?_, ?_, ?_, ?_, ?_, ?_, ?_, ?_, ?_, ?_, ?_⟩, ?run⟩
  case run =>
    dsimp only
    have htr2 : (k0_t2_loop i).trips = 0 := trips2_eq i
    have htr1 : (k0_t1_loop i).trips = 0 := by rw [trips1_eq, (cond1_iff i).mp hc1]
    simp only [cc0_attn_bwd_eq_skeleton]; unfold cc0_attn_bwd_skel
    iintro ⟨H3, H4, H5, H6, H7, H8, H9, H10, H11, H12, H13, H14, H15, H16, H17, H18, H19⟩
    sl_exec_parts (disch := first | sl_exact hc1 | sl_exact hc2 | sl_exact hc3 | sl_exact hc4)
    sl_step
    sl_close

end Cert.KernelIdeal.Att

end
-- ==== Proof.PI.RunB.lean ====
module

public import proofs.«01_k».proof.Proof.PI.Trip
public import Idealize.ShloMosaic.Lib.Ring
public import Idealize.ShloMosaic.Lib.Tactic

@[expose] public section

set_option maxRecDepth 16384

/-! The body at an odd query block that is not the last. -/

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕍" => Memref sig Kind.tc Space.vmem
local notation "𝕄" => MT nD τ sig Unit (Elt F) ℕ (UR sig nD τ) ℕ

variable (c : Dev nD) (i : grid0.Coords) (arg3 : 𝕍 S256x128 .f32) (harg3 : arg3.IsWhole) (arg4 : 𝕍 S2048x128 .f32) (harg4 : arg4.IsWhole) (arg5 : 𝕍 S2048x128 .f32) (harg5 : arg5.IsWhole) (arg6 : 𝕍 S256x128 .bf16) (harg6 : arg6.IsWhole) (arg7 : 𝕍 S256x128 .f32) (harg7 : arg7.IsWhole) (arg8 : 𝕍 S256x128 .bf16) (harg8 : arg8.IsWhole) (arg9 : 𝕍 S2048x128 .bf16) (harg9 : arg9.IsWhole) (arg10 : 𝕍 S2048x128 .bf16) (harg10 : arg10.IsWhole) (arg11 : 𝕍 S2048x128 .f32) (harg11 : arg11.IsWhole) (arg12 : 𝕍 S2048x128 .f32) (harg12 : arg12.IsWhole) (arg13 : 𝕍 S2x2x256x256 .f32) (harg13 : arg13.IsWhole) (arg14 : 𝕍 S2x2x256x256 .f32) (harg14 : arg14.IsWhole) (arg15 : 𝕍 S2x2x256x256 .f32) (harg15 : arg15.IsWhole) (arg16 : 𝕍 S2x2x1x256 .f32) (harg16 : arg16.IsWhole) (arg17 : 𝕍 S2x1x256 .f32) (harg17 : arg17.IsWhole) (arg18 : 𝕍 S2x1x256 .f32) (harg18 : arg18.IsWhole) (arg19 : 𝕍 S2x128x256 .f32) (harg19 : arg19.IsWhole)

set_option maxHeartbeats 8000000 in
set_option sl_exec.matchHeartbeats 8000 in
set_option backward.proofsInPublic true in
/-- The body at an odd query block that is not the last, from any contents of its buffers: what it leaves in the result's block and in the scratch buffers, which the
    run finds. -/
@[irreducible] def runB (hc1 : ¬cond1 i) (hc2 : k0_cond2 i = 1#1) (hc3 : ¬k0_cond3 i = 1#1) (hc4 : ¬k0_cond4 i = 1#1) (f3 : Cl F c arg3) (f4 : Cl F c arg4) (f5 : Cl F c arg5) (f6 : Cl F c arg6) (f7 : Cl F c arg7) (f8 : Cl F c arg8) (f9 : Cl F c arg9) (f10 : Cl F c arg10) (f11 : Cl F c arg11) (f12 : Cl F c arg12) (f13 : Cl F c arg13) (f14 : Cl F c arg14) (f15 : Cl F c arg15) (f16 : Cl F c arg16) (f17 : Cl F c arg17) (f18 : Cl F c arg18) (f19 : Cl F c arg19) :
    {o : Out12 (Cl F c arg8) (Cl F c arg9) (Cl F c arg10) (Cl F c arg11) (Cl F c arg12) (Cl F c arg13) (Cl F c arg14) (Cl F c arg15) (Cl F c arg16) (Cl F c arg17) (Cl F c arg18) (Cl F c arg19) //
      (iprop((arg3.view.loc c.tc ↦[arg3.view.set]{fullShare} f3) ∗ (arg4.view.loc c.tc ↦[arg4.view.set]{fullShare} f4) ∗ (arg5.view.loc c.tc ↦[arg5.view.set]{fullShare} f5) ∗ (arg6.view.loc c.tc ↦[arg6.view.set]{fullShare} f6) ∗ (arg7.view.loc c.tc ↦[arg7.view.set]{fullShare} f7) ∗ (arg8.view.loc c.tc ↦[arg8.view.set]{fullShare} f8) ∗ (arg9.view.loc c.tc ↦[arg9.view.set]{fullShare} f9) ∗ (arg10.view.loc c.tc ↦[arg10.view.set]{fullShare} f10) ∗ (arg11.view.loc c.tc ↦[arg11.view.set]{fullShare} f11) ∗ (arg12.view.loc c.tc ↦[arg12.view.set]{fullShare} f12) ∗ (arg13.view.loc c.tc ↦[arg13.view.set]{fullShare} f13) ∗ (arg14.view.loc c.tc ↦[arg14.view.set]{fullShare} f14) ∗ (arg15.view.loc c.tc ↦[arg15.view.set]{fullShare} f15) ∗ (arg16.view.loc c.tc ↦[arg16.view.set]{fullShare} f16) ∗ (arg17.view.loc c.tc ↦[arg17.view.set]{fullShare} f17) ∗ (arg18.view.loc c.tc ↦[arg18.view.set]{fullShare} f18) ∗ (arg19.view.loc c.tc ↦[arg19.view.set]{fullShare} f19)) : sProp 𝕄) ⊢ wp frame (wpE (defs₀ (F := F)) 𝒱₀ c.tc none) Set.univ (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => iprop((arg3.view.loc c.tc ↦[arg3.view.set]{fullShare} f3) ∗ (arg4.view.loc c.tc ↦[arg4.view.set]{fullShare} f4) ∗ (arg5.view.loc c.tc ↦[arg5.view.set]{fullShare} f5) ∗ (arg6.view.loc c.tc ↦[arg6.view.set]{fullShare} f6) ∗ (arg7.view.loc c.tc ↦[arg7.view.set]{fullShare} f7) ∗ (arg8.view.loc c.tc ↦[arg8.view.set]{fullShare} o.y8) ∗ (arg9.view.loc c.tc ↦[arg9.view.set]{fullShare} o.y9) ∗ (arg10.view.loc c.tc ↦[arg10.view.set]{fullShare} o.y10) ∗ (arg11.view.loc c.tc ↦[arg11.view.set]{fullShare} o.y11) ∗ (arg12.view.loc c.tc ↦[arg12.view.set]{fullShare} o.y12) ∗ (arg13.view.loc c.tc ↦[arg13.view.set]{fullShare} o.y13) ∗ (arg14.view.loc c.tc ↦[arg14.view.set]{fullShare} o.y14) ∗ (arg15.view.loc c.tc ↦[arg15.view.set]{fullShare} o.y15) ∗ (arg16.view.loc c.tc ↦[arg16.view.set]{fullShare} o.y16) ∗ (arg17.view.loc c.tc ↦[arg17.view.set]{fullShare} o.y17) ∗ (arg18.view.loc c.tc ↦[arg18.view.set]{fullShare} o.y18) ∗ (arg19.view.loc c.tc ↦[arg19.view.set]{fullShare} o.y19))) } := by
  refine ⟨⟨?_, ?_, ?_, ?_, ?_, ?_, ?_, ?_, ?_, ?_, ?_, ?_⟩, ?run⟩
  case run =>
    dsimp only
    have : Fact (k0_cond2 i = 1#1) := ⟨hc2⟩
    have hq : 1 ≤ (i 2).val := by have := (cond2_iff i).mp hc2; omega
    have htr2 : (k0_t2_loop i).trips = 0 := trips2_eq i
    simp only [cc0_attn_bwd_eq_skeleton]; unfold cc0_attn_bwd_skel
    iintro ⟨H3, H4, H5, H6, H7, H8, H9, H10, H11, H12, H13, H14, H15, H16, H17, H18, H19⟩
    sl_exec_parts (disch := first | sl_exact hc1 | sl_exact hc2 | sl_exact hc3 | sl_exact hc4)
    sl_step
    sl_close

end Cert.KernelIdeal.Att

end
-- ==== Proof.PI.RunC.lean ====
module

public import proofs.«01_k».proof.Proof.PI.Trip
public import Idealize.ShloMosaic.Lib.Ring
public import Idealize.ShloMosaic.Lib.Tactic

@[expose] public section

set_option maxRecDepth 16384

/-! The body at an even query block that is not the first. -/

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕍" => Memref sig Kind.tc Space.vmem
local notation "𝕄" => MT nD τ sig Unit (Elt F) ℕ (UR sig nD τ) ℕ

variable (c : Dev nD) (i : grid0.Coords) (arg3 : 𝕍 S256x128 .f32) (harg3 : arg3.IsWhole) (arg4 : 𝕍 S2048x128 .f32) (harg4 : arg4.IsWhole) (arg5 : 𝕍 S2048x128 .f32) (harg5 : arg5.IsWhole) (arg6 : 𝕍 S256x128 .bf16) (harg6 : arg6.IsWhole) (arg7 : 𝕍 S256x128 .f32) (harg7 : arg7.IsWhole) (arg8 : 𝕍 S256x128 .bf16) (harg8 : arg8.IsWhole) (arg9 : 𝕍 S2048x128 .bf16) (harg9 : arg9.IsWhole) (arg10 : 𝕍 S2048x128 .bf16) (harg10 : arg10.IsWhole) (arg11 : 𝕍 S2048x128 .f32) (harg11 : arg11.IsWhole) (arg12 : 𝕍 S2048x128 .f32) (harg12 : arg12.IsWhole) (arg13 : 𝕍 S2x2x256x256 .f32) (harg13 : arg13.IsWhole) (arg14 : 𝕍 S2x2x256x256 .f32) (harg14 : arg14.IsWhole) (arg15 : 𝕍 S2x2x256x256 .f32) (harg15 : arg15.IsWhole) (arg16 : 𝕍 S2x2x1x256 .f32) (harg16 : arg16.IsWhole) (arg17 : 𝕍 S2x1x256 .f32) (harg17 : arg17.IsWhole) (arg18 : 𝕍 S2x1x256 .f32) (harg18 : arg18.IsWhole) (arg19 : 𝕍 S2x128x256 .f32) (harg19 : arg19.IsWhole)

set_option maxHeartbeats 8000000 in
set_option sl_exec.matchHeartbeats 8000 in
set_option backward.proofsInPublic true in
/-- The body at an even query block that is not the first, from any contents of its buffers: what it leaves in the result's block and in the scratch buffers, which the
    run finds. -/
@[irreducible] def runC (hc1 : ¬cond1 i) (hc2 : ¬k0_cond2 i = 1#1) (hc3 : k0_cond3 i = 1#1) (hc4 : ¬k0_cond4 i = 1#1) (f3 : Cl F c arg3) (f4 : Cl F c arg4) (f5 : Cl F c arg5) (f6 : Cl F c arg6) (f7 : Cl F c arg7) (f8 : Cl F c arg8) (f9 : Cl F c arg9) (f10 : Cl F c arg10) (f11 : Cl F c arg11) (f12 : Cl F c arg12) (f13 : Cl F c arg13) (f14 : Cl F c arg14) (f15 : Cl F c arg15) (f16 : Cl F c arg16) (f17 : Cl F c arg17) (f18 : Cl F c arg18) (f19 : Cl F c arg19) :
    {o : Out12 (Cl F c arg8) (Cl F c arg9) (Cl F c arg10) (Cl F c arg11) (Cl F c arg12) (Cl F c arg13) (Cl F c arg14) (Cl F c arg15) (Cl F c arg16) (Cl F c arg17) (Cl F c arg18) (Cl F c arg19) //
      (iprop((arg3.view.loc c.tc ↦[arg3.view.set]{fullShare} f3) ∗ (arg4.view.loc c.tc ↦[arg4.view.set]{fullShare} f4) ∗ (arg5.view.loc c.tc ↦[arg5.view.set]{fullShare} f5) ∗ (arg6.view.loc c.tc ↦[arg6.view.set]{fullShare} f6) ∗ (arg7.view.loc c.tc ↦[arg7.view.set]{fullShare} f7) ∗ (arg8.view.loc c.tc ↦[arg8.view.set]{fullShare} f8) ∗ (arg9.view.loc c.tc ↦[arg9.view.set]{fullShare} f9) ∗ (arg10.view.loc c.tc ↦[arg10.view.set]{fullShare} f10) ∗ (arg11.view.loc c.tc ↦[arg11.view.set]{fullShare} f11) ∗ (arg12.view.loc c.tc ↦[arg12.view.set]{fullShare} f12) ∗ (arg13.view.loc c.tc ↦[arg13.view.set]{fullShare} f13) ∗ (arg14.view.loc c.tc ↦[arg14.view.set]{fullShare} f14) ∗ (arg15.view.loc c.tc ↦[arg15.view.set]{fullShare} f15) ∗ (arg16.view.loc c.tc ↦[arg16.view.set]{fullShare} f16) ∗ (arg17.view.loc c.tc ↦[arg17.view.set]{fullShare} f17) ∗ (arg18.view.loc c.tc ↦[arg18.view.set]{fullShare} f18) ∗ (arg19.view.loc c.tc ↦[arg19.view.set]{fullShare} f19)) : sProp 𝕄) ⊢ wp frame (wpE (defs₀ (F := F)) 𝒱₀ c.tc none) Set.univ (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => iprop((arg3.view.loc c.tc ↦[arg3.view.set]{fullShare} f3) ∗ (arg4.view.loc c.tc ↦[arg4.view.set]{fullShare} f4) ∗ (arg5.view.loc c.tc ↦[arg5.view.set]{fullShare} f5) ∗ (arg6.view.loc c.tc ↦[arg6.view.set]{fullShare} f6) ∗ (arg7.view.loc c.tc ↦[arg7.view.set]{fullShare} f7) ∗ (arg8.view.loc c.tc ↦[arg8.view.set]{fullShare} o.y8) ∗ (arg9.view.loc c.tc ↦[arg9.view.set]{fullShare} o.y9) ∗ (arg10.view.loc c.tc ↦[arg10.view.set]{fullShare} o.y10) ∗ (arg11.view.loc c.tc ↦[arg11.view.set]{fullShare} o.y11) ∗ (arg12.view.loc c.tc ↦[arg12.view.set]{fullShare} o.y12) ∗ (arg13.view.loc c.tc ↦[arg13.view.set]{fullShare} o.y13) ∗ (arg14.view.loc c.tc ↦[arg14.view.set]{fullShare} o.y14) ∗ (arg15.view.loc c.tc ↦[arg15.view.set]{fullShare} o.y15) ∗ (arg16.view.loc c.tc ↦[arg16.view.set]{fullShare} o.y16) ∗ (arg17.view.loc c.tc ↦[arg17.view.set]{fullShare} o.y17) ∗ (arg18.view.loc c.tc ↦[arg18.view.set]{fullShare} o.y18) ∗ (arg19.view.loc c.tc ↦[arg19.view.set]{fullShare} o.y19))) } := by
  refine ⟨⟨?_, ?_, ?_, ?_, ?_, ?_, ?_, ?_, ?_, ?_, ?_, ?_⟩, ?run⟩
  case run =>
    dsimp only
    have htr2 : (k0_t2_loop i).trips = 0 := trips2_eq i
    simp only [cc0_attn_bwd_eq_skeleton]; unfold cc0_attn_bwd_skel
    iintro ⟨H3, H4, H5, H6, H7, H8, H9, H10, H11, H12, H13, H14, H15, H16, H17, H18, H19⟩
    sl_exec_parts (disch := first | sl_exact hc1 | sl_exact hc2 | sl_exact hc3 | sl_exact hc4)
    sl_step
    sl_close

end Cert.KernelIdeal.Att

end
-- ==== Proof.PI.RunD.lean ====
module

public import proofs.«01_k».proof.Proof.PI.Trip
public import Idealize.ShloMosaic.Lib.Ring
public import Idealize.ShloMosaic.Lib.Tactic

@[expose] public section

set_option maxRecDepth 16384

/-! The body at the last query block. -/

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕍" => Memref sig Kind.tc Space.vmem
local notation "𝕄" => MT nD τ sig Unit (Elt F) ℕ (UR sig nD τ) ℕ

variable (c : Dev nD) (i : grid0.Coords) (arg3 : 𝕍 S256x128 .f32) (harg3 : arg3.IsWhole) (arg4 : 𝕍 S2048x128 .f32) (harg4 : arg4.IsWhole) (arg5 : 𝕍 S2048x128 .f32) (harg5 : arg5.IsWhole) (arg6 : 𝕍 S256x128 .bf16) (harg6 : arg6.IsWhole) (arg7 : 𝕍 S256x128 .f32) (harg7 : arg7.IsWhole) (arg8 : 𝕍 S256x128 .bf16) (harg8 : arg8.IsWhole) (arg9 : 𝕍 S2048x128 .bf16) (harg9 : arg9.IsWhole) (arg10 : 𝕍 S2048x128 .bf16) (harg10 : arg10.IsWhole) (arg11 : 𝕍 S2048x128 .f32) (harg11 : arg11.IsWhole) (arg12 : 𝕍 S2048x128 .f32) (harg12 : arg12.IsWhole) (arg13 : 𝕍 S2x2x256x256 .f32) (harg13 : arg13.IsWhole) (arg14 : 𝕍 S2x2x256x256 .f32) (harg14 : arg14.IsWhole) (arg15 : 𝕍 S2x2x256x256 .f32) (harg15 : arg15.IsWhole) (arg16 : 𝕍 S2x2x1x256 .f32) (harg16 : arg16.IsWhole) (arg17 : 𝕍 S2x1x256 .f32) (harg17 : arg17.IsWhole) (arg18 : 𝕍 S2x1x256 .f32) (harg18 : arg18.IsWhole) (arg19 : 𝕍 S2x128x256 .f32) (harg19 : arg19.IsWhole)

set_option maxHeartbeats 8000000 in
set_option sl_exec.matchHeartbeats 8000 in
set_option backward.proofsInPublic true in
/-- The body at the last query block, from any contents of its buffers: what it leaves in the result's blocks and in the scratch buffers, which the
    run finds. -/
@[irreducible] def runD (hc1 : ¬cond1 i) (hc2 : k0_cond2 i = 1#1) (hc3 : ¬k0_cond3 i = 1#1) (hc4 : k0_cond4 i = 1#1) (f3 : Cl F c arg3) (f4 : Cl F c arg4) (f5 : Cl F c arg5) (f6 : Cl F c arg6) (f7 : Cl F c arg7) (f8 : Cl F c arg8) (f9 : Cl F c arg9) (f10 : Cl F c arg10) (f11 : Cl F c arg11) (f12 : Cl F c arg12) (f13 : Cl F c arg13) (f14 : Cl F c arg14) (f15 : Cl F c arg15) (f16 : Cl F c arg16) (f17 : Cl F c arg17) (f18 : Cl F c arg18) (f19 : Cl F c arg19) :
    {o : Out12 (Cl F c arg8) (Cl F c arg9) (Cl F c arg10) (Cl F c arg11) (Cl F c arg12) (Cl F c arg13) (Cl F c arg14) (Cl F c arg15) (Cl F c arg16) (Cl F c arg17) (Cl F c arg18) (Cl F c arg19) //
      (iprop((arg3.view.loc c.tc ↦[arg3.view.set]{fullShare} f3) ∗ (arg4.view.loc c.tc ↦[arg4.view.set]{fullShare} f4) ∗ (arg5.view.loc c.tc ↦[arg5.view.set]{fullShare} f5) ∗ (arg6.view.loc c.tc ↦[arg6.view.set]{fullShare} f6) ∗ (arg7.view.loc c.tc ↦[arg7.view.set]{fullShare} f7) ∗ (arg8.view.loc c.tc ↦[arg8.view.set]{fullShare} f8) ∗ (arg9.view.loc c.tc ↦[arg9.view.set]{fullShare} f9) ∗ (arg10.view.loc c.tc ↦[arg10.view.set]{fullShare} f10) ∗ (arg11.view.loc c.tc ↦[arg11.view.set]{fullShare} f11) ∗ (arg12.view.loc c.tc ↦[arg12.view.set]{fullShare} f12) ∗ (arg13.view.loc c.tc ↦[arg13.view.set]{fullShare} f13) ∗ (arg14.view.loc c.tc ↦[arg14.view.set]{fullShare} f14) ∗ (arg15.view.loc c.tc ↦[arg15.view.set]{fullShare} f15) ∗ (arg16.view.loc c.tc ↦[arg16.view.set]{fullShare} f16) ∗ (arg17.view.loc c.tc ↦[arg17.view.set]{fullShare} f17) ∗ (arg18.view.loc c.tc ↦[arg18.view.set]{fullShare} f18) ∗ (arg19.view.loc c.tc ↦[arg19.view.set]{fullShare} f19)) : sProp 𝕄) ⊢ wp frame (wpE (defs₀ (F := F)) 𝒱₀ c.tc none) Set.univ (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => iprop((arg3.view.loc c.tc ↦[arg3.view.set]{fullShare} f3) ∗ (arg4.view.loc c.tc ↦[arg4.view.set]{fullShare} f4) ∗ (arg5.view.loc c.tc ↦[arg5.view.set]{fullShare} f5) ∗ (arg6.view.loc c.tc ↦[arg6.view.set]{fullShare} f6) ∗ (arg7.view.loc c.tc ↦[arg7.view.set]{fullShare} f7) ∗ (arg8.view.loc c.tc ↦[arg8.view.set]{fullShare} o.y8) ∗ (arg9.view.loc c.tc ↦[arg9.view.set]{fullShare} o.y9) ∗ (arg10.view.loc c.tc ↦[arg10.view.set]{fullShare} o.y10) ∗ (arg11.view.loc c.tc ↦[arg11.view.set]{fullShare} o.y11) ∗ (arg12.view.loc c.tc ↦[arg12.view.set]{fullShare} o.y12) ∗ (arg13.view.loc c.tc ↦[arg13.view.set]{fullShare} o.y13) ∗ (arg14.view.loc c.tc ↦[arg14.view.set]{fullShare} o.y14) ∗ (arg15.view.loc c.tc ↦[arg15.view.set]{fullShare} o.y15) ∗ (arg16.view.loc c.tc ↦[arg16.view.set]{fullShare} o.y16) ∗ (arg17.view.loc c.tc ↦[arg17.view.set]{fullShare} o.y17) ∗ (arg18.view.loc c.tc ↦[arg18.view.set]{fullShare} o.y18) ∗ (arg19.view.loc c.tc ↦[arg19.view.set]{fullShare} o.y19))) } := by
  refine ⟨⟨?_, ?_, ?_, ?_, ?_, ?_, ?_, ?_, ?_, ?_, ?_, ?_⟩, ?run⟩
  case run =>
    dsimp only
    have : Fact (k0_cond2 i = 1#1) := ⟨hc2⟩
    have hq : 1 ≤ (i 2).val := by have := (cond2_iff i).mp hc2; omega
    have htr2 : (k0_t2_loop i).trips = 0 := trips2_eq i
    simp only [cc0_attn_bwd_eq_skeleton]; unfold cc0_attn_bwd_skel
    iintro ⟨H3, H4, H5, H6, H7, H8, H9, H10, H11, H12, H13, H14, H15, H16, H17, H18, H19⟩
    sl_exec_parts (disch := first | sl_exact hc1 | sl_exact hc2 | sl_exact hc3 | sl_exact hc4)
    sl_step
    sl_close

end Cert.KernelIdeal.Att

end
-- ==== Proof.PI.Body.lean ====
module

public import proofs.«01_k».proof.Proof.PI.RunA
public import proofs.«01_k».proof.Proof.PI.RunB
public import proofs.«01_k».proof.Proof.PI.RunC
public import proofs.«01_k».proof.Proof.PI.RunD
public import Idealize.ShloMosaic.Lib.Ring
public import Idealize.ShloMosaic.Lib.Tactic

@[expose] public section

set_option maxRecDepth 16384

/-! The body at any point: what it leaves, and that it runs. -/

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕍" => Memref sig Kind.tc Space.vmem
local notation "𝕄" => MT nD τ sig Unit (Elt F) ℕ (UR sig nD τ) ℕ

/-- A whole buffer owned at `X` is held at the contents that read `X`. -/
theorem held_of_owns {c : Dev nD} {sh : Shape} {e : EltTy} {m : 𝕍 sh e} (h : m.IsWhole) (X : sh.Idx → Elt F e) :
    (owns c.tc m fullShare X : sProp 𝕄) ⊢ iprop(m.view.loc c.tc ↦[m.view.set]{fullShare} h.unread X) := by
  unfold owns; iintro ⟨%f, %hf, H⟩
  obtain rfl := h.eq_unread hf
  iexact H

/-- A buffer held at `g` is owned at what `g` reads. -/
theorem owns_of_held {c : Dev nD} {sh : Shape} {e : EltTy} {m : 𝕍 sh e} (g : Buf (Elt F) (m.view.loc c.tc)) :
    (iprop(m.view.loc c.tc ↦[m.view.set]{fullShare} g) : sProp 𝕄) ⊢ owns c.tc m fullShare (m.view.read (Elt F) g) := by
  unfold owns; iintro H; iexists g
  isplitr
  · ipureintro; rfl
  · iexact H

/-- What the body leaves, as plain arrays. -/
abbrev Out (F : FTy → Type) : Type := Out12 (Vec F S256x128 .bf16) (Vec F S2048x128 .bf16) (Vec F S2048x128 .bf16) (Vec F S2048x128 .f32) (Vec F S2048x128 .f32) (Vec F S2x2x256x256 .f32) (Vec F S2x2x256x256 .f32) (Vec F S2x2x256x256 .f32) (Vec F S2x2x1x256 .f32) (Vec F S2x1x256 .f32) (Vec F S2x1x256 .f32) (Vec F S2x128x256 .f32)

section
variable {i : grid0.Coords}
theorem n2 (h : cond1 i) : ¬ k0_cond2 i = 1#1 := by rw [cond2_iff, (cond1_iff i).mp h]; decide
theorem p3 (h : cond1 i) : k0_cond3 i = 1#1 := by rw [cond3_iff, (cond1_iff i).mp h]
theorem n4 (h : cond1 i) : ¬ k0_cond4 i = 1#1 := by rw [cond4_iff, (cond1_iff i).mp h]; decide
theorem m3 (h : k0_cond2 i = 1#1) : ¬ k0_cond3 i = 1#1 := by rw [cond2_iff] at h; rw [cond3_iff]; omega
theorem q3 (h : ¬ k0_cond2 i = 1#1) : k0_cond3 i = 1#1 := by rw [cond2_iff] at h; rw [cond3_iff]; omega
theorem q4 (h : ¬ k0_cond2 i = 1#1) : ¬ k0_cond4 i = 1#1 := by rw [cond2_iff] at h; rw [cond4_iff]; omega
end

variable (c : Dev nD) (i : grid0.Coords) (arg3 : 𝕍 S256x128 .f32) (harg3 : arg3.IsWhole) (arg4 : 𝕍 S2048x128 .f32) (harg4 : arg4.IsWhole) (arg5 : 𝕍 S2048x128 .f32) (harg5 : arg5.IsWhole) (arg6 : 𝕍 S256x128 .bf16) (harg6 : arg6.IsWhole) (arg7 : 𝕍 S256x128 .f32) (harg7 : arg7.IsWhole) (arg8 : 𝕍 S256x128 .bf16) (harg8 : arg8.IsWhole) (arg9 : 𝕍 S2048x128 .bf16) (harg9 : arg9.IsWhole) (arg10 : 𝕍 S2048x128 .bf16) (harg10 : arg10.IsWhole) (arg11 : 𝕍 S2048x128 .f32) (harg11 : arg11.IsWhole) (arg12 : 𝕍 S2048x128 .f32) (harg12 : arg12.IsWhole) (arg13 : 𝕍 S2x2x256x256 .f32) (harg13 : arg13.IsWhole) (arg14 : 𝕍 S2x2x256x256 .f32) (harg14 : arg14.IsWhole) (arg15 : 𝕍 S2x2x256x256 .f32) (harg15 : arg15.IsWhole) (arg16 : 𝕍 S2x2x1x256 .f32) (harg16 : arg16.IsWhole) (arg17 : 𝕍 S2x1x256 .f32) (harg17 : arg17.IsWhole) (arg18 : 𝕍 S2x1x256 .f32) (harg18 : arg18.IsWhole) (arg19 : 𝕍 S2x128x256 .f32) (harg19 : arg19.IsWhole)

set_option maxHeartbeats 1000000 in
/-- What the body leaves at any point, and that it runs. -/
def bodyB (f3 : Cl F c arg3) (f4 : Cl F c arg4) (f5 : Cl F c arg5) (f6 : Cl F c arg6) (f7 : Cl F c arg7) (f8 : Cl F c arg8) (f9 : Cl F c arg9) (f10 : Cl F c arg10) (f11 : Cl F c arg11) (f12 : Cl F c arg12) (f13 : Cl F c arg13) (f14 : Cl F c arg14) (f15 : Cl F c arg15) (f16 : Cl F c arg16) (f17 : Cl F c arg17) (f18 : Cl F c arg18) (f19 : Cl F c arg19) : {o : Out12 (Cl F c arg8) (Cl F c arg9) (Cl F c arg10) (Cl F c arg11) (Cl F c arg12) (Cl F c arg13) (Cl F c arg14) (Cl F c arg15) (Cl F c arg16) (Cl F c arg17) (Cl F c arg18) (Cl F c arg19) //
      (iprop((arg3.view.loc c.tc ↦[arg3.view.set]{fullShare} f3) ∗ (arg4.view.loc c.tc ↦[arg4.view.set]{fullShare} f4) ∗ (arg5.view.loc c.tc ↦[arg5.view.set]{fullShare} f5) ∗ (arg6.view.loc c.tc ↦[arg6.view.set]{fullShare} f6) ∗ (arg7.view.loc c.tc ↦[arg7.view.set]{fullShare} f7) ∗ (arg8.view.loc c.tc ↦[arg8.view.set]{fullShare} f8) ∗ (arg9.view.loc c.tc ↦[arg9.view.set]{fullShare} f9) ∗ (arg10.view.loc c.tc ↦[arg10.view.set]{fullShare} f10) ∗ (arg11.view.loc c.tc ↦[arg11.view.set]{fullShare} f11) ∗ (arg12.view.loc c.tc ↦[arg12.view.set]{fullShare} f12) ∗ (arg13.view.loc c.tc ↦[arg13.view.set]{fullShare} f13) ∗ (arg14.view.loc c.tc ↦[arg14.view.set]{fullShare} f14) ∗ (arg15.view.loc c.tc ↦[arg15.view.set]{fullShare} f15) ∗ (arg16.view.loc c.tc ↦[arg16.view.set]{fullShare} f16) ∗ (arg17.view.loc c.tc ↦[arg17.view.set]{fullShare} f17) ∗ (arg18.view.loc c.tc ↦[arg18.view.set]{fullShare} f18) ∗ (arg19.view.loc c.tc ↦[arg19.view.set]{fullShare} f19)) : sProp 𝕄) ⊢ wp frame (wpE (defs₀ (F := F)) 𝒱₀ c.tc none) Set.univ (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => iprop((arg3.view.loc c.tc ↦[arg3.view.set]{fullShare} f3) ∗ (arg4.view.loc c.tc ↦[arg4.view.set]{fullShare} f4) ∗ (arg5.view.loc c.tc ↦[arg5.view.set]{fullShare} f5) ∗ (arg6.view.loc c.tc ↦[arg6.view.set]{fullShare} f6) ∗ (arg7.view.loc c.tc ↦[arg7.view.set]{fullShare} f7) ∗ (arg8.view.loc c.tc ↦[arg8.view.set]{fullShare} (o).y8) ∗ (arg9.view.loc c.tc ↦[arg9.view.set]{fullShare} (o).y9) ∗ (arg10.view.loc c.tc ↦[arg10.view.set]{fullShare} (o).y10) ∗ (arg11.view.loc c.tc ↦[arg11.view.set]{fullShare} (o).y11) ∗ (arg12.view.loc c.tc ↦[arg12.view.set]{fullShare} (o).y12) ∗ (arg13.view.loc c.tc ↦[arg13.view.set]{fullShare} (o).y13) ∗ (arg14.view.loc c.tc ↦[arg14.view.set]{fullShare} (o).y14) ∗ (arg15.view.loc c.tc ↦[arg15.view.set]{fullShare} (o).y15) ∗ (arg16.view.loc c.tc ↦[arg16.view.set]{fullShare} (o).y16) ∗ (arg17.view.loc c.tc ↦[arg17.view.set]{fullShare} (o).y17) ∗ (arg18.view.loc c.tc ↦[arg18.view.set]{fullShare} (o).y18) ∗ (arg19.view.loc c.tc ↦[arg19.view.set]{fullShare} (o).y19))) } :=
  if h1 : cond1 i then runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 (n2 h1) (p3 h1) (n4 h1) f3 f4 f5 f6 f7 f8 f9 f10 f11 f12 f13 f14 f15 f16 f17 f18 f19
  else if h2 : k0_cond2 i = 1#1 then if h4 : k0_cond4 i = 1#1 then runD c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 (m3 h2) h4 f3 f4 f5 f6 f7 f8 f9 f10 f11 f12 f13 f14 f15 f16 f17 f18 f19 else runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 (m3 h2) h4 f3 f4 f5 f6 f7 f8 f9 f10 f11 f12 f13 f14 f15 f16 f17 f18 f19
  else runC c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 (q3 h2) (q4 h2) f3 f4 f5 f6 f7 f8 f9 f10 f11 f12 f13 f14 f15 f16 f17 f18 f19

set_option maxHeartbeats 1000000 in
/-- What the body leaves, read as plain arrays, from the contents of its buffers. -/
def outOf (x3 : Vec F S256x128 .f32) (x4 : Vec F S2048x128 .f32) (x5 : Vec F S2048x128 .f32) (x6 : Vec F S256x128 .bf16) (x7 : Vec F S256x128 .f32) (x8 : Vec F S256x128 .bf16) (x9 : Vec F S2048x128 .bf16) (x10 : Vec F S2048x128 .bf16) (x11 : Vec F S2048x128 .f32) (x12 : Vec F S2048x128 .f32) (x13 : Vec F S2x2x256x256 .f32) (x14 : Vec F S2x2x256x256 .f32) (x15 : Vec F S2x2x256x256 .f32) (x16 : Vec F S2x2x1x256 .f32) (x17 : Vec F S2x1x256 .f32) (x18 : Vec F S2x1x256 .f32) (x19 : Vec F S2x128x256 .f32) : Out F :=
  let o := (bodyB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19)).1
  ⟨arg8.view.read (Elt F) o.y8, arg9.view.read (Elt F) o.y9, arg10.view.read (Elt F) o.y10, arg11.view.read (Elt F) o.y11, arg12.view.read (Elt F) o.y12, arg13.view.read (Elt F) o.y13, arg14.view.read (Elt F) o.y14, arg15.view.read (Elt F) o.y15, arg16.view.read (Elt F) o.y16, arg17.view.read (Elt F) o.y17, arg18.view.read (Elt F) o.y18, arg19.view.read (Elt F) o.y19⟩

set_option maxHeartbeats 400000 in
theorem pre_held (x3 : Vec F S256x128 .f32) (x4 : Vec F S2048x128 .f32) (x5 : Vec F S2048x128 .f32) (x6 : Vec F S256x128 .bf16) (x7 : Vec F S256x128 .f32) (x8 : Vec F S256x128 .bf16) (x9 : Vec F S2048x128 .bf16) (x10 : Vec F S2048x128 .bf16) (x11 : Vec F S2048x128 .f32) (x12 : Vec F S2048x128 .f32) (x13 : Vec F S2x2x256x256 .f32) (x14 : Vec F S2x2x256x256 .f32) (x15 : Vec F S2x2x256x256 .f32) (x16 : Vec F S2x2x1x256 .f32) (x17 : Vec F S2x1x256 .f32) (x18 : Vec F S2x1x256 .f32) (x19 : Vec F S2x128x256 .f32) :
    (iprop(owns c.tc arg3 fullShare (x3) ∗ owns c.tc arg4 fullShare (x4) ∗ owns c.tc arg5 fullShare (x5) ∗ owns c.tc arg6 fullShare (x6) ∗ owns c.tc arg7 fullShare (x7) ∗ owns c.tc arg8 fullShare (x8) ∗ owns c.tc arg9 fullShare (x9) ∗ owns c.tc arg10 fullShare (x10) ∗ owns c.tc arg11 fullShare (x11) ∗ owns c.tc arg12 fullShare (x12) ∗ owns c.tc arg13 fullShare (x13) ∗ owns c.tc arg14 fullShare (x14) ∗ owns c.tc arg15 fullShare (x15) ∗ owns c.tc arg16 fullShare (x16) ∗ owns c.tc arg17 fullShare (x17) ∗ owns c.tc arg18 fullShare (x18) ∗ owns c.tc arg19 fullShare (x19)) : sProp 𝕄) ⊢ iprop((arg3.view.loc c.tc ↦[arg3.view.set]{fullShare} (harg3.unread x3)) ∗ (arg4.view.loc c.tc ↦[arg4.view.set]{fullShare} (harg4.unread x4)) ∗ (arg5.view.loc c.tc ↦[arg5.view.set]{fullShare} (harg5.unread x5)) ∗ (arg6.view.loc c.tc ↦[arg6.view.set]{fullShare} (harg6.unread x6)) ∗ (arg7.view.loc c.tc ↦[arg7.view.set]{fullShare} (harg7.unread x7)) ∗ (arg8.view.loc c.tc ↦[arg8.view.set]{fullShare} (harg8.unread x8)) ∗ (arg9.view.loc c.tc ↦[arg9.view.set]{fullShare} (harg9.unread x9)) ∗ (arg10.view.loc c.tc ↦[arg10.view.set]{fullShare} (harg10.unread x10)) ∗ (arg11.view.loc c.tc ↦[arg11.view.set]{fullShare} (harg11.unread x11)) ∗ (arg12.view.loc c.tc ↦[arg12.view.set]{fullShare} (harg12.unread x12)) ∗ (arg13.view.loc c.tc ↦[arg13.view.set]{fullShare} (harg13.unread x13)) ∗ (arg14.view.loc c.tc ↦[arg14.view.set]{fullShare} (harg14.unread x14)) ∗ (arg15.view.loc c.tc ↦[arg15.view.set]{fullShare} (harg15.unread x15)) ∗ (arg16.view.loc c.tc ↦[arg16.view.set]{fullShare} (harg16.unread x16)) ∗ (arg17.view.loc c.tc ↦[arg17.view.set]{fullShare} (harg17.unread x17)) ∗ (arg18.view.loc c.tc ↦[arg18.view.set]{fullShare} (harg18.unread x18)) ∗ (arg19.view.loc c.tc ↦[arg19.view.set]{fullShare} (harg19.unread x19))) := by
  refine BIClass.sep_mono (held_of_owns harg3 x3) ?_; refine BIClass.sep_mono (held_of_owns harg4 x4) ?_; refine BIClass.sep_mono (held_of_owns harg5 x5) ?_; refine BIClass.sep_mono (held_of_owns harg6 x6) ?_; refine BIClass.sep_mono (held_of_owns harg7 x7) ?_; refine BIClass.sep_mono (held_of_owns harg8 x8) ?_; refine BIClass.sep_mono (held_of_owns harg9 x9) ?_; refine BIClass.sep_mono (held_of_owns harg10 x10) ?_; refine BIClass.sep_mono (held_of_owns harg11 x11) ?_; refine BIClass.sep_mono (held_of_owns harg12 x12) ?_; refine BIClass.sep_mono (held_of_owns harg13 x13) ?_; refine BIClass.sep_mono (held_of_owns harg14 x14) ?_; refine BIClass.sep_mono (held_of_owns harg15 x15) ?_; refine BIClass.sep_mono (held_of_owns harg16 x16) ?_; refine BIClass.sep_mono (held_of_owns harg17 x17) ?_; refine BIClass.sep_mono (held_of_owns harg18 x18) ?_;
  exact held_of_owns harg19 x19

set_option maxHeartbeats 400000 in
theorem post_owns (x3 : Vec F S256x128 .f32) (x4 : Vec F S2048x128 .f32) (x5 : Vec F S2048x128 .f32) (x6 : Vec F S256x128 .bf16) (x7 : Vec F S256x128 .f32) (x8 : Vec F S256x128 .bf16) (x9 : Vec F S2048x128 .bf16) (x10 : Vec F S2048x128 .bf16) (x11 : Vec F S2048x128 .f32) (x12 : Vec F S2048x128 .f32) (x13 : Vec F S2x2x256x256 .f32) (x14 : Vec F S2x2x256x256 .f32) (x15 : Vec F S2x2x256x256 .f32) (x16 : Vec F S2x2x1x256 .f32) (x17 : Vec F S2x1x256 .f32) (x18 : Vec F S2x1x256 .f32) (x19 : Vec F S2x128x256 .f32) (o : Out12 (Cl F c arg8) (Cl F c arg9) (Cl F c arg10) (Cl F c arg11) (Cl F c arg12) (Cl F c arg13) (Cl F c arg14) (Cl F c arg15) (Cl F c arg16) (Cl F c arg17) (Cl F c arg18) (Cl F c arg19)) :
    (iprop((arg3.view.loc c.tc ↦[arg3.view.set]{fullShare} (harg3.unread x3)) ∗ (arg4.view.loc c.tc ↦[arg4.view.set]{fullShare} (harg4.unread x4)) ∗ (arg5.view.loc c.tc ↦[arg5.view.set]{fullShare} (harg5.unread x5)) ∗ (arg6.view.loc c.tc ↦[arg6.view.set]{fullShare} (harg6.unread x6)) ∗ (arg7.view.loc c.tc ↦[arg7.view.set]{fullShare} (harg7.unread x7)) ∗ (arg8.view.loc c.tc ↦[arg8.view.set]{fullShare} (o).y8) ∗ (arg9.view.loc c.tc ↦[arg9.view.set]{fullShare} (o).y9) ∗ (arg10.view.loc c.tc ↦[arg10.view.set]{fullShare} (o).y10) ∗ (arg11.view.loc c.tc ↦[arg11.view.set]{fullShare} (o).y11) ∗ (arg12.view.loc c.tc ↦[arg12.view.set]{fullShare} (o).y12) ∗ (arg13.view.loc c.tc ↦[arg13.view.set]{fullShare} (o).y13) ∗ (arg14.view.loc c.tc ↦[arg14.view.set]{fullShare} (o).y14) ∗ (arg15.view.loc c.tc ↦[arg15.view.set]{fullShare} (o).y15) ∗ (arg16.view.loc c.tc ↦[arg16.view.set]{fullShare} (o).y16) ∗ (arg17.view.loc c.tc ↦[arg17.view.set]{fullShare} (o).y17) ∗ (arg18.view.loc c.tc ↦[arg18.view.set]{fullShare} (o).y18) ∗ (arg19.view.loc c.tc ↦[arg19.view.set]{fullShare} (o).y19)) : sProp 𝕄) ⊢ iprop(owns c.tc arg3 fullShare (x3) ∗ owns c.tc arg4 fullShare (x4) ∗ owns c.tc arg5 fullShare (x5) ∗ owns c.tc arg6 fullShare (x6) ∗ owns c.tc arg7 fullShare (x7) ∗ owns c.tc arg8 fullShare (arg8.view.read (Elt F) (o).y8) ∗ owns c.tc arg9 fullShare (arg9.view.read (Elt F) (o).y9) ∗ owns c.tc arg10 fullShare (arg10.view.read (Elt F) (o).y10) ∗ owns c.tc arg11 fullShare (arg11.view.read (Elt F) (o).y11) ∗ owns c.tc arg12 fullShare (arg12.view.read (Elt F) (o).y12) ∗ owns c.tc arg13 fullShare (arg13.view.read (Elt F) (o).y13) ∗ owns c.tc arg14 fullShare (arg14.view.read (Elt F) (o).y14) ∗ owns c.tc arg15 fullShare (arg15.view.read (Elt F) (o).y15) ∗ owns c.tc arg16 fullShare (arg16.view.read (Elt F) (o).y16) ∗ owns c.tc arg17 fullShare (arg17.view.read (Elt F) (o).y17) ∗ owns c.tc arg18 fullShare (arg18.view.read (Elt F) (o).y18) ∗ owns c.tc arg19 fullShare (arg19.view.read (Elt F) (o).y19)) := by
  refine BIClass.sep_mono ((owns_of_held _).trans (.of_eq (by rw [harg3.read_unread]))) ?_; refine BIClass.sep_mono ((owns_of_held _).trans (.of_eq (by rw [harg4.read_unread]))) ?_; refine BIClass.sep_mono ((owns_of_held _).trans (.of_eq (by rw [harg5.read_unread]))) ?_; refine BIClass.sep_mono ((owns_of_held _).trans (.of_eq (by rw [harg6.read_unread]))) ?_; refine BIClass.sep_mono ((owns_of_held _).trans (.of_eq (by rw [harg7.read_unread]))) ?_; refine BIClass.sep_mono (owns_of_held _) ?_; refine BIClass.sep_mono (owns_of_held _) ?_; refine BIClass.sep_mono (owns_of_held _) ?_; refine BIClass.sep_mono (owns_of_held _) ?_; refine BIClass.sep_mono (owns_of_held _) ?_; refine BIClass.sep_mono (owns_of_held _) ?_; refine BIClass.sep_mono (owns_of_held _) ?_; refine BIClass.sep_mono (owns_of_held _) ?_; refine BIClass.sep_mono (owns_of_held _) ?_; refine BIClass.sep_mono (owns_of_held _) ?_; refine BIClass.sep_mono (owns_of_held _) ?_;
  exact owns_of_held _

set_option maxHeartbeats 400000 in
/-- The body runs at any point and leaves `outOf`. -/
theorem sound (x3 : Vec F S256x128 .f32) (x4 : Vec F S2048x128 .f32) (x5 : Vec F S2048x128 .f32) (x6 : Vec F S256x128 .bf16) (x7 : Vec F S256x128 .f32) (x8 : Vec F S256x128 .bf16) (x9 : Vec F S2048x128 .bf16) (x10 : Vec F S2048x128 .bf16) (x11 : Vec F S2048x128 .f32) (x12 : Vec F S2048x128 .f32) (x13 : Vec F S2x2x256x256 .f32) (x14 : Vec F S2x2x256x256 .f32) (x15 : Vec F S2x2x256x256 .f32) (x16 : Vec F S2x2x1x256 .f32) (x17 : Vec F S2x1x256 .f32) (x18 : Vec F S2x1x256 .f32) (x19 : Vec F S2x128x256 .f32) :
    (iprop(owns c.tc arg3 fullShare (x3) ∗ owns c.tc arg4 fullShare (x4) ∗ owns c.tc arg5 fullShare (x5) ∗ owns c.tc arg6 fullShare (x6) ∗ owns c.tc arg7 fullShare (x7) ∗ owns c.tc arg8 fullShare (x8) ∗ owns c.tc arg9 fullShare (x9) ∗ owns c.tc arg10 fullShare (x10) ∗ owns c.tc arg11 fullShare (x11) ∗ owns c.tc arg12 fullShare (x12) ∗ owns c.tc arg13 fullShare (x13) ∗ owns c.tc arg14 fullShare (x14) ∗ owns c.tc arg15 fullShare (x15) ∗ owns c.tc arg16 fullShare (x16) ∗ owns c.tc arg17 fullShare (x17) ∗ owns c.tc arg18 fullShare (x18) ∗ owns c.tc arg19 fullShare (x19)) : sProp 𝕄) ⊢ wp frame (wpE (defs₀ (F := F)) 𝒱₀ c.tc none) Set.univ (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => iprop(owns c.tc arg3 fullShare (x3) ∗ owns c.tc arg4 fullShare (x4) ∗ owns c.tc arg5 fullShare (x5) ∗ owns c.tc arg6 fullShare (x6) ∗ owns c.tc arg7 fullShare (x7) ∗ owns c.tc arg8 fullShare ((outOf c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 x6 x7 x8 x9 x10 x11 x12 x13 x14 x15 x16 x17 x18 x19).y8) ∗ owns c.tc arg9 fullShare ((outOf c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 x6 x7 x8 x9 x10 x11 x12 x13 x14 x15 x16 x17 x18 x19).y9) ∗ owns c.tc arg10 fullShare ((outOf c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 x6 x7 x8 x9 x10 x11 x12 x13 x14 x15 x16 x17 x18 x19).y10) ∗ owns c.tc arg11 fullShare ((outOf c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 x6 x7 x8 x9 x10 x11 x12 x13 x14 x15 x16 x17 x18 x19).y11) ∗ owns c.tc arg12 fullShare ((outOf c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 x6 x7 x8 x9 x10 x11 x12 x13 x14 x15 x16 x17 x18 x19).y12) ∗ owns c.tc arg13 fullShare ((outOf c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 x6 x7 x8 x9 x10 x11 x12 x13 x14 x15 x16 x17 x18 x19).y13) ∗ owns c.tc arg14 fullShare ((outOf c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 x6 x7 x8 x9 x10 x11 x12 x13 x14 x15 x16 x17 x18 x19).y14) ∗ owns c.tc arg15 fullShare ((outOf c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 x6 x7 x8 x9 x10 x11 x12 x13 x14 x15 x16 x17 x18 x19).y15) ∗ owns c.tc arg16 fullShare ((outOf c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 x6 x7 x8 x9 x10 x11 x12 x13 x14 x15 x16 x17 x18 x19).y16) ∗ owns c.tc arg17 fullShare ((outOf c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 x6 x7 x8 x9 x10 x11 x12 x13 x14 x15 x16 x17 x18 x19).y17) ∗ owns c.tc arg18 fullShare ((outOf c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 x6 x7 x8 x9 x10 x11 x12 x13 x14 x15 x16 x17 x18 x19).y18) ∗ owns c.tc arg19 fullShare ((outOf c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 x6 x7 x8 x9 x10 x11 x12 x13 x14 x15 x16 x17 x18 x19).y19))) :=
  (pre_held c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 x6 x7 x8 x9 x10 x11 x12 x13 x14 x15 x16 x17 x18 x19).trans ((bodyB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19)).2.trans (wp_mono _ _ _ fun _ => post_owns c arg3 harg3 arg4 harg4 arg5 harg5 arg6 harg6 arg7 harg7 arg8 arg9 arg10 arg11 arg12 arg13 arg14 arg15 arg16 arg17 arg18 arg19 x3 x4 x5 x6 x7 x8 x9 x10 x11 x12 x13 x14 x15 x16 x17 x18 x19 (bodyB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19)).1))

end Cert.KernelIdeal.Att

end
-- ==== Proof.PI.Frame.lean ====
module

public import proofs.«01_k».proof.Proof.PI.Body
public import proofs.«01_k».proof.Proof.Gen.KernelIdeal.Launch
public import proofs.«01_k».proof.Proof.Gen.KernelIdeal.Points
public import Idealize.ShloMosaic.Lib.Ring
public import Idealize.ShloMosaic.Lib.Tactic

@[expose] public section

set_option maxRecDepth 16384

/-! The pipeline around the body: its invariant, its proof data, and the frame. -/

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕍" => Memref sig Kind.tc Space.vmem
local notation "𝕄" => MT nD τ sig Unit (Elt F) ℕ (UR sig nD τ) ℕ

abbrev ms0 (t : Fin cfg0.N) : 𝕍 S256x128 .f32 := win0_0.stage (cfg0.slots t 0)
abbrev hs0 (t : Fin cfg0.N) : (ms0 t).IsWhole := hstage0_0 ((cfg0.slots t 0).cast nbuf0_0)
abbrev ms1 (t : Fin cfg0.N) : 𝕍 S2048x128 .f32 := win0_1.stage (cfg0.slots t 1)
abbrev hs1 (t : Fin cfg0.N) : (ms1 t).IsWhole := hstage0_1 ((cfg0.slots t 1).cast nbuf0_1)
abbrev ms2 (t : Fin cfg0.N) : 𝕍 S2048x128 .f32 := win0_2.stage (cfg0.slots t 2)
abbrev hs2 (t : Fin cfg0.N) : (ms2 t).IsWhole := hstage0_2 ((cfg0.slots t 2).cast nbuf0_2)
abbrev ms3 (t : Fin cfg0.N) : 𝕍 S256x128 .bf16 := win0_3.stage (cfg0.slots t 3)
abbrev hs3 (t : Fin cfg0.N) : (ms3 t).IsWhole := hstage0_3 ((cfg0.slots t 3).cast nbuf0_3)
abbrev ms4 (t : Fin cfg0.N) : 𝕍 S256x128 .f32 := win0_4.stage (cfg0.slots t 4)
abbrev hs4 (t : Fin cfg0.N) : (ms4 t).IsWhole := hstage0_4 ((cfg0.slots t 4).cast nbuf0_4)
abbrev ms5 (t : Fin cfg0.N) : 𝕍 S256x128 .bf16 := win0_5.stage (cfg0.slots t 5)
abbrev hs5 (t : Fin cfg0.N) : (ms5 t).IsWhole := hstage0_5 ((cfg0.slots t 5).cast nbuf0_5)
abbrev ms6 (t : Fin cfg0.N) : 𝕍 S2048x128 .bf16 := win0_6.stage (cfg0.slots t 6)
abbrev hs6 (t : Fin cfg0.N) : (ms6 t).IsWhole := hstage0_6 ((cfg0.slots t 6).cast nbuf0_6)
abbrev ms7 (t : Fin cfg0.N) : 𝕍 S2048x128 .bf16 := win0_7.stage (cfg0.slots t 7)
abbrev hs7 (t : Fin cfg0.N) : (ms7 t).IsWhole := hstage0_7 ((cfg0.slots t 7).cast nbuf0_7)
abbrev sc0 : 𝕍 S2048x128 .f32 := Memref.whole cc0_scratch0
abbrev sc1 : 𝕍 S2048x128 .f32 := Memref.whole cc0_scratch1
abbrev sc2 : 𝕍 S2x2x256x256 .f32 := Memref.whole cc0_scratch2
abbrev sc3 : 𝕍 S2x2x256x256 .f32 := Memref.whole cc0_scratch3
abbrev sc4 : 𝕍 S2x2x256x256 .f32 := Memref.whole cc0_scratch4
abbrev sc5 : 𝕍 S2x2x1x256 .f32 := Memref.whole cc0_scratch5
abbrev sc6 : 𝕍 S2x1x256 .f32 := Memref.whole cc0_scratch6
abbrev sc7 : 𝕍 S2x1x256 .f32 := Memref.whole cc0_scratch7
abbrev sc8 : 𝕍 S2x128x256 .f32 := Memref.whole cc0_scratch8

/-- The scratch buffers' contents, as plain arrays. -/
abbrev StV (F : FTy → Type) : Type := St9 (Vec F S2048x128 .f32) (Vec F S2048x128 .f32) (Vec F S2x2x256x256 .f32) (Vec F S2x2x256x256 .f32) (Vec F S2x2x256x256 .f32) (Vec F S2x2x1x256 .f32) (Vec F S2x1x256 .f32) (Vec F S2x1x256 .f32) (Vec F S2x128x256 .f32)

/-- The scratch buffers at `s`. -/
def scr (c : Dev nD) (s : StV F) : sProp 𝕄 := iprop(owns c.tc sc0 fullShare s.s11 ∗ owns c.tc sc1 fullShare s.s12 ∗ owns c.tc sc2 fullShare s.s13 ∗ owns c.tc sc3 fullShare s.s14 ∗ owns c.tc sc4 fullShare s.s15 ∗ owns c.tc sc5 fullShare s.s16 ∗ owns c.tc sc6 fullShare s.s17 ∗ owns c.tc sc7 fullShare s.s18 ∗ owns c.tc sc8 fullShare s.s19)

/-- The scratch buffers, at anything, are what the launch hands the region. -/
theorem PhiA_eq (c : Dev nD) :
    (Pipeline.ΦA spec0 c : sProp 𝕄) = iprop(iprop((∃ d, owns c.tc sc0 fullShare d) ∗ (∃ d, owns c.tc sc1 fullShare d) ∗ (∃ d, owns c.tc sc2 fullShare d) ∗ (∃ d, owns c.tc sc3 fullShare d) ∗ (∃ d, owns c.tc sc4 fullShare d) ∗ (∃ d, owns c.tc sc5 fullShare d) ∗ (∃ d, owns c.tc sc6 fullShare d) ∗ (∃ d, owns c.tc sc7 fullShare d) ∗ (∃ d, owns c.tc sc8 fullShare d)) ∗ (∃ r, prngReg c r)) := by
  unfold Pipeline.ΦA; rw [scopedRest0_eq]; simp only [sc0, sc1, sc2, sc3, sc4, sc5, sc6, sc7, sc8, owns_whole]; try rfl

/-- The scratch state of what the body leaves. -/
def Out12.st (o : Out F) : StV F := ⟨o.y11, o.y12, o.y13, o.y14, o.y15, o.y16, o.y17, o.y18, o.y19⟩

variable (m : (ℓ : Loc nD τ sig) → Buf (Elt F) ℓ) (ρ : Dev nD → PrngReg)

/-- What the body leaves at point `t`, from the scratch state `s` and the results' blocks as it finds them. -/
def outAt (c : Dev nD) (t : Fin cfg0.N) (s : StV F) (x8 : Vec F S256x128 .bf16) (x9 : Vec F S2048x128 .bf16) (x10 : Vec F S2048x128 .bf16) : Out F :=
  outOf c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _)
    (iblk m c 0 t) (iblk m c 1 t) (iblk m c 2 t) (iblk m c 3 t) (iblk m c 4 t) x8 x9 x10 s.s11 s.s12 s.s13 s.s14 s.s15 s.s16 s.s17 s.s18 s.s19

set_option maxHeartbeats 1000000 in
/-- The body at point `t`, on the memrefs the pipeline hands it. -/
theorem soundAt (c : Dev nD) (t : Fin cfg0.N) (s : StV F) (x8 : Vec F S256x128 .bf16) (x9 : Vec F S2048x128 .bf16) (x10 : Vec F S2048x128 .bf16) :
    (iprop(owns c.tc (ms0 t) fullShare (iblk m c 0 t) ∗ owns c.tc (ms1 t) fullShare (iblk m c 1 t) ∗ owns c.tc (ms2 t) fullShare (iblk m c 2 t) ∗ owns c.tc (ms3 t) fullShare (iblk m c 3 t) ∗ owns c.tc (ms4 t) fullShare (iblk m c 4 t) ∗ owns c.tc (ms5 t) fullShare x8 ∗ owns c.tc (ms6 t) fullShare x9 ∗ owns c.tc (ms7 t) fullShare x10 ∗ scr c s) : sProp 𝕄)
      ⊢ wp frame (wpE (defs₀ (F := F)) Variants.none c none) Set.univ (bodyAt0 t)
        (fun _ => iprop(owns c.tc (ms0 t) fullShare (iblk m c 0 t) ∗ owns c.tc (ms1 t) fullShare (iblk m c 1 t) ∗ owns c.tc (ms2 t) fullShare (iblk m c 2 t) ∗ owns c.tc (ms3 t) fullShare (iblk m c 3 t) ∗ owns c.tc (ms4 t) fullShare (iblk m c 4 t) ∗ owns c.tc (ms5 t) fullShare (outAt m c t s x8 x9 x10).y8 ∗ owns c.tc (ms6 t) fullShare (outAt m c t s x8 x9 x10).y9 ∗ owns c.tc (ms7 t) fullShare (outAt m c t s x8 x9 x10).y10 ∗ scr c (outAt m c t s x8 x9 x10).st)) :=
  sound c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) (iblk m c 0 t) (iblk m c 1 t) (iblk m c 2 t) (iblk m c 3 t) (iblk m c 4 t) x8 x9 x10 s.s11 s.s12 s.s13 s.s14 s.s15 s.s16 s.s17 s.s18 s.s19

/-! ## The proof data, for any invariant of the scratch state and any results -/

variable (OK : Dev nD → ℕ → StV F → Prop) (o8 : (c : Dev nD) → (t : Fin cfg0.N) → Vec F S256x128 .bf16)
  (o9 o10 : (c : Dev nD) → (t : Fin cfg0.N) → Vec F S2048x128 .bf16)

/-- Before position `n`: some scratch state of the invariant, and the generator register. -/
def PhiS (c : Dev nD) (n : ℕ) : sProp 𝕄 := iprop((∃ s, ⌜OK c n s⌝ ∗ scr c s) ∗ (∃ r, prngReg c r))

/-- The arrays as the region finds them, each input's buffer left at its block, the results' at `o8`, `o9`, `o10`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => o8 c t
    | ⟨6, _⟩ => o9 c t
    | ⟨7, _⟩ => o10 c t
  Φ t := PhiS OK c t.val
  q w := Pipeline.shareOf spec0 w
  owed _ := 0

theorem A_eq (c : Dev nD) (w : Fin cfg0.W) : (dats m OK o8 o9 o10 0 c).A w = V m c (Pipeline.arrRef spec0 w) := by
  dsimp only [dats]
theorem after_0 (c : Dev nD) (t : Fin cfg0.N) : (dats m OK o8 o9 o10 0 c).after 0 t = iblk m c 0 t := by dsimp only [dats]
theorem after_1 (c : Dev nD) (t : Fin cfg0.N) : (dats m OK o8 o9 o10 0 c).after 1 t = iblk m c 1 t := by dsimp only [dats]
theorem after_2 (c : Dev nD) (t : Fin cfg0.N) : (dats m OK o8 o9 o10 0 c).after 2 t = iblk m c 2 t := by dsimp only [dats]
theorem after_3 (c : Dev nD) (t : Fin cfg0.N) : (dats m OK o8 o9 o10 0 c).after 3 t = iblk m c 3 t := by dsimp only [dats]
theorem after_4 (c : Dev nD) (t : Fin cfg0.N) : (dats m OK o8 o9 o10 0 c).after 4 t = iblk m c 4 t := by dsimp only [dats]
theorem after_5 (c : Dev nD) (t : Fin cfg0.N) : (dats m OK o8 o9 o10 0 c).after 5 t = o8 c t := by dsimp only [dats]
theorem after_6 (c : Dev nD) (t : Fin cfg0.N) : (dats m OK o8 o9 o10 0 c).after 6 t = o9 c t := by dsimp only [dats]
theorem after_7 (c : Dev nD) (t : Fin cfg0.N) : (dats m OK o8 o9 o10 0 c).after 7 t = o10 c t := by dsimp only [dats]
theorem before_0 (c : Dev nD) (t : Fin cfg0.N) (d) : (dats m OK o8 o9 o10 0 c).before 0 t d = iblk m c 0 t :=
  before0_0_of m (dats m OK o8 o9 o10 0 c) (A_eq m OK o8 o9 o10 c 0) (after_0 m OK o8 o9 o10 c) t d
theorem before_1 (c : Dev nD) (t : Fin cfg0.N) (d) : (dats m OK o8 o9 o10 0 c).before 1 t d = iblk m c 1 t :=
  before0_1_of m (dats m OK o8 o9 o10 0 c) (A_eq m OK o8 o9 o10 c 1) (after_1 m OK o8 o9 o10 c) t d
theorem before_2 (c : Dev nD) (t : Fin cfg0.N) (d) : (dats m OK o8 o9 o10 0 c).before 2 t d = iblk m c 2 t :=
  before0_2_of m (dats m OK o8 o9 o10 0 c) (A_eq m OK o8 o9 o10 c 2) (after_2 m OK o8 o9 o10 c) t d
theorem before_3 (c : Dev nD) (t : Fin cfg0.N) (d) : (dats m OK o8 o9 o10 0 c).before 3 t d = iblk m c 3 t :=
  before0_3_of m (dats m OK o8 o9 o10 0 c) (A_eq m OK o8 o9 o10 c 3) (after_3 m OK o8 o9 o10 c) t d
theorem before_4 (c : Dev nD) (t : Fin cfg0.N) (d) : (dats m OK o8 o9 o10 0 c).before 4 t d = iblk m c 4 t :=
  before0_4_of m (dats m OK o8 o9 o10 0 c) (A_eq m OK o8 o9 o10 c 4) (after_4 m OK o8 o9 o10 c) t d

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- What the launch hands the region is the invariant before the first point, where that asks nothing. -/
theorem hin (h0 : ∀ c s, OK c 0 s) (c : Dev nD) : Pipeline.ΦA spec0 c ⊢ (dats m OK o8 o9 o10 0 c).Φ 0 := by
  rw [show (dats m OK o8 o9 o10 0 c).Φ 0 = PhiS OK c 0 from rfl, PhiA_eq]
  unfold PhiS scr
  iintro ⟨⟨⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩, Hg⟩
  isplitr [Hg]
  · iexists (⟨d11, d12, d13, d14, d15, d16, d17, d18, d19⟩ : StV F)
    isplitr
    · ipureintro; exact h0 c _
    · dsimp only
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
  · iexact Hg

/-- The invariant gives the scratch buffers back. -/
theorem hout (c : Dev nD) : (dats m OK o8 o9 o10 0 c).Φ (Fin.last cfg0.N) ⊢ Pipeline.ΦA spec0 c := by
  rw [show (dats m OK o8 o9 o10 0 c).Φ (Fin.last cfg0.N) = PhiS OK c (Fin.last cfg0.N).val from rfl, PhiA_eq]
  unfold PhiS scr
  iintro ⟨⟨%s, %hs, H11, H12, H13, H14, H15, H16, H17, H18, H19⟩, Hg⟩
  isplitr [Hg]
  · isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  · iexact Hg

/-! ## The frame: nothing asked of the scratch state, the results' contents forgotten -/

/-- The results' windows. -/
def fgt : Fin cfg0.W → Bool := fun w => match w with
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true

theorem sound_forget (c : Dev nD) (t : Fin cfg0.N) :
    iprop((dats m (fun _ _ _ => True) o8 o9 o10 0 c).Φ t.castSucc ∗ (dats m (fun _ _ _ => True) o8 o9 o10 0 c).owesAt () t.castSucc
    ∗ (∃ d, owns c.tc (ms0 t) fullShare ((dats m (fun _ _ _ => True) o8 o9 o10 0 c).before 0 t d))
    ∗ (∃ d, owns c.tc (ms1 t) fullShare ((dats m (fun _ _ _ => True) o8 o9 o10 0 c).before 1 t d))
    ∗ (∃ d, owns c.tc (ms2 t) fullShare ((dats m (fun _ _ _ => True) o8 o9 o10 0 c).before 2 t d))
    ∗ (∃ d, owns c.tc (ms3 t) fullShare ((dats m (fun _ _ _ => True) o8 o9 o10 0 c).before 3 t d))
    ∗ (∃ d, owns c.tc (ms4 t) fullShare ((dats m (fun _ _ _ => True) o8 o9 o10 0 c).before 4 t d))
    ∗ (∃ X, owns c.tc (ms5 t) fullShare X)
    ∗ (∃ X, owns c.tc (ms6 t) fullShare X)
    ∗ (∃ X, owns c.tc (ms7 t) fullShare X))
    ⊢ wp frame (wpE (defs₀ (F := F)) Variants.none c none) Set.univ (bodyAt0 t) (fun _ =>
      iprop((dats m (fun _ _ _ => True) o8 o9 o10 0 c).Φ t.succ ∗ (dats m (fun _ _ _ => True) o8 o9 o10 0 c).owesAt () t.succ
    ∗ owns c.tc (ms0 t) fullShare ((dats m (fun _ _ _ => True) o8 o9 o10 0 c).after 0 t)
    ∗ owns c.tc (ms1 t) fullShare ((dats m (fun _ _ _ => True) o8 o9 o10 0 c).after 1 t)
    ∗ owns c.tc (ms2 t) fullShare ((dats m (fun _ _ _ => True) o8 o9 o10 0 c).after 2 t)
    ∗ owns c.tc (ms3 t) fullShare ((dats m (fun _ _ _ => True) o8 o9 o10 0 c).after 3 t)
    ∗ owns c.tc (ms4 t) fullShare ((dats m (fun _ _ _ => True) o8 o9 o10 0 c).after 4 t)
    ∗ (∃ X, owns c.tc (ms5 t) fullShare X)
    ∗ (∃ X, owns c.tc (ms6 t) fullShare X)
    ∗ (∃ X, owns c.tc (ms7 t) fullShare X))) := by
  simp only [before_0, before_1, before_2, before_3, before_4, after_0, after_1, after_2, after_3, after_4]
  rw [show (dats m (fun _ _ _ => True) o8 o9 o10 0 c).owesAt () t.succ = (dats m (fun _ _ _ => True) o8 o9 o10 0 c).owesAt () t.castSucc from rfl,
    show (dats m (fun _ _ _ => True) o8 o9 o10 0 c).Φ t.succ = PhiS (fun _ _ _ => True) c (t.val + 1) from rfl,
    show (dats m (fun _ _ _ => True) o8 o9 o10 0 c).Φ t.castSucc = PhiS (fun _ _ _ => True) c t.val from rfl]
  unfold PhiS
  iintro ⟨⟨⟨%s, -, HS⟩, Hg⟩, Ho, ⟨%d0, H0⟩, ⟨%d1, H1⟩, ⟨%d2, H2⟩, ⟨%d3, H3⟩, ⟨%d4, H4⟩, ⟨%x8, H5⟩, ⟨%x9, H6⟩, ⟨%x10, H7⟩⟩
  iapply (wp_wand_r Idealize.ShloMosaic.frame (wpE (defs₀ (F := F)) Variants.none c.tc none) Set.univ)
  isplitl [HS H0 H1 H2 H3 H4 H5 H6 H7]
  · iapply (soundAt m c t s x8 x9 x10)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  · iintro %_ ⟨H0, H1, H2, H3, H4, H5, H6, H7, HS⟩
    isplitl [HS Hg]
    · isplitl [HS]
      · iexists _; isplitr
        swap; · iexact HS
        ipureintro; trivial
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iexists _; iexact H7

theorem obligation_forget (c : Dev nD) : Pipeline.BodyObligationLoose (dats (F := F) m (fun _ _ _ => True) o8 o9 o10 0 c) (defs₀ (F := F)) Variants.none () Set.univ fgt := fun t => by
  rw [bigSep_W0, bigSep_W0, defs₀_row]
  exact triple_restated (sound_forget m o8 o9 o10 c t) rfl .rfl fun _ => .rfl

set_option backward.isDefEq.respectTransparency.types false in
/-- The run, the results' contents forgotten, with every semaphore at zero at the end. -/
theorem run_forget : θ_run defs (onTc (τ := τ) (main (F := F))) (s₀ m ρ) (fun r => Pipeline.RDat.FramePost cfg0 (fun c => (dats m (fun _ _ _ => True) o8 o9 o10 0 c).toRForget fgt) (V m) r ∧ r.2.sem = fun _ => 0) :=
  Pipeline.θ_run_frame_track_forget_shared (Q' := _) cfgs (dats m (fun _ _ _ => True) o8 o9 o10) (0 : Fin 1) launch₀0 defs₀ Variants.none fgt m ρ main
    (hbody := obligation_forget m o8 o9 o10) (hq := fun _ _ _ => rfl) (howed := fun _ _ => rfl) (V := V m) (hmain := hmain m Variants.none)
    (hA := A_eq m _ o8 o9 o10) (hin := hin m _ o8 o9 o10 fun _ _ => trivial) (hout := hout m _ o8 o9 o10)

/-- An element of each array. -/
def any (sh : Shape) (e : EltTy) : Vec F sh e := fun _ => Classical.choice inferInstance

/-- The frame: the run terminates without fault, the arguments end unchanged, every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
      ⟨((iff_of_eq (congrFun (((dats m (fun _ _ _ => True) (fun _ _ => any _ _) (fun _ _ => any _ _) (fun _ _ => any _ _) 0 c).toRForget fgt).ArrAt_in 2 rfl _) _)).mp ((h.1 c).1 2)).trans ((A_eq m (fun _ _ _ => True) (fun _ _ => any _ _) (fun _ _ => any _ _) (fun _ _ => any _ _) c 2).trans (V_main_arg0 m c)),
       ((iff_of_eq (congrFun (((dats m (fun _ _ _ => True) (fun _ _ => any _ _) (fun _ _ => any _ _) (fun _ _ => any _ _) 0 c).toRForget fgt).ArrAt_in 3 rfl _) _)).mp ((h.1 c).1 3)).trans ((A_eq m (fun _ _ _ => True) (fun _ _ => any _ _) (fun _ _ => any _ _) (fun _ _ => any _ _) c 3).trans (V_main_arg1 m c))⟩, h.2⟩)
    (run_forget m ρ (fun _ _ => any _ _) (fun _ _ => any _ _) (fun _ _ => any _ _))

end Cert.KernelIdeal.Att

end
-- ==== Proof.Sums.lean ====
module

public import Idealize.ShloMosaic.Lib.Pipeline.Value
public import Idealize.ShloMosaic.Lib.ValueIdx
public import Idealize.ShloMosaic.PureOps.Ideal.Laws
public import Mathlib.Algebra.BigOperators.Fin

/-! Facts the products share: the matrix unit's product as a sum, a sum over four consecutive stretches is the four sums added in order,
    and dropping or adding a leading axis of extent one keeps the elements. -/

@[expose] public section

noncomputable section

namespace Cert.Sums

open Idealize.ShloMosaic

/-- A sum over `4 n` terms, taken in four stretches of `n`. -/
theorem sum_four {M : Type} [AddCommMonoid M] {N n : ℕ} (hN : N = 4 * n) (F : Fin N → M) (g : Fin 4 → Fin n → M)
    (h : ∀ (q : Fin 4) (k : Fin n) (hb : n * q.val + k.val < N), F ⟨n * q.val + k.val, hb⟩ = g q k) :
    ∑ k, F k = ((∑ k, g 0 k + ∑ k, g 1 k) + ∑ k, g 2 k) + ∑ k, g 3 k := by
  subst hN
  rw [← Fin.sum_univ_four (fun q => ∑ k, g q k), ← Equiv.sum_comp finProdFinEquiv, Fintype.sum_prod_type]
  refine Finset.sum_congr rfl fun q _ => Finset.sum_congr rfl fun k _ => ?_
  have hb : n * q.val + k.val < 4 * n := by
    have h1 : n * (q.val + 1) ≤ n * 4 := Nat.mul_le_mul_left n q.isLt
    have := k.isLt
    rw [Nat.mul_add] at h1
    omega
  rw [← h q k hb]
  congr 1
  apply Fin.ext
  simp [finProdFinEquiv, Nat.add_comm]

/-- Dropping a leading axis of extent one keeps the elements. -/
theorem drop_one {α : Type} {a b : ℕ} (x : (⟨3, ![1, a, b]⟩ : Shape).Idx → α)
    (h : (⟨3, ![1, a, b]⟩ : Shape).ShapeCasts ⟨2, ![a, b]⟩) (j : (⟨2, ![a, b]⟩ : Shape).Idx) (j' : (⟨3, ![1, a, b]⟩ : Shape).Idx)
    (e0 : (j' 1).val = (j 0).val) (e1 : (j' 2).val = (j 1).val) : shapeCast ⟨2, ![a, b]⟩ x h j = x j' := by
  refine (shapeCast_dropUnit_apply ![a, b] x h j).trans (congrArg x ?_)
  funext r
  apply Fin.ext
  match r with
  | ⟨0, _⟩ => have := (j' 0).isLt; show 0 = (j' 0).val; simp at this; omega
  | ⟨1, _⟩ => exact e0.symm
  | ⟨2, _⟩ => exact e1.symm

/-- Adding a leading axis of extent one keeps the elements. -/
theorem add_one {α : Type} {a b : ℕ} (x : (⟨2, ![a, b]⟩ : Shape).Idx → α)
    (h : (⟨2, ![a, b]⟩ : Shape).ShapeCasts ⟨3, ![1, a, b]⟩) (j : (⟨3, ![1, a, b]⟩ : Shape).Idx) (j' : (⟨2, ![a, b]⟩ : Shape).Idx)
    (e0 : (j 1).val = (j' 0).val) (e1 : (j 2).val = (j' 1).val) : shapeCast ⟨3, ![1, a, b]⟩ x h j = x j' := by
  refine (shapeCast_addUnit_apply ![a, b] x h j).trans (congrArg x ?_)
  funext r
  apply Fin.ext
  match r with
  | ⟨0, _⟩ => exact e0
  | ⟨1, _⟩ => exact e1

/-- The matrix unit's product over one contracted axis: the accumulator plus the sum of products, once the operands'
    elements are named. -/
theorem mm_apply {sl sr so : Shape} {φ₁ φ₂ : FTy} (d : DotDims sl sr so) (n : ℕ) (hr : d.contr.rank = 1) (hs : d.contr.size ⟨0, by omega⟩ = n)
    (x : FVec Ideal sl φ₁) (y : FVec Ideal sr φ₂) (acc : FVec Ideal so .f32) (i : so.Idx) (li : Fin n → sl.Idx) (ri : Fin n → sr.Idx)
    (hl : ∀ (q : d.contr.Idx) (k : Fin n), (q ⟨0, by omega⟩).val = k.val → ∀ a, (d.lhsIdx i q a).val = (li k a).val)
    (hr' : ∀ (q : d.contr.Idx) (k : Fin n), (q ⟨0, by omega⟩).val = k.val → ∀ a, (d.rhsIdx i q a).val = (ri k a).val) :
    matmul d none x y acc i = acc i + ∑ k : Fin n, x (li k) * y (ri k) := by
  show FloatOps.matmul _ _ _ _ _ _ = _
  rw [Ideal.matmul_apply, ← Equiv.sum_comp (ValueIdx.contrEquiv1 d n hr hs).symm]
  refine congrArg (acc i + ·) (Finset.sum_congr rfl fun k _ => ?_)
  have hk := ValueIdx.contrEquiv1_symm_val d n hr hs k
  exact congrArg₂ (· * ·) (congrArg x (funext fun a => Fin.ext (hl _ k hk a))) (congrArg y (funext fun a => Fin.ext (hr' _ k hk a)))

end Cert.Sums

end
-- ==== Proof.Mm3.lean ====
module

public import proofs.«01_k».proof.Proof.Gen.Kernel3Ideal.Value
public import proofs.«01_k».proof.Proof.Sums
public import Idealize.ShloMosaic.Lib.ValueIdx
public import Idealize.ShloMosaic.PureOps.Ideal.Laws
public import Idealize.ShloMosaic.Lib.Tactic

/-! What the accumulated product of `Kernel3` (the down product's weight gradient) leaves at each grid point: the accumulator after the four
    points of one result block, and the block written back, element by element over the extended reals. -/

@[expose] public section

set_option maxRecDepth 16384

noncomputable section

namespace Cert.Kernel3Ideal.Prod

open Cert.Kernel3Ideal Cert.Kernel3Ideal.Gen Idealize.ShloMosaic Idealize.ShloMosaic.TcCoe Idealize.SL.Sem

local notation "𝕍" => Memref sig Kind.tc Space.vmem

section AnyFloat

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first point of a block zeroes the accumulator and adds its product. -/
theorem sout_A (c : Dev nD) (i : grid0.Coords) (a3 : 𝕍 S2048x1408 .bf16) (h3 : a3.IsWhole)
    (a4 : 𝕍 S2048x1024 .bf16) (h4 : a4.IsWhole) (a5 : 𝕍 S1408x1024 .f32) (h5 : a5.IsWhole)
    (a6 : 𝕍 S1408x1024 .f32) (h6 : a6.IsWhole) (hc0 : cond0_0 i) (hc1 : ¬cond0_1 i)
    (x0 : Vec F S2048x1408 .bf16) (x1 : Vec F S2048x1024 .bf16) : sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1408x1024) hz2, View.readCov_unit_zero (S := S1408x1024) _ hz2]
  simp only [View.readAt_eq_ld, h3.read_unread, h4.read_unread, View.ld_unit_zero (S := S2048x1408) hz2, View.ld_unit_zero (S := S2048x1024) hz2, View.ld_unit_zero (S := S1408x1024) hz2]

/-- A middle point adds its product to what the point before left. -/
theorem sout_B (c : Dev nD) (i : grid0.Coords) (a3 : 𝕍 S2048x1408 .bf16) (h3 : a3.IsWhole)
    (a4 : 𝕍 S2048x1024 .bf16) (h4 : a4.IsWhole) (a5 : 𝕍 S1408x1024 .f32) (h5 : a5.IsWhole)
    (a6 : 𝕍 S1408x1024 .f32) (h6 : a6.IsWhole) (hc0 : ¬cond0_0 i) (hc1 : ¬cond0_1 i)
    (x0 : Vec F S2048x1408 .bf16) (x1 : Vec F S2048x1024 .bf16) (xs : Vec F S1408x1024 .f32) : sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero (S := S1408x1024) hz2]
  simp only [View.readAt_eq_ld, h3.read_unread, h4.read_unread, h6.read_unread, View.ld_unit_zero (S := S2048x1408) hz2, View.ld_unit_zero (S := S2048x1024) hz2, View.ld_unit_zero (S := S1408x1024) hz2]

/-- The last point adds its product and writes the sum out. -/
theorem out_C (c : Dev nD) (i : grid0.Coords) (a3 : 𝕍 S2048x1408 .bf16) (h3 : a3.IsWhole)
    (a4 : 𝕍 S2048x1024 .bf16) (h4 : a4.IsWhole) (a5 : 𝕍 S1408x1024 .f32) (h5 : a5.IsWhole)
    (a6 : 𝕍 S1408x1024 .f32) (h6 : a6.IsWhole) (hc0 : ¬cond0_0 i) (hc1 : cond0_1 i)
    (x0 : Vec F S2048x1408 .bf16) (x1 : Vec F S2048x1024 .bf16) (xs : Vec F S1408x1024 .f32) : out0_C_2 c i a3 h3 a4 h4 a5 h5 a6 h6 hc0 hc1 x0 x1 xs = k0_pay2 xs x0 x1 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero (S := S1408x1024) hz2, View.readCov_unit_zero (S := S1408x1024) _ hz2]
  simp only [View.readAt_eq_ld, h3.read_unread, h4.read_unread, h6.read_unread, View.ld_unit_zero (S := S2048x1408) hz2, View.ld_unit_zero (S := S2048x1024) hz2, View.ld_unit_zero (S := S1408x1024) hz2]

variable (m : (ℓ : Loc nD τ sig) → Buf (Elt F) ℓ)

/-- After the last of a block's four points, the output holds the four products added in order onto zero. -/
theorem outsAt_last (c : Dev nD) (n : ℕ) (h0 : 4 * n + 3 < cfg0.N) :
    (outsAt0 m c (4 * n + 3) h0).1 = k0_pay2 (k0_pay2 (k0_pay2 (k0_pay2 k0_pay1
      (iblk m c 0 ⟨4 * n, by omega⟩) (iblk m c 1 ⟨4 * n, by omega⟩))
      (iblk m c 0 ⟨4 * n + 1, by omega⟩) (iblk m c 1 ⟨4 * n + 1, by omega⟩))
      (iblk m c 0 ⟨4 * n + 2, by omega⟩) (iblk m c 1 ⟨4 * n + 2, by omega⟩))
      (iblk m c 0 ⟨4 * n + 3, h0⟩) (iblk m c 1 ⟨4 * n + 3, h0⟩) := by
  have e0 : (outsAt0 m c (4 * n) (by omega)).2 = k0_pay2 k0_pay1 (iblk m c 0 ⟨4 * n, by omega⟩) (iblk m c 1 ⟨4 * n, by omega⟩) := by
    have e := congrArg Prod.snd (outsAt0_A m c ⟨4 * n, by omega⟩ (by dsimp only; omega) (by dsimp only; omega))
    rw [sout_A] at e
    exact e
  have e1 : (outsAt0 m c (4 * n + 1) (by omega)).2 = k0_pay2 (outsAt0 m c (4 * n) (by omega)).2 (iblk m c 0 ⟨4 * n + 1, by omega⟩) (iblk m c 1 ⟨4 * n + 1, by omega⟩) := by
    have e := congrArg Prod.snd (outsAt0_B m c ⟨4 * n + 1, by omega⟩ (by dsimp only; omega) (by dsimp only; omega))
    rw [sout_B] at e
    exact e
  have e2 : (outsAt0 m c (4 * n + 2) (by omega)).2 = k0_pay2 (outsAt0 m c (4 * n + 1) (by omega)).2 (iblk m c 0 ⟨4 * n + 2, by omega⟩) (iblk m c 1 ⟨4 * n + 2, by omega⟩) := by
    have e := congrArg Prod.snd (outsAt0_B m c ⟨4 * n + 2, by omega⟩ (by dsimp only; omega) (by dsimp only; omega))
    rw [sout_B] at e
    exact e
  have e := congrArg Prod.fst (outsAt0_C m c ⟨4 * n + 3, h0⟩ (by dsimp only; omega) (by dsimp only; omega))
  rw [out_C] at e
  rw [← e0, ← e1, ← e2]
  exact e

end AnyFloat

/-! ## The products over the extended reals -/

/-- The left operand's element the product reads at output `i` and contraction index `k`. -/
abbrev lidx (i : S1408x1024.Idx) (k : Fin 2048) : S2048x1408.Idx := fun a => match a with
  | ⟨0, _⟩ => ⟨k.val, k.isLt⟩
  | ⟨1, _⟩ => ⟨(i 0).val, (i 0).isLt⟩
/-- The right operand's. -/
abbrev ridx (i : S1408x1024.Idx) (k : Fin 2048) : S2048x1024.Idx := fun a => match a with
  | ⟨0, _⟩ => ⟨k.val, k.isLt⟩
  | ⟨1, _⟩ => ⟨(i 1).val, (i 1).isLt⟩
/-- The left block's element. -/
abbrev lblk (i : S1408x1024.Idx) (k : Fin 2048) : S2048x1408.Idx := fun a => match a with
  | ⟨0, _⟩ => ⟨k.val, k.isLt⟩
  | ⟨1, _⟩ => ⟨(i 0).val, (i 0).isLt⟩
/-- The right block's element. -/
abbrev rblk (i : S1408x1024.Idx) (k : Fin 2048) : S2048x1024.Idx := fun a => match a with
  | ⟨0, _⟩ => ⟨k.val, k.isLt⟩
  | ⟨1, _⟩ => ⟨(i 1).val, (i 1).isLt⟩

/-- The matrix unit's product is the accumulator plus the sum of products. -/
theorem mm_apply (x : FVec Ideal S2048x1408 .bf16) (y : FVec Ideal S2048x1024 .bf16) (acc : FVec Ideal S1408x1024 .f32) (i : S1408x1024.Idx) :
    matmul dot_S2048x1408_S2048x1024_S1408x1024_0_0_1_1_n_n none x y acc i = acc i + ∑ k : Fin 2048, x (lidx i k) * y (ridx i k) :=
  Cert.Sums.mm_apply _ 2048 rfl rfl x y acc i (lidx i) (ridx i) (fun _ _ h a => match a with | ⟨0, _⟩ => h | ⟨1, _⟩ => rfl)
    fun _ _ h a => match a with | ⟨0, _⟩ => h | ⟨1, _⟩ => rfl

/-- One point's step: the accumulator plus the sum over the contracted axis of the two blocks. -/
theorem pay2_apply (acc : Vec Ideal S1408x1024 .f32) (x : Vec Ideal S2048x1408 .bf16) (y : Vec Ideal S2048x1024 .bf16) (i : S1408x1024.Idx) :
    k0_pay2 acc x y i = acc i + ∑ k : Fin 2048, x (lblk i k) * y (rblk i k) := by
  unfold k0_pay2
  rw [shapeCast_self]
  show acc i + matmul (F := Ideal) dot_S2048x1408_S2048x1024_S1408x1024_0_0_1_1_n_n none _ _ _ i = _
  rw [mm_apply]
  have z : (constant (F := Ideal) S1408x1024 .f32 0x00000000#32 i : EReal) = 0 := Ideal.ofBits_zero_f32
  rw [z, zero_add]

/-- The accumulator starts at zero. -/
theorem pay1_apply (i : S1408x1024.Idx) : (k0_pay1 (F := Ideal) i : EReal) = 0 := by
  unfold k0_pay1
  rw [shapeCast_self]
  exact Ideal.ofBits_zero_f32

end Cert.Kernel3Ideal.Prod

end
-- ==== Proof.Arr3.lean ====
module

public import proofs.«01_k».proof.Proof.Mm3
public import proofs.«01_k».proof.Proof.Gen.Reference3Ideal.Run
public import proofs.«01_k».proof.Proof.Gen.Reference3Ideal.Read

/-! The result array of `Kernel3` (the down product's weight gradient) is one product over the whole contracted axis, and so is the reference's. -/

@[expose] public section

set_option maxRecDepth 16384

noncomputable section

namespace Cert.Kernel3Ideal.Prod

open Cert.Kernel3Ideal Cert.Kernel3Ideal.Gen Cert.Kernel3Ideal.Value Idealize.ShloMosaic Idealize.ShloMosaic.TcCoe Idealize.SL.Sem

/-- What the arrays of every device hold. -/
abbrev Mem : Type := (ℓ : Loc nD τ sig) → Buf (Elt Ideal) ℓ

/-- The first operand, the second operand and the written array, with extended reals as elements; and a window's block. -/
def X0 (m : Mem) (c : Dev nD) : S8192x2816.Idx → EReal := m (c.tc.loc main_arg0)
@[inherit_doc X0] def X1 (m : Mem) (c : Dev nD) : S8192x1024.Idx → EReal := m (c.tc.loc main_arg1)
@[inherit_doc X0] def G2E (m : Mem) (c : Dev nD) : S2816x1024.Idx → EReal := G2 m c
@[inherit_doc X0] def B0 (m : Mem) (c : Dev nD) (t : Fin cfg0.N) : S2048x1408.Idx → EReal := iblk m c 0 t
@[inherit_doc X0] def B1 (m : Mem) (c : Dev nD) (t : Fin cfg0.N) : S2048x1024.Idx → EReal := iblk m c 1 t

/-- The printed index map of window 0, over the grid. -/
theorem idx0 : ∀ t : Fin grid0.N, win0_0.index t 0 = t.val % 4 ∧ win0_0.index t 1 = t.val / 4 := by decide +kernel

@[inherit_doc idx0] theorem idx1 : ∀ t : Fin grid0.N, win0_1.index t 0 = t.val % 4 ∧ win0_1.index t 1 = 0 := by decide +kernel

/-- Window 0's block at a point, read at an element, is the array at the block's offset plus the element. -/
theorem blk0_apply (m : Mem) (c : Dev nD) (t : Fin cfg0.N) (j : S2048x1408.Idx) (a : S8192x2816.Idx)
    (e0 : (a 0).val = (t.val % 4) * 2048 + (j 0).val) (e1 : (a 1).val = (t.val / 4) * 1408 + (j 1).val) :
    B0 m c t j = X0 m c a := by
  unfold B0 iblk
  rw [View.read_apply]
  refine congrArg (X0 m c) (funext fun x => Fin.ext ?_)
  have h := idx0 t
  match x with
  | ⟨0, _⟩ => show win0_0.index t 0 * 2048 + 1 * (j 0).val = (a 0).val; rw [h.1, e0]; omega
  | ⟨1, _⟩ => show win0_0.index t 1 * 1408 + 1 * (j 1).val = (a 1).val; rw [h.2, e1]; omega

@[inherit_doc blk0_apply] theorem blk1_apply (m : Mem) (c : Dev nD) (t : Fin cfg0.N) (j : S2048x1024.Idx) (a : S8192x1024.Idx)
    (e0 : (a 0).val = (t.val % 4) * 2048 + (j 0).val) (e1 : (a 1).val = (0) * 1024 + (j 1).val) :
    B1 m c t j = X1 m c a := by
  unfold B1 iblk
  rw [View.read_apply]
  refine congrArg (X1 m c) (funext fun x => Fin.ext ?_)
  have h := idx1 t
  match x with
  | ⟨0, _⟩ => show win0_1.index t 0 * 2048 + 1 * (j 0).val = (a 0).val; rw [h.1, e0]; omega
  | ⟨1, _⟩ => show win0_1.index t 1 * 1024 + 1 * (j 1).val = (a 1).val; rw [h.2, e1]; omega

/-- The first factor's index at result element `i` and contraction index `k`. -/
abbrev lArr (i : S2816x1024.Idx) (k : Fin 8192) : S8192x2816.Idx := fun a => match a with
  | ⟨0, _⟩ => ⟨k.val, k.isLt⟩
  | ⟨1, _⟩ => ⟨(i 0).val, (i 0).isLt⟩
/-- The second factor's index. -/
abbrev rArr (i : S2816x1024.Idx) (k : Fin 8192) : S8192x1024.Idx := fun a => match a with
  | ⟨0, _⟩ => ⟨k.val, k.isLt⟩
  | ⟨1, _⟩ => ⟨(i 1).val, (i 1).isLt⟩
/-- A result element's place in its block's accumulator. -/
abbrev locA (i : S2816x1024.Idx) : S1408x1024.Idx := fun a => match a with
  | ⟨0, _⟩ => ⟨(i 0).val % 1408, Nat.mod_lt _ (by decide)⟩
  | ⟨1, _⟩ => ⟨(i 1).val % 1024, Nat.mod_lt _ (by decide)⟩

variable (m : Mem)

/-- Every result element is the sum of products over the whole contracted axis. -/
theorem G2_apply (c : Dev nD) (i : S2816x1024.Idx) :
    G2E m c i = ∑ k : Fin 8192, X0 m c (lArr i k) * X1 m c (rArr i k) := by
  have h0 : (i 0).val < 2816 := (i 0).isLt
  have h1 : (i 1).val < 1024 := (i 1).isLt
  have hN : cfg0.N = 8 := N_0
  have hr : 4 * ((i 0).val / 1408) + 3 < cfg0.N := by rw [hN]; omega
  have hp : pt2Of i = 4 * ((i 0).val / 1408) + 3 := by
    show 4 * run2Of i + 3 = _
    unfold run2Of
    omega
  unfold G2E G2
  rw [dif_pos (by rw [hp]; exact hr), fold0_congr m c _ _ _ (by omega) hp, ← outsAt0_sweep m c _ hr, outsAt_last]
  refine Eq.trans (b := (((∑ k : Fin 2048, B0 m c ⟨4 * ((i 0).val / 1408) + 0, by omega⟩ (lblk (locA i) k) * B1 m c ⟨4 * ((i 0).val / 1408) + 0, by omega⟩ (rblk (locA i) k))
      + ∑ k : Fin 2048, B0 m c ⟨4 * ((i 0).val / 1408) + 1, by omega⟩ (lblk (locA i) k) * B1 m c ⟨4 * ((i 0).val / 1408) + 1, by omega⟩ (rblk (locA i) k))
      + ∑ k : Fin 2048, B0 m c ⟨4 * ((i 0).val / 1408) + 2, by omega⟩ (lblk (locA i) k) * B1 m c ⟨4 * ((i 0).val / 1408) + 2, by omega⟩ (rblk (locA i) k))
      + ∑ k : Fin 2048, B0 m c ⟨4 * ((i 0).val / 1408) + 3, by omega⟩ (lblk (locA i) k) * B1 m c ⟨4 * ((i 0).val / 1408) + 3, by omega⟩ (rblk (locA i) k)) ?_ ?_
  · refine (pay2_apply _ _ _ (locA i)).trans ?_
    rw [pay2_apply, pay2_apply, pay2_apply, pay1_apply, zero_add]
    rfl
  · refine (Cert.Sums.sum_four (N := 8192) (n := 2048) rfl _ (fun (q : Fin 4) (k : Fin 2048) => B0 m c ⟨4 * ((i 0).val / 1408) + q.val, by have := q.isLt; omega⟩ (lblk (locA i) k) * B1 m c ⟨4 * ((i 0).val / 1408) + q.val, by have := q.isLt; omega⟩ (rblk (locA i) k)) ?_).symm
    intro q k hb
    have hq := q.isLt
    have hk := k.isLt
    rw [blk0_apply m c _ _ (lArr i ⟨2048 * q.val + k.val, hb⟩) (by dsimp only [lArr, lblk, locA]; omega) (by dsimp only [lArr, lblk, locA]; omega),
      blk1_apply m c _ _ (rArr i ⟨2048 * q.val + k.val, hb⟩) (by dsimp only [rArr, rblk, locA]; omega) (by dsimp only [rArr, rblk, locA]; omega)]

end Cert.Kernel3Ideal.Prod

end
-- ==== Proof.Eq3.lean ====
module

public import proofs.«01_k».proof.Defs
public import proofs.«01_k».proof.Proof.Arr3
public import proofs.«01_k».proof.Proof.Gen.Kernel3Ideal
public import proofs.«01_k».proof.Proof.Gen.Reference3Ideal

/-! `Kernel3` and its reference compute the same array over the extended reals. -/

@[expose] public section

set_option maxRecDepth 16384

noncomputable section

namespace Cert.Kernel3Ideal.Prod

open Cert.Kernel3Ideal Cert.Kernel3Ideal.Gen Cert.Kernel3Ideal.Value Idealize.ShloMosaic Idealize.ShloMosaic.TcCoe Idealize.SL.Sem

/-- The reference's result at an element is the same sum of products. -/
theorem ref_apply (x : S8192x2816.Idx → EReal) (y : S8192x1024.Idx → EReal) (i : S2816x1024.Idx) :
    Cert.Reference3Ideal.Read.val_main_v5 (F := Ideal) x y i = ∑ k : Fin 8192, x (lArr i k) * y (rArr i k) := by
  rw [Cert.Reference3Ideal.Read.val_main_v5_apply, Cert.Reference3Ideal.Read.val_main_v4_apply]
  refine Finset.sum_congr rfl fun k _ => ?_
  rw [mul_comm]
  show x _ * y _ = _
  refine congrArg₂ (· * ·) (congrArg x ?_) (congrArg y ?_)
  · funext a
    match a with
    | ⟨0, _⟩ => rfl
    | ⟨1, _⟩ => rfl
  · funext a
    match a with
    | ⟨0, _⟩ => rfl
    | ⟨1, _⟩ => rfl

/-- The value claim: the kernel's array is the reference's, on every device. -/
theorem algebraic : Cert.algebraic_Kernel3Ideal_Reference3Ideal := by
  intro m ρ m' ρ' _ hag
  refine ⟨fun c => G2 m c, Value.run m ρ, ?_⟩
  refine (θ_run Cert.Reference3Ideal.defs _ _).mono (fun r h c => ⟨?_, (h c).2⟩) (Cert.Reference3Ideal.Value.run (F := Ideal) m' ρ')
  rw [(h c).1, (hag c).1, (hag c).2]
  refine (Cert.Reference3Ideal.Read.val_main_v5_eq (F := Ideal) _ _).trans ?_
  funext i
  exact (ref_apply (X0 m c) (X1 m c) i).trans (G2_apply m c i).symm

/-- The reference runs and leaves its arguments as they were. -/
theorem ref_frame : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

end Cert.Kernel3Ideal.Prod

end
-- ==== Proof.Mm4.lean ====
module

public import proofs.«01_k».proof.Proof.Gen.Kernel4Ideal.Value
public import proofs.«01_k».proof.Proof.Sums
public import Idealize.ShloMosaic.Lib.ValueIdx
public import Idealize.ShloMosaic.PureOps.Ideal.Laws
public import Idealize.ShloMosaic.Lib.Tactic

/-! What the accumulated product of `Kernel4` (the up product's weight gradient, one slab per device) leaves at each grid point: the accumulator after the four
    points of one result block, and the block written back, element by element over the extended reals. -/

@[expose] public section

set_option maxRecDepth 16384

noncomputable section

namespace Cert.Kernel4Ideal.Prod

open Cert.Kernel4Ideal Cert.Kernel4Ideal.Gen Idealize.ShloMosaic Idealize.ShloMosaic.TcCoe Idealize.SL.Sem

local notation "𝕍" => Memref sig Kind.tc Space.vmem

section AnyFloat

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first point of a block zeroes the accumulator and adds its product. -/
theorem sout_A (c : Dev nD) (i : grid0.Coords) (a3 : 𝕍 S2048x1024 .bf16) (h3 : a3.IsWhole)
    (a4 : 𝕍 S1x2048x1408 .bf16) (h4 : a4.IsWhole) (a5 : 𝕍 S1x1024x1408 .f32) (h5 : a5.IsWhole)
    (a6 : 𝕍 S1024x1408 .f32) (h6 : a6.IsWhole) (hc0 : cond0_0 i) (hc1 : ¬cond0_1 i)
    (x0 : Vec F S2048x1024 .bf16) (x1 : Vec F S1x2048x1408 .bf16) : sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1408) hz2, View.readCov_unit_zero (S := S1024x1408) _ hz2]
  simp only [View.readAt_eq_ld, h3.read_unread, h4.read_unread, View.ld_unit_zero (S := S2048x1024) hz2, View.ld_unit_zero (S := S1x2048x1408) hz3, View.ld_unit_zero (S := S1024x1408) hz2]

/-- A middle point adds its product to what the point before left. -/
theorem sout_B (c : Dev nD) (i : grid0.Coords) (a3 : 𝕍 S2048x1024 .bf16) (h3 : a3.IsWhole)
    (a4 : 𝕍 S1x2048x1408 .bf16) (h4 : a4.IsWhole) (a5 : 𝕍 S1x1024x1408 .f32) (h5 : a5.IsWhole)
    (a6 : 𝕍 S1024x1408 .f32) (h6 : a6.IsWhole) (hc0 : ¬cond0_0 i) (hc1 : ¬cond0_1 i)
    (x0 : Vec F S2048x1024 .bf16) (x1 : Vec F S1x2048x1408 .bf16) (xs : Vec F S1024x1408 .f32) : sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero (S := S1024x1408) hz2]
  simp only [View.readAt_eq_ld, h3.read_unread, h4.read_unread, h6.read_unread, View.ld_unit_zero (S := S2048x1024) hz2, View.ld_unit_zero (S := S1x2048x1408) hz3, View.ld_unit_zero (S := S1024x1408) hz2]

/-- The last point adds its product and writes the sum out. -/
theorem out_C (c : Dev nD) (i : grid0.Coords) (a3 : 𝕍 S2048x1024 .bf16) (h3 : a3.IsWhole)
    (a4 : 𝕍 S1x2048x1408 .bf16) (h4 : a4.IsWhole) (a5 : 𝕍 S1x1024x1408 .f32) (h5 : a5.IsWhole)
    (a6 : 𝕍 S1024x1408 .f32) (h6 : a6.IsWhole) (hc0 : ¬cond0_0 i) (hc1 : cond0_1 i)
    (x0 : Vec F S2048x1024 .bf16) (x1 : Vec F S1x2048x1408 .bf16) (xs : Vec F S1024x1408 .f32) : out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero (S := S1x1024x1408) hz3, View.readCov_unit_zero (S := S1024x1408) _ hz2]
  simp only [View.readAt_eq_ld, h3.read_unread, h4.read_unread, h6.read_unread, View.ld_unit_zero (S := S2048x1024) hz2, View.ld_unit_zero (S := S1x2048x1408) hz3, View.ld_unit_zero (S := S1024x1408) hz2]

variable (m : (ℓ : Loc nD τ sig) → Buf (Elt F) ℓ)

/-- After the last of a block's four points, the output holds the four products added in order onto zero. -/
theorem outsAt_last (c : Dev nD) (n : ℕ) (h0 : 4 * n + 3 < cfg0.N) :
    (outsAt0 m c (4 * n + 3) h0).1 = k0_pay3 (k0_pay2 (k0_pay2 (k0_pay2 (k0_pay2 k0_pay1
      (iblk m c 0 ⟨4 * n, by omega⟩) (iblk m c 1 ⟨4 * n, by omega⟩))
      (iblk m c 0 ⟨4 * n + 1, by omega⟩) (iblk m c 1 ⟨4 * n + 1, by omega⟩))
      (iblk m c 0 ⟨4 * n + 2, by omega⟩) (iblk m c 1 ⟨4 * n + 2, by omega⟩))
      (iblk m c 0 ⟨4 * n + 3, h0⟩) (iblk m c 1 ⟨4 * n + 3, h0⟩)) := by
  have e0 : (outsAt0 m c (4 * n) (by omega)).2 = k0_pay2 k0_pay1 (iblk m c 0 ⟨4 * n, by omega⟩) (iblk m c 1 ⟨4 * n, by omega⟩) := by
    have e := congrArg Prod.snd (outsAt0_A m c ⟨4 * n, by omega⟩ (by dsimp only; omega) (by dsimp only; omega))
    rw [sout_A] at e
    exact e
  have e1 : (outsAt0 m c (4 * n + 1) (by omega)).2 = k0_pay2 (outsAt0 m c (4 * n) (by omega)).2 (iblk m c 0 ⟨4 * n + 1, by omega⟩) (iblk m c 1 ⟨4 * n + 1, by omega⟩) := by
    have e := congrArg Prod.snd (outsAt0_B m c ⟨4 * n + 1, by omega⟩ (by dsimp only; omega) (by dsimp only; omega))
    rw [sout_B] at e
    exact e
  have e2 : (outsAt0 m c (4 * n + 2) (by omega)).2 = k0_pay2 (outsAt0 m c (4 * n + 1) (by omega)).2 (iblk m c 0 ⟨4 * n + 2, by omega⟩) (iblk m c 1 ⟨4 * n + 2, by omega⟩) := by
    have e := congrArg Prod.snd (outsAt0_B m c ⟨4 * n + 2, by omega⟩ (by dsimp only; omega) (by dsimp only; omega))
    rw [sout_B] at e
    exact e
  have e := congrArg Prod.fst (outsAt0_C m c ⟨4 * n + 3, h0⟩ (by dsimp only; omega) (by dsimp only; omega))
  rw [out_C] at e
  rw [← e0, ← e1, ← e2]
  exact e

end AnyFloat

/-! ## The products over the extended reals -/

/-- The left operand's element the product reads at output `i` and contraction index `k`. -/
abbrev lidx (i : S1024x1408.Idx) (k : Fin 2048) : S2048x1024.Idx := fun a => match a with
  | ⟨0, _⟩ => ⟨k.val, k.isLt⟩
  | ⟨1, _⟩ => ⟨(i 0).val, (i 0).isLt⟩
/-- The right operand's. -/
abbrev ridx (i : S1024x1408.Idx) (k : Fin 2048) : S2048x1408.Idx := fun a => match a with
  | ⟨0, _⟩ => ⟨k.val, k.isLt⟩
  | ⟨1, _⟩ => ⟨(i 1).val, (i 1).isLt⟩
/-- The left block's element. -/
abbrev lblk (i : S1024x1408.Idx) (k : Fin 2048) : S2048x1024.Idx := fun a => match a with
  | ⟨0, _⟩ => ⟨k.val, k.isLt⟩
  | ⟨1, _⟩ => ⟨(i 0).val, (i 0).isLt⟩
/-- The right block's element. -/
abbrev rblk (i : S1024x1408.Idx) (k : Fin 2048) : S1x2048x1408.Idx := fun a => match a with
  | ⟨0, _⟩ => ⟨0, Nat.one_pos⟩
  | ⟨1, _⟩ => ⟨k.val, k.isLt⟩
  | ⟨2, _⟩ => ⟨(i 1).val, (i 1).isLt⟩

/-- The matrix unit's product is the accumulator plus the sum of products. -/
theorem mm_apply (x : FVec Ideal S2048x1024 .bf16) (y : FVec Ideal S2048x1408 .bf16) (acc : FVec Ideal S1024x1408 .f32) (i : S1024x1408.Idx) :
    matmul dot_S2048x1024_S2048x1408_S1024x1408_0_0_1_1_n_n none x y acc i = acc i + ∑ k : Fin 2048, x (lidx i k) * y (ridx i k) :=
  Cert.Sums.mm_apply _ 2048 rfl rfl x y acc i (lidx i) (ridx i) (fun _ _ h a => match a with | ⟨0, _⟩ => h | ⟨1, _⟩ => rfl)
    fun _ _ h a => match a with | ⟨0, _⟩ => h | ⟨1, _⟩ => rfl

/-- One point's step: the accumulator plus the sum over the contracted axis of the two blocks. -/
theorem pay2_apply (acc : Vec Ideal S1024x1408 .f32) (x : Vec Ideal S2048x1024 .bf16) (y : Vec Ideal S1x2048x1408 .bf16) (i : S1024x1408.Idx) :
    k0_pay2 acc x y i = acc i + ∑ k : Fin 2048, x (lblk i k) * y (rblk i k) := by
  unfold k0_pay2
  rw [shapeCast_self]
  show acc i + matmul (F := Ideal) dot_S2048x1024_S2048x1408_S1024x1408_0_0_1_1_n_n none _ _ _ i = _
  rw [mm_apply]
  have z : (constant (F := Ideal) S1024x1408 .f32 0x00000000#32 i : EReal) = 0 := Ideal.ofBits_zero_f32
  rw [z, zero_add]
  refine congrArg (acc i + ·) (Finset.sum_congr rfl fun k _ => ?_)
  rw [Cert.Sums.drop_one _ _ (ridx i k) (rblk i k) rfl rfl]

/-- The accumulator starts at zero. -/
theorem pay1_apply (i : S1024x1408.Idx) : (k0_pay1 (F := Ideal) i : EReal) = 0 := by
  unfold k0_pay1
  rw [shapeCast_self]
  exact Ideal.ofBits_zero_f32

end Cert.Kernel4Ideal.Prod

end
-- ==== Proof.Arr4.lean ====
module

public import proofs.«01_k».proof.Proof.Mm4
public import proofs.«01_k».proof.Proof.Gen.Reference4Ideal.Run
public import proofs.«01_k».proof.Proof.Gen.Reference4Ideal.Read

/-! The result array of `Kernel4` (the up product's weight gradient, one slab per device) is one product over the whole contracted axis, and so is the reference's. -/

@[expose] public section

set_option maxRecDepth 16384

noncomputable section

namespace Cert.Kernel4Ideal.Prod

open Cert.Kernel4Ideal Cert.Kernel4Ideal.Gen Cert.Kernel4Ideal.Value Idealize.ShloMosaic Idealize.ShloMosaic.TcCoe Idealize.SL.Sem

/-- What the arrays of every device hold. -/
abbrev Mem : Type := (ℓ : Loc nD τ sig) → Buf (Elt Ideal) ℓ

/-- The first operand, the second operand and the written array, with extended reals as elements; and a window's block. -/
def X0 (m : Mem) (c : Dev nD) : S8192x1024.Idx → EReal := m (c.tc.loc main_arg0)
@[inherit_doc X0] def X1 (m : Mem) (c : Dev nD) : S2x8192x2816.Idx → EReal := m (c.tc.loc main_arg1)
@[inherit_doc X0] def G2E (m : Mem) (c : Dev nD) : S4x1024x1408.Idx → EReal := G2 m c
@[inherit_doc X0] def B0 (m : Mem) (c : Dev nD) (t : Fin cfg0.N) : S2048x1024.Idx → EReal := iblk m c 0 t
@[inherit_doc X0] def B1 (m : Mem) (c : Dev nD) (t : Fin cfg0.N) : S1x2048x1408.Idx → EReal := iblk m c 1 t

/-- The printed index map of window 0, over the grid. -/
theorem idx0 : ∀ t : Fin grid0.N, win0_0.index t 0 = t.val % 4 ∧ win0_0.index t 1 = 0 := by decide +kernel

@[inherit_doc idx0] theorem idx1 : ∀ t : Fin grid0.N, win0_1.index t 0 = t.val / 4 / 2 ∧ win0_1.index t 1 = t.val % 4 ∧ win0_1.index t 2 = t.val / 4 % 2 := by decide +kernel

/-- Window 0's block at a point, read at an element, is the array at the block's offset plus the element. -/
theorem blk0_apply (m : Mem) (c : Dev nD) (t : Fin cfg0.N) (j : S2048x1024.Idx) (a : S8192x1024.Idx)
    (e0 : (a 0).val = (t.val % 4) * 2048 + (j 0).val) (e1 : (a 1).val = (0) * 1024 + (j 1).val) :
    B0 m c t j = X0 m c a := by
  unfold B0 iblk
  rw [View.read_apply]
  refine congrArg (X0 m c) (funext fun x => Fin.ext ?_)
  have h := idx0 t
  match x with
  | ⟨0, _⟩ => show win0_0.index t 0 * 2048 + 1 * (j 0).val = (a 0).val; rw [h.1, e0]; omega
  | ⟨1, _⟩ => show win0_0.index t 1 * 1024 + 1 * (j 1).val = (a 1).val; rw [h.2, e1]; omega

@[inherit_doc blk0_apply] theorem blk1_apply (m : Mem) (c : Dev nD) (t : Fin cfg0.N) (j : S1x2048x1408.Idx) (a : S2x8192x2816.Idx)
    (e0 : (a 0).val = (t.val / 4 / 2) * 1 + (j 0).val) (e1 : (a 1).val = (t.val % 4) * 2048 + (j 1).val) (e2 : (a 2).val = (t.val / 4 % 2) * 1408 + (j 2).val) :
    B1 m c t j = X1 m c a := by
  unfold B1 iblk
  rw [View.read_apply]
  refine congrArg (X1 m c) (funext fun x => Fin.ext ?_)
  have h := idx1 t
  match x with
  | ⟨0, _⟩ => show win0_1.index t 0 * 1 + 1 * (j 0).val = (a 0).val; rw [h.1, e0]; omega
  | ⟨1, _⟩ => show win0_1.index t 1 * 2048 + 1 * (j 1).val = (a 1).val; rw [h.2.1, e1]; omega
  | ⟨2, _⟩ => show win0_1.index t 2 * 1408 + 1 * (j 2).val = (a 2).val; rw [h.2.2, e2]; omega

/-- The first factor's index at result element `i` and contraction index `k`. -/
abbrev lArr (i : S4x1024x1408.Idx) (k : Fin 8192) : S8192x1024.Idx := fun a => match a with
  | ⟨0, _⟩ => ⟨k.val, k.isLt⟩
  | ⟨1, _⟩ => ⟨(i 1).val, (i 1).isLt⟩
/-- The second factor's index. -/
abbrev rArr (i : S4x1024x1408.Idx) (k : Fin 8192) : S2x8192x2816.Idx := fun a => match a with
  | ⟨0, _⟩ => ⟨(i 0).val / 2, by have h : (i 0).val < 4 := (i 0).isLt; show _ < 2; omega⟩
  | ⟨1, _⟩ => ⟨k.val, k.isLt⟩
  | ⟨2, _⟩ => ⟨1408 * ((i 0).val % 2) + (i 2).val, by have h : (i 2).val < 1408 := (i 2).isLt; show _ < 2816; omega⟩
/-- A result element's place in its block's accumulator. -/
abbrev locA (i : S4x1024x1408.Idx) : S1024x1408.Idx := fun a => match a with
  | ⟨0, _⟩ => ⟨(i 1).val % 1024, Nat.mod_lt _ (by decide)⟩
  | ⟨1, _⟩ => ⟨(i 2).val % 1408, Nat.mod_lt _ (by decide)⟩

variable (m : Mem)

/-- Every result element is the sum of products over the whole contracted axis. -/
theorem G2_apply (c : Dev nD) (i : S4x1024x1408.Idx) :
    G2E m c i = ∑ k : Fin 8192, X0 m c (lArr i k) * X1 m c (rArr i k) := by
  have h0 : (i 0).val < 4 := (i 0).isLt
  have h1 : (i 1).val < 1024 := (i 1).isLt
  have h2 : (i 2).val < 1408 := (i 2).isLt
  have hN : cfg0.N = 16 := N_0
  have hr : 4 * ((i 0).val) + 3 < cfg0.N := by rw [hN]; omega
  have hp : pt2Of i = 4 * ((i 0).val) + 3 := by
    show 4 * run2Of i + 3 = _
    unfold run2Of
    omega
  unfold G2E G2
  rw [dif_pos (by rw [hp]; exact hr), fold0_congr m c _ _ _ (by omega) hp, ← outsAt0_sweep m c _ hr, outsAt_last]
  unfold k0_pay3
  rw [Cert.Sums.add_one _ _ (loc2Of i) (locA i) rfl rfl]
  refine Eq.trans (b := (((∑ k : Fin 2048, B0 m c ⟨4 * ((i 0).val) + 0, by omega⟩ (lblk (locA i) k) * B1 m c ⟨4 * ((i 0).val) + 0, by omega⟩ (rblk (locA i) k))
      + ∑ k : Fin 2048, B0 m c ⟨4 * ((i 0).val) + 1, by omega⟩ (lblk (locA i) k) * B1 m c ⟨4 * ((i 0).val) + 1, by omega⟩ (rblk (locA i) k))
      + ∑ k : Fin 2048, B0 m c ⟨4 * ((i 0).val) + 2, by omega⟩ (lblk (locA i) k) * B1 m c ⟨4 * ((i 0).val) + 2, by omega⟩ (rblk (locA i) k))
      + ∑ k : Fin 2048, B0 m c ⟨4 * ((i 0).val) + 3, by omega⟩ (lblk (locA i) k) * B1 m c ⟨4 * ((i 0).val) + 3, by omega⟩ (rblk (locA i) k)) ?_ ?_
  · refine (pay2_apply _ _ _ (locA i)).trans ?_
    rw [pay2_apply, pay2_apply, pay2_apply, pay1_apply, zero_add]
    rfl
  · refine (Cert.Sums.sum_four (N := 8192) (n := 2048) rfl _ (fun (q : Fin 4) (k : Fin 2048) => B0 m c ⟨4 * ((i 0).val) + q.val, by have := q.isLt; omega⟩ (lblk (locA i) k) * B1 m c ⟨4 * ((i 0).val) + q.val, by have := q.isLt; omega⟩ (rblk (locA i) k)) ?_).symm
    intro q k hb
    have hq := q.isLt
    have hk := k.isLt
    rw [blk0_apply m c _ _ (lArr i ⟨2048 * q.val + k.val, hb⟩) (by dsimp only [lArr, lblk, locA]; omega) (by dsimp only [lArr, lblk, locA]; omega),
      blk1_apply m c _ _ (rArr i ⟨2048 * q.val + k.val, hb⟩) (by dsimp only [rArr, rblk, locA]; omega) (by dsimp only [rArr, rblk, locA]; omega) (by dsimp only [rArr, rblk, locA]; omega)]

end Cert.Kernel4Ideal.Prod

end
-- ==== Proof.Eq4.lean ====
module

public import proofs.«01_k».proof.Defs
public import proofs.«01_k».proof.Proof.Arr4
public import proofs.«01_k».proof.Proof.Gen.Kernel4Ideal
public import proofs.«01_k».proof.Proof.Gen.Reference4Ideal

/-! `Kernel4` and its reference compute the same array over the extended reals. -/

@[expose] public section

set_option maxRecDepth 16384

noncomputable section

namespace Cert.Kernel4Ideal.Prod

open Cert.Kernel4Ideal Cert.Kernel4Ideal.Gen Cert.Kernel4Ideal.Value Idealize.ShloMosaic Idealize.ShloMosaic.TcCoe Idealize.SL.Sem

/-- The two halves side by side, read at an element: half `j / 2816` at column `j % 2816`. -/
theorem joined_apply (x : Cert.Reference4Ideal.S2x8192x2816.Idx → EReal) (j : Cert.Reference4Ideal.S8192x5632.Idx)
    (a : Cert.Reference4Ideal.S2x8192x2816.Idx) (e0 : (a 0).val = (j 1).val / 2816) (e1 : (a 1).val = (j 0).val) (e2 : (a 2).val = (j 1).val % 2816) :
    Cert.Reference4Ideal.Read.val_main_v5 (F := Ideal) x j = x a := by
  have hj0 : (j 0).val < 8192 := (j 0).isLt
  have hj1 : (j 1).val < 5632 := (j 1).isLt
  unfold Cert.Reference4Ideal.Read.val_main_v5
  by_cases h : (j 1).val < 2816
  · refine (concatenate_pair_apply_left (s₁ := Cert.Reference4Ideal.S8192x2816) (s₂ := Cert.Reference4Ideal.S8192x2816) (1 : Fin 2) _ _ _ j rfl (fun b => match b with
      | ⟨0, _⟩ => ⟨(j 0).val, hj0⟩
      | ⟨1, _⟩ => ⟨(j 1).val, h⟩ : Cert.Reference4Ideal.S8192x2816.Idx) (fun b => match b with
      | ⟨0, _⟩ => rfl
      | ⟨1, _⟩ => rfl)).trans ?_
    rw [Cert.Reference4Ideal.Read.val_main_v2_apply, Cert.Reference4Ideal.Read.val_main_v1_apply]
    congr 1
    funext b
    apply Fin.ext
    match b with
    | ⟨0, _⟩ => show 0 = (a 0).val; omega
    | ⟨1, _⟩ => show ((j 0).val * 2816 + (j 1).val) / 2816 % 8192 = (a 1).val; omega
    | ⟨2, _⟩ => show ((j 0).val * 2816 + (j 1).val) % 2816 = (a 2).val; omega
  · refine (concatenate_pair_apply_right (s₁ := Cert.Reference4Ideal.S8192x2816) (s₂ := Cert.Reference4Ideal.S8192x2816) (1 : Fin 2) _ _ _ j rfl rfl (fun b => match b with
      | ⟨0, _⟩ => ⟨(j 0).val, hj0⟩
      | ⟨1, _⟩ => ⟨(j 1).val - 2816, by show _ < 2816; omega⟩ : Cert.Reference4Ideal.S8192x2816.Idx) (fun b => match b with
      | ⟨0, _⟩ => fun _ => rfl
      | ⟨1, _⟩ => fun h => absurd rfl h) (by show (j 1).val - 2816 + 2816 = (j 1).val; omega)).trans ?_
    rw [Cert.Reference4Ideal.Read.val_main_v4_apply, Cert.Reference4Ideal.Read.val_main_v3_apply]
    congr 1
    funext b
    apply Fin.ext
    match b with
    | ⟨0, _⟩ => show 1 + 0 = (a 0).val; omega
    | ⟨1, _⟩ => show ((j 0).val * 2816 + ((j 1).val - 2816)) / 2816 % 8192 = (a 1).val; omega
    | ⟨2, _⟩ => show ((j 0).val * 2816 + ((j 1).val - 2816)) % 2816 = (a 2).val; omega

/-- The reference's result at an element is the same sum of products. -/
theorem ref_apply (x : S8192x1024.Idx → EReal) (y : S2x8192x2816.Idx → EReal) (i : S4x1024x1408.Idx) :
    Cert.Reference4Ideal.Read.val_main_v12 (F := Ideal) x y i = ∑ k : Fin 8192, x (lArr i k) * y (rArr i k) := by
  have h0 : (i 0).val < 4 := (i 0).isLt
  have h1 : (i 1).val < 1024 := (i 1).isLt
  have h2 : (i 2).val < 1408 := (i 2).isLt
  rw [Cert.Reference4Ideal.Read.val_main_v12_apply, Cert.Reference4Ideal.Read.val_main_v11_apply, Cert.Reference4Ideal.Read.val_main_v10_apply, Cert.Reference4Ideal.Read.val_main_v9_apply]
  refine Finset.sum_congr rfl fun k _ => ?_
  rw [mul_comm]
  show x _ * Cert.Reference4Ideal.Read.val_main_v5 (F := Ideal) y _ = _
  refine congrArg₂ (· * ·) (congrArg x ?_) (joined_apply y _ _ ?_ ?_ ?_)
  · funext a
    apply Fin.ext
    match a with
    | ⟨0, _⟩ => rfl
    | ⟨1, _⟩ => show (((i 1).val * 4 + (i 0).val) * 1408 + (i 2).val) / 5632 = (i 1).val; omega
  · show (i 0).val / 2 = (((i 1).val * 4 + (i 0).val) * 1408 + (i 2).val) % 5632 / 2816
    omega
  · rfl
  · show 1408 * ((i 0).val % 2) + (i 2).val = (((i 1).val * 4 + (i 0).val) * 1408 + (i 2).val) % 5632 % 2816
    omega

/-- The value claim: the kernel's array is the reference's, on every device. -/
theorem algebraic : Cert.algebraic_Kernel4Ideal_Reference4Ideal := by
  intro m ρ m' ρ' _ hag
  refine ⟨fun c => G2 m c, Value.run m ρ, ?_⟩
  refine (θ_run Cert.Reference4Ideal.defs _ _).mono (fun r h c => ⟨?_, (h c).2⟩) (Cert.Reference4Ideal.Value.run (F := Ideal) m' ρ')
  rw [(h c).1, (hag c).1, (hag c).2]
  refine (Cert.Reference4Ideal.Read.val_main_v12_eq (F := Ideal) _ _).trans ?_
  funext i
  exact (ref_apply (X0 m c) (X1 m c) i).trans (G2_apply m c i).symm

/-- The reference runs and leaves its arguments as they were. -/
theorem ref_frame : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

end Cert.Kernel4Ideal.Prod

end
-- ==== Proof.Mm5.lean ====
module

public import proofs.«01_k».proof.Proof.Gen.Kernel5Ideal.Value
public import proofs.«01_k».proof.Proof.Sums
public import Idealize.ShloMosaic.Lib.ValueIdx
public import Idealize.ShloMosaic.PureOps.Ideal.Laws
public import Idealize.ShloMosaic.Lib.Tactic

/-! What the accumulated product of `Kernel5` (the up product's input gradient) leaves at each grid point: the accumulator after the four
    points of one result block, and the block written back, element by element over the extended reals. -/

@[expose] public section

set_option maxRecDepth 16384

noncomputable section

namespace Cert.Kernel5Ideal.Prod

open Cert.Kernel5Ideal Cert.Kernel5Ideal.Gen Idealize.ShloMosaic Idealize.ShloMosaic.TcCoe Idealize.SL.Sem

local notation "𝕍" => Memref sig Kind.tc Space.vmem

section AnyFloat

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first point of a block zeroes the accumulator and adds its product. -/
theorem sout_A (c : Dev nD) (i : grid0.Coords) (a3 : 𝕍 S1x1024x1408 .bf16) (h3 : a3.IsWhole)
    (a4 : 𝕍 S1x1024x1408 .bf16) (h4 : a4.IsWhole) (a5 : 𝕍 S1024x1024 .f32) (h5 : a5.IsWhole)
    (a6 : 𝕍 S1024x1024 .f32) (h6 : a6.IsWhole) (hc0 : cond0_0 i) (hc1 : ¬cond0_1 i)
    (x0 : Vec F S1x1024x1408 .bf16) (x1 : Vec F S1x1024x1408 .bf16) : sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz2, View.readCov_unit_zero (S := S1024x1024) _ hz2]
  simp only [View.readAt_eq_ld, h3.read_unread, h4.read_unread, View.ld_unit_zero (S := S1x1024x1408) hz3, View.ld_unit_zero (S := S1x1024x1408) hz3, View.ld_unit_zero (S := S1024x1024) hz2]

/-- A middle point adds its product to what the point before left. -/
theorem sout_B (c : Dev nD) (i : grid0.Coords) (a3 : 𝕍 S1x1024x1408 .bf16) (h3 : a3.IsWhole)
    (a4 : 𝕍 S1x1024x1408 .bf16) (h4 : a4.IsWhole) (a5 : 𝕍 S1024x1024 .f32) (h5 : a5.IsWhole)
    (a6 : 𝕍 S1024x1024 .f32) (h6 : a6.IsWhole) (hc0 : ¬cond0_0 i) (hc1 : ¬cond0_1 i)
    (x0 : Vec F S1x1024x1408 .bf16) (x1 : Vec F S1x1024x1408 .bf16) (xs : Vec F S1024x1024 .f32) : sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero (S := S1024x1024) hz2]
  simp only [View.readAt_eq_ld, h3.read_unread, h4.read_unread, h6.read_unread, View.ld_unit_zero (S := S1x1024x1408) hz3, View.ld_unit_zero (S := S1x1024x1408) hz3, View.ld_unit_zero (S := S1024x1024) hz2]

/-- The last point adds its product and writes the sum out. -/
theorem out_C (c : Dev nD) (i : grid0.Coords) (a3 : 𝕍 S1x1024x1408 .bf16) (h3 : a3.IsWhole)
    (a4 : 𝕍 S1x1024x1408 .bf16) (h4 : a4.IsWhole) (a5 : 𝕍 S1024x1024 .f32) (h5 : a5.IsWhole)
    (a6 : 𝕍 S1024x1024 .f32) (h6 : a6.IsWhole) (hc0 : ¬cond0_0 i) (hc1 : cond0_1 i)
    (x0 : Vec F S1x1024x1408 .bf16) (x1 : Vec F S1x1024x1408 .bf16) (xs : Vec F S1024x1024 .f32) : out0_C_2 c i a3 h3 a4 h4 a5 h5 a6 h6 hc0 hc1 x0 x1 xs = k0_pay2 xs x0 x1 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero (S := S1024x1024) hz2, View.readCov_unit_zero (S := S1024x1024) _ hz2]
  simp only [View.readAt_eq_ld, h3.read_unread, h4.read_unread, h6.read_unread, View.ld_unit_zero (S := S1x1024x1408) hz3, View.ld_unit_zero (S := S1x1024x1408) hz3, View.ld_unit_zero (S := S1024x1024) hz2]

variable (m : (ℓ : Loc nD τ sig) → Buf (Elt F) ℓ)

/-- After the last of a block's four points, the output holds the four products added in order onto zero. -/
theorem outsAt_last (c : Dev nD) (n : ℕ) (h0 : 4 * n + 3 < cfg0.N) :
    (outsAt0 m c (4 * n + 3) h0).1 = k0_pay2 (k0_pay2 (k0_pay2 (k0_pay2 k0_pay1
      (iblk m c 0 ⟨4 * n, by omega⟩) (iblk m c 1 ⟨4 * n, by omega⟩))
      (iblk m c 0 ⟨4 * n + 1, by omega⟩) (iblk m c 1 ⟨4 * n + 1, by omega⟩))
      (iblk m c 0 ⟨4 * n + 2, by omega⟩) (iblk m c 1 ⟨4 * n + 2, by omega⟩))
      (iblk m c 0 ⟨4 * n + 3, h0⟩) (iblk m c 1 ⟨4 * n + 3, h0⟩) := by
  have e0 : (outsAt0 m c (4 * n) (by omega)).2 = k0_pay2 k0_pay1 (iblk m c 0 ⟨4 * n, by omega⟩) (iblk m c 1 ⟨4 * n, by omega⟩) := by
    have e := congrArg Prod.snd (outsAt0_A m c ⟨4 * n, by omega⟩ (by dsimp only; omega) (by dsimp only; omega))
    rw [sout_A] at e
    exact e
  have e1 : (outsAt0 m c (4 * n + 1) (by omega)).2 = k0_pay2 (outsAt0 m c (4 * n) (by omega)).2 (iblk m c 0 ⟨4 * n + 1, by omega⟩) (iblk m c 1 ⟨4 * n + 1, by omega⟩) := by
    have e := congrArg Prod.snd (outsAt0_B m c ⟨4 * n + 1, by omega⟩ (by dsimp only; omega) (by dsimp only; omega))
    rw [sout_B] at e
    exact e
  have e2 : (outsAt0 m c (4 * n + 2) (by omega)).2 = k0_pay2 (outsAt0 m c (4 * n + 1) (by omega)).2 (iblk m c 0 ⟨4 * n + 2, by omega⟩) (iblk m c 1 ⟨4 * n + 2, by omega⟩) := by
    have e := congrArg Prod.snd (outsAt0_B m c ⟨4 * n + 2, by omega⟩ (by dsimp only; omega) (by dsimp only; omega))
    rw [sout_B] at e
    exact e
  have e := congrArg Prod.fst (outsAt0_C m c ⟨4 * n + 3, h0⟩ (by dsimp only; omega) (by dsimp only; omega))
  rw [out_C] at e
  rw [← e0, ← e1, ← e2]
  exact e

end AnyFloat

/-! ## The products over the extended reals -/

/-- The left operand's element the product reads at output `i` and contraction index `k`. -/
abbrev lidx (i : S1024x1024.Idx) (k : Fin 1408) : S1024x1408.Idx := fun a => match a with
  | ⟨0, _⟩ => ⟨(i 0).val, (i 0).isLt⟩
  | ⟨1, _⟩ => ⟨k.val, k.isLt⟩
/-- The right operand's. -/
abbrev ridx (i : S1024x1024.Idx) (k : Fin 1408) : S1024x1408.Idx := fun a => match a with
  | ⟨0, _⟩ => ⟨(i 1).val, (i 1).isLt⟩
  | ⟨1, _⟩ => ⟨k.val, k.isLt⟩
/-- The left block's element. -/
abbrev lblk (i : S1024x1024.Idx) (k : Fin 1408) : S1x1024x1408.Idx := fun a => match a with
  | ⟨0, _⟩ => ⟨0, Nat.one_pos⟩
  | ⟨1, _⟩ => ⟨(i 0).val, (i 0).isLt⟩
  | ⟨2, _⟩ => ⟨k.val, k.isLt⟩
/-- The right block's element. -/
abbrev rblk (i : S1024x1024.Idx) (k : Fin 1408) : S1x1024x1408.Idx := fun a => match a with
  | ⟨0, _⟩ => ⟨0, Nat.one_pos⟩
  | ⟨1, _⟩ => ⟨(i 1).val, (i 1).isLt⟩
  | ⟨2, _⟩ => ⟨k.val, k.isLt⟩

/-- The matrix unit's product is the accumulator plus the sum of products. -/
theorem mm_apply (x : FVec Ideal S1024x1408 .bf16) (y : FVec Ideal S1024x1408 .bf16) (acc : FVec Ideal S1024x1024 .f32) (i : S1024x1024.Idx) :
    matmul dot_S1024x1408_S1024x1408_S1024x1024_1_1_0_0_n_n none x y acc i = acc i + ∑ k : Fin 1408, x (lidx i k) * y (ridx i k) :=
  Cert.Sums.mm_apply _ 1408 rfl rfl x y acc i (lidx i) (ridx i) (fun _ _ h a => match a with | ⟨0, _⟩ => rfl | ⟨1, _⟩ => h)
    fun _ _ h a => match a with | ⟨0, _⟩ => rfl | ⟨1, _⟩ => h

/-- One point's step: the accumulator plus the sum over the contracted axis of the two blocks. -/
theorem pay2_apply (acc : Vec Ideal S1024x1024 .f32) (x : Vec Ideal S1x1024x1408 .bf16) (y : Vec Ideal S1x1024x1408 .bf16) (i : S1024x1024.Idx) :
    k0_pay2 acc x y i = acc i + ∑ k : Fin 1408, x (lblk i k) * y (rblk i k) := by
  unfold k0_pay2
  rw [shapeCast_self]
  show acc i + matmul (F := Ideal) dot_S1024x1408_S1024x1408_S1024x1024_1_1_0_0_n_n none _ _ _ i = _
  rw [mm_apply]
  have z : (constant (F := Ideal) S1024x1024 .f32 0x00000000#32 i : EReal) = 0 := Ideal.ofBits_zero_f32
  rw [z, zero_add]
  refine congrArg (acc i + ·) (Finset.sum_congr rfl fun k _ => ?_)
  rw [Cert.Sums.drop_one _ _ (lidx i k) (lblk i k) rfl rfl]
  rw [Cert.Sums.drop_one _ _ (ridx i k) (rblk i k) rfl rfl]

/-- The accumulator starts at zero. -/
theorem pay1_apply (i : S1024x1024.Idx) : (k0_pay1 (F := Ideal) i : EReal) = 0 := by
  unfold k0_pay1
  rw [shapeCast_self]
  exact Ideal.ofBits_zero_f32

end Cert.Kernel5Ideal.Prod

end
-- ==== Proof.Arr5.lean ====
module

public import proofs.«01_k».proof.Proof.Mm5
public import proofs.«01_k».proof.Proof.Gen.Reference5Ideal.Run
public import proofs.«01_k».proof.Proof.Gen.Reference5Ideal.Read

/-! The result array of `Kernel5` (the up product's input gradient) is one product over the whole contracted axis, and so is the reference's. -/

@[expose] public section

set_option maxRecDepth 16384

noncomputable section

namespace Cert.Kernel5Ideal.Prod

open Cert.Kernel5Ideal Cert.Kernel5Ideal.Gen Cert.Kernel5Ideal.Value Idealize.ShloMosaic Idealize.ShloMosaic.TcCoe Idealize.SL.Sem

/-- What the arrays of every device hold. -/
abbrev Mem : Type := (ℓ : Loc nD τ sig) → Buf (Elt Ideal) ℓ

/-- The first operand, the second operand and the written array, with extended reals as elements; and a window's block. -/
def X0 (m : Mem) (c : Dev nD) : S2x8192x2816.Idx → EReal := m (c.tc.loc main_arg0)
@[inherit_doc X0] def X1 (m : Mem) (c : Dev nD) : S4x1024x1408.Idx → EReal := m (c.tc.loc main_arg1)
@[inherit_doc X0] def G2E (m : Mem) (c : Dev nD) : S8192x1024.Idx → EReal := G2 m c
@[inherit_doc X0] def B0 (m : Mem) (c : Dev nD) (t : Fin cfg0.N) : S1x1024x1408.Idx → EReal := iblk m c 0 t
@[inherit_doc X0] def B1 (m : Mem) (c : Dev nD) (t : Fin cfg0.N) : S1x1024x1408.Idx → EReal := iblk m c 1 t

/-- The printed index map of window 0, over the grid. -/
theorem idx0 : ∀ t : Fin grid0.N, win0_0.index t 0 = t.val % 4 / 2 ∧ win0_0.index t 1 = t.val / 4 ∧ win0_0.index t 2 = t.val % 4 % 2 := by decide +kernel

@[inherit_doc idx0] theorem idx1 : ∀ t : Fin grid0.N, win0_1.index t 0 = t.val % 4 ∧ win0_1.index t 1 = 0 ∧ win0_1.index t 2 = 0 := by decide +kernel

/-- Window 0's block at a point, read at an element, is the array at the block's offset plus the element. -/
theorem blk0_apply (m : Mem) (c : Dev nD) (t : Fin cfg0.N) (j : S1x1024x1408.Idx) (a : S2x8192x2816.Idx)
    (e0 : (a 0).val = (t.val % 4 / 2) * 1 + (j 0).val) (e1 : (a 1).val = (t.val / 4) * 1024 + (j 1).val) (e2 : (a 2).val = (t.val % 4 % 2) * 1408 + (j 2).val) :
    B0 m c t j = X0 m c a := by
  unfold B0 iblk
  rw [View.read_apply]
  refine congrArg (X0 m c) (funext fun x => Fin.ext ?_)
  have h := idx0 t
  match x with
  | ⟨0, _⟩ => show win0_0.index t 0 * 1 + 1 * (j 0).val = (a 0).val; rw [h.1, e0]; omega
  | ⟨1, _⟩ => show win0_0.index t 1 * 1024 + 1 * (j 1).val = (a 1).val; rw [h.2.1, e1]; omega
  | ⟨2, _⟩ => show win0_0.index t 2 * 1408 + 1 * (j 2).val = (a 2).val; rw [h.2.2, e2]; omega

@[inherit_doc blk0_apply] theorem blk1_apply (m : Mem) (c : Dev nD) (t : Fin cfg0.N) (j : S1x1024x1408.Idx) (a : S4x1024x1408.Idx)
    (e0 : (a 0).val = (t.val % 4) * 1 + (j 0).val) (e1 : (a 1).val = (0) * 1024 + (j 1).val) (e2 : (a 2).val = (0) * 1408 + (j 2).val) :
    B1 m c t j = X1 m c a := by
  unfold B1 iblk
  rw [View.read_apply]
  refine congrArg (X1 m c) (funext fun x => Fin.ext ?_)
  have h := idx1 t
  match x with
  | ⟨0, _⟩ => show win0_1.index t 0 * 1 + 1 * (j 0).val = (a 0).val; rw [h.1, e0]; omega
  | ⟨1, _⟩ => show win0_1.index t 1 * 1024 + 1 * (j 1).val = (a 1).val; rw [h.2.1, e1]; omega
  | ⟨2, _⟩ => show win0_1.index t 2 * 1408 + 1 * (j 2).val = (a 2).val; rw [h.2.2, e2]; omega

/-- The first factor's index at result element `i` and contraction index `k`. -/
abbrev lArr (i : S8192x1024.Idx) (k : Fin 5632) : S2x8192x2816.Idx := fun a => match a with
  | ⟨0, _⟩ => ⟨k.val / 2816, by have := k.isLt; show _ < 2; omega⟩
  | ⟨1, _⟩ => ⟨(i 0).val, (i 0).isLt⟩
  | ⟨2, _⟩ => ⟨k.val % 2816, Nat.mod_lt _ (by decide)⟩
/-- The second factor's index. -/
abbrev rArr (i : S8192x1024.Idx) (k : Fin 5632) : S4x1024x1408.Idx := fun a => match a with
  | ⟨0, _⟩ => ⟨k.val / 1408, by have := k.isLt; show _ < 4; omega⟩
  | ⟨1, _⟩ => ⟨(i 1).val, (i 1).isLt⟩
  | ⟨2, _⟩ => ⟨k.val % 1408, Nat.mod_lt _ (by decide)⟩
/-- A result element's place in its block's accumulator. -/
abbrev locA (i : S8192x1024.Idx) : S1024x1024.Idx := fun a => match a with
  | ⟨0, _⟩ => ⟨(i 0).val % 1024, Nat.mod_lt _ (by decide)⟩
  | ⟨1, _⟩ => ⟨(i 1).val % 1024, Nat.mod_lt _ (by decide)⟩

variable (m : Mem)

/-- Every result element is the sum of products over the whole contracted axis. -/
theorem G2_apply (c : Dev nD) (i : S8192x1024.Idx) :
    G2E m c i = ∑ k : Fin 5632, X0 m c (lArr i k) * X1 m c (rArr i k) := by
  have h0 : (i 0).val < 8192 := (i 0).isLt
  have h1 : (i 1).val < 1024 := (i 1).isLt
  have hN : cfg0.N = 32 := N_0
  have hr : 4 * ((i 0).val / 1024) + 3 < cfg0.N := by rw [hN]; omega
  have hp : pt2Of i = 4 * ((i 0).val / 1024) + 3 := by
    show 4 * run2Of i + 3 = _
    unfold run2Of
    omega
  unfold G2E G2
  rw [dif_pos (by rw [hp]; exact hr), fold0_congr m c _ _ _ (by omega) hp, ← outsAt0_sweep m c _ hr, outsAt_last]
  refine Eq.trans (b := (((∑ k : Fin 1408, B0 m c ⟨4 * ((i 0).val / 1024) + 0, by omega⟩ (lblk (locA i) k) * B1 m c ⟨4 * ((i 0).val / 1024) + 0, by omega⟩ (rblk (locA i) k))
      + ∑ k : Fin 1408, B0 m c ⟨4 * ((i 0).val / 1024) + 1, by omega⟩ (lblk (locA i) k) * B1 m c ⟨4 * ((i 0).val / 1024) + 1, by omega⟩ (rblk (locA i) k))
      + ∑ k : Fin 1408, B0 m c ⟨4 * ((i 0).val / 1024) + 2, by omega⟩ (lblk (locA i) k) * B1 m c ⟨4 * ((i 0).val / 1024) + 2, by omega⟩ (rblk (locA i) k))
      + ∑ k : Fin 1408, B0 m c ⟨4 * ((i 0).val / 1024) + 3, by omega⟩ (lblk (locA i) k) * B1 m c ⟨4 * ((i 0).val / 1024) + 3, by omega⟩ (rblk (locA i) k)) ?_ ?_
  · refine (pay2_apply _ _ _ (locA i)).trans ?_
    rw [pay2_apply, pay2_apply, pay2_apply, pay1_apply, zero_add]
    rfl
  · refine (Cert.Sums.sum_four (N := 5632) (n := 1408) rfl _ (fun (q : Fin 4) (k : Fin 1408) => B0 m c ⟨4 * ((i 0).val / 1024) + q.val, by have := q.isLt; omega⟩ (lblk (locA i) k) * B1 m c ⟨4 * ((i 0).val / 1024) + q.val, by have := q.isLt; omega⟩ (rblk (locA i) k)) ?_).symm
    intro q k hb
    have hq := q.isLt
    have hk := k.isLt
    rw [blk0_apply m c _ _ (lArr i ⟨1408 * q.val + k.val, hb⟩) (by dsimp only [lArr, lblk, locA]; omega) (by dsimp only [lArr, lblk, locA]; omega) (by dsimp only [lArr, lblk, locA]; omega),
      blk1_apply m c _ _ (rArr i ⟨1408 * q.val + k.val, hb⟩) (by dsimp only [rArr, rblk, locA]; omega) (by dsimp only [rArr, rblk, locA]; omega) (by dsimp only [rArr, rblk, locA]; omega)]

end Cert.Kernel5Ideal.Prod

end
-- ==== Proof.Eq5.lean ====
module

public import proofs.«01_k».proof.Defs
public import proofs.«01_k».proof.Proof.Arr5
public import proofs.«01_k».proof.Proof.Gen.Kernel5Ideal
public import proofs.«01_k».proof.Proof.Gen.Reference5Ideal

/-! `Kernel5` and its reference compute the same array over the extended reals. -/

@[expose] public section

set_option maxRecDepth 16384

noncomputable section

namespace Cert.Kernel5Ideal.Prod

open Cert.Kernel5Ideal Cert.Kernel5Ideal.Gen Cert.Kernel5Ideal.Value Idealize.ShloMosaic Idealize.ShloMosaic.TcCoe Idealize.SL.Sem

/-- The two halves side by side, read at an element: half `j / 2816` at column `j % 2816`. -/
theorem joined_apply (x : Cert.Reference5Ideal.S2x8192x2816.Idx → EReal) (j : Cert.Reference5Ideal.S8192x5632.Idx)
    (a : Cert.Reference5Ideal.S2x8192x2816.Idx) (e0 : (a 0).val = (j 1).val / 2816) (e1 : (a 1).val = (j 0).val) (e2 : (a 2).val = (j 1).val % 2816) :
    Cert.Reference5Ideal.Read.val_main_v7 (F := Ideal) x j = x a := by
  have hj0 : (j 0).val < 8192 := (j 0).isLt
  have hj1 : (j 1).val < 5632 := (j 1).isLt
  unfold Cert.Reference5Ideal.Read.val_main_v7
  by_cases h : (j 1).val < 2816
  · refine (concatenate_pair_apply_left (s₁ := Cert.Reference5Ideal.S8192x2816) (s₂ := Cert.Reference5Ideal.S8192x2816) (1 : Fin 2) _ _ _ j rfl (fun b => match b with
      | ⟨0, _⟩ => ⟨(j 0).val, hj0⟩
      | ⟨1, _⟩ => ⟨(j 1).val, h⟩ : Cert.Reference5Ideal.S8192x2816.Idx) (fun b => match b with
      | ⟨0, _⟩ => rfl
      | ⟨1, _⟩ => rfl)).trans ?_
    rw [Cert.Reference5Ideal.Read.val_main_v4_apply, Cert.Reference5Ideal.Read.val_main_v3_apply]
    congr 1
    funext b
    apply Fin.ext
    match b with
    | ⟨0, _⟩ => show 0 = (a 0).val; omega
    | ⟨1, _⟩ => show ((j 0).val * 2816 + (j 1).val) / 2816 % 8192 = (a 1).val; omega
    | ⟨2, _⟩ => show ((j 0).val * 2816 + (j 1).val) % 2816 = (a 2).val; omega
  · refine (concatenate_pair_apply_right (s₁ := Cert.Reference5Ideal.S8192x2816) (s₂ := Cert.Reference5Ideal.S8192x2816) (1 : Fin 2) _ _ _ j rfl rfl (fun b => match b with
      | ⟨0, _⟩ => ⟨(j 0).val, hj0⟩
      | ⟨1, _⟩ => ⟨(j 1).val - 2816, by show _ < 2816; omega⟩ : Cert.Reference5Ideal.S8192x2816.Idx) (fun b => match b with
      | ⟨0, _⟩ => fun _ => rfl
      | ⟨1, _⟩ => fun h => absurd rfl h) (by show (j 1).val - 2816 + 2816 = (j 1).val; omega)).trans ?_
    rw [Cert.Reference5Ideal.Read.val_main_v6_apply, Cert.Reference5Ideal.Read.val_main_v5_apply]
    congr 1
    funext b
    apply Fin.ext
    match b with
    | ⟨0, _⟩ => show 1 + 0 = (a 0).val; omega
    | ⟨1, _⟩ => show ((j 0).val * 2816 + ((j 1).val - 2816)) / 2816 % 8192 = (a 1).val; omega
    | ⟨2, _⟩ => show ((j 0).val * 2816 + ((j 1).val - 2816)) % 2816 = (a 2).val; omega

/-- The reference's result at an element is the same sum of products. -/
theorem ref_apply (x : S2x8192x2816.Idx → EReal) (y : S4x1024x1408.Idx → EReal) (i : S8192x1024.Idx) :
    Cert.Reference5Ideal.Read.val_main_v11 (F := Ideal) x y i = ∑ k : Fin 5632, x (lArr i k) * y (rArr i k) := by
  have h0 : (i 0).val < 8192 := (i 0).isLt
  have h1 : (i 1).val < 1024 := (i 1).isLt
  rw [Cert.Reference5Ideal.Read.val_main_v11_apply]
  refine Finset.sum_congr rfl fun k _ => ?_
  have hk := k.isLt
  rw [Cert.Reference5Ideal.Read.val_main_v2_apply, Cert.Reference5Ideal.Read.val_main_v1_apply]
  show Cert.Reference5Ideal.Read.val_main_v7 (F := Ideal) x _ * y _ = _
  refine congrArg₂ (· * ·) (joined_apply x _ _ ?_ ?_ ?_) (congrArg y ?_)
  · rfl
  · rfl
  · rfl
  · funext a
    apply Fin.ext
    match a with
    | ⟨0, _⟩ => show ((i 1).val * 5632 + k.val) / 1408 % 4 = k.val / 1408; omega
    | ⟨1, _⟩ => show ((i 1).val * 5632 + k.val) / 5632 = (i 1).val; omega
    | ⟨2, _⟩ => show ((i 1).val * 5632 + k.val) % 1408 = k.val % 1408; omega

/-- The value claim: the kernel's array is the reference's, on every device. -/
theorem algebraic : Cert.algebraic_Kernel5Ideal_Reference5Ideal := by
  intro m ρ m' ρ' _ hag
  refine ⟨fun c => G2 m c, Value.run m ρ, ?_⟩
  refine (θ_run Cert.Reference5Ideal.defs _ _).mono (fun r h c => ⟨?_, (h c).2⟩) (Cert.Reference5Ideal.Value.run (F := Ideal) m' ρ')
  rw [(h c).1, (hag c).1, (hag c).2]
  refine (Cert.Reference5Ideal.Read.val_main_v11_eq (F := Ideal) _ _).trans ?_
  funext i
  exact (ref_apply (X0 m c) (X1 m c) i).trans (G2_apply m c i).symm

/-- The reference runs and leaves its arguments as they were. -/
theorem ref_frame : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

end Cert.Kernel5Ideal.Prod

end
-- ==== Proof.Mm6.lean ====
module

public import proofs.«01_k».proof.Proof.Gen.Kernel6Ideal.Value
public import proofs.«01_k».proof.Proof.Sums
public import Idealize.ShloMosaic.Lib.ValueIdx
public import Idealize.ShloMosaic.PureOps.Ideal.Laws
public import Idealize.ShloMosaic.Lib.Tactic

/-! What the accumulated product of `Kernel6` (the input projection's weight gradient, one slab per device) leaves at each grid point: the accumulator after the four
    points of one result block, and the block written back, element by element over the extended reals. -/

@[expose] public section

set_option maxRecDepth 16384

noncomputable section

namespace Cert.Kernel6Ideal.Prod

open Cert.Kernel6Ideal Cert.Kernel6Ideal.Gen Idealize.ShloMosaic Idealize.ShloMosaic.TcCoe Idealize.SL.Sem

local notation "𝕍" => Memref sig Kind.tc Space.vmem

section AnyFloat

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first point of a block zeroes the accumulator and adds its product. -/
theorem sout_A (c : Dev nD) (i : grid0.Coords) (a3 : 𝕍 S2048x1024 .bf16) (h3 : a3.IsWhole)
    (a4 : 𝕍 S2048x1792 .bf16) (h4 : a4.IsWhole) (a5 : 𝕍 S1x1024x1792 .f32) (h5 : a5.IsWhole)
    (a6 : 𝕍 S1024x1792 .f32) (h6 : a6.IsWhole) (hc0 : cond0_0 i) (hc1 : ¬cond0_1 i)
    (x0 : Vec F S2048x1024 .bf16) (x1 : Vec F S2048x1792 .bf16) : sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1792) hz2, View.readCov_unit_zero (S := S1024x1792) _ hz2]
  simp only [View.readAt_eq_ld, h3.read_unread, h4.read_unread, View.ld_unit_zero (S := S2048x1024) hz2, View.ld_unit_zero (S := S2048x1792) hz2, View.ld_unit_zero (S := S1024x1792) hz2]

/-- A middle point adds its product to what the point before left. -/
theorem sout_B (c : Dev nD) (i : grid0.Coords) (a3 : 𝕍 S2048x1024 .bf16) (h3 : a3.IsWhole)
    (a4 : 𝕍 S2048x1792 .bf16) (h4 : a4.IsWhole) (a5 : 𝕍 S1x1024x1792 .f32) (h5 : a5.IsWhole)
    (a6 : 𝕍 S1024x1792 .f32) (h6 : a6.IsWhole) (hc0 : ¬cond0_0 i) (hc1 : ¬cond0_1 i)
    (x0 : Vec F S2048x1024 .bf16) (x1 : Vec F S2048x1792 .bf16) (xs : Vec F S1024x1792 .f32) : sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero (S := S1024x1792) hz2]
  simp only [View.readAt_eq_ld, h3.read_unread, h4.read_unread, h6.read_unread, View.ld_unit_zero (S := S2048x1024) hz2, View.ld_unit_zero (S := S2048x1792) hz2, View.ld_unit_zero (S := S1024x1792) hz2]

/-- The last point adds its product and writes the sum out. -/
theorem out_C (c : Dev nD) (i : grid0.Coords) (a3 : 𝕍 S2048x1024 .bf16) (h3 : a3.IsWhole)
    (a4 : 𝕍 S2048x1792 .bf16) (h4 : a4.IsWhole) (a5 : 𝕍 S1x1024x1792 .f32) (h5 : a5.IsWhole)
    (a6 : 𝕍 S1024x1792 .f32) (h6 : a6.IsWhole) (hc0 : ¬cond0_0 i) (hc1 : cond0_1 i)
    (x0 : Vec F S2048x1024 .bf16) (x1 : Vec F S2048x1792 .bf16) (xs : Vec F S1024x1792 .f32) : out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero (S := S1x1024x1792) hz3, View.readCov_unit_zero (S := S1024x1792) _ hz2]
  simp only [View.readAt_eq_ld, h3.read_unread, h4.read_unread, h6.read_unread, View.ld_unit_zero (S := S2048x1024) hz2, View.ld_unit_zero (S := S2048x1792) hz2, View.ld_unit_zero (S := S1024x1792) hz2]

variable (m : (ℓ : Loc nD τ sig) → Buf (Elt F) ℓ)

/-- After the last of a block's four points, the output holds the four products added in order onto zero. -/
theorem outsAt_last (c : Dev nD) (n : ℕ) (h0 : 4 * n + 3 < cfg0.N) :
    (outsAt0 m c (4 * n + 3) h0).1 = k0_pay3 (k0_pay2 (k0_pay2 (k0_pay2 (k0_pay2 k0_pay1
      (iblk m c 0 ⟨4 * n, by omega⟩) (iblk m c 1 ⟨4 * n, by omega⟩))
      (iblk m c 0 ⟨4 * n + 1, by omega⟩) (iblk m c 1 ⟨4 * n + 1, by omega⟩))
      (iblk m c 0 ⟨4 * n + 2, by omega⟩) (iblk m c 1 ⟨4 * n + 2, by omega⟩))
      (iblk m c 0 ⟨4 * n + 3, h0⟩) (iblk m c 1 ⟨4 * n + 3, h0⟩)) := by
  have e0 : (outsAt0 m c (4 * n) (by omega)).2 = k0_pay2 k0_pay1 (iblk m c 0 ⟨4 * n, by omega⟩) (iblk m c 1 ⟨4 * n, by omega⟩) := by
    have e := congrArg Prod.snd (outsAt0_A m c ⟨4 * n, by omega⟩ (by dsimp only; omega) (by dsimp only; omega))
    rw [sout_A] at e
    exact e
  have e1 : (outsAt0 m c (4 * n + 1) (by omega)).2 = k0_pay2 (outsAt0 m c (4 * n) (by omega)).2 (iblk m c 0 ⟨4 * n + 1, by omega⟩) (iblk m c 1 ⟨4 * n + 1, by omega⟩) := by
    have e := congrArg Prod.snd (outsAt0_B m c ⟨4 * n + 1, by omega⟩ (by dsimp only; omega) (by dsimp only; omega))
    rw [sout_B] at e
    exact e
  have e2 : (outsAt0 m c (4 * n + 2) (by omega)).2 = k0_pay2 (outsAt0 m c (4 * n + 1) (by omega)).2 (iblk m c 0 ⟨4 * n + 2, by omega⟩) (iblk m c 1 ⟨4 * n + 2, by omega⟩) := by
    have e := congrArg Prod.snd (outsAt0_B m c ⟨4 * n + 2, by omega⟩ (by dsimp only; omega) (by dsimp only; omega))
    rw [sout_B] at e
    exact e
  have e := congrArg Prod.fst (outsAt0_C m c ⟨4 * n + 3, h0⟩ (by dsimp only; omega) (by dsimp only; omega))
  rw [out_C] at e
  rw [← e0, ← e1, ← e2]
  exact e

end AnyFloat

/-! ## The products over the extended reals -/

/-- The left operand's element the product reads at output `i` and contraction index `k`. -/
abbrev lidx (i : S1024x1792.Idx) (k : Fin 2048) : S2048x1024.Idx := fun a => match a with
  | ⟨0, _⟩ => ⟨k.val, k.isLt⟩
  | ⟨1, _⟩ => ⟨(i 0).val, (i 0).isLt⟩
/-- The right operand's. -/
abbrev ridx (i : S1024x1792.Idx) (k : Fin 2048) : S2048x1792.Idx := fun a => match a with
  | ⟨0, _⟩ => ⟨k.val, k.isLt⟩
  | ⟨1, _⟩ => ⟨(i 1).val, (i 1).isLt⟩
/-- The left block's element. -/
abbrev lblk (i : S1024x1792.Idx) (k : Fin 2048) : S2048x1024.Idx := fun a => match a with
  | ⟨0, _⟩ => ⟨k.val, k.isLt⟩
  | ⟨1, _⟩ => ⟨(i 0).val, (i 0).isLt⟩
/-- The right block's element. -/
abbrev rblk (i : S1024x1792.Idx) (k : Fin 2048) : S2048x1792.Idx := fun a => match a with
  | ⟨0, _⟩ => ⟨k.val, k.isLt⟩
  | ⟨1, _⟩ => ⟨(i 1).val, (i 1).isLt⟩

/-- The matrix unit's product is the accumulator plus the sum of products. -/
theorem mm_apply (x : FVec Ideal S2048x1024 .bf16) (y : FVec Ideal S2048x1792 .bf16) (acc : FVec Ideal S1024x1792 .f32) (i : S1024x1792.Idx) :
    matmul dot_S2048x1024_S2048x1792_S1024x1792_0_0_1_1_n_n none x y acc i = acc i + ∑ k : Fin 2048, x (lidx i k) * y (ridx i k) :=
  Cert.Sums.mm_apply _ 2048 rfl rfl x y acc i (lidx i) (ridx i) (fun _ _ h a => match a with | ⟨0, _⟩ => h | ⟨1, _⟩ => rfl)
    fun _ _ h a => match a with | ⟨0, _⟩ => h | ⟨1, _⟩ => rfl

/-- One point's step: the accumulator plus the sum over the contracted axis of the two blocks. -/
theorem pay2_apply (acc : Vec Ideal S1024x1792 .f32) (x : Vec Ideal S2048x1024 .bf16) (y : Vec Ideal S2048x1792 .bf16) (i : S1024x1792.Idx) :
    k0_pay2 acc x y i = acc i + ∑ k : Fin 2048, x (lblk i k) * y (rblk i k) := by
  unfold k0_pay2
  rw [shapeCast_self]
  show acc i + matmul (F := Ideal) dot_S2048x1024_S2048x1792_S1024x1792_0_0_1_1_n_n none _ _ _ i = _
  rw [mm_apply]
  have z : (constant (F := Ideal) S1024x1792 .f32 0x00000000#32 i : EReal) = 0 := Ideal.ofBits_zero_f32
  rw [z, zero_add]

/-- The accumulator starts at zero. -/
theorem pay1_apply (i : S1024x1792.Idx) : (k0_pay1 (F := Ideal) i : EReal) = 0 := by
  unfold k0_pay1
  rw [shapeCast_self]
  exact Ideal.ofBits_zero_f32

end Cert.Kernel6Ideal.Prod

end
-- ==== Proof.Arr6.lean ====
module

public import proofs.«01_k».proof.Proof.Mm6
public import proofs.«01_k».proof.Proof.Gen.Reference6Ideal.Run
public import proofs.«01_k».proof.Proof.Gen.Reference6Ideal.Read

/-! The result array of `Kernel6` (the input projection's weight gradient, one slab per device) is one product over the whole contracted axis, and so is the reference's. -/

@[expose] public section

set_option maxRecDepth 16384

noncomputable section

namespace Cert.Kernel6Ideal.Prod

open Cert.Kernel6Ideal Cert.Kernel6Ideal.Gen Cert.Kernel6Ideal.Value Idealize.ShloMosaic Idealize.ShloMosaic.TcCoe Idealize.SL.Sem

/-- What the arrays of every device hold. -/
abbrev Mem : Type := (ℓ : Loc nD τ sig) → Buf (Elt Ideal) ℓ

/-- The first operand, the second operand and the written array, with extended reals as elements; and a window's block. -/
def X0 (m : Mem) (c : Dev nD) : S8192x1024.Idx → EReal := m (c.tc.loc main_arg0)
@[inherit_doc X0] def X1 (m : Mem) (c : Dev nD) : S8192x7168.Idx → EReal := m (c.tc.loc main_arg1)
@[inherit_doc X0] def G2E (m : Mem) (c : Dev nD) : S4x1024x1792.Idx → EReal := G2 m c
@[inherit_doc X0] def B0 (m : Mem) (c : Dev nD) (t : Fin cfg0.N) : S2048x1024.Idx → EReal := iblk m c 0 t
@[inherit_doc X0] def B1 (m : Mem) (c : Dev nD) (t : Fin cfg0.N) : S2048x1792.Idx → EReal := iblk m c 1 t

/-- The printed index map of window 0, over the grid. -/
theorem idx0 : ∀ t : Fin grid0.N, win0_0.index t 0 = t.val % 4 ∧ win0_0.index t 1 = 0 := by decide +kernel

@[inherit_doc idx0] theorem idx1 : ∀ t : Fin grid0.N, win0_1.index t 0 = t.val % 4 ∧ win0_1.index t 1 = t.val / 4 := by decide +kernel

/-- Window 0's block at a point, read at an element, is the array at the block's offset plus the element. -/
theorem blk0_apply (m : Mem) (c : Dev nD) (t : Fin cfg0.N) (j : S2048x1024.Idx) (a : S8192x1024.Idx)
    (e0 : (a 0).val = (t.val % 4) * 2048 + (j 0).val) (e1 : (a 1).val = (0) * 1024 + (j 1).val) :
    B0 m c t j = X0 m c a := by
  unfold B0 iblk
  rw [View.read_apply]
  refine congrArg (X0 m c) (funext fun x => Fin.ext ?_)
  have h := idx0 t
  match x with
  | ⟨0, _⟩ => show win0_0.index t 0 * 2048 + 1 * (j 0).val = (a 0).val; rw [h.1, e0]; omega
  | ⟨1, _⟩ => show win0_0.index t 1 * 1024 + 1 * (j 1).val = (a 1).val; rw [h.2, e1]; omega

@[inherit_doc blk0_apply] theorem blk1_apply (m : Mem) (c : Dev nD) (t : Fin cfg0.N) (j : S2048x1792.Idx) (a : S8192x7168.Idx)
    (e0 : (a 0).val = (t.val % 4) * 2048 + (j 0).val) (e1 : (a 1).val = (t.val / 4) * 1792 + (j 1).val) :
    B1 m c t j = X1 m c a := by
  unfold B1 iblk
  rw [View.read_apply]
  refine congrArg (X1 m c) (funext fun x => Fin.ext ?_)
  have h := idx1 t
  match x with
  | ⟨0, _⟩ => show win0_1.index t 0 * 2048 + 1 * (j 0).val = (a 0).val; rw [h.1, e0]; omega
  | ⟨1, _⟩ => show win0_1.index t 1 * 1792 + 1 * (j 1).val = (a 1).val; rw [h.2, e1]; omega

/-- The first factor's index at result element `i` and contraction index `k`. -/
abbrev lArr (i : S4x1024x1792.Idx) (k : Fin 8192) : S8192x1024.Idx := fun a => match a with
  | ⟨0, _⟩ => ⟨k.val, k.isLt⟩
  | ⟨1, _⟩ => ⟨(i 1).val, (i 1).isLt⟩
/-- The second factor's index. -/
abbrev rArr (i : S4x1024x1792.Idx) (k : Fin 8192) : S8192x7168.Idx := fun a => match a with
  | ⟨0, _⟩ => ⟨k.val, k.isLt⟩
  | ⟨1, _⟩ => ⟨1792 * (i 0).val + (i 2).val, by have h0 : (i 0).val < 4 := (i 0).isLt; have h : (i 2).val < 1792 := (i 2).isLt; show _ < 7168; omega⟩
/-- A result element's place in its block's accumulator. -/
abbrev locA (i : S4x1024x1792.Idx) : S1024x1792.Idx := fun a => match a with
  | ⟨0, _⟩ => ⟨(i 1).val % 1024, Nat.mod_lt _ (by decide)⟩
  | ⟨1, _⟩ => ⟨(i 2).val % 1792, Nat.mod_lt _ (by decide)⟩

variable (m : Mem)

/-- Every result element is the sum of products over the whole contracted axis. -/
theorem G2_apply (c : Dev nD) (i : S4x1024x1792.Idx) :
    G2E m c i = ∑ k : Fin 8192, X0 m c (lArr i k) * X1 m c (rArr i k) := by
  have h0 : (i 0).val < 4 := (i 0).isLt
  have h1 : (i 1).val < 1024 := (i 1).isLt
  have h2 : (i 2).val < 1792 := (i 2).isLt
  have hN : cfg0.N = 16 := N_0
  have hr : 4 * ((i 0).val) + 3 < cfg0.N := by rw [hN]; omega
  have hp : pt2Of i = 4 * ((i 0).val) + 3 := by
    show 4 * run2Of i + 3 = _
    unfold run2Of
    omega
  unfold G2E G2
  rw [dif_pos (by rw [hp]; exact hr), fold0_congr m c _ _ _ (by omega) hp, ← outsAt0_sweep m c _ hr, outsAt_last]
  unfold k0_pay3
  rw [Cert.Sums.add_one _ _ (loc2Of i) (locA i) rfl rfl]
  refine Eq.trans (b := (((∑ k : Fin 2048, B0 m c ⟨4 * ((i 0).val) + 0, by omega⟩ (lblk (locA i) k) * B1 m c ⟨4 * ((i 0).val) + 0, by omega⟩ (rblk (locA i) k))
      + ∑ k : Fin 2048, B0 m c ⟨4 * ((i 0).val) + 1, by omega⟩ (lblk (locA i) k) * B1 m c ⟨4 * ((i 0).val) + 1, by omega⟩ (rblk (locA i) k))
      + ∑ k : Fin 2048, B0 m c ⟨4 * ((i 0).val) + 2, by omega⟩ (lblk (locA i) k) * B1 m c ⟨4 * ((i 0).val) + 2, by omega⟩ (rblk (locA i) k))
      + ∑ k : Fin 2048, B0 m c ⟨4 * ((i 0).val) + 3, by omega⟩ (lblk (locA i) k) * B1 m c ⟨4 * ((i 0).val) + 3, by omega⟩ (rblk (locA i) k)) ?_ ?_
  · refine (pay2_apply _ _ _ (locA i)).trans ?_
    rw [pay2_apply, pay2_apply, pay2_apply, pay1_apply, zero_add]
    rfl
  · refine (Cert.Sums.sum_four (N := 8192) (n := 2048) rfl _ (fun (q : Fin 4) (k : Fin 2048) => B0 m c ⟨4 * ((i 0).val) + q.val, by have := q.isLt; omega⟩ (lblk (locA i) k) * B1 m c ⟨4 * ((i 0).val) + q.val, by have := q.isLt; omega⟩ (rblk (locA i) k)) ?_).symm
    intro q k hb
    have hq := q.isLt
    have hk := k.isLt
    rw [blk0_apply m c _ _ (lArr i ⟨2048 * q.val + k.val, hb⟩) (by dsimp only [lArr, lblk, locA]; omega) (by dsimp only [lArr, lblk, locA]; omega),
      blk1_apply m c _ _ (rArr i ⟨2048 * q.val + k.val, hb⟩) (by dsimp only [rArr, rblk, locA]; omega) (by dsimp only [rArr, rblk, locA]; omega)]

end Cert.Kernel6Ideal.Prod

end
-- ==== Proof.Eq6.lean ====
module

public import proofs.«01_k».proof.Defs
public import proofs.«01_k».proof.Proof.Arr6
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read

/-! `Kernel6` and its reference compute the same array over the extended reals. -/

@[expose] public section

set_option maxRecDepth 16384

noncomputable section

namespace Cert.Kernel6Ideal.Prod

open Cert.Kernel6Ideal Cert.Kernel6Ideal.Gen Cert.Kernel6Ideal.Value Idealize.ShloMosaic Idealize.ShloMosaic.TcCoe Idealize.SL.Sem

/-- The reference's result at an element is the same sum of products. -/
theorem ref_apply (x : S8192x1024.Idx → EReal) (y : S8192x7168.Idx → EReal) (i : S4x1024x1792.Idx) :
    (Cert.Reference6Ideal.Read.val_main_v7 (F := Ideal) x y i : EReal) = ∑ k : Fin 8192, x (lArr i k) * y (rArr i k) := by
  have h0 : (i 0).val < 4 := (i 0).isLt
  have h1 : (i 1).val < 1024 := (i 1).isLt
  have h2 : (i 2).val < 1792 := (i 2).isLt
  rw [Cert.Reference6Ideal.Read.val_main_v7_apply, Cert.Reference6Ideal.Read.val_main_v6_apply, Cert.Reference6Ideal.Read.val_main_v5_apply, Cert.Reference6Ideal.Read.val_main_v4_apply]
  refine Finset.sum_congr rfl fun k _ => ?_
  have hk := k.isLt
  rw [mul_comm]
  show x _ * y _ = _
  refine congrArg₂ (· * ·) (congrArg x (funext fun a => Fin.ext ?_)) (congrArg y (funext fun a => Fin.ext ?_))
  · match a with
    | ⟨0, _⟩ => rfl
    | ⟨1, _⟩ => show (((i 1).val * 4 + (i 0).val) * 1792 + (i 2).val) / 7168 = (i 1).val; omega
  · match a with
    | ⟨0, _⟩ => rfl
    | ⟨1, _⟩ => show (((i 1).val * 4 + (i 0).val) * 1792 + (i 2).val) % 7168 = 1792 * (i 0).val + (i 2).val; omega

/-- The value claim: the kernel's array is the reference's, on every device. -/
theorem algebraic : Cert.algebraic_Kernel6Ideal_Reference6Ideal := by
  intro m ρ m' ρ' _ hag
  refine ⟨fun c => G2 m c, Value.run m ρ, ?_⟩
  refine (θ_run Cert.Reference6Ideal.defs _ _).mono (fun r h c => ⟨?_, (h c).2⟩) (Cert.Reference6Ideal.Value.run (F := Ideal) m' ρ')
  rw [(h c).1, (hag c).1, (hag c).2]
  refine (Cert.Reference6Ideal.Read.val_main_v7_eq (F := Ideal) _ _).trans ?_
  funext i
  exact (ref_apply (X0 m c) (X1 m c) i).trans (G2_apply m c i).symm

/-- The reference runs and leaves its arguments as they were. -/
theorem ref_frame : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

end Cert.Kernel6Ideal.Prod

end
-- ==== Proof.Mm7.lean ====
module

public import proofs.«01_k».proof.Proof.Gen.Kernel7Ideal.Value
public import proofs.«01_k».proof.Proof.Sums
public import Idealize.ShloMosaic.Lib.ValueIdx
public import Idealize.ShloMosaic.PureOps.Ideal.Laws
public import Idealize.ShloMosaic.Lib.Tactic

/-! What the accumulated product of `Kernel7` (the input projection's input gradient) leaves at each grid point: the accumulator after the four
    points of one result block, and the block written back, element by element over the extended reals. -/

@[expose] public section

set_option maxRecDepth 16384

noncomputable section

namespace Cert.Kernel7Ideal.Prod

open Cert.Kernel7Ideal Cert.Kernel7Ideal.Gen Idealize.ShloMosaic Idealize.ShloMosaic.TcCoe Idealize.SL.Sem

local notation "𝕍" => Memref sig Kind.tc Space.vmem

section AnyFloat

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first point of a block zeroes the accumulator and adds its product. -/
theorem sout_A (c : Dev nD) (i : grid0.Coords) (a3 : 𝕍 S1024x1792 .bf16) (h3 : a3.IsWhole)
    (a4 : 𝕍 S1x1024x1792 .bf16) (h4 : a4.IsWhole) (a5 : 𝕍 S1024x1024 .f32) (h5 : a5.IsWhole)
    (a6 : 𝕍 S1024x1024 .f32) (h6 : a6.IsWhole) (hc0 : cond0_0 i) (hc1 : ¬cond0_1 i)
    (x0 : Vec F S1024x1792 .bf16) (x1 : Vec F S1x1024x1792 .bf16) : sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz2, View.readCov_unit_zero (S := S1024x1024) _ hz2]
  simp only [View.readAt_eq_ld, h3.read_unread, h4.read_unread, View.ld_unit_zero (S := S1024x1792) hz2, View.ld_unit_zero (S := S1x1024x1792) hz3, View.ld_unit_zero (S := S1024x1024) hz2]

/-- A middle point adds its product to what the point before left. -/
theorem sout_B (c : Dev nD) (i : grid0.Coords) (a3 : 𝕍 S1024x1792 .bf16) (h3 : a3.IsWhole)
    (a4 : 𝕍 S1x1024x1792 .bf16) (h4 : a4.IsWhole) (a5 : 𝕍 S1024x1024 .f32) (h5 : a5.IsWhole)
    (a6 : 𝕍 S1024x1024 .f32) (h6 : a6.IsWhole) (hc0 : ¬cond0_0 i) (hc1 : ¬cond0_1 i)
    (x0 : Vec F S1024x1792 .bf16) (x1 : Vec F S1x1024x1792 .bf16) (xs : Vec F S1024x1024 .f32) : sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero (S := S1024x1024) hz2]
  simp only [View.readAt_eq_ld, h3.read_unread, h4.read_unread, h6.read_unread, View.ld_unit_zero (S := S1024x1792) hz2, View.ld_unit_zero (S := S1x1024x1792) hz3, View.ld_unit_zero (S := S1024x1024) hz2]

/-- The last point adds its product and writes the sum out. -/
theorem out_C (c : Dev nD) (i : grid0.Coords) (a3 : 𝕍 S1024x1792 .bf16) (h3 : a3.IsWhole)
    (a4 : 𝕍 S1x1024x1792 .bf16) (h4 : a4.IsWhole) (a5 : 𝕍 S1024x1024 .f32) (h5 : a5.IsWhole)
    (a6 : 𝕍 S1024x1024 .f32) (h6 : a6.IsWhole) (hc0 : ¬cond0_0 i) (hc1 : cond0_1 i)
    (x0 : Vec F S1024x1792 .bf16) (x1 : Vec F S1x1024x1792 .bf16) (xs : Vec F S1024x1024 .f32) : out0_C_2 c i a3 h3 a4 h4 a5 h5 a6 h6 hc0 hc1 x0 x1 xs = k0_pay2 xs x0 x1 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero (S := S1024x1024) hz2, View.readCov_unit_zero (S := S1024x1024) _ hz2]
  simp only [View.readAt_eq_ld, h3.read_unread, h4.read_unread, h6.read_unread, View.ld_unit_zero (S := S1024x1792) hz2, View.ld_unit_zero (S := S1x1024x1792) hz3, View.ld_unit_zero (S := S1024x1024) hz2]

variable (m : (ℓ : Loc nD τ sig) → Buf (Elt F) ℓ)

/-- After the last of a block's four points, the output holds the four products added in order onto zero. -/
theorem outsAt_last (c : Dev nD) (n : ℕ) (h0 : 4 * n + 3 < cfg0.N) :
    (outsAt0 m c (4 * n + 3) h0).1 = k0_pay2 (k0_pay2 (k0_pay2 (k0_pay2 k0_pay1
      (iblk m c 0 ⟨4 * n, by omega⟩) (iblk m c 1 ⟨4 * n, by omega⟩))
      (iblk m c 0 ⟨4 * n + 1, by omega⟩) (iblk m c 1 ⟨4 * n + 1, by omega⟩))
      (iblk m c 0 ⟨4 * n + 2, by omega⟩) (iblk m c 1 ⟨4 * n + 2, by omega⟩))
      (iblk m c 0 ⟨4 * n + 3, h0⟩) (iblk m c 1 ⟨4 * n + 3, h0⟩) := by
  have e0 : (outsAt0 m c (4 * n) (by omega)).2 = k0_pay2 k0_pay1 (iblk m c 0 ⟨4 * n, by omega⟩) (iblk m c 1 ⟨4 * n, by omega⟩) := by
    have e := congrArg Prod.snd (outsAt0_A m c ⟨4 * n, by omega⟩ (by dsimp only; omega) (by dsimp only; omega))
    rw [sout_A] at e
    exact e
  have e1 : (outsAt0 m c (4 * n + 1) (by omega)).2 = k0_pay2 (outsAt0 m c (4 * n) (by omega)).2 (iblk m c 0 ⟨4 * n + 1, by omega⟩) (iblk m c 1 ⟨4 * n + 1, by omega⟩) := by
    have e := congrArg Prod.snd (outsAt0_B m c ⟨4 * n + 1, by omega⟩ (by dsimp only; omega) (by dsimp only; omega))
    rw [sout_B] at e
    exact e
  have e2 : (outsAt0 m c (4 * n + 2) (by omega)).2 = k0_pay2 (outsAt0 m c (4 * n + 1) (by omega)).2 (iblk m c 0 ⟨4 * n + 2, by omega⟩) (iblk m c 1 ⟨4 * n + 2, by omega⟩) := by
    have e := congrArg Prod.snd (outsAt0_B m c ⟨4 * n + 2, by omega⟩ (by dsimp only; omega) (by dsimp only; omega))
    rw [sout_B] at e
    exact e
  have e := congrArg Prod.fst (outsAt0_C m c ⟨4 * n + 3, h0⟩ (by dsimp only; omega) (by dsimp only; omega))
  rw [out_C] at e
  rw [← e0, ← e1, ← e2]
  exact e

end AnyFloat

/-! ## The products over the extended reals -/

/-- The left operand's element the product reads at output `i` and contraction index `k`. -/
abbrev lidx (i : S1024x1024.Idx) (k : Fin 1792) : S1024x1792.Idx := fun a => match a with
  | ⟨0, _⟩ => ⟨(i 0).val, (i 0).isLt⟩
  | ⟨1, _⟩ => ⟨k.val, k.isLt⟩
/-- The right operand's. -/
abbrev ridx (i : S1024x1024.Idx) (k : Fin 1792) : S1024x1792.Idx := fun a => match a with
  | ⟨0, _⟩ => ⟨(i 1).val, (i 1).isLt⟩
  | ⟨1, _⟩ => ⟨k.val, k.isLt⟩
/-- The left block's element. -/
abbrev lblk (i : S1024x1024.Idx) (k : Fin 1792) : S1024x1792.Idx := fun a => match a with
  | ⟨0, _⟩ => ⟨(i 0).val, (i 0).isLt⟩
  | ⟨1, _⟩ => ⟨k.val, k.isLt⟩
/-- The right block's element. -/
abbrev rblk (i : S1024x1024.Idx) (k : Fin 1792) : S1x1024x1792.Idx := fun a => match a with
  | ⟨0, _⟩ => ⟨0, Nat.one_pos⟩
  | ⟨1, _⟩ => ⟨(i 1).val, (i 1).isLt⟩
  | ⟨2, _⟩ => ⟨k.val, k.isLt⟩

/-- The matrix unit's product is the accumulator plus the sum of products. -/
theorem mm_apply (x : FVec Ideal S1024x1792 .bf16) (y : FVec Ideal S1024x1792 .bf16) (acc : FVec Ideal S1024x1024 .f32) (i : S1024x1024.Idx) :
    matmul dot_S1024x1792_S1024x1792_S1024x1024_1_1_0_0_n_n none x y acc i = acc i + ∑ k : Fin 1792, x (lidx i k) * y (ridx i k) :=
  Cert.Sums.mm_apply _ 1792 rfl rfl x y acc i (lidx i) (ridx i) (fun _ _ h a => match a with | ⟨0, _⟩ => rfl | ⟨1, _⟩ => h)
    fun _ _ h a => match a with | ⟨0, _⟩ => rfl | ⟨1, _⟩ => h

/-- One point's step: the accumulator plus the sum over the contracted axis of the two blocks. -/
theorem pay2_apply (acc : Vec Ideal S1024x1024 .f32) (x : Vec Ideal S1024x1792 .bf16) (y : Vec Ideal S1x1024x1792 .bf16) (i : S1024x1024.Idx) :
    k0_pay2 acc x y i = acc i + ∑ k : Fin 1792, x (lblk i k) * y (rblk i k) := by
  unfold k0_pay2
  rw [shapeCast_self]
  show acc i + matmul (F := Ideal) dot_S1024x1792_S1024x1792_S1024x1024_1_1_0_0_n_n none _ _ _ i = _
  rw [mm_apply]
  have z : (constant (F := Ideal) S1024x1024 .f32 0x00000000#32 i : EReal) = 0 := Ideal.ofBits_zero_f32
  rw [z, zero_add]
  refine congrArg (acc i + ·) (Finset.sum_congr rfl fun k _ => ?_)
  rw [Cert.Sums.drop_one _ _ (ridx i k) (rblk i k) rfl rfl]

/-- The accumulator starts at zero. -/
theorem pay1_apply (i : S1024x1024.Idx) : (k0_pay1 (F := Ideal) i : EReal) = 0 := by
  unfold k0_pay1
  rw [shapeCast_self]
  exact Ideal.ofBits_zero_f32

end Cert.Kernel7Ideal.Prod

end
-- ==== Proof.Arr7.lean ====
module

public import proofs.«01_k».proof.Proof.Mm7
public import proofs.«01_k».proof.Proof.Gen.Reference7Ideal.Run
public import proofs.«01_k».proof.Proof.Gen.Reference7Ideal.Read

/-! The result array of `Kernel7` (the input projection's input gradient) is one product over the whole contracted axis, and so is the reference's. -/

@[expose] public section

set_option maxRecDepth 16384

noncomputable section

namespace Cert.Kernel7Ideal.Prod

open Cert.Kernel7Ideal Cert.Kernel7Ideal.Gen Cert.Kernel7Ideal.Value Idealize.ShloMosaic Idealize.ShloMosaic.TcCoe Idealize.SL.Sem

/-- What the arrays of every device hold. -/
abbrev Mem : Type := (ℓ : Loc nD τ sig) → Buf (Elt Ideal) ℓ

/-- The first operand, the second operand and the written array, with extended reals as elements; and a window's block. -/
def X0 (m : Mem) (c : Dev nD) : S8192x7168.Idx → EReal := m (c.tc.loc main_arg0)
@[inherit_doc X0] def X1 (m : Mem) (c : Dev nD) : S4x1024x1792.Idx → EReal := m (c.tc.loc main_arg1)
@[inherit_doc X0] def G2E (m : Mem) (c : Dev nD) : S8192x1024.Idx → EReal := G2 m c
@[inherit_doc X0] def B0 (m : Mem) (c : Dev nD) (t : Fin cfg0.N) : S1024x1792.Idx → EReal := iblk m c 0 t
@[inherit_doc X0] def B1 (m : Mem) (c : Dev nD) (t : Fin cfg0.N) : S1x1024x1792.Idx → EReal := iblk m c 1 t

/-- The printed index map of window 0, over the grid. -/
theorem idx0 : ∀ t : Fin grid0.N, win0_0.index t 0 = t.val / 4 ∧ win0_0.index t 1 = t.val % 4 := by decide +kernel

@[inherit_doc idx0] theorem idx1 : ∀ t : Fin grid0.N, win0_1.index t 0 = t.val % 4 ∧ win0_1.index t 1 = 0 ∧ win0_1.index t 2 = 0 := by decide +kernel

/-- Window 0's block at a point, read at an element, is the array at the block's offset plus the element. -/
theorem blk0_apply (m : Mem) (c : Dev nD) (t : Fin cfg0.N) (j : S1024x1792.Idx) (a : S8192x7168.Idx)
    (e0 : (a 0).val = (t.val / 4) * 1024 + (j 0).val) (e1 : (a 1).val = (t.val % 4) * 1792 + (j 1).val) :
    B0 m c t j = X0 m c a := by
  unfold B0 iblk
  rw [View.read_apply]
  refine congrArg (X0 m c) (funext fun x => Fin.ext ?_)
  have h := idx0 t
  match x with
  | ⟨0, _⟩ => show win0_0.index t 0 * 1024 + 1 * (j 0).val = (a 0).val; rw [h.1, e0]; omega
  | ⟨1, _⟩ => show win0_0.index t 1 * 1792 + 1 * (j 1).val = (a 1).val; rw [h.2, e1]; omega

@[inherit_doc blk0_apply] theorem blk1_apply (m : Mem) (c : Dev nD) (t : Fin cfg0.N) (j : S1x1024x1792.Idx) (a : S4x1024x1792.Idx)
    (e0 : (a 0).val = (t.val % 4) * 1 + (j 0).val) (e1 : (a 1).val = (0) * 1024 + (j 1).val) (e2 : (a 2).val = (0) * 1792 + (j 2).val) :
    B1 m c t j = X1 m c a := by
  unfold B1 iblk
  rw [View.read_apply]
  refine congrArg (X1 m c) (funext fun x => Fin.ext ?_)
  have h := idx1 t
  match x with
  | ⟨0, _⟩ => show win0_1.index t 0 * 1 + 1 * (j 0).val = (a 0).val; rw [h.1, e0]; omega
  | ⟨1, _⟩ => show win0_1.index t 1 * 1024 + 1 * (j 1).val = (a 1).val; rw [h.2.1, e1]; omega
  | ⟨2, _⟩ => show win0_1.index t 2 * 1792 + 1 * (j 2).val = (a 2).val; rw [h.2.2, e2]; omega

/-- The first factor's index at result element `i` and contraction index `k`. -/
abbrev lArr (i : S8192x1024.Idx) (k : Fin 7168) : S8192x7168.Idx := fun a => match a with
  | ⟨0, _⟩ => ⟨(i 0).val, (i 0).isLt⟩
  | ⟨1, _⟩ => ⟨k.val, k.isLt⟩
/-- The second factor's index. -/
abbrev rArr (i : S8192x1024.Idx) (k : Fin 7168) : S4x1024x1792.Idx := fun a => match a with
  | ⟨0, _⟩ => ⟨k.val / 1792, by have := k.isLt; show _ < 4; omega⟩
  | ⟨1, _⟩ => ⟨(i 1).val, (i 1).isLt⟩
  | ⟨2, _⟩ => ⟨k.val % 1792, Nat.mod_lt _ (by decide)⟩
/-- A result element's place in its block's accumulator. -/
abbrev locA (i : S8192x1024.Idx) : S1024x1024.Idx := fun a => match a with
  | ⟨0, _⟩ => ⟨(i 0).val % 1024, Nat.mod_lt _ (by decide)⟩
  | ⟨1, _⟩ => ⟨(i 1).val % 1024, Nat.mod_lt _ (by decide)⟩

variable (m : Mem)

/-- Every result element is the sum of products over the whole contracted axis. -/
theorem G2_apply (c : Dev nD) (i : S8192x1024.Idx) :
    G2E m c i = ∑ k : Fin 7168, X0 m c (lArr i k) * X1 m c (rArr i k) := by
  have h0 : (i 0).val < 8192 := (i 0).isLt
  have h1 : (i 1).val < 1024 := (i 1).isLt
  have hN : cfg0.N = 32 := N_0
  have hr : 4 * ((i 0).val / 1024) + 3 < cfg0.N := by rw [hN]; omega
  have hp : pt2Of i = 4 * ((i 0).val / 1024) + 3 := by
    show 4 * run2Of i + 3 = _
    unfold run2Of
    omega
  unfold G2E G2
  rw [dif_pos (by rw [hp]; exact hr), fold0_congr m c _ _ _ (by omega) hp, ← outsAt0_sweep m c _ hr, outsAt_last]
  refine Eq.trans (b := (((∑ k : Fin 1792, B0 m c ⟨4 * ((i 0).val / 1024) + 0, by omega⟩ (lblk (locA i) k) * B1 m c ⟨4 * ((i 0).val / 1024) + 0, by omega⟩ (rblk (locA i) k))
      + ∑ k : Fin 1792, B0 m c ⟨4 * ((i 0).val / 1024) + 1, by omega⟩ (lblk (locA i) k) * B1 m c ⟨4 * ((i 0).val / 1024) + 1, by omega⟩ (rblk (locA i) k))
      + ∑ k : Fin 1792, B0 m c ⟨4 * ((i 0).val / 1024) + 2, by omega⟩ (lblk (locA i) k) * B1 m c ⟨4 * ((i 0).val / 1024) + 2, by omega⟩ (rblk (locA i) k))
      + ∑ k : Fin 1792, B0 m c ⟨4 * ((i 0).val / 1024) + 3, by omega⟩ (lblk (locA i) k) * B1 m c ⟨4 * ((i 0).val / 1024) + 3, by omega⟩ (rblk (locA i) k)) ?_ ?_
  · refine (pay2_apply _ _ _ (locA i)).trans ?_
    rw [pay2_apply, pay2_apply, pay2_apply, pay1_apply, zero_add]
    rfl
  · refine (Cert.Sums.sum_four (N := 7168) (n := 1792) rfl _ (fun (q : Fin 4) (k : Fin 1792) => B0 m c ⟨4 * ((i 0).val / 1024) + q.val, by have := q.isLt; omega⟩ (lblk (locA i) k) * B1 m c ⟨4 * ((i 0).val / 1024) + q.val, by have := q.isLt; omega⟩ (rblk (locA i) k)) ?_).symm
    intro q k hb
    have hq := q.isLt
    have hk := k.isLt
    rw [blk0_apply m c _ _ (lArr i ⟨1792 * q.val + k.val, hb⟩) (by dsimp only [lArr, lblk, locA]; omega) (by dsimp only [lArr, lblk, locA]; omega),
      blk1_apply m c _ _ (rArr i ⟨1792 * q.val + k.val, hb⟩) (by dsimp only [rArr, rblk, locA]; omega) (by dsimp only [rArr, rblk, locA]; omega) (by dsimp only [rArr, rblk, locA]; omega)]

end Cert.Kernel7Ideal.Prod

end
-- ==== Proof.Eq7.lean ====
module

public import proofs.«01_k».proof.Defs
public import proofs.«01_k».proof.Proof.Arr7
public import proofs.«01_k».proof.Proof.Gen.Kernel7Ideal
public import proofs.«01_k».proof.Proof.Gen.Reference7Ideal
public import proofs.«01_k».proof.Proof.Gen.Reference7Ideal.Run
public import proofs.«01_k».proof.Proof.Gen.Reference7Ideal.Read

/-! `Kernel7` and its reference compute the same array over the extended reals. -/

@[expose] public section

set_option maxRecDepth 16384

noncomputable section

namespace Cert.Kernel7Ideal.Prod

open Cert.Kernel7Ideal Cert.Kernel7Ideal.Gen Cert.Kernel7Ideal.Value Idealize.ShloMosaic Idealize.ShloMosaic.TcCoe Idealize.SL.Sem

/-- The reference's result at an element is the same sum of products. -/
theorem ref_apply (x : S8192x7168.Idx → EReal) (y : S4x1024x1792.Idx → EReal) (i : S8192x1024.Idx) :
    (Cert.Reference7Ideal.Read.val_main_v6 (F := Ideal) x y i : EReal) = ∑ k : Fin 7168, x (lArr i k) * y (rArr i k) := by
  have h0 : (i 0).val < 8192 := (i 0).isLt
  have h1 : (i 1).val < 1024 := (i 1).isLt
  rw [Cert.Reference7Ideal.Read.val_main_v6_apply]
  refine Finset.sum_congr rfl fun k _ => ?_
  have hk := k.isLt
  rw [Cert.Reference7Ideal.Read.val_main_v2_apply, Cert.Reference7Ideal.Read.val_main_v1_apply]
  show x _ * y _ = _
  refine congrArg₂ (· * ·) (congrArg x (funext fun a => Fin.ext ?_)) (congrArg y (funext fun a => Fin.ext ?_))
  · match a with
    | ⟨0, _⟩ => rfl
    | ⟨1, _⟩ => rfl
  · match a with
    | ⟨0, _⟩ => show ((i 1).val* 7168 + k.val) / 1792 % 4 = k.val / 1792; omega
    | ⟨1, _⟩ => show ((i 1).val * 7168 + k.val) / 7168 = (i 1).val; omega
    | ⟨2, _⟩ => show ((i 1).val * 7168 + k.val) % 1792 = k.val % 1792; omega

/-- The value claim: the kernel's array is the reference's, on every device. -/
theorem algebraic : Cert.algebraic_Kernel7Ideal_Reference7Ideal := by
  intro m ρ m' ρ' _ hag
  refine ⟨fun c => G2 m c, Value.run m ρ, ?_⟩
  refine (θ_run Cert.Reference7Ideal.defs _ _).mono (fun r h c => ⟨?_, (h c).2⟩) (Cert.Reference7Ideal.Value.run (F := Ideal) m' ρ')
  rw [(h c).1, (hag c).1, (hag c).2]
  refine (Cert.Reference7Ideal.Read.val_main_v6_eq (F := Ideal) _ _).trans ?_
  funext i
  exact (ref_apply (X0 m c) (X1 m c) i).trans (G2_apply m c i).symm

/-- The reference runs and leaves its arguments as they were. -/
theorem ref_frame : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

end Cert.Kernel7Ideal.Prod

end
-- ==== Proof.Mm8.lean ====
module

public import proofs.«01_k».proof.Proof.Gen.Kernel8Ideal.Value
public import proofs.«01_k».proof.Proof.Sums
public import Idealize.ShloMosaic.Lib.ValueIdx
public import Idealize.ShloMosaic.PureOps.Ideal.Laws
public import Idealize.ShloMosaic.Lib.Tactic

/-! What the accumulated product of `Kernel8` (an output projection's weight gradient) leaves at each grid point: the accumulator after the four
    points of one result block, and the block written back, element by element over the extended reals. -/

@[expose] public section

set_option maxRecDepth 16384

noncomputable section

namespace Cert.Kernel8Ideal.Prod

open Cert.Kernel8Ideal Cert.Kernel8Ideal.Gen Idealize.ShloMosaic Idealize.ShloMosaic.TcCoe Idealize.SL.Sem

local notation "𝕍" => Memref sig Kind.tc Space.vmem

section AnyFloat

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first point of a block zeroes the accumulator and adds its product. -/
theorem sout_A (c : Dev nD) (i : grid0.Coords) (a3 : 𝕍 S2048x1024 .bf16) (h3 : a3.IsWhole)
    (a4 : 𝕍 S2048x1024 .bf16) (h4 : a4.IsWhole) (a5 : 𝕍 S1024x1024 .f32) (h5 : a5.IsWhole)
    (a6 : 𝕍 S1024x1024 .f32) (h6 : a6.IsWhole) (hc0 : cond0_0 i) (hc1 : ¬cond0_1 i)
    (x0 : Vec F S2048x1024 .bf16) (x1 : Vec F S2048x1024 .bf16) : sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz2, View.readCov_unit_zero (S := S1024x1024) _ hz2]
  simp only [View.readAt_eq_ld, h3.read_unread, h4.read_unread, View.ld_unit_zero (S := S2048x1024) hz2, View.ld_unit_zero (S := S2048x1024) hz2, View.ld_unit_zero (S := S1024x1024) hz2]

/-- A middle point adds its product to what the point before left. -/
theorem sout_B (c : Dev nD) (i : grid0.Coords) (a3 : 𝕍 S2048x1024 .bf16) (h3 : a3.IsWhole)
    (a4 : 𝕍 S2048x1024 .bf16) (h4 : a4.IsWhole) (a5 : 𝕍 S1024x1024 .f32) (h5 : a5.IsWhole)
    (a6 : 𝕍 S1024x1024 .f32) (h6 : a6.IsWhole) (hc0 : ¬cond0_0 i) (hc1 : ¬cond0_1 i)
    (x0 : Vec F S2048x1024 .bf16) (x1 : Vec F S2048x1024 .bf16) (xs : Vec F S1024x1024 .f32) : sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero (S := S1024x1024) hz2]
  simp only [View.readAt_eq_ld, h3.read_unread, h4.read_unread, h6.read_unread, View.ld_unit_zero (S := S2048x1024) hz2, View.ld_unit_zero (S := S2048x1024) hz2, View.ld_unit_zero (S := S1024x1024) hz2]

/-- The last point adds its product and writes the sum out. -/
theorem out_C (c : Dev nD) (i : grid0.Coords) (a3 : 𝕍 S2048x1024 .bf16) (h3 : a3.IsWhole)
    (a4 : 𝕍 S2048x1024 .bf16) (h4 : a4.IsWhole) (a5 : 𝕍 S1024x1024 .f32) (h5 : a5.IsWhole)
    (a6 : 𝕍 S1024x1024 .f32) (h6 : a6.IsWhole) (hc0 : ¬cond0_0 i) (hc1 : cond0_1 i)
    (x0 : Vec F S2048x1024 .bf16) (x1 : Vec F S2048x1024 .bf16) (xs : Vec F S1024x1024 .f32) : out0_C_2 c i a3 h3 a4 h4 a5 h5 a6 h6 hc0 hc1 x0 x1 xs = k0_pay2 xs x0 x1 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero (S := S1024x1024) hz2, View.readCov_unit_zero (S := S1024x1024) _ hz2]
  simp only [View.readAt_eq_ld, h3.read_unread, h4.read_unread, h6.read_unread, View.ld_unit_zero (S := S2048x1024) hz2, View.ld_unit_zero (S := S2048x1024) hz2, View.ld_unit_zero (S := S1024x1024) hz2]

variable (m : (ℓ : Loc nD τ sig) → Buf (Elt F) ℓ)

/-- After the last of a block's four points, the output holds the four products added in order onto zero. -/
theorem outsAt_last (c : Dev nD) (n : ℕ) (h0 : 4 * n + 3 < cfg0.N) :
    (outsAt0 m c (4 * n + 3) h0).1 = k0_pay2 (k0_pay2 (k0_pay2 (k0_pay2 k0_pay1
      (iblk m c 0 ⟨4 * n, by omega⟩) (iblk m c 1 ⟨4 * n, by omega⟩))
      (iblk m c 0 ⟨4 * n + 1, by omega⟩) (iblk m c 1 ⟨4 * n + 1, by omega⟩))
      (iblk m c 0 ⟨4 * n + 2, by omega⟩) (iblk m c 1 ⟨4 * n + 2, by omega⟩))
      (iblk m c 0 ⟨4 * n + 3, h0⟩) (iblk m c 1 ⟨4 * n + 3, h0⟩) := by
  have e0 : (outsAt0 m c (4 * n) (by omega)).2 = k0_pay2 k0_pay1 (iblk m c 0 ⟨4 * n, by omega⟩) (iblk m c 1 ⟨4 * n, by omega⟩) := by
    have e := congrArg Prod.snd (outsAt0_A m c ⟨4 * n, by omega⟩ (by dsimp only; omega) (by dsimp only; omega))
    rw [sout_A] at e
    exact e
  have e1 : (outsAt0 m c (4 * n + 1) (by omega)).2 = k0_pay2 (outsAt0 m c (4 * n) (by omega)).2 (iblk m c 0 ⟨4 * n + 1, by omega⟩) (iblk m c 1 ⟨4 * n + 1, by omega⟩) := by
    have e := congrArg Prod.snd (outsAt0_B m c ⟨4 * n + 1, by omega⟩ (by dsimp only; omega) (by dsimp only; omega))
    rw [sout_B] at e
    exact e
  have e2 : (outsAt0 m c (4 * n + 2) (by omega)).2 = k0_pay2 (outsAt0 m c (4 * n + 1) (by omega)).2 (iblk m c 0 ⟨4 * n + 2, by omega⟩) (iblk m c 1 ⟨4 * n + 2, by omega⟩) := by
    have e := congrArg Prod.snd (outsAt0_B m c ⟨4 * n + 2, by omega⟩ (by dsimp only; omega) (by dsimp only; omega))
    rw [sout_B] at e
    exact e
  have e := congrArg Prod.fst (outsAt0_C m c ⟨4 * n + 3, h0⟩ (by dsimp only; omega) (by dsimp only; omega))
  rw [out_C] at e
  rw [← e0, ← e1, ← e2]
  exact e

end AnyFloat

/-! ## The products over the extended reals -/

/-- The left operand's element the product reads at output `i` and contraction index `k`. -/
abbrev lidx (i : S1024x1024.Idx) (k : Fin 2048) : S2048x1024.Idx := fun a => match a with
  | ⟨0, _⟩ => ⟨k.val, k.isLt⟩
  | ⟨1, _⟩ => ⟨(i 0).val, (i 0).isLt⟩
/-- The right operand's. -/
abbrev ridx (i : S1024x1024.Idx) (k : Fin 2048) : S2048x1024.Idx := fun a => match a with
  | ⟨0, _⟩ => ⟨k.val, k.isLt⟩
  | ⟨1, _⟩ => ⟨(i 1).val, (i 1).isLt⟩
/-- The left block's element. -/
abbrev lblk (i : S1024x1024.Idx) (k : Fin 2048) : S2048x1024.Idx := fun a => match a with
  | ⟨0, _⟩ => ⟨k.val, k.isLt⟩
  | ⟨1, _⟩ => ⟨(i 0).val, (i 0).isLt⟩
/-- The right block's element. -/
abbrev rblk (i : S1024x1024.Idx) (k : Fin 2048) : S2048x1024.Idx := fun a => match a with
  | ⟨0, _⟩ => ⟨k.val, k.isLt⟩
  | ⟨1, _⟩ => ⟨(i 1).val, (i 1).isLt⟩

/-- The matrix unit's product is the accumulator plus the sum of products. -/
theorem mm_apply (x : FVec Ideal S2048x1024 .bf16) (y : FVec Ideal S2048x1024 .bf16) (acc : FVec Ideal S1024x1024 .f32) (i : S1024x1024.Idx) :
    matmul dot_S2048x1024_S2048x1024_S1024x1024_0_0_1_1_n_n none x y acc i = acc i + ∑ k : Fin 2048, x (lidx i k) * y (ridx i k) :=
  Cert.Sums.mm_apply _ 2048 rfl rfl x y acc i (lidx i) (ridx i) (fun _ _ h a => match a with | ⟨0, _⟩ => h | ⟨1, _⟩ => rfl)
    fun _ _ h a => match a with | ⟨0, _⟩ => h | ⟨1, _⟩ => rfl

/-- One point's step: the accumulator plus the sum over the contracted axis of the two blocks. -/
theorem pay2_apply (acc : Vec Ideal S1024x1024 .f32) (x : Vec Ideal S2048x1024 .bf16) (y : Vec Ideal S2048x1024 .bf16) (i : S1024x1024.Idx) :
    k0_pay2 acc x y i = acc i + ∑ k : Fin 2048, x (lblk i k) * y (rblk i k) := by
  unfold k0_pay2
  rw [shapeCast_self]
  show acc i + matmul (F := Ideal) dot_S2048x1024_S2048x1024_S1024x1024_0_0_1_1_n_n none _ _ _ i = _
  rw [mm_apply]
  have z : (constant (F := Ideal) S1024x1024 .f32 0x00000000#32 i : EReal) = 0 := Ideal.ofBits_zero_f32
  rw [z, zero_add]

/-- The accumulator starts at zero. -/
theorem pay1_apply (i : S1024x1024.Idx) : (k0_pay1 (F := Ideal) i : EReal) = 0 := by
  unfold k0_pay1
  rw [shapeCast_self]
  exact Ideal.ofBits_zero_f32

end Cert.Kernel8Ideal.Prod

end
-- ==== Proof.Arr8.lean ====
module

public import proofs.«01_k».proof.Proof.Mm8
public import proofs.«01_k».proof.Proof.Gen.Reference8Ideal.Run
public import proofs.«01_k».proof.Proof.Gen.Reference8Ideal.Read

/-! The result array of `Kernel8` (an output projection's weight gradient) is one product over the whole contracted axis, and so is the reference's. -/

@[expose] public section

set_option maxRecDepth 16384

noncomputable section

namespace Cert.Kernel8Ideal.Prod

open Cert.Kernel8Ideal Cert.Kernel8Ideal.Gen Cert.Kernel8Ideal.Value Idealize.ShloMosaic Idealize.ShloMosaic.TcCoe Idealize.SL.Sem

/-- What the arrays of every device hold. -/
abbrev Mem : Type := (ℓ : Loc nD τ sig) → Buf (Elt Ideal) ℓ

/-- The first operand, the second operand and the written array, with extended reals as elements; and a window's block. -/
def X0 (m : Mem) (c : Dev nD) : S8192x1024.Idx → EReal := m (c.tc.loc main_arg0)
@[inherit_doc X0] def X1 (m : Mem) (c : Dev nD) : S8192x1024.Idx → EReal := m (c.tc.loc main_arg1)
@[inherit_doc X0] def G2E (m : Mem) (c : Dev nD) : S1024x1024.Idx → EReal := G2 m c
@[inherit_doc X0] def B0 (m : Mem) (c : Dev nD) (t : Fin cfg0.N) : S2048x1024.Idx → EReal := iblk m c 0 t
@[inherit_doc X0] def B1 (m : Mem) (c : Dev nD) (t : Fin cfg0.N) : S2048x1024.Idx → EReal := iblk m c 1 t

/-- The printed index map of window 0, over the grid. -/
theorem idx0 : ∀ t : Fin grid0.N, win0_0.index t 0 = t.val % 4 ∧ win0_0.index t 1 = 0 := by decide +kernel

@[inherit_doc idx0] theorem idx1 : ∀ t : Fin grid0.N, win0_1.index t 0 = t.val % 4 ∧ win0_1.index t 1 = 0 := by decide +kernel

/-- Window 0's block at a point, read at an element, is the array at the block's offset plus the element. -/
theorem blk0_apply (m : Mem) (c : Dev nD) (t : Fin cfg0.N) (j : S2048x1024.Idx) (a : S8192x1024.Idx)
    (e0 : (a 0).val = (t.val % 4) * 2048 + (j 0).val) (e1 : (a 1).val = (0) * 1024 + (j 1).val) :
    B0 m c t j = X0 m c a := by
  unfold B0 iblk
  rw [View.read_apply]
  refine congrArg (X0 m c) (funext fun x => Fin.ext ?_)
  have h := idx0 t
  match x with
  | ⟨0, _⟩ => show win0_0.index t 0 * 2048 + 1 * (j 0).val = (a 0).val; rw [h.1, e0]; omega
  | ⟨1, _⟩ => show win0_0.index t 1 * 1024 + 1 * (j 1).val = (a 1).val; rw [h.2, e1]; omega

@[inherit_doc blk0_apply] theorem blk1_apply (m : Mem) (c : Dev nD) (t : Fin cfg0.N) (j : S2048x1024.Idx) (a : S8192x1024.Idx)
    (e0 : (a 0).val = (t.val % 4) * 2048 + (j 0).val) (e1 : (a 1).val = (0) * 1024 + (j 1).val) :
    B1 m c t j = X1 m c a := by
  unfold B1 iblk
  rw [View.read_apply]
  refine congrArg (X1 m c) (funext fun x => Fin.ext ?_)
  have h := idx1 t
  match x with
  | ⟨0, _⟩ => show win0_1.index t 0 * 2048 + 1 * (j 0).val = (a 0).val; rw [h.1, e0]; omega
  | ⟨1, _⟩ => show win0_1.index t 1 * 1024 + 1 * (j 1).val = (a 1).val; rw [h.2, e1]; omega

/-- The first factor's index at result element `i` and contraction index `k`. -/
abbrev lArr (i : S1024x1024.Idx) (k : Fin 8192) : S8192x1024.Idx := fun a => match a with
  | ⟨0, _⟩ => ⟨k.val, k.isLt⟩
  | ⟨1, _⟩ => ⟨(i 0).val, (i 0).isLt⟩
/-- The second factor's index. -/
abbrev rArr (i : S1024x1024.Idx) (k : Fin 8192) : S8192x1024.Idx := fun a => match a with
  | ⟨0, _⟩ => ⟨k.val, k.isLt⟩
  | ⟨1, _⟩ => ⟨(i 1).val, (i 1).isLt⟩
/-- A result element's place in its block's accumulator. -/
abbrev locA (i : S1024x1024.Idx) : S1024x1024.Idx := fun a => match a with
  | ⟨0, _⟩ => ⟨(i 0).val % 1024, Nat.mod_lt _ (by decide)⟩
  | ⟨1, _⟩ => ⟨(i 1).val % 1024, Nat.mod_lt _ (by decide)⟩

variable (m : Mem)

/-- Every result element is the sum of products over the whole contracted axis. -/
theorem G2_apply (c : Dev nD) (i : S1024x1024.Idx) :
    G2E m c i = ∑ k : Fin 8192, X0 m c (lArr i k) * X1 m c (rArr i k) := by
  have h0 : (i 0).val < 1024 := (i 0).isLt
  have h1 : (i 1).val < 1024 := (i 1).isLt
  have hN : cfg0.N = 4 := N_0
  have hr : 4 * ((i 0).val / 1024) + 3 < cfg0.N := by rw [hN]; omega
  have hp : pt2Of i = 4 * ((i 0).val / 1024) + 3 := by
    show 4 * run2Of i + 3 = _
    unfold run2Of
    omega
  unfold G2E G2
  rw [dif_pos (by rw [hp]; exact hr), fold0_congr m c _ _ _ (by omega) hp, ← outsAt0_sweep m c _ hr, outsAt_last]
  refine Eq.trans (b := (((∑ k : Fin 2048, B0 m c ⟨4 * ((i 0).val / 1024) + 0, by omega⟩ (lblk (locA i) k) * B1 m c ⟨4 * ((i 0).val / 1024) + 0, by omega⟩ (rblk (locA i) k))
      + ∑ k : Fin 2048, B0 m c ⟨4 * ((i 0).val / 1024) + 1, by omega⟩ (lblk (locA i) k) * B1 m c ⟨4 * ((i 0).val / 1024) + 1, by omega⟩ (rblk (locA i) k))
      + ∑ k : Fin 2048, B0 m c ⟨4 * ((i 0).val / 1024) + 2, by omega⟩ (lblk (locA i) k) * B1 m c ⟨4 * ((i 0).val / 1024) + 2, by omega⟩ (rblk (locA i) k))
      + ∑ k : Fin 2048, B0 m c ⟨4 * ((i 0).val / 1024) + 3, by omega⟩ (lblk (locA i) k) * B1 m c ⟨4 * ((i 0).val / 1024) + 3, by omega⟩ (rblk (locA i) k)) ?_ ?_
  · refine (pay2_apply _ _ _ (locA i)).trans ?_
    rw [pay2_apply, pay2_apply, pay2_apply, pay1_apply, zero_add]
    rfl
  · refine (Cert.Sums.sum_four (N := 8192) (n := 2048) rfl _ (fun (q : Fin 4) (k : Fin 2048) => B0 m c ⟨4 * ((i 0).val / 1024) + q.val, by have := q.isLt; omega⟩ (lblk (locA i) k) * B1 m c ⟨4 * ((i 0).val / 1024) + q.val, by have := q.isLt; omega⟩ (rblk (locA i) k)) ?_).symm
    intro q k hb
    have hq := q.isLt
    have hk := k.isLt
    rw [blk0_apply m c _ _ (lArr i ⟨2048 * q.val + k.val, hb⟩) (by dsimp only [lArr, lblk, locA]; omega) (by dsimp only [lArr, lblk, locA]; omega),
      blk1_apply m c _ _ (rArr i ⟨2048 * q.val + k.val, hb⟩) (by dsimp only [rArr, rblk, locA]; omega) (by dsimp only [rArr, rblk, locA]; omega)]

end Cert.Kernel8Ideal.Prod

end
-- ==== Proof.Eq8.lean ====
module

public import proofs.«01_k».proof.Defs
public import proofs.«01_k».proof.Proof.Arr8
public import proofs.«01_k».proof.Proof.Gen.Kernel8Ideal
public import proofs.«01_k».proof.Proof.Gen.Reference8Ideal
public import proofs.«01_k».proof.Proof.Gen.Reference8Ideal.Run
public import proofs.«01_k».proof.Proof.Gen.Reference8Ideal.Read

/-! `Kernel8` and its reference compute the same array over the extended reals. -/

@[expose] public section

set_option maxRecDepth 16384

noncomputable section

namespace Cert.Kernel8Ideal.Prod

open Cert.Kernel8Ideal Cert.Kernel8Ideal.Gen Cert.Kernel8Ideal.Value Idealize.ShloMosaic Idealize.ShloMosaic.TcCoe Idealize.SL.Sem

/-- The reference's result at an element is the same sum of products. -/
theorem ref_apply (x : S8192x1024.Idx → EReal) (y : S8192x1024.Idx → EReal) (i : S1024x1024.Idx) :
    (Cert.Reference8Ideal.Read.val_main_v5 (F := Ideal) x y i : EReal) = ∑ k : Fin 8192, x (lArr i k) * y (rArr i k) := by
  have h0 : (i 0).val < 1024 := (i 0).isLt
  have h1 : (i 1).val < 1024 := (i 1).isLt
  rw [Cert.Reference8Ideal.Read.val_main_v5_apply, Cert.Reference8Ideal.Read.val_main_v4_apply]
  refine Finset.sum_congr rfl fun k _ => ?_
  have hk := k.isLt
  rw [mul_comm]
  show x _ * y _ = _
  refine congrArg₂ (· * ·) (congrArg x (funext fun a => Fin.ext ?_)) (congrArg y (funext fun a => Fin.ext ?_))
  · match a with
    | ⟨0, _⟩ => rfl
    | ⟨1, _⟩ => rfl
  · match a with
    | ⟨0, _⟩ => rfl
    | ⟨1, _⟩ => rfl

/-- The value claim: the kernel's array is the reference's, on every device. -/
theorem algebraic : Cert.algebraic_Kernel8Ideal_Reference8Ideal := by
  intro m ρ m' ρ' _ hag
  refine ⟨fun c => G2 m c, Value.run m ρ, ?_⟩
  refine (θ_run Cert.Reference8Ideal.defs _ _).mono (fun r h c => ⟨?_, (h c).2⟩) (Cert.Reference8Ideal.Value.run (F := Ideal) m' ρ')
  rw [(h c).1, (hag c).1, (hag c).2]
  refine (Cert.Reference8Ideal.Read.val_main_v5_eq (F := Ideal) _ _).trans ?_
  funext i
  exact (ref_apply (X0 m c) (X1 m c) i).trans (G2_apply m c i).symm

/-- The reference runs and leaves its arguments as they were. -/
theorem ref_frame : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

end Cert.Kernel8Ideal.Prod

end
-- ==== Proof.Arr9.lean ====
module

public import proofs.«01_k».proof.Proof.Sums
public import proofs.«01_k».proof.Proof.Gen.Kernel9Ideal.Value
public import Idealize.ShloMosaic.Lib.IdealHost

/-! The array `Kernel9` (an output projection's input gradient) writes: one product over the whole contracted axis. -/

@[expose] public section

set_option maxRecDepth 16384

noncomputable section

namespace Cert.Kernel9Ideal.Prod

open Cert.Kernel9Ideal Cert.Kernel9Ideal.Gen Cert.Kernel9Ideal.Value Idealize.ShloMosaic Idealize.ShloMosaic.TcCoe Idealize.SL.Sem

/-- What the arrays of every device hold. -/
abbrev Mem : Type := (ℓ : Loc nD τ sig) → Buf (Elt Ideal) ℓ

/-! ## The product over the extended reals -/

/-- The left operand's element the product reads at output `i` and contraction index `k`. -/
abbrev lidx (i : S1024x1024.Idx) (k : Fin 1024) : S1024x1024.Idx := fun a => match a with
  | ⟨0, _⟩ => ⟨(i 0).val, (i 0).isLt⟩
  | ⟨1, _⟩ => ⟨k.val, k.isLt⟩
/-- The right operand's. -/
abbrev ridx (i : S1024x1024.Idx) (k : Fin 1024) : S1024x1024.Idx := fun a => match a with
  | ⟨0, _⟩ => ⟨(i 1).val, (i 1).isLt⟩
  | ⟨1, _⟩ => ⟨k.val, k.isLt⟩
/-- The matrix unit's product is the accumulator plus the sum of products. -/
theorem mm_apply (x : FVec Ideal S1024x1024 .bf16) (y : FVec Ideal S1024x1024 .bf16) (acc : FVec Ideal S1024x1024 .f32) (i : S1024x1024.Idx) :
    matmul dot_S1024x1024_S1024x1024_S1024x1024_1_1_0_0_n_n none x y acc i = acc i + ∑ k : Fin 1024, x (lidx i k) * y (ridx i k) :=
  Cert.Sums.mm_apply _ 1024 rfl rfl x y acc i (lidx i) (ridx i) (fun _ _ h a => match a with | ⟨0, _⟩ => rfl | ⟨1, _⟩ => h)
    fun _ _ h a => match a with | ⟨0, _⟩ => rfl | ⟨1, _⟩ => h

/-- A point's payload at an element. -/
theorem pay_apply (x : Vec Ideal S1024x1024 .bf16) (y : Vec Ideal S1024x1024 .bf16) (i : S1024x1024.Idx) :
    (k0_pay1 x y i : EReal) = ∑ k : Fin 1024, (x (lidx i k) : EReal) * y (ridx i k) := by
  show (matmul (F := Ideal) (φ₁ := .bf16) (φ₂ := .bf16) dot_S1024x1024_S1024x1024_S1024x1024_1_1_0_0_n_n none _ _ _ i : EReal) = _
  rw [mm_apply]
  have z : (constant (F := Ideal) S1024x1024 .f32 0x00000000#32 i : EReal) = 0 := Ideal.ofBits_zero_f32
  refine (congrArg (· + _) z).trans ((zero_add _).trans ?_)
  rfl

/-- Argument 0, with extended reals as elements. -/
def X0 (m : Mem) (c : Dev nD) : S8192x1024.Idx → EReal := m (c.tc.loc main_arg0)
@[inherit_doc X0] def X1 (m : Mem) (c : Dev nD) : S1024x1024.Idx → EReal := m (c.tc.loc main_arg1)

/-- Window 0's block at a point, with extended reals as elements. -/
def B0 (m : Mem) (c : Dev nD) (t : Fin cfg0.N) : S1024x1024.Idx → EReal := iblk m c 0 t
/-- The printed index map of window 0, over the grid. -/
theorem idx0 : ∀ t : Fin grid0.N, win0_0.index t 0 = t.val ∧ win0_0.index t 1 = 0 := by decide +kernel

/-- Window 0's block at a point, read at an element, is the array at the block's offset plus the element. -/
theorem blk0_apply (m : Mem) (c : Dev nD) (t : Fin cfg0.N) (j : S1024x1024.Idx) (a : S8192x1024.Idx)
    (e0 : (a 0).val = (t.val) * 1024 + (j 0).val) (e1 : (a 1).val = (0) * 1024 + (j 1).val) :
    B0 m c t j = X0 m c a := by
  unfold B0 iblk
  rw [View.read_apply]
  refine congrArg (X0 m c) (funext fun x => Fin.ext ?_)
  have h := idx0 t
  match x with
  | ⟨0, _⟩ => show win0_0.index t 0 * 1024 + 1 * (j 0).val = (a 0).val; rw [h.1, e0]; omega
  | ⟨1, _⟩ => show win0_0.index t 1 * 1024 + 1 * (j 1).val = (a 1).val; rw [h.2, e1]; omega

@[inherit_doc B0] def B1 (m : Mem) (c : Dev nD) (t : Fin cfg0.N) : S1024x1024.Idx → EReal := iblk m c 1 t
@[inherit_doc idx0] theorem idx1 : ∀ t : Fin grid0.N, win0_1.index t 0 = 0 ∧ win0_1.index t 1 = 0 := by decide +kernel

@[inherit_doc blk0_apply] theorem blk1_apply (m : Mem) (c : Dev nD) (t : Fin cfg0.N) (j : S1024x1024.Idx) (a : S1024x1024.Idx)
    (e0 : (a 0).val = (0) * 1024 + (j 0).val) (e1 : (a 1).val = (0) * 1024 + (j 1).val) :
    B1 m c t j = X1 m c a := by
  unfold B1 iblk
  rw [View.read_apply]
  refine congrArg (X1 m c) (funext fun x => Fin.ext ?_)
  have h := idx1 t
  match x with
  | ⟨0, _⟩ => show win0_1.index t 0 * 1024 + 1 * (j 0).val = (a 0).val; rw [h.1, e0]; omega
  | ⟨1, _⟩ => show win0_1.index t 1 * 1024 + 1 * (j 1).val = (a 1).val; rw [h.2, e1]; omega

/-- The factors' indices at result element `i` and contraction index `k`. -/
abbrev lArr (i : S8192x1024.Idx) (k : Fin 1024) : S8192x1024.Idx := fun a => match a with
  | ⟨0, _⟩ => ⟨(i 0).val, (i 0).isLt⟩
  | ⟨1, _⟩ => ⟨k.val, k.isLt⟩
@[inherit_doc lArr] abbrev rArr (i : S8192x1024.Idx) (k : Fin 1024) : S1024x1024.Idx := fun a => match a with
  | ⟨0, _⟩ => ⟨(i 1).val, (i 1).isLt⟩
  | ⟨1, _⟩ => ⟨k.val, k.isLt⟩

/-- The array `Kernel9` writes, of its two operands. -/
def prod (x : S8192x1024.Idx → EReal) (w : S1024x1024.Idx → EReal) (i : S8192x1024.Idx) : EReal := ∑ k : Fin 1024, x (lArr i k) * w (rArr i k)

variable (m : Mem)

/-- The same as contents of the result array. -/
def result (c : Dev nD) : Buf (Elt Ideal) ((c : Thread nD τ).loc main_v0) := prod (X0 m c) (X1 m c)

theorem hz2 : (![0, 0] : Fin 2 → Nat) = fun _ => 0 := funext fun a => by fin_cases a <;> rfl
theorem hz3 : (![0, 0, 0] : Fin 3 → Nat) = fun _ => 0 := funext fun a => by fin_cases a <;> rfl

@[inherit_doc idx0] theorem idx2 : ∀ t : Fin grid0.N, win0_2.index t 0 = t.val ∧ win0_2.index t 1 = 0 := by decide +kernel

/-- What a point leaves in the result's block, at an element. -/
theorem out_apply (c : Dev nD) (t : Fin cfg0.N) (y : S1024x1024.Idx) (i : S8192x1024.Idx)
    (e0 : (i 0).val = (t.val) * 1024 + (y 0).val) (e1 : (i 1).val = (0) * 1024 + (y 1).val) :
    (out0_2 (iblk m c 0 t) (iblk m c 1 t) y : EReal) = prod (X0 m c) (X1 m c) i := by
  have ht : t.val < 8 := lt_of_lt_of_eq t.isLt N_0
  have hy0 : (y 0).val < 1024 := (y 0).isLt
  have hy1 : (y 1).val < 1024 := (y 1).isLt
  unfold out0_2 prod
  rw [View.ld_unit_zero (S := S1024x1024) hz2, View.ld_unit_zero (S := S1024x1024) hz2, View.canon_unit_zero (S := S1024x1024) hz2]
  refine (pay_apply (iblk m c 0 t) (iblk m c 1 t) y).trans ?_
  exact Finset.sum_congr rfl fun k _ => congrArg₂ (· * ·)
    (blk0_apply m c t (lidx y k) (lArr i k) (by show (i 0).val = _ + (y 0).val; omega) (by show k.val = _ + k.val; omega))
    (blk1_apply m c t (ridx y k) (rArr i k) (by dsimp only [rArr, ridx]; omega) (by dsimp only [rArr, ridx]; omega))

/-- What a point writes back is its block of the result array. -/
theorem flushed_eq (c : Dev nD) (t : Fin cfg0.N) :
    (dats m 0 c).flushed 2 t = ((cfg0.win 2).blk t).view.read (Elt Ideal) (result m c) := by
  rw [flushed2]
  funext y
  rw [View.read_apply]
  have h := idx2 t
  refine out_apply m c t y _ ?_ ?_
  · show win0_2.index t 0 * 1024 + 1 * (y 0).val = _; rw [h.1]; omega
  · show win0_2.index t 1 * 1024 + 1 * (y 1).val = _; rw [h.2]; omega

/-- The blocks of window 2 cover its array. -/
theorem cover2 (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hN : cfg0.N = 8 := N_0
  refine ⟨⟨(i 0).val / 1024, by omega⟩, flush0_2 _, ?_⟩
  generalize ht : (⟨(i 0).val / 1024, _⟩ : Fin cfg0.N) = t
  have hv : t.val = (i 0).val / 1024 := by rw [← ht]
  have h := idx2 t
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [h.1]; omega
  | ⟨1, _⟩ => show win0_2.index t 1 * 1024 ≤ (i 1).val ∧ (i 1).val < win0_2.index t 1 * 1024 + 1024; rw [h.2]; omega

/-- The run, with the result array read. -/
theorem run_result (ρ : Dev nD → PrngReg) : θ_run defs (onTc (τ := τ) (main (F := Ideal))) ⟨m, fun _ => 0, ρ⟩ fun r => ∀ c : Dev nD,
      r.2.mem (c.tc.loc main_v0) = result m c
      ∧ r.2.mem (c.tc.loc main_arg0) = m (c.tc.loc main_arg0)
      ∧ r.2.mem (c.tc.loc main_arg1) = m (c.tc.loc main_arg1) :=
  (θ_run defs _ _).mono (fun _ h c => ⟨(h c).1.trans ((dats m 0 c).arrAt_eq_of_cover 2 (result m c) (fun t _ => flushed_eq m c t) cover2), (h c).2⟩)
    (run_blocks m ρ)

end Cert.Kernel9Ideal.Prod

end
-- ==== Proof.Eq9.lean ====
module

public import proofs.«01_k».proof.Defs
public import proofs.«01_k».proof.Proof.Arr9
public import proofs.«01_k».proof.Proof.Gen.Kernel9Ideal
public import proofs.«01_k».proof.Proof.Gen.Reference9Ideal
public import proofs.«01_k».proof.Proof.Gen.Reference9Ideal.Run
public import proofs.«01_k».proof.Proof.Gen.Reference9Ideal.Read

/-! `Kernel9` and its reference compute the same array over the extended reals. -/

@[expose] public section

set_option maxRecDepth 16384

noncomputable section

namespace Cert.Kernel9Ideal.Prod

open Cert.Kernel9Ideal Cert.Kernel9Ideal.Gen Cert.Kernel9Ideal.Value Idealize.ShloMosaic Idealize.ShloMosaic.TcCoe Idealize.SL.Sem

/-- The reference's result at an element is the same sum of products. -/
theorem ref_apply (x : S8192x1024.Idx → EReal) (y : S1024x1024.Idx → EReal) (i : S8192x1024.Idx) :
    (Cert.Reference9Ideal.Read.val_main_v4 (F := Ideal) x y i : EReal) = ∑ k : Fin 1024, x (lArr i k) * y (rArr i k) := by
  have h0 : (i 0).val < 8192 := (i 0).isLt
  have h1 : (i 1).val < 1024 := (i 1).isLt
  rw [Cert.Reference9Ideal.Read.val_main_v4_apply]
  refine Finset.sum_congr rfl fun k _ => ?_
  have hk := k.isLt
  show x _ * y _ = _
  refine congrArg₂ (· * ·) (congrArg x (funext fun a => Fin.ext ?_)) (congrArg y (funext fun a => Fin.ext ?_))
  · match a with
    | ⟨0, _⟩ => rfl
    | ⟨1, _⟩ => rfl
  · match a with
    | ⟨0, _⟩ => rfl
    | ⟨1, _⟩ => rfl

/-- The value claim: the kernel's array is the reference's, on every device. -/
theorem algebraic : Cert.algebraic_Kernel9Ideal_Reference9Ideal := by
  intro m ρ m' ρ' _ hag
  refine ⟨fun c => result m c, run_result m ρ, ?_⟩
  refine (θ_run Cert.Reference9Ideal.defs _ _).mono (fun r h c => ⟨?_, (h c).2⟩) (Cert.Reference9Ideal.Value.run (F := Ideal) m' ρ')
  rw [(h c).1, (hag c).1, (hag c).2]
  refine (Cert.Reference9Ideal.Read.val_main_v4_eq (F := Ideal) _ _).trans ?_
  funext i
  exact (ref_apply (X0 m c) (X1 m c) i)

/-- The reference runs and leaves its arguments as they were. -/
theorem ref_frame : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

end Cert.Kernel9Ideal.Prod

end
-- ==== Proof.Arr10.lean ====
module

public import proofs.«01_k».proof.Proof.Sums
public import proofs.«01_k».proof.Proof.Gen.Kernel10Ideal.Value
public import Idealize.ShloMosaic.Lib.IdealHost

/-! The array `Kernel10` (the attention projection's input gradient) writes: one product over the whole contracted axis. -/

@[expose] public section

set_option maxRecDepth 16384

noncomputable section

namespace Cert.Kernel10Ideal.Prod

open Cert.Kernel10Ideal Cert.Kernel10Ideal.Gen Cert.Kernel10Ideal.Value Idealize.ShloMosaic Idealize.ShloMosaic.TcCoe Idealize.SL.Sem

/-- What the arrays of every device hold. -/
abbrev Mem : Type := (ℓ : Loc nD τ sig) → Buf (Elt Ideal) ℓ

/-! ## The product over the extended reals -/

/-- The left operand's element the product reads at output `i` and contraction index `k`. -/
abbrev lidx (i : S1024x1024.Idx) (k : Fin 1024) : S1024x1024.Idx := fun a => match a with
  | ⟨0, _⟩ => ⟨(i 0).val, (i 0).isLt⟩
  | ⟨1, _⟩ => ⟨k.val, k.isLt⟩
/-- The right operand's. -/
abbrev ridx (i : S1024x1024.Idx) (k : Fin 1024) : S1024x1024.Idx := fun a => match a with
  | ⟨0, _⟩ => ⟨(i 1).val, (i 1).isLt⟩
  | ⟨1, _⟩ => ⟨k.val, k.isLt⟩
/-- The matrix unit's product is the accumulator plus the sum of products. -/
theorem mm_apply (x : FVec Ideal S1024x1024 .bf16) (y : FVec Ideal S1024x1024 .bf16) (acc : FVec Ideal S1024x1024 .f32) (i : S1024x1024.Idx) :
    matmul dot_S1024x1024_S1024x1024_S1024x1024_1_1_0_0_n_n none x y acc i = acc i + ∑ k : Fin 1024, x (lidx i k) * y (ridx i k) :=
  Cert.Sums.mm_apply _ 1024 rfl rfl x y acc i (lidx i) (ridx i) (fun _ _ h a => match a with | ⟨0, _⟩ => rfl | ⟨1, _⟩ => h)
    fun _ _ h a => match a with | ⟨0, _⟩ => rfl | ⟨1, _⟩ => h

/-- A point's payload at an element. -/
theorem pay_apply (x : Vec Ideal S1024x1024 .bf16) (y : Vec Ideal S1024x1024 .bf16) (i : S1024x1024.Idx) :
    (k0_pay1 x y i : EReal) = ∑ k : Fin 1024, (x (lidx i k) : EReal) * y (ridx i k) := by
  show (matmul (F := Ideal) (φ₁ := .bf16) (φ₂ := .bf16) dot_S1024x1024_S1024x1024_S1024x1024_1_1_0_0_n_n none _ _ _ i : EReal) = _
  rw [mm_apply]
  have z : (constant (F := Ideal) S1024x1024 .f32 0x00000000#32 i : EReal) = 0 := Ideal.ofBits_zero_f32
  refine (congrArg (· + _) z).trans ((zero_add _).trans ?_)
  rfl

/-- Argument 0, with extended reals as elements. -/
def X0 (m : Mem) (c : Dev nD) : S8192x1024.Idx → EReal := m (c.tc.loc main_arg0)
@[inherit_doc X0] def X1 (m : Mem) (c : Dev nD) : S1024x1024.Idx → EReal := m (c.tc.loc main_arg1)

/-- Window 0's block at a point, with extended reals as elements. -/
def B0 (m : Mem) (c : Dev nD) (t : Fin cfg0.N) : S1024x1024.Idx → EReal := iblk m c 0 t
/-- The printed index map of window 0, over the grid. -/
theorem idx0 : ∀ t : Fin grid0.N, win0_0.index t 0 = t.val ∧ win0_0.index t 1 = 0 := by decide +kernel

/-- Window 0's block at a point, read at an element, is the array at the block's offset plus the element. -/
theorem blk0_apply (m : Mem) (c : Dev nD) (t : Fin cfg0.N) (j : S1024x1024.Idx) (a : S8192x1024.Idx)
    (e0 : (a 0).val = (t.val) * 1024 + (j 0).val) (e1 : (a 1).val = (0) * 1024 + (j 1).val) :
    B0 m c t j = X0 m c a := by
  unfold B0 iblk
  rw [View.read_apply]
  refine congrArg (X0 m c) (funext fun x => Fin.ext ?_)
  have h := idx0 t
  match x with
  | ⟨0, _⟩ => show win0_0.index t 0 * 1024 + 1 * (j 0).val = (a 0).val; rw [h.1, e0]; omega
  | ⟨1, _⟩ => show win0_0.index t 1 * 1024 + 1 * (j 1).val = (a 1).val; rw [h.2, e1]; omega

@[inherit_doc B0] def B1 (m : Mem) (c : Dev nD) (t : Fin cfg0.N) : S1024x1024.Idx → EReal := iblk m c 1 t
@[inherit_doc idx0] theorem idx1 : ∀ t : Fin grid0.N, win0_1.index t 0 = 0 ∧ win0_1.index t 1 = 0 := by decide +kernel

@[inherit_doc blk0_apply] theorem blk1_apply (m : Mem) (c : Dev nD) (t : Fin cfg0.N) (j : S1024x1024.Idx) (a : S1024x1024.Idx)
    (e0 : (a 0).val = (0) * 1024 + (j 0).val) (e1 : (a 1).val = (0) * 1024 + (j 1).val) :
    B1 m c t j = X1 m c a := by
  unfold B1 iblk
  rw [View.read_apply]
  refine congrArg (X1 m c) (funext fun x => Fin.ext ?_)
  have h := idx1 t
  match x with
  | ⟨0, _⟩ => show win0_1.index t 0 * 1024 + 1 * (j 0).val = (a 0).val; rw [h.1, e0]; omega
  | ⟨1, _⟩ => show win0_1.index t 1 * 1024 + 1 * (j 1).val = (a 1).val; rw [h.2, e1]; omega

/-- The factors' indices at result element `i` and contraction index `k`. -/
abbrev lArr (i : S8192x1024.Idx) (k : Fin 1024) : S8192x1024.Idx := fun a => match a with
  | ⟨0, _⟩ => ⟨(i 0).val, (i 0).isLt⟩
  | ⟨1, _⟩ => ⟨k.val, k.isLt⟩
@[inherit_doc lArr] abbrev rArr (i : S8192x1024.Idx) (k : Fin 1024) : S1024x1024.Idx := fun a => match a with
  | ⟨0, _⟩ => ⟨(i 1).val, (i 1).isLt⟩
  | ⟨1, _⟩ => ⟨k.val, k.isLt⟩

/-- The array `Kernel10` writes, of its two operands. -/
def prod (x : S8192x1024.Idx → EReal) (w : S1024x1024.Idx → EReal) (i : S8192x1024.Idx) : EReal := ∑ k : Fin 1024, x (lArr i k) * w (rArr i k)

variable (m : Mem)

/-- The same as contents of the result array. -/
def result (c : Dev nD) : Buf (Elt Ideal) ((c : Thread nD τ).loc main_v0) := prod (X0 m c) (X1 m c)

theorem hz2 : (![0, 0] : Fin 2 → Nat) = fun _ => 0 := funext fun a => by fin_cases a <;> rfl
theorem hz3 : (![0, 0, 0] : Fin 3 → Nat) = fun _ => 0 := funext fun a => by fin_cases a <;> rfl

@[inherit_doc idx0] theorem idx2 : ∀ t : Fin grid0.N, win0_2.index t 0 = t.val ∧ win0_2.index t 1 = 0 := by decide +kernel

/-- What a point leaves in the result's block, at an element. -/
theorem out_apply (c : Dev nD) (t : Fin cfg0.N) (y : S1024x1024.Idx) (i : S8192x1024.Idx)
    (e0 : (i 0).val = (t.val) * 1024 + (y 0).val) (e1 : (i 1).val = (0) * 1024 + (y 1).val) :
    (out0_2 (iblk m c 0 t) (iblk m c 1 t) y : EReal) = prod (X0 m c) (X1 m c) i := by
  have ht : t.val < 8 := lt_of_lt_of_eq t.isLt N_0
  have hy0 : (y 0).val < 1024 := (y 0).isLt
  have hy1 : (y 1).val < 1024 := (y 1).isLt
  unfold out0_2 prod
  rw [View.ld_unit_zero (S := S1024x1024) hz2, View.ld_unit_zero (S := S1024x1024) hz2, View.canon_unit_zero (S := S1024x1024) hz2]
  refine (pay_apply (iblk m c 0 t) (iblk m c 1 t) y).trans ?_
  exact Finset.sum_congr rfl fun k _ => congrArg₂ (· * ·)
    (blk0_apply m c t (lidx y k) (lArr i k) (by show (i 0).val = _ + (y 0).val; omega) (by show k.val = _ + k.val; omega))
    (blk1_apply m c t (ridx y k) (rArr i k) (by dsimp only [rArr, ridx]; omega) (by dsimp only [rArr, ridx]; omega))

/-- What a point writes back is its block of the result array. -/
theorem flushed_eq (c : Dev nD) (t : Fin cfg0.N) :
    (dats m 0 c).flushed 2 t = ((cfg0.win 2).blk t).view.read (Elt Ideal) (result m c) := by
  rw [flushed2]
  funext y
  rw [View.read_apply]
  have h := idx2 t
  refine out_apply m c t y _ ?_ ?_
  · show win0_2.index t 0 * 1024 + 1 * (y 0).val = _; rw [h.1]; omega
  · show win0_2.index t 1 * 1024 + 1 * (y 1).val = _; rw [h.2]; omega

/-- The blocks of window 2 cover its array. -/
theorem cover2 (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hN : cfg0.N = 8 := N_0
  refine ⟨⟨(i 0).val / 1024, by omega⟩, flush0_2 _, ?_⟩
  generalize ht : (⟨(i 0).val / 1024, _⟩ : Fin cfg0.N) = t
  have hv : t.val = (i 0).val / 1024 := by rw [← ht]
  have h := idx2 t
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [h.1]; omega
  | ⟨1, _⟩ => show win0_2.index t 1 * 1024 ≤ (i 1).val ∧ (i 1).val < win0_2.index t 1 * 1024 + 1024; rw [h.2]; omega

/-- The run, with the result array read. -/
theorem run_result (ρ : Dev nD → PrngReg) : θ_run defs (onTc (τ := τ) (main (F := Ideal))) ⟨m, fun _ => 0, ρ⟩ fun r => ∀ c : Dev nD,
      r.2.mem (c.tc.loc main_v0) = result m c
      ∧ r.2.mem (c.tc.loc main_arg0) = m (c.tc.loc main_arg0)
      ∧ r.2.mem (c.tc.loc main_arg1) = m (c.tc.loc main_arg1) :=
  (θ_run defs _ _).mono (fun _ h c => ⟨(h c).1.trans ((dats m 0 c).arrAt_eq_of_cover 2 (result m c) (fun t _ => flushed_eq m c t) cover2), (h c).2⟩)
    (run_blocks m ρ)

end Cert.Kernel10Ideal.Prod

end
-- ==== Proof.Eq10.lean ====
module

public import proofs.«01_k».proof.Defs
public import proofs.«01_k».proof.Proof.Arr10
public import proofs.«01_k».proof.Proof.Gen.Kernel10Ideal
public import proofs.«01_k».proof.Proof.Gen.Reference10Ideal
public import proofs.«01_k».proof.Proof.Gen.Reference10Ideal.Run
public import proofs.«01_k».proof.Proof.Gen.Reference10Ideal.Read

/-! `Kernel10` and its reference compute the same array over the extended reals. -/

@[expose] public section

set_option maxRecDepth 16384

noncomputable section

namespace Cert.Kernel10Ideal.Prod

open Cert.Kernel10Ideal Cert.Kernel10Ideal.Gen Cert.Kernel10Ideal.Value Idealize.ShloMosaic Idealize.ShloMosaic.TcCoe Idealize.SL.Sem

/-- The reference's result at an element is the same sum of products. -/
theorem ref_apply (x : S8192x1024.Idx → EReal) (y : S1024x1024.Idx → EReal) (i : S8192x1024.Idx) :
    (Cert.Reference10Ideal.Read.val_main_v5 (F := Ideal) x y i : EReal) = ∑ k : Fin 1024, x (lArr i k) * y (rArr i k) := by
  show (Cert.Reference10Ideal.Read.val_main_v4 (F := Ideal) x y i : EReal) = _
  have h0 : (i 0).val < 8192 := (i 0).isLt
  have h1 : (i 1).val < 1024 := (i 1).isLt
  rw [Cert.Reference10Ideal.Read.val_main_v4_apply]
  refine Finset.sum_congr rfl fun k _ => ?_
  have hk := k.isLt
  show x _ * y _ = _
  refine congrArg₂ (· * ·) (congrArg x (funext fun a => Fin.ext ?_)) (congrArg y (funext fun a => Fin.ext ?_))
  · match a with
    | ⟨0, _⟩ => rfl
    | ⟨1, _⟩ => rfl
  · match a with
    | ⟨0, _⟩ => rfl
    | ⟨1, _⟩ => rfl

/-- The value claim: the kernel's array is the reference's, on every device. -/
theorem algebraic : Cert.algebraic_Kernel10Ideal_Reference10Ideal := by
  intro m ρ m' ρ' _ hag
  refine ⟨fun c => result m c, run_result m ρ, ?_⟩
  refine (θ_run Cert.Reference10Ideal.defs _ _).mono (fun r h c => ⟨?_, (h c).2⟩) (Cert.Reference10Ideal.Value.run (F := Ideal) m' ρ')
  rw [(h c).1, (hag c).1, (hag c).2]
  refine (Cert.Reference10Ideal.Read.val_main_v5_eq (F := Ideal) _ _).trans ?_
  funext i
  exact (ref_apply (X0 m c) (X1 m c) i)

/-- The reference runs and leaves its arguments as they were. -/
theorem ref_frame : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

end Cert.Kernel10Ideal.Prod

end
-- ==== Proof.Arr11.lean ====
module

public import proofs.«01_k».proof.Proof.Sums
public import proofs.«01_k».proof.Proof.Gen.Kernel11Ideal.Value
public import Idealize.ShloMosaic.Lib.IdealHost

/-! The array `Kernel11` (the input projection) writes: one product over the whole contracted axis. -/

@[expose] public section

set_option maxRecDepth 16384

noncomputable section

namespace Cert.Kernel11Ideal.Prod

open Cert.Kernel11Ideal Cert.Kernel11Ideal.Gen Cert.Kernel11Ideal.Value Idealize.ShloMosaic Idealize.ShloMosaic.TcCoe Idealize.SL.Sem

/-- What the arrays of every device hold. -/
abbrev Mem : Type := (ℓ : Loc nD τ sig) → Buf (Elt Ideal) ℓ

/-! ## The product over the extended reals -/

/-- The left operand's element the product reads at output `i` and contraction index `k`. -/
abbrev lidx (i : S1024x1792.Idx) (k : Fin 1024) : S1024x1024.Idx := fun a => match a with
  | ⟨0, _⟩ => ⟨(i 0).val, (i 0).isLt⟩
  | ⟨1, _⟩ => ⟨k.val, k.isLt⟩
/-- The right operand's. -/
abbrev ridx (i : S1024x1792.Idx) (k : Fin 1024) : S1024x1792.Idx := fun a => match a with
  | ⟨0, _⟩ => ⟨k.val, k.isLt⟩
  | ⟨1, _⟩ => ⟨(i 1).val, (i 1).isLt⟩
/-- The matrix unit's product is the accumulator plus the sum of products. -/
theorem mm_apply (x : FVec Ideal S1024x1024 .bf16) (y : FVec Ideal S1024x1792 .bf16) (acc : FVec Ideal S1024x1792 .f32) (i : S1024x1792.Idx) :
    matmul dot_S1024x1024_S1024x1792_S1024x1792_1_0_0_1_n_n none x y acc i = acc i + ∑ k : Fin 1024, x (lidx i k) * y (ridx i k) :=
  Cert.Sums.mm_apply _ 1024 rfl rfl x y acc i (lidx i) (ridx i) (fun _ _ h a => match a with | ⟨0, _⟩ => rfl | ⟨1, _⟩ => h)
    fun _ _ h a => match a with | ⟨0, _⟩ => h | ⟨1, _⟩ => rfl

/-- The right block's element. -/
abbrev rblk (i : S1024x1792.Idx) (k : Fin 1024) : S1x1024x1792.Idx := fun a => match a with
  | ⟨0, _⟩ => ⟨0, Nat.one_pos⟩
  | ⟨1, _⟩ => ⟨k.val, k.isLt⟩
  | ⟨2, _⟩ => ⟨(i 1).val, (i 1).isLt⟩
/-- A point's payload at an element. -/
theorem pay_apply (x : Vec Ideal S1024x1024 .bf16) (y : Vec Ideal S1x1024x1792 .bf16) (i : S1024x1792.Idx) :
    (k0_pay1 x y i : EReal) = ∑ k : Fin 1024, (x (lidx i k) : EReal) * y (rblk i k) := by
  show (matmul (F := Ideal) (φ₁ := .bf16) (φ₂ := .bf16) dot_S1024x1024_S1024x1792_S1024x1792_1_0_0_1_n_n none _ _ _ i : EReal) = _
  rw [mm_apply]
  have z : (constant (F := Ideal) S1024x1792 .f32 0x00000000#32 i : EReal) = 0 := Ideal.ofBits_zero_f32
  refine (congrArg (· + _) z).trans ((zero_add _).trans ?_)
  exact Finset.sum_congr rfl fun k _ => congrArg (x (lidx i k) * ·) (Cert.Sums.drop_one y _ (ridx i k) (rblk i k) rfl rfl)

/-- Argument 0, with extended reals as elements. -/
def X0 (m : Mem) (c : Dev nD) : S8192x1024.Idx → EReal := m (c.tc.loc main_arg0)
@[inherit_doc X0] def X1 (m : Mem) (c : Dev nD) : S4x1024x1792.Idx → EReal := m (c.tc.loc main_arg1)

/-- Window 0's block at a point, with extended reals as elements. -/
def B0 (m : Mem) (c : Dev nD) (t : Fin cfg0.N) : S1024x1024.Idx → EReal := iblk m c 0 t
/-- The printed index map of window 0, over the grid. -/
theorem idx0 : ∀ t : Fin grid0.N, win0_0.index t 0 = t.val / 4 ∧ win0_0.index t 1 = 0 := by decide +kernel

/-- Window 0's block at a point, read at an element, is the array at the block's offset plus the element. -/
theorem blk0_apply (m : Mem) (c : Dev nD) (t : Fin cfg0.N) (j : S1024x1024.Idx) (a : S8192x1024.Idx)
    (e0 : (a 0).val = (t.val / 4) * 1024 + (j 0).val) (e1 : (a 1).val = (0) * 1024 + (j 1).val) :
    B0 m c t j = X0 m c a := by
  unfold B0 iblk
  rw [View.read_apply]
  refine congrArg (X0 m c) (funext fun x => Fin.ext ?_)
  have h := idx0 t
  match x with
  | ⟨0, _⟩ => show win0_0.index t 0 * 1024 + 1 * (j 0).val = (a 0).val; rw [h.1, e0]; omega
  | ⟨1, _⟩ => show win0_0.index t 1 * 1024 + 1 * (j 1).val = (a 1).val; rw [h.2, e1]; omega

@[inherit_doc B0] def B1 (m : Mem) (c : Dev nD) (t : Fin cfg0.N) : S1x1024x1792.Idx → EReal := iblk m c 1 t
@[inherit_doc idx0] theorem idx1 : ∀ t : Fin grid0.N, win0_1.index t 0 = t.val % 4 ∧ win0_1.index t 1 = 0 ∧ win0_1.index t 2 = 0 := by decide +kernel

@[inherit_doc blk0_apply] theorem blk1_apply (m : Mem) (c : Dev nD) (t : Fin cfg0.N) (j : S1x1024x1792.Idx) (a : S4x1024x1792.Idx)
    (e0 : (a 0).val = (t.val % 4) * 1 + (j 0).val) (e1 : (a 1).val = (0) * 1024 + (j 1).val) (e2 : (a 2).val = (0) * 1792 + (j 2).val) :
    B1 m c t j = X1 m c a := by
  unfold B1 iblk
  rw [View.read_apply]
  refine congrArg (X1 m c) (funext fun x => Fin.ext ?_)
  have h := idx1 t
  match x with
  | ⟨0, _⟩ => show win0_1.index t 0 * 1 + 1 * (j 0).val = (a 0).val; rw [h.1, e0]; omega
  | ⟨1, _⟩ => show win0_1.index t 1 * 1024 + 1 * (j 1).val = (a 1).val; rw [h.2.1, e1]; omega
  | ⟨2, _⟩ => show win0_1.index t 2 * 1792 + 1 * (j 2).val = (a 2).val; rw [h.2.2, e2]; omega

/-- The factors' indices at result element `i` and contraction index `k`. -/
abbrev lArr (i : S8192x7168.Idx) (k : Fin 1024) : S8192x1024.Idx := fun a => match a with
  | ⟨0, _⟩ => ⟨(i 0).val, (i 0).isLt⟩
  | ⟨1, _⟩ => ⟨k.val, k.isLt⟩
@[inherit_doc lArr] abbrev rArr (i : S8192x7168.Idx) (k : Fin 1024) : S4x1024x1792.Idx := fun a => match a with
  | ⟨0, _⟩ => ⟨(i 1).val / 1792, by have h : (i 1).val < 7168 := (i 1).isLt; show _ < 4; omega⟩
  | ⟨1, _⟩ => ⟨k.val, k.isLt⟩
  | ⟨2, _⟩ => ⟨(i 1).val % 1792, Nat.mod_lt _ (by decide)⟩

/-- The array `Kernel11` writes, of its two operands. -/
def prod (x : S8192x1024.Idx → EReal) (w : S4x1024x1792.Idx → EReal) (i : S8192x7168.Idx) : EReal := ∑ k : Fin 1024, x (lArr i k) * w (rArr i k)

variable (m : Mem)

/-- The same as contents of the result array. -/
def result (c : Dev nD) : Buf (Elt Ideal) ((c : Thread nD τ).loc main_v0) := prod (X0 m c) (X1 m c)

theorem hz2 : (![0, 0] : Fin 2 → Nat) = fun _ => 0 := funext fun a => by fin_cases a <;> rfl
theorem hz3 : (![0, 0, 0] : Fin 3 → Nat) = fun _ => 0 := funext fun a => by fin_cases a <;> rfl

@[inherit_doc idx0] theorem idx2 : ∀ t : Fin grid0.N, win0_2.index t 0 = t.val / 4 ∧ win0_2.index t 1 = t.val % 4 := by decide +kernel

/-- What a point leaves in the result's block, at an element. -/
theorem out_apply (c : Dev nD) (t : Fin cfg0.N) (y : S1024x1792.Idx) (i : S8192x7168.Idx)
    (e0 : (i 0).val = (t.val / 4) * 1024 + (y 0).val) (e1 : (i 1).val = (t.val % 4) * 1792 + (y 1).val) :
    (out0_2 (iblk m c 0 t) (iblk m c 1 t) y : EReal) = prod (X0 m c) (X1 m c) i := by
  have ht : t.val < 32 := lt_of_lt_of_eq t.isLt N_0
  have hy0 : (y 0).val < 1024 := (y 0).isLt
  have hy1 : (y 1).val < 1792 := (y 1).isLt
  unfold out0_2 prod
  rw [View.ld_unit_zero (S := S1024x1024) hz2, View.ld_unit_zero (S := S1x1024x1792) hz3, View.canon_unit_zero (S := S1024x1792) hz2]
  refine (pay_apply (iblk m c 0 t) (iblk m c 1 t) y).trans ?_
  exact Finset.sum_congr rfl fun k _ => congrArg₂ (· * ·)
    (blk0_apply m c t (lidx y k) (lArr i k) (by show (i 0).val = _ + (y 0).val; omega) (by show k.val = _ + k.val; omega))
    (blk1_apply m c t (rblk y k) (rArr i k) (by dsimp only [rArr, rblk]; omega) (by dsimp only [rArr, rblk]; omega) (by dsimp only [rArr, rblk]; omega))

/-- What a point writes back is its block of the result array. -/
theorem flushed_eq (c : Dev nD) (t : Fin cfg0.N) :
    (dats m 0 c).flushed 2 t = ((cfg0.win 2).blk t).view.read (Elt Ideal) (result m c) := by
  rw [flushed2]
  funext y
  rw [View.read_apply]
  have h := idx2 t
  refine out_apply m c t y _ ?_ ?_
  · show win0_2.index t 0 * 1024 + 1 * (y 0).val = _; rw [h.1]; omega
  · show win0_2.index t 1 * 1792 + 1 * (y 1).val = _; rw [h.2]; omega

/-- The blocks of window 2 cover its array. -/
theorem cover2 (i : S8192x7168.Idx) : ∃ t : Fin cfg0.N, (cfg0.win 2).flush t = true ∧ i ∈ ((cfg0.win 2).blk t).view.set := by
  have h0 : (i 0).val < 8192 := (i 0).isLt
  have h1 : (i 1).val < 7168 := (i 1).isLt
  have hN : cfg0.N = 32 := N_0
  refine ⟨⟨4 * ((i 0).val / 1024) + (i 1).val / 1792, by omega⟩, flush0_2 _, ?_⟩
  generalize ht : (⟨4 * ((i 0).val / 1024) + (i 1).val / 1792, _⟩ : Fin cfg0.N) = t
  have hv : t.val = 4 * ((i 0).val / 1024) + (i 1).val / 1792 := by rw [← ht]
  have h := idx2 t
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [h.1]; omega
  | ⟨1, _⟩ => show win0_2.index t 1 * 1792 ≤ (i 1).val ∧ (i 1).val < win0_2.index t 1 * 1792 + 1792; rw [h.2]; omega

/-- The run, with the result array read. -/
theorem run_result (ρ : Dev nD → PrngReg) : θ_run defs (onTc (τ := τ) (main (F := Ideal))) ⟨m, fun _ => 0, ρ⟩ fun r => ∀ c : Dev nD,
      r.2.mem (c.tc.loc main_v0) = result m c
      ∧ r.2.mem (c.tc.loc main_arg0) = m (c.tc.loc main_arg0)
      ∧ r.2.mem (c.tc.loc main_arg1) = m (c.tc.loc main_arg1) :=
  (θ_run defs _ _).mono (fun _ h c => ⟨(h c).1.trans ((dats m 0 c).arrAt_eq_of_cover 2 (result m c) (fun t _ => flushed_eq m c t) cover2), (h c).2⟩)
    (run_blocks m ρ)

end Cert.Kernel11Ideal.Prod

end
-- ==== Proof.Eq11.lean ====
module

public import proofs.«01_k».proof.Defs
public import proofs.«01_k».proof.Proof.Arr11
public import proofs.«01_k».proof.Proof.Gen.Kernel11Ideal
public import proofs.«01_k».proof.Proof.Gen.Reference11Ideal
public import proofs.«01_k».proof.Proof.Gen.Reference11Ideal.Run
public import proofs.«01_k».proof.Proof.Gen.Reference11Ideal.Read

/-! `Kernel11` and its reference compute the same array over the extended reals. -/

@[expose] public section

set_option maxRecDepth 16384

noncomputable section

namespace Cert.Kernel11Ideal.Prod

open Cert.Kernel11Ideal Cert.Kernel11Ideal.Gen Cert.Kernel11Ideal.Value Idealize.ShloMosaic Idealize.ShloMosaic.TcCoe Idealize.SL.Sem

/-- The reference's result at an element is the same sum of products. -/
theorem ref_apply (x : S8192x1024.Idx → EReal) (y : S4x1024x1792.Idx → EReal) (i : S8192x7168.Idx) :
    (Cert.Reference11Ideal.Read.val_main_v4 (F := Ideal) x y i : EReal) = ∑ k : Fin 1024, x (lArr i k) * y (rArr i k) := by
  have h0 : (i 0).val < 8192 := (i 0).isLt
  have h1 : (i 1).val < 7168 := (i 1).isLt
  rw [Cert.Reference11Ideal.Read.val_main_v4_apply]
  refine Finset.sum_congr rfl fun k _ => ?_
  have hk := k.isLt
  rw [Cert.Reference11Ideal.Read.val_main_v3_apply, Cert.Reference11Ideal.Read.val_main_v2_apply]
  show x _ * y _ = _
  refine congrArg₂ (· * ·) (congrArg x (funext fun a => Fin.ext ?_)) (congrArg y (funext fun a => Fin.ext ?_))
  · match a with
    | ⟨0, _⟩ => rfl
    | ⟨1, _⟩ => rfl
  · match a with
    | ⟨0, _⟩ => show (k.val* 7168 + (i 1).val) / 1792 % 4 = (i 1).val / 1792; omega
    | ⟨1, _⟩ => show (k.val * 7168 + (i 1).val) / 7168 = k.val; omega
    | ⟨2, _⟩ => show (k.val * 7168 + (i 1).val) % 1792 = (i 1).val % 1792; omega

/-- The value claim: the kernel's array is the reference's, on every device. -/
theorem algebraic : Cert.algebraic_Kernel11Ideal_Reference11Ideal := by
  intro m ρ m' ρ' _ hag
  refine ⟨fun c => result m c, run_result m ρ, ?_⟩
  refine (θ_run Cert.Reference11Ideal.defs _ _).mono (fun r h c => ⟨?_, (h c).2⟩) (Cert.Reference11Ideal.Value.run (F := Ideal) m' ρ')
  rw [(h c).1, (hag c).1, (hag c).2]
  refine (Cert.Reference11Ideal.Read.val_main_v4_eq (F := Ideal) _ _).trans ?_
  funext i
  exact (ref_apply (X0 m c) (X1 m c) i)

/-- The reference runs and leaves its arguments as they were. -/
theorem ref_frame : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

end Cert.Kernel11Ideal.Prod

end
-- ==== Proof.Arr12.lean ====
module

public import proofs.«01_k».proof.Proof.Sums
public import proofs.«01_k».proof.Proof.Gen.Kernel12Ideal.Value
public import Idealize.ShloMosaic.Lib.IdealHost

/-! The array `Kernel12` (the down projection) writes: one product over the whole contracted axis. -/

@[expose] public section

set_option maxRecDepth 16384

noncomputable section

namespace Cert.Kernel12Ideal.Prod

open Cert.Kernel12Ideal Cert.Kernel12Ideal.Gen Cert.Kernel12Ideal.Value Idealize.ShloMosaic Idealize.ShloMosaic.TcCoe Idealize.SL.Sem

/-- What the arrays of every device hold. -/
abbrev Mem : Type := (ℓ : Loc nD τ sig) → Buf (Elt Ideal) ℓ

/-! ## The product over the extended reals -/

/-- The left operand's element the product reads at output `i` and contraction index `k`. -/
abbrev lidx (i : S1024x1024.Idx) (k : Fin 2816) : S1024x2816.Idx := fun a => match a with
  | ⟨0, _⟩ => ⟨(i 0).val, (i 0).isLt⟩
  | ⟨1, _⟩ => ⟨k.val, k.isLt⟩
/-- The right operand's. -/
abbrev ridx (i : S1024x1024.Idx) (k : Fin 2816) : S2816x1024.Idx := fun a => match a with
  | ⟨0, _⟩ => ⟨k.val, k.isLt⟩
  | ⟨1, _⟩ => ⟨(i 1).val, (i 1).isLt⟩
/-- The matrix unit's product is the accumulator plus the sum of products. -/
theorem mm_apply (x : FVec Ideal S1024x2816 .bf16) (y : FVec Ideal S2816x1024 .bf16) (acc : FVec Ideal S1024x1024 .f32) (i : S1024x1024.Idx) :
    matmul dot_S1024x2816_S2816x1024_S1024x1024_1_0_0_1_n_n none x y acc i = acc i + ∑ k : Fin 2816, x (lidx i k) * y (ridx i k) :=
  Cert.Sums.mm_apply _ 2816 rfl rfl x y acc i (lidx i) (ridx i) (fun _ _ h a => match a with | ⟨0, _⟩ => rfl | ⟨1, _⟩ => h)
    fun _ _ h a => match a with | ⟨0, _⟩ => h | ⟨1, _⟩ => rfl

/-- A point's payload at an element. -/
theorem pay_apply (x : Vec Ideal S1024x2816 .bf16) (y : Vec Ideal S2816x1024 .bf16) (i : S1024x1024.Idx) :
    (k0_pay1 x y i : EReal) = ∑ k : Fin 2816, (x (lidx i k) : EReal) * y (ridx i k) := by
  show (matmul (F := Ideal) (φ₁ := .bf16) (φ₂ := .bf16) dot_S1024x2816_S2816x1024_S1024x1024_1_0_0_1_n_n none _ _ _ i : EReal) = _
  rw [mm_apply]
  have z : (constant (F := Ideal) S1024x1024 .f32 0x00000000#32 i : EReal) = 0 := Ideal.ofBits_zero_f32
  refine (congrArg (· + _) z).trans ((zero_add _).trans ?_)
  rfl

/-- Argument 0, with extended reals as elements. -/
def X0 (m : Mem) (c : Dev nD) : S8192x2816.Idx → EReal := m (c.tc.loc main_arg0)
@[inherit_doc X0] def X1 (m : Mem) (c : Dev nD) : S2816x1024.Idx → EReal := m (c.tc.loc main_arg1)

/-- Window 0's block at a point, with extended reals as elements. -/
def B0 (m : Mem) (c : Dev nD) (t : Fin cfg0.N) : S1024x2816.Idx → EReal := iblk m c 0 t
/-- The printed index map of window 0, over the grid. -/
theorem idx0 : ∀ t : Fin grid0.N, win0_0.index t 0 = t.val ∧ win0_0.index t 1 = 0 := by decide +kernel

/-- Window 0's block at a point, read at an element, is the array at the block's offset plus the element. -/
theorem blk0_apply (m : Mem) (c : Dev nD) (t : Fin cfg0.N) (j : S1024x2816.Idx) (a : S8192x2816.Idx)
    (e0 : (a 0).val = (t.val) * 1024 + (j 0).val) (e1 : (a 1).val = (0) * 2816 + (j 1).val) :
    B0 m c t j = X0 m c a := by
  unfold B0 iblk
  rw [View.read_apply]
  refine congrArg (X0 m c) (funext fun x => Fin.ext ?_)
  have h := idx0 t
  match x with
  | ⟨0, _⟩ => show win0_0.index t 0 * 1024 + 1 * (j 0).val = (a 0).val; rw [h.1, e0]; omega
  | ⟨1, _⟩ => show win0_0.index t 1 * 2816 + 1 * (j 1).val = (a 1).val; rw [h.2, e1]; omega

@[inherit_doc B0] def B1 (m : Mem) (c : Dev nD) (t : Fin cfg0.N) : S2816x1024.Idx → EReal := iblk m c 1 t
@[inherit_doc idx0] theorem idx1 : ∀ t : Fin grid0.N, win0_1.index t 0 = 0 ∧ win0_1.index t 1 = 0 := by decide +kernel

@[inherit_doc blk0_apply] theorem blk1_apply (m : Mem) (c : Dev nD) (t : Fin cfg0.N) (j : S2816x1024.Idx) (a : S2816x1024.Idx)
    (e0 : (a 0).val = (0) * 2816 + (j 0).val) (e1 : (a 1).val = (0) * 1024 + (j 1).val) :
    B1 m c t j = X1 m c a := by
  unfold B1 iblk
  rw [View.read_apply]
  refine congrArg (X1 m c) (funext fun x => Fin.ext ?_)
  have h := idx1 t
  match x with
  | ⟨0, _⟩ => show win0_1.index t 0 * 2816 + 1 * (j 0).val = (a 0).val; rw [h.1, e0]; omega
  | ⟨1, _⟩ => show win0_1.index t 1 * 1024 + 1 * (j 1).val = (a 1).val; rw [h.2, e1]; omega

/-- The factors' indices at result element `i` and contraction index `k`. -/
abbrev lArr (i : S8192x1024.Idx) (k : Fin 2816) : S8192x2816.Idx := fun a => match a with
  | ⟨0, _⟩ => ⟨(i 0).val, (i 0).isLt⟩
  | ⟨1, _⟩ => ⟨k.val, k.isLt⟩
@[inherit_doc lArr] abbrev rArr (i : S8192x1024.Idx) (k : Fin 2816) : S2816x1024.Idx := fun a => match a with
  | ⟨0, _⟩ => ⟨k.val, k.isLt⟩
  | ⟨1, _⟩ => ⟨(i 1).val, (i 1).isLt⟩

/-- The array `Kernel12` writes, of its two operands. -/
def prod (x : S8192x2816.Idx → EReal) (w : S2816x1024.Idx → EReal) (i : S8192x1024.Idx) : EReal := ∑ k : Fin 2816, x (lArr i k) * w (rArr i k)

variable (m : Mem)

/-- The same as contents of the result array. -/
def result (c : Dev nD) : Buf (Elt Ideal) ((c : Thread nD τ).loc main_v0) := prod (X0 m c) (X1 m c)

theorem hz2 : (![0, 0] : Fin 2 → Nat) = fun _ => 0 := funext fun a => by fin_cases a <;> rfl
theorem hz3 : (![0, 0, 0] : Fin 3 → Nat) = fun _ => 0 := funext fun a => by fin_cases a <;> rfl

@[inherit_doc idx0] theorem idx2 : ∀ t : Fin grid0.N, win0_2.index t 0 = t.val ∧ win0_2.index t 1 = 0 := by decide +kernel

/-- What a point leaves in the result's block, at an element. -/
theorem out_apply (c : Dev nD) (t : Fin cfg0.N) (y : S1024x1024.Idx) (i : S8192x1024.Idx)
    (e0 : (i 0).val = (t.val) * 1024 + (y 0).val) (e1 : (i 1).val = (0) * 1024 + (y 1).val) :
    (out0_2 (iblk m c 0 t) (iblk m c 1 t) y : EReal) = prod (X0 m c) (X1 m c) i := by
  have ht : t.val < 8 := lt_of_lt_of_eq t.isLt N_0
  have hy0 : (y 0).val < 1024 := (y 0).isLt
  have hy1 : (y 1).val < 1024 := (y 1).isLt
  unfold out0_2 prod
  rw [View.ld_unit_zero (S := S1024x2816) hz2, View.ld_unit_zero (S := S2816x1024) hz2, View.canon_unit_zero (S := S1024x1024) hz2]
  refine (pay_apply (iblk m c 0 t) (iblk m c 1 t) y).trans ?_
  exact Finset.sum_congr rfl fun k _ => congrArg₂ (· * ·)
    (blk0_apply m c t (lidx y k) (lArr i k) (by show (i 0).val = _ + (y 0).val; omega) (by show k.val = _ + k.val; omega))
    (blk1_apply m c t (ridx y k) (rArr i k) (by dsimp only [rArr, ridx]; omega) (by dsimp only [rArr, ridx]; omega))

/-- What a point writes back is its block of the result array. -/
theorem flushed_eq (c : Dev nD) (t : Fin cfg0.N) :
    (dats m 0 c).flushed 2 t = ((cfg0.win 2).blk t).view.read (Elt Ideal) (result m c) := by
  rw [flushed2]
  funext y
  rw [View.read_apply]
  have h := idx2 t
  refine out_apply m c t y _ ?_ ?_
  · show win0_2.index t 0 * 1024 + 1 * (y 0).val = _; rw [h.1]; omega
  · show win0_2.index t 1 * 1024 + 1 * (y 1).val = _; rw [h.2]; omega

/-- The blocks of window 2 cover its array. -/
theorem cover2 (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hN : cfg0.N = 8 := N_0
  refine ⟨⟨(i 0).val / 1024, by omega⟩, flush0_2 _, ?_⟩
  generalize ht : (⟨(i 0).val / 1024, _⟩ : Fin cfg0.N) = t
  have hv : t.val = (i 0).val / 1024 := by rw [← ht]
  have h := idx2 t
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [h.1]; omega
  | ⟨1, _⟩ => show win0_2.index t 1 * 1024 ≤ (i 1).val ∧ (i 1).val < win0_2.index t 1 * 1024 + 1024; rw [h.2]; omega

/-- The run, with the result array read. -/
theorem run_result (ρ : Dev nD → PrngReg) : θ_run defs (onTc (τ := τ) (main (F := Ideal))) ⟨m, fun _ => 0, ρ⟩ fun r => ∀ c : Dev nD,
      r.2.mem (c.tc.loc main_v0) = result m c
      ∧ r.2.mem (c.tc.loc main_arg0) = m (c.tc.loc main_arg0)
      ∧ r.2.mem (c.tc.loc main_arg1) = m (c.tc.loc main_arg1) :=
  (θ_run defs _ _).mono (fun _ h c => ⟨(h c).1.trans ((dats m 0 c).arrAt_eq_of_cover 2 (result m c) (fun t _ => flushed_eq m c t) cover2), (h c).2⟩)
    (run_blocks m ρ)

end Cert.Kernel12Ideal.Prod

end
-- ==== Proof.Eq12.lean ====
module

public import proofs.«01_k».proof.Defs
public import proofs.«01_k».proof.Proof.Arr12
public import proofs.«01_k».proof.Proof.Gen.Kernel12Ideal
public import proofs.«01_k».proof.Proof.Gen.Reference12Ideal
public import proofs.«01_k».proof.Proof.Gen.Reference12Ideal.Run
public import proofs.«01_k».proof.Proof.Gen.Reference12Ideal.Read

/-! `Kernel12` and its reference compute the same array over the extended reals. -/

@[expose] public section

set_option maxRecDepth 16384

noncomputable section

namespace Cert.Kernel12Ideal.Prod

open Cert.Kernel12Ideal Cert.Kernel12Ideal.Gen Cert.Kernel12Ideal.Value Idealize.ShloMosaic Idealize.ShloMosaic.TcCoe Idealize.SL.Sem

/-- The reference's result at an element is the same sum of products. -/
theorem ref_apply (x : S8192x2816.Idx → EReal) (y : S2816x1024.Idx → EReal) (i : S8192x1024.Idx) :
    (Cert.Reference12Ideal.Read.val_main_v2 (F := Ideal) x y i : EReal) = ∑ k : Fin 2816, x (lArr i k) * y (rArr i k) := by
  have h0 : (i 0).val < 8192 := (i 0).isLt
  have h1 : (i 1).val < 1024 := (i 1).isLt
  rw [Cert.Reference12Ideal.Read.val_main_v2_apply]
  refine Finset.sum_congr rfl fun k _ => ?_
  have hk := k.isLt
  show x _ * y _ = _
  refine congrArg₂ (· * ·) (congrArg x (funext fun a => Fin.ext ?_)) (congrArg y (funext fun a => Fin.ext ?_))
  · match a with
    | ⟨0, _⟩ => rfl
    | ⟨1, _⟩ => rfl
  · match a with
    | ⟨0, _⟩ => rfl
    | ⟨1, _⟩ => rfl

/-- The value claim: the kernel's array is the reference's, on every device. -/
theorem algebraic : Cert.algebraic_Kernel12Ideal_Reference12Ideal := by
  intro m ρ m' ρ' _ hag
  refine ⟨fun c => result m c, run_result m ρ, ?_⟩
  refine (θ_run Cert.Reference12Ideal.defs _ _).mono (fun r h c => ⟨?_, (h c).2⟩) (Cert.Reference12Ideal.Value.run (F := Ideal) m' ρ')
  rw [(h c).1, (hag c).1, (hag c).2]
  refine (Cert.Reference12Ideal.Read.val_main_v2_eq (F := Ideal) _ _).trans ?_
  funext i
  exact (ref_apply (X0 m c) (X1 m c) i)

/-- The reference runs and leaves its arguments as they were. -/
theorem ref_frame : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

end Cert.Kernel12Ideal.Prod

end
-- ==== Proof.Arr13.lean ====
module

public import proofs.«01_k».proof.Proof.Sums
public import proofs.«01_k».proof.Proof.Gen.Kernel13Ideal.Value
public import Idealize.ShloMosaic.Lib.IdealHost

/-! The array `Kernel13` (the output projection) writes: one product over the whole contracted axis. -/

@[expose] public section

set_option maxRecDepth 16384

noncomputable section

namespace Cert.Kernel13Ideal.Prod

open Cert.Kernel13Ideal Cert.Kernel13Ideal.Gen Cert.Kernel13Ideal.Value Idealize.ShloMosaic Idealize.ShloMosaic.TcCoe Idealize.SL.Sem

/-- What the arrays of every device hold. -/
abbrev Mem : Type := (ℓ : Loc nD τ sig) → Buf (Elt Ideal) ℓ

/-! ## The product over the extended reals -/

/-- The left operand's element the product reads at output `i` and contraction index `k`. -/
abbrev lidx (i : S1024x1024.Idx) (k : Fin 1024) : S1024x1024.Idx := fun a => match a with
  | ⟨0, _⟩ => ⟨(i 0).val, (i 0).isLt⟩
  | ⟨1, _⟩ => ⟨k.val, k.isLt⟩
/-- The right operand's. -/
abbrev ridx (i : S1024x1024.Idx) (k : Fin 1024) : S1024x1024.Idx := fun a => match a with
  | ⟨0, _⟩ => ⟨k.val, k.isLt⟩
  | ⟨1, _⟩ => ⟨(i 1).val, (i 1).isLt⟩
/-- The matrix unit's product is the accumulator plus the sum of products. -/
theorem mm_apply (x : FVec Ideal S1024x1024 .bf16) (y : FVec Ideal S1024x1024 .bf16) (acc : FVec Ideal S1024x1024 .f32) (i : S1024x1024.Idx) :
    matmul dot_S1024x1024_S1024x1024_S1024x1024_1_0_0_1_n_n none x y acc i = acc i + ∑ k : Fin 1024, x (lidx i k) * y (ridx i k) :=
  Cert.Sums.mm_apply _ 1024 rfl rfl x y acc i (lidx i) (ridx i) (fun _ _ h a => match a with | ⟨0, _⟩ => rfl | ⟨1, _⟩ => h)
    fun _ _ h a => match a with | ⟨0, _⟩ => h | ⟨1, _⟩ => rfl

/-- A point's payload at an element. -/
theorem pay_apply (x : Vec Ideal S1024x1024 .bf16) (y : Vec Ideal S1024x1024 .bf16) (i : S1024x1024.Idx) :
    (k0_pay1 x y i : EReal) = ∑ k : Fin 1024, (x (lidx i k) : EReal) * y (ridx i k) := by
  show (matmul (F := Ideal) (φ₁ := .bf16) (φ₂ := .bf16) dot_S1024x1024_S1024x1024_S1024x1024_1_0_0_1_n_n none _ _ _ i : EReal) = _
  rw [mm_apply]
  have z : (constant (F := Ideal) S1024x1024 .f32 0x00000000#32 i : EReal) = 0 := Ideal.ofBits_zero_f32
  refine (congrArg (· + _) z).trans ((zero_add _).trans ?_)
  rfl

/-- Argument 0, with extended reals as elements. -/
def X0 (m : Mem) (c : Dev nD) : S8192x1024.Idx → EReal := m (c.tc.loc main_arg0)
@[inherit_doc X0] def X1 (m : Mem) (c : Dev nD) : S1024x1024.Idx → EReal := m (c.tc.loc main_arg1)

/-- Window 0's block at a point, with extended reals as elements. -/
def B0 (m : Mem) (c : Dev nD) (t : Fin cfg0.N) : S1024x1024.Idx → EReal := iblk m c 0 t
/-- The printed index map of window 0, over the grid. -/
theorem idx0 : ∀ t : Fin grid0.N, win0_0.index t 0 = t.val ∧ win0_0.index t 1 = 0 := by decide +kernel

/-- Window 0's block at a point, read at an element, is the array at the block's offset plus the element. -/
theorem blk0_apply (m : Mem) (c : Dev nD) (t : Fin cfg0.N) (j : S1024x1024.Idx) (a : S8192x1024.Idx)
    (e0 : (a 0).val = (t.val) * 1024 + (j 0).val) (e1 : (a 1).val = (0) * 1024 + (j 1).val) :
    B0 m c t j = X0 m c a := by
  unfold B0 iblk
  rw [View.read_apply]
  refine congrArg (X0 m c) (funext fun x => Fin.ext ?_)
  have h := idx0 t
  match x with
  | ⟨0, _⟩ => show win0_0.index t 0 * 1024 + 1 * (j 0).val = (a 0).val; rw [h.1, e0]; omega
  | ⟨1, _⟩ => show win0_0.index t 1 * 1024 + 1 * (j 1).val = (a 1).val; rw [h.2, e1]; omega

@[inherit_doc B0] def B1 (m : Mem) (c : Dev nD) (t : Fin cfg0.N) : S1024x1024.Idx → EReal := iblk m c 1 t
@[inherit_doc idx0] theorem idx1 : ∀ t : Fin grid0.N, win0_1.index t 0 = 0 ∧ win0_1.index t 1 = 0 := by decide +kernel

@[inherit_doc blk0_apply] theorem blk1_apply (m : Mem) (c : Dev nD) (t : Fin cfg0.N) (j : S1024x1024.Idx) (a : S1024x1024.Idx)
    (e0 : (a 0).val = (0) * 1024 + (j 0).val) (e1 : (a 1).val = (0) * 1024 + (j 1).val) :
    B1 m c t j = X1 m c a := by
  unfold B1 iblk
  rw [View.read_apply]
  refine congrArg (X1 m c) (funext fun x => Fin.ext ?_)
  have h := idx1 t
  match x with
  | ⟨0, _⟩ => show win0_1.index t 0 * 1024 + 1 * (j 0).val = (a 0).val; rw [h.1, e0]; omega
  | ⟨1, _⟩ => show win0_1.index t 1 * 1024 + 1 * (j 1).val = (a 1).val; rw [h.2, e1]; omega

/-- The factors' indices at result element `i` and contraction index `k`. -/
abbrev lArr (i : S8192x1024.Idx) (k : Fin 1024) : S8192x1024.Idx := fun a => match a with
  | ⟨0, _⟩ => ⟨(i 0).val, (i 0).isLt⟩
  | ⟨1, _⟩ => ⟨k.val, k.isLt⟩
@[inherit_doc lArr] abbrev rArr (i : S8192x1024.Idx) (k : Fin 1024) : S1024x1024.Idx := fun a => match a with
  | ⟨0, _⟩ => ⟨k.val, k.isLt⟩
  | ⟨1, _⟩ => ⟨(i 1).val, (i 1).isLt⟩

/-- The array `Kernel13` writes, of its two operands. -/
def prod (x : S8192x1024.Idx → EReal) (w : S1024x1024.Idx → EReal) (i : S8192x1024.Idx) : EReal := ∑ k : Fin 1024, x (lArr i k) * w (rArr i k)

variable (m : Mem)

/-- The same as contents of the result array. -/
def result (c : Dev nD) : Buf (Elt Ideal) ((c : Thread nD τ).loc main_v0) := prod (X0 m c) (X1 m c)

theorem hz2 : (![0, 0] : Fin 2 → Nat) = fun _ => 0 := funext fun a => by fin_cases a <;> rfl
theorem hz3 : (![0, 0, 0] : Fin 3 → Nat) = fun _ => 0 := funext fun a => by fin_cases a <;> rfl

@[inherit_doc idx0] theorem idx2 : ∀ t : Fin grid0.N, win0_2.index t 0 = t.val ∧ win0_2.index t 1 = 0 := by decide +kernel

/-- What a point leaves in the result's block, at an element. -/
theorem out_apply (c : Dev nD) (t : Fin cfg0.N) (y : S1024x1024.Idx) (i : S8192x1024.Idx)
    (e0 : (i 0).val = (t.val) * 1024 + (y 0).val) (e1 : (i 1).val = (0) * 1024 + (y 1).val) :
    (out0_2 (iblk m c 0 t) (iblk m c 1 t) y : EReal) = prod (X0 m c) (X1 m c) i := by
  have ht : t.val < 8 := lt_of_lt_of_eq t.isLt N_0
  have hy0 : (y 0).val < 1024 := (y 0).isLt
  have hy1 : (y 1).val < 1024 := (y 1).isLt
  unfold out0_2 prod
  rw [View.ld_unit_zero (S := S1024x1024) hz2, View.ld_unit_zero (S := S1024x1024) hz2, View.canon_unit_zero (S := S1024x1024) hz2]
  refine (pay_apply (iblk m c 0 t) (iblk m c 1 t) y).trans ?_
  exact Finset.sum_congr rfl fun k _ => congrArg₂ (· * ·)
    (blk0_apply m c t (lidx y k) (lArr i k) (by show (i 0).val = _ + (y 0).val; omega) (by show k.val = _ + k.val; omega))
    (blk1_apply m c t (ridx y k) (rArr i k) (by dsimp only [rArr, ridx]; omega) (by dsimp only [rArr, ridx]; omega))

/-- What a point writes back is its block of the result array. -/
theorem flushed_eq (c : Dev nD) (t : Fin cfg0.N) :
    (dats m 0 c).flushed 2 t = ((cfg0.win 2).blk t).view.read (Elt Ideal) (result m c) := by
  rw [flushed2]
  funext y
  rw [View.read_apply]
  have h := idx2 t
  refine out_apply m c t y _ ?_ ?_
  · show win0_2.index t 0 * 1024 + 1 * (y 0).val = _; rw [h.1]; omega
  · show win0_2.index t 1 * 1024 + 1 * (y 1).val = _; rw [h.2]; omega

/-- The blocks of window 2 cover its array. -/
theorem cover2 (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hN : cfg0.N = 8 := N_0
  refine ⟨⟨(i 0).val / 1024, by omega⟩, flush0_2 _, ?_⟩
  generalize ht : (⟨(i 0).val / 1024, _⟩ : Fin cfg0.N) = t
  have hv : t.val = (i 0).val / 1024 := by rw [← ht]
  have h := idx2 t
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [h.1]; omega
  | ⟨1, _⟩ => show win0_2.index t 1 * 1024 ≤ (i 1).val ∧ (i 1).val < win0_2.index t 1 * 1024 + 1024; rw [h.2]; omega

/-- The run, with the result array read. -/
theorem run_result (ρ : Dev nD → PrngReg) : θ_run defs (onTc (τ := τ) (main (F := Ideal))) ⟨m, fun _ => 0, ρ⟩ fun r => ∀ c : Dev nD,
      r.2.mem (c.tc.loc main_v0) = result m c
      ∧ r.2.mem (c.tc.loc main_arg0) = m (c.tc.loc main_arg0)
      ∧ r.2.mem (c.tc.loc main_arg1) = m (c.tc.loc main_arg1) :=
  (θ_run defs _ _).mono (fun _ h c => ⟨(h c).1.trans ((dats m 0 c).arrAt_eq_of_cover 2 (result m c) (fun t _ => flushed_eq m c t) cover2), (h c).2⟩)
    (run_blocks m ρ)

end Cert.Kernel13Ideal.Prod

end
-- ==== Proof.Eq13.lean ====
module

public import proofs.«01_k».proof.Defs
public import proofs.«01_k».proof.Proof.Arr13
public import proofs.«01_k».proof.Proof.Gen.Kernel13Ideal
public import proofs.«01_k».proof.Proof.Gen.Reference13Ideal
public import proofs.«01_k».proof.Proof.Gen.Reference13Ideal.Run
public import proofs.«01_k».proof.Proof.Gen.Reference13Ideal.Read

/-! `Kernel13` and its reference compute the same array over the extended reals. -/

@[expose] public section

set_option maxRecDepth 16384

noncomputable section

namespace Cert.Kernel13Ideal.Prod

open Cert.Kernel13Ideal Cert.Kernel13Ideal.Gen Cert.Kernel13Ideal.Value Idealize.ShloMosaic Idealize.ShloMosaic.TcCoe Idealize.SL.Sem

/-- The reference's result at an element is the same sum of products. -/
theorem ref_apply (x : S8192x1024.Idx → EReal) (y : S1024x1024.Idx → EReal) (i : S8192x1024.Idx) :
    (Cert.Reference13Ideal.Read.val_main_v2 (F := Ideal) x y i : EReal) = ∑ k : Fin 1024, x (lArr i k) * y (rArr i k) := by
  have h0 : (i 0).val < 8192 := (i 0).isLt
  have h1 : (i 1).val < 1024 := (i 1).isLt
  rw [Cert.Reference13Ideal.Read.val_main_v2_apply]
  refine Finset.sum_congr rfl fun k _ => ?_
  have hk := k.isLt
  show x _ * y _ = _
  refine congrArg₂ (· * ·) (congrArg x (funext fun a => Fin.ext ?_)) (congrArg y (funext fun a => Fin.ext ?_))
  · match a with
    | ⟨0, _⟩ => rfl
    | ⟨1, _⟩ => rfl
  · match a with
    | ⟨0, _⟩ => rfl
    | ⟨1, _⟩ => rfl

/-- The value claim: the kernel's array is the reference's, on every device. -/
theorem algebraic : Cert.algebraic_Kernel13Ideal_Reference13Ideal := by
  intro m ρ m' ρ' _ hag
  refine ⟨fun c => result m c, run_result m ρ, ?_⟩
  refine (θ_run Cert.Reference13Ideal.defs _ _).mono (fun r h c => ⟨?_, (h c).2⟩) (Cert.Reference13Ideal.Value.run (F := Ideal) m' ρ')
  rw [(h c).1, (hag c).1, (hag c).2]
  refine (Cert.Reference13Ideal.Read.val_main_v2_eq (F := Ideal) _ _).trans ?_
  funext i
  exact (ref_apply (X0 m c) (X1 m c) i)

/-- The reference runs and leaves its arguments as they were. -/
theorem ref_frame : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

end Cert.Kernel13Ideal.Prod

end
-- ==== Proof.Gate.lean ====
module

public import Idealize.ShloMosaic.PureOps.Ideal
public import Mathlib.Analysis.SpecialFunctions.Exp

/-! The gate's scalar functions over the extended reals, at real arguments. -/

@[expose] public section

noncomputable section

namespace Cert.Gate

open Idealize.ShloMosaic

/-- The logistic function of a real number. -/
def sg (a : ℝ) : ℝ := 1 / (1 + Real.exp (-a))

/-- One over one plus the exponential of the negation, over the extended reals. -/
theorem plain (a : ℝ) : Ideal.div 1 (1 + Ideal.exp (-(a : EReal))) = (sg a : EReal) := by
  have h : 1 + Real.exp (-a) ≠ 0 := by positivity
  rw [← EReal.coe_neg, Ideal.exp_coe, ← EReal.coe_one, ← EReal.coe_add, Ideal.div_coe h, ← EReal.coe_mul, one_mul]
  rfl

/-- The same from the exponential of minus the absolute value, chosen by the sign. -/
theorem folded (a : ℝ) : Ideal.div (if (0 : EReal) ≤ (a : EReal) then 1 else Ideal.exp (0 - max (a : EReal) (-(a : EReal))))
    (1 + Ideal.exp (0 - max (a : EReal) (-(a : EReal)))) = (sg a : EReal) := by
  by_cases h : 0 ≤ a
  · have h' : (0 : EReal) ≤ (a : EReal) := by exact_mod_cast h
    have hm : max (a : EReal) (-(a : EReal)) = (a : EReal) := max_eq_left (by rw [← EReal.coe_neg]; exact_mod_cast (by linarith : -a ≤ a))
    rw [if_pos h', hm, zero_sub]
    exact plain a
  · have h' : ¬ (0 : EReal) ≤ (a : EReal) := by exact_mod_cast h
    have hm : max (a : EReal) (-(a : EReal)) = ((-a : ℝ) : EReal) := by
      rw [← EReal.coe_neg]; exact max_eq_right (by exact_mod_cast (by linarith : a ≤ -a))
    have hp : 1 + Real.exp a ≠ 0 := by positivity
    have hq : 1 + Real.exp (-a) ≠ 0 := by positivity
    rw [if_neg h', hm, zero_sub, ← EReal.coe_neg, neg_neg, Ideal.exp_coe, ← EReal.coe_one, ← EReal.coe_add, Ideal.div_coe hp, ← EReal.coe_mul]
    congr 1
    unfold sg
    have e : Real.exp a * Real.exp (-a) = 1 := by rw [← Real.exp_add, add_neg_cancel, Real.exp_zero]
    field_simp
    linear_combination e

/-- The two ways of writing the gradient by the gate's argument agree at real numbers. -/
theorem slope (x a s : ℝ) : (x : EReal) * (s * (1 + a * (1 - s))) = x * s + (a * x) * (s * (1 - s)) := by
  simp only [← EReal.coe_one, ← EReal.coe_add, ← EReal.coe_mul, ← EReal.coe_sub]
  congr 1
  ring

/-- A sum of products of real numbers is a real number. -/
theorem sum_real {n : ℕ} (x y : Fin n → EReal) (hx : ∀ k, ∃ r : ℝ, x k = r) (hy : ∀ k, ∃ r : ℝ, y k = r) :
    ∃ r : ℝ, ∑ k, x k * y k = r := by
  choose f hf using hx
  choose g hg using hy
  refine ⟨∑ k, f k * g k, ?_⟩
  have e : ∀ s : Finset (Fin n), ∑ k ∈ s, x k * y k = ((∑ k ∈ s, f k * g k : ℝ) : EReal) := by
    intro s
    induction s using Finset.cons_induction with
    | empty => simp
    | cons a s ha ih => rw [Finset.sum_cons, Finset.sum_cons, ih, hf, hg, EReal.coe_add, EReal.coe_mul]
  exact e _

/-- What differs from itself by zero is a real number. -/
theorem real_of_sub (x : EReal) (h : x - x = 0) : ∃ r : ℝ, x = r := by
  induction x with
  | bot => simp at h
  | top => simp at h
  | coe r => exact ⟨r, rfl⟩

end Cert.Gate

end
-- ==== Proof.Sig.lean ====
module

public import proofs.«01_k».proof.Proof.Gate
public import Idealize.ShloMosaic.Lib.IdealHost

/-! The two ways the programs write the logistic function agree at every extended real. -/

@[expose] public section

noncomputable section

namespace Cert.Sig

open Idealize.ShloMosaic

/-- The logistic function as the kernels compute it: the exponential of minus the absolute value, chosen by the sign. -/
def sK (a : EReal) : EReal :=
  Ideal.div (Scalar.select (Ideal.cmp .oge a 0) 1 (Ideal.exp (0 - max a (-a)))) (1 + Ideal.exp (0 - max a (-a)))

/-- The logistic function as the references write it. -/
def sR (a : EReal) : EReal := Ideal.div 1 (1 + Ideal.exp (-a))

/-- The unit constant of the printed programs, and the zero one. -/
theorem one_f32 : (FloatOps.ofBits .f32 0x3F800000#32 : Ideal .f32) = (1 : EReal) := Ideal.ofBits_one_f32
theorem zero_f32 : (FloatOps.ofBits .f32 0x00000000#32 : Ideal .f32) = (0 : EReal) := Ideal.ofBits_zero_f32

/-- The choice by sign, as a choice by an order. -/
theorem select_oge (a x y : EReal) : Scalar.select (Ideal.cmp .oge a 0) x y = if (0 : EReal) ≤ a then x else y := by
  by_cases h : (0 : EReal) ≤ a
  · rw [if_pos h]
    show (if BitVec.ofBool (decide ((0 : EReal) ≤ a)) = 1 then x else y) = x
    rw [decide_eq_true h]
    rfl
  · rw [if_neg h]
    show (if BitVec.ofBool (decide ((0 : EReal) ≤ a)) = 1 then x else y) = y
    rw [decide_eq_false h]
    rfl

/-- The two agree everywhere. -/
theorem sK_eq (a : EReal) : sK a = sR a := by
  unfold sK sR
  rw [select_oge]
  induction a with
  | bot =>
    rw [if_neg (by simp), EReal.neg_bot, max_eq_right (bot_le : (⊥ : EReal) ≤ ⊤), Ideal.exp_top]
    rw [show (0 : EReal) - ⊤ = ⊥ from rfl, Ideal.exp_bot, show (1 : EReal) + ⊤ = ⊤ from rfl]
    unfold Ideal.div
    simp
  | top =>
    rw [if_pos le_top, EReal.neg_top, max_eq_left (bot_le : (⊥ : EReal) ≤ ⊤)]
    rfl
  | coe r => rw [Cert.Gate.folded, Cert.Gate.plain]

end Cert.Sig

end
-- ==== Proof.Arr14.lean ====
module

public import proofs.«01_k».proof.Proof.Sums
public import proofs.«01_k».proof.Proof.Sig
public import proofs.«01_k».proof.Proof.Gen.Kernel14Ideal.Value
public import Idealize.ShloMosaic.Lib.IdealHost

/-! The two arrays `Kernel14` (the up projection and its activation) writes. -/

@[expose] public section

set_option maxRecDepth 16384

noncomputable section

namespace Cert.Kernel14Ideal.Up

open Cert.Sig Cert.Kernel14Ideal Cert.Kernel14Ideal.Gen Cert.Kernel14Ideal.Value Idealize.ShloMosaic Idealize.ShloMosaic.TcCoe Idealize.SL.Sem

/-- What the arrays of every device hold. -/
abbrev Mem : Type := (ℓ : Loc nD τ sig) → Buf (Elt Ideal) ℓ

/-! ## The product over the extended reals -/

/-- The left operand's element the product reads at output `i` and contraction index `k`. -/
abbrev lidx (i : S512x1408.Idx) (k : Fin 1024) : S512x1024.Idx := fun a => match a with
  | ⟨0, _⟩ => ⟨(i 0).val, (i 0).isLt⟩
  | ⟨1, _⟩ => ⟨k.val, k.isLt⟩
/-- The right operand's. -/
abbrev ridx (i : S512x1408.Idx) (k : Fin 1024) : S1024x1408.Idx := fun a => match a with
  | ⟨0, _⟩ => ⟨k.val, k.isLt⟩
  | ⟨1, _⟩ => ⟨(i 1).val, (i 1).isLt⟩
/-- The matrix unit's product is the accumulator plus the sum of products. -/
theorem mm_apply (x : FVec Ideal S512x1024 .bf16) (y : FVec Ideal S1024x1408 .bf16) (acc : FVec Ideal S512x1408 .f32) (i : S512x1408.Idx) :
    matmul dot_S512x1024_S1024x1408_S512x1408_1_0_0_1_n_n none x y acc i = acc i + ∑ k : Fin 1024, x (lidx i k) * y (ridx i k) :=
  Cert.Sums.mm_apply _ 1024 rfl rfl x y acc i (lidx i) (ridx i) (fun _ _ h a => match a with | ⟨0, _⟩ => rfl | ⟨1, _⟩ => h)
    fun _ _ h a => match a with | ⟨0, _⟩ => h | ⟨1, _⟩ => rfl

/-- The weight slab's element. -/
abbrev rblk (i : S512x1408.Idx) (k : Fin 1024) : S1x1024x1408.Idx := fun a => match a with
  | ⟨0, _⟩ => ⟨0, Nat.one_pos⟩
  | ⟨1, _⟩ => ⟨k.val, k.isLt⟩
  | ⟨2, _⟩ => ⟨(i 1).val, (i 1).isLt⟩
/-- A product payload at an element. -/
theorem pay1_apply (x : Vec Ideal S512x1024 .bf16) (y : Vec Ideal S1x1024x1408 .bf16) (i : S512x1408.Idx) :
    (k0_pay1 x y i : EReal) = ∑ k : Fin 1024, (x (lidx i k) : EReal) * y (rblk i k) := by
  unfold k0_pay1
  rw [mm_apply]
  have z : (constant (F := Ideal) S512x1408 .f32 0x00000000#32 i : EReal) = 0 := Ideal.ofBits_zero_f32
  refine (congrArg (· + _) z).trans ((zero_add _).trans ?_)
  exact Finset.sum_congr rfl fun k _ => congrArg (x (lidx i k) * ·) (Cert.Sums.drop_one y _ (ridx i k) (rblk i k) rfl rfl)

/-- A product payload at an element. -/
theorem pay2_apply (x : Vec Ideal S512x1024 .bf16) (y : Vec Ideal S1x1024x1408 .bf16) (i : S512x1408.Idx) :
    (k0_pay2 x y i : EReal) = ∑ k : Fin 1024, (x (lidx i k) : EReal) * y (rblk i k) := by
  unfold k0_pay2
  rw [mm_apply]
  have z : (constant (F := Ideal) S512x1408 .f32 0x00000000#32 i : EReal) = 0 := Ideal.ofBits_zero_f32
  refine (congrArg (· + _) z).trans ((zero_add _).trans ?_)
  exact Finset.sum_congr rfl fun k _ => congrArg (x (lidx i k) * ·) (Cert.Sums.drop_one y _ (ridx i k) (rblk i k) rfl rfl)

/-- The stored first half at an element. -/
theorem pay3_apply (x : Vec Ideal S512x1024 .bf16) (y : Vec Ideal S1x1024x1408 .bf16) (j : S1x512x1408.Idx)
    (i : S512x1408.Idx) (e0 : (j 1).val = (i 0).val) (e1 : (j 2).val = (i 1).val) :
    (k0_pay3 x y j : EReal) = ∑ k : Fin 1024, (x (lidx i k) : EReal) * y (rblk i k) := by
  rw [← pay1_apply]
  unfold k0_pay3
  exact Cert.Sums.add_one _ _ j i e0 e1

/-- The stored second half at an element. -/
theorem pay4_apply (x : Vec Ideal S512x1024 .bf16) (y : Vec Ideal S1x1024x1408 .bf16) (j : S1x512x1408.Idx)
    (i : S512x1408.Idx) (e0 : (j 1).val = (i 0).val) (e1 : (j 2).val = (i 1).val) :
    (k0_pay4 x y j : EReal) = ∑ k : Fin 1024, (x (lidx i k) : EReal) * y (rblk i k) := by
  rw [← pay2_apply]
  unfold k0_pay4
  exact Cert.Sums.add_one _ _ j i e0 e1

/-- The activation of a pair of products. -/
def actOf (a b : EReal) : EReal := a * sK a * b

/-- The stored activation at an element. -/
theorem pay5_apply (x : Vec Ideal S512x1024 .bf16) (y z : Vec Ideal S1x1024x1408 .bf16) (i : S512x1408.Idx) :
    (k0_pay5 x y z i : EReal) = actOf (∑ k : Fin 1024, (x (lidx i k) : EReal) * y (rblk i k)) (∑ k : Fin 1024, (x (lidx i k) : EReal) * z (rblk i k)) := by
  rw [← pay1_apply, ← pay2_apply]
  unfold k0_pay5 actOf sK
  rw [← zero_f32, ← one_f32]
  rfl

/-- Argument 0, with extended reals as elements. -/
def X0 (m : Mem) (c : Dev nD) : S8192x1024.Idx → EReal := m (c.tc.loc main_arg0)
@[inherit_doc X0] def X1 (m : Mem) (c : Dev nD) : S4x1024x1408.Idx → EReal := m (c.tc.loc main_arg1)

/-- Window 0's block at a point, with extended reals as elements. -/
def B0 (m : Mem) (c : Dev nD) (t : Fin cfg0.N) : S512x1024.Idx → EReal := iblk m c 0 t
/-- The printed index map of window 0, over the grid. -/
theorem idx0 : ∀ t : Fin grid0.N, win0_0.index t 0 = t.val % 16 ∧ win0_0.index t 1 = 0 := by decide +kernel

/-- Window 0's block at a point, read at an element, is the array at the block's offset plus the element. -/
theorem blk0_apply (m : Mem) (c : Dev nD) (t : Fin cfg0.N) (j : S512x1024.Idx) (a : S8192x1024.Idx)
    (e0 : (a 0).val = (t.val % 16) * 512 + (j 0).val) (e1 : (a 1).val = (0) * 1024 + (j 1).val) :
    B0 m c t j = X0 m c a := by
  unfold B0 iblk
  rw [View.read_apply]
  refine congrArg (X0 m c) (funext fun x => Fin.ext ?_)
  have h := idx0 t
  match x with
  | ⟨0, _⟩ => show win0_0.index t 0 * 512 + 1 * (j 0).val = (a 0).val; rw [h.1, e0]; omega
  | ⟨1, _⟩ => show win0_0.index t 1 * 1024 + 1 * (j 1).val = (a 1).val; rw [h.2, e1]; omega

@[inherit_doc B0] def B1 (m : Mem) (c : Dev nD) (t : Fin cfg0.N) : S1x1024x1408.Idx → EReal := iblk m c 1 t
@[inherit_doc idx0] theorem idx1 : ∀ t : Fin grid0.N, win0_1.index t 0 = t.val / 16 ∧ win0_1.index t 1 = 0 ∧ win0_1.index t 2 = 0 := by decide +kernel

@[inherit_doc blk0_apply] theorem blk1_apply (m : Mem) (c : Dev nD) (t : Fin cfg0.N) (j : S1x1024x1408.Idx) (a : S4x1024x1408.Idx)
    (e0 : (a 0).val = (t.val / 16) * 1 + (j 0).val) (e1 : (a 1).val = (0) * 1024 + (j 1).val) (e2 : (a 2).val = (0) * 1408 + (j 2).val) :
    B1 m c t j = X1 m c a := by
  unfold B1 iblk
  rw [View.read_apply]
  refine congrArg (X1 m c) (funext fun x => Fin.ext ?_)
  have h := idx1 t
  match x with
  | ⟨0, _⟩ => show win0_1.index t 0 * 1 + 1 * (j 0).val = (a 0).val; rw [h.1, e0]; omega
  | ⟨1, _⟩ => show win0_1.index t 1 * 1024 + 1 * (j 1).val = (a 1).val; rw [h.2.1, e1]; omega
  | ⟨2, _⟩ => show win0_1.index t 2 * 1408 + 1 * (j 2).val = (a 2).val; rw [h.2.2, e2]; omega

@[inherit_doc B0] def B2 (m : Mem) (c : Dev nD) (t : Fin cfg0.N) : S1x1024x1408.Idx → EReal := iblk m c 2 t
@[inherit_doc idx0] theorem idx2 : ∀ t : Fin grid0.N, win0_2.index t 0 = t.val / 16 + 2 ∧ win0_2.index t 1 = 0 ∧ win0_2.index t 2 = 0 := by decide +kernel

@[inherit_doc blk0_apply] theorem blk2_apply (m : Mem) (c : Dev nD) (t : Fin cfg0.N) (j : S1x1024x1408.Idx) (a : S4x1024x1408.Idx)
    (e0 : (a 0).val = (t.val / 16 + 2) * 1 + (j 0).val) (e1 : (a 1).val = (0) * 1024 + (j 1).val) (e2 : (a 2).val = (0) * 1408 + (j 2).val) :
    B2 m c t j = X1 m c a := by
  unfold B2 iblk
  rw [View.read_apply]
  refine congrArg (X1 m c) (funext fun x => Fin.ext ?_)
  have h := idx2 t
  match x with
  | ⟨0, _⟩ => show win0_2.index t 0 * 1 + 1 * (j 0).val = (a 0).val; rw [h.1, e0]; omega
  | ⟨1, _⟩ => show win0_2.index t 1 * 1024 + 1 * (j 1).val = (a 1).val; rw [h.2.1, e1]; omega
  | ⟨2, _⟩ => show win0_2.index t 2 * 1408 + 1 * (j 2).val = (a 2).val; rw [h.2.2, e2]; omega

/-- The factors' indices at row and column `i` of a half and contraction index `k`. -/
abbrev lArr (i : S8192x2816.Idx) (k : Fin 1024) : S8192x1024.Idx := fun a => match a with
  | ⟨0, _⟩ => ⟨(i 0).val, (i 0).isLt⟩
  | ⟨1, _⟩ => ⟨k.val, k.isLt⟩
@[inherit_doc lArr] abbrev gArr (i : S8192x2816.Idx) (k : Fin 1024) : S4x1024x1408.Idx := fun a => match a with
  | ⟨0, _⟩ => ⟨(i 1).val / 1408, by have h : (i 1).val < 2816 := (i 1).isLt; show _ < 4; omega⟩
  | ⟨1, _⟩ => ⟨k.val, k.isLt⟩
  | ⟨2, _⟩ => ⟨(i 1).val % 1408, Nat.mod_lt _ (by decide)⟩
@[inherit_doc lArr] abbrev uArr (i : S8192x2816.Idx) (k : Fin 1024) : S4x1024x1408.Idx := fun a => match a with
  | ⟨0, _⟩ => ⟨(i 1).val / 1408 + 2, by have h : (i 1).val < 2816 := (i 1).isLt; show _ < 4; omega⟩
  | ⟨1, _⟩ => ⟨k.val, k.isLt⟩
  | ⟨2, _⟩ => ⟨(i 1).val % 1408, Nat.mod_lt _ (by decide)⟩
/-- The gate's argument and the gated factor. -/
def gate (x : S8192x1024.Idx → EReal) (w : S4x1024x1408.Idx → EReal) (i : S8192x2816.Idx) : EReal := ∑ k : Fin 1024, x (lArr i k) * w (gArr i k)
@[inherit_doc gate] def up (x : S8192x1024.Idx → EReal) (w : S4x1024x1408.Idx → EReal) (i : S8192x2816.Idx) : EReal := ∑ k : Fin 1024, x (lArr i k) * w (uArr i k)
/-- Row and column of an element of the stacked halves. -/
abbrev tail (i : S2x8192x2816.Idx) : S8192x2816.Idx := fun a => match a with
  | ⟨0, _⟩ => ⟨(i 1).val, (i 1).isLt⟩
  | ⟨1, _⟩ => ⟨(i 2).val, (i 2).isLt⟩
/-- The two halves stacked. -/
def hidden (x : S8192x1024.Idx → EReal) (w : S4x1024x1408.Idx → EReal) (i : S2x8192x2816.Idx) : EReal :=
  if (i 0).val = 0 then gate x w (tail i) else up x w (tail i)
/-- The activation. -/
def act (x : S8192x1024.Idx → EReal) (w : S4x1024x1408.Idx → EReal) (i : S8192x2816.Idx) : EReal := actOf (gate x w i) (up x w i)

variable (m : Mem)

/-- The same as contents of the result arrays. -/
def result3 (c : Dev nD) : Buf (Elt Ideal) ((c : Thread nD τ).loc main_v0_0) := hidden (X0 m c) (X1 m c)
@[inherit_doc result3] def result4 (c : Dev nD) : Buf (Elt Ideal) ((c : Thread nD τ).loc main_v0_1) := act (X0 m c) (X1 m c)

theorem hz2 : (![0, 0] : Fin 2 → Nat) = fun _ => 0 := funext fun a => by fin_cases a <;> rfl
theorem hz3 : (![0, 0, 0] : Fin 3 → Nat) = fun _ => 0 := funext fun a => by fin_cases a <;> rfl

@[inherit_doc idx0] theorem idx3 : ∀ t : Fin grid0.N, win0_3.index t 0 = 0 ∧ win0_3.index t 1 = t.val % 16 ∧ win0_3.index t 2 = t.val / 16 := by decide +kernel

@[inherit_doc idx0] theorem idx4 : ∀ t : Fin grid0.N, win0_4.index t 0 = t.val % 16 ∧ win0_4.index t 1 = t.val / 16 := by decide +kernel

/-- The two stores of a point, read in the first half. -/
theorem stored_first (p0 p1 : Vec Ideal S1x512x1408 .bf16) (y : S2x512x1408.Idx) (x : S1x512x1408.Idx) (h0 : (y 0).val = 0) (h1 : (y 1).val = (x 1).val) (h2 : (y 2).val = (x 2).val) :
    View.canon (Val := Elt Ideal) [⟨r0_3, p0⟩, ⟨r0_2, p1⟩] y = p1 x := by
  have hn : y ∉ r0_3.set := by
    rw [Rect.mem_set_unit]
    intro hh
    have : 1 ≤ (y 0).val := (hh 0).1
    omega
  have hx : (x 0).val < 1 := (x 0).isLt
  have hy : y = r0_2.emb x := by
    funext a
    apply Fin.ext
    match a with
    | ⟨0, _⟩ => show (y 0).val = 0 + 1 * (x 0).val; omega
    | ⟨1, _⟩ => show (y 1).val = 0 + 1 * (x 1).val; omega
    | ⟨2, _⟩ => show (y 2).val = 0 + 1 * (x 2).val; omega
  refine (View.canon_cons_of_not_mem (Val := Elt Ideal) ⟨r0_3, p0⟩ [⟨r0_2, p1⟩] hn).trans ?_
  rw [hy]
  exact View.canon_cons_emb (Val := Elt Ideal) r0_2 p1 [] x

/-- And in the second half. -/
theorem stored_second (p0 p1 : Vec Ideal S1x512x1408 .bf16) (y : S2x512x1408.Idx) (x : S1x512x1408.Idx) (h0 : (y 0).val = 1) (h1 : (y 1).val = (x 1).val) (h2 : (y 2).val = (x 2).val) :
    View.canon (Val := Elt Ideal) [⟨r0_3, p0⟩, ⟨r0_2, p1⟩] y = p0 x := by
  have hx : (x 0).val < 1 := (x 0).isLt
  have hy : y = r0_3.emb x := by
    funext a
    apply Fin.ext
    match a with
    | ⟨0, _⟩ => show (y 0).val = 1 + 1 * (x 0).val; omega
    | ⟨1, _⟩ => show (y 1).val = 0 + 1 * (x 1).val; omega
    | ⟨2, _⟩ => show (y 2).val = 0 + 1 * (x 2).val; omega
  rw [hy]
  exact View.canon_cons_emb (Val := Elt Ideal) r0_3 p0 _ x

/-- The products of a point's blocks are the arrays'. -/
theorem gate_blk (c : Dev nD) (t : Fin cfg0.N) (z : S512x1408.Idx) (i : S8192x2816.Idx)
    (e0 : (i 0).val = (t.val % 16) * 512 + (z 0).val) (e1 : (i 1).val = (t.val / 16) * 1408 + (z 1).val) :
    (∑ k : Fin 1024, B0 m c t (lidx z k) * B1 m c t (rblk z k)) = gate (X0 m c) (X1 m c) i := by
  have hz1 : (z 1).val < 1408 := (z 1).isLt
  exact Finset.sum_congr rfl fun k _ => congrArg₂ (· * ·)
    (blk0_apply m c t (lidx z k) (lArr i k) e0 (by show k.val = 0 * 1024 + k.val; omega))
    (blk1_apply m c t (rblk z k) (gArr i k) (by show (i 1).val / 1408 = _ * 1 + 0; omega) (by show k.val = 0 * 1024 + k.val; omega) (by show (i 1).val % 1408 = 0 * 1408 + (z 1).val; omega))
@[inherit_doc gate_blk] theorem up_blk (c : Dev nD) (t : Fin cfg0.N) (z : S512x1408.Idx) (i : S8192x2816.Idx)
    (e0 : (i 0).val = (t.val % 16) * 512 + (z 0).val) (e1 : (i 1).val = (t.val / 16) * 1408 + (z 1).val) :
    (∑ k : Fin 1024, B0 m c t (lidx z k) * B2 m c t (rblk z k)) = up (X0 m c) (X1 m c) i := by
  have hz1 : (z 1).val < 1408 := (z 1).isLt
  exact Finset.sum_congr rfl fun k _ => congrArg₂ (· * ·)
    (blk0_apply m c t (lidx z k) (lArr i k) e0 (by show k.val = 0 * 1024 + k.val; omega))
    (blk2_apply m c t (rblk z k) (uArr i k) (by show (i 1).val / 1408 + 2 = _ * 1 + 0; omega) (by show k.val = 0 * 1024 + k.val; omega) (by show (i 1).val % 1408 = 0 * 1408 + (z 1).val; omega))

/-- What a point leaves in the stacked halves' block, at an element. -/
theorem out3_apply (c : Dev nD) (t : Fin cfg0.N) (y : S2x512x1408.Idx) (i : S2x8192x2816.Idx)
    (e0 : (i 0).val = (y 0).val) (e1 : (i 1).val = (t.val % 16) * 512 + (y 1).val) (e2 : (i 2).val = (t.val / 16) * 1408 + (y 2).val) :
    (out0_3 (iblk m c 0 t) (iblk m c 1 t) (iblk m c 2 t) y : EReal) = hidden (X0 m c) (X1 m c) i := by
  have hy0 : (y 0).val < 2 := (y 0).isLt
  let x : S1x512x1408.Idx := fun a => match a with
    | ⟨0, _⟩ => ⟨0, Nat.one_pos⟩
    | ⟨1, _⟩ => ⟨(y 1).val, (y 1).isLt⟩
    | ⟨2, _⟩ => ⟨(y 2).val, (y 2).isLt⟩
  let z : S512x1408.Idx := fun a => match a with
    | ⟨0, _⟩ => ⟨(y 1).val, (y 1).isLt⟩
    | ⟨1, _⟩ => ⟨(y 2).val, (y 2).isLt⟩
  unfold out0_3 hidden
  rw [View.ld_unit_zero (S := S512x1024) hz2, View.ld_unit_zero (S := S1x1024x1408) hz3, View.ld_unit_zero (S := S1x1024x1408) hz3]
  by_cases h : (y 0).val = 0
  · rw [if_pos (e0.trans h)]
    refine (stored_first _ _ y x h rfl rfl).trans ?_
    refine (pay3_apply (iblk m c 0 t) (iblk m c 1 t) x z rfl rfl).trans ?_
    exact gate_blk m c t z (tail i) e1 e2
  · rw [if_neg (fun h' => h (e0.symm.trans h'))]
    refine (stored_second _ _ y x (by omega) rfl rfl).trans ?_
    refine (pay4_apply (iblk m c 0 t) (iblk m c 2 t) x z rfl rfl).trans ?_
    exact up_blk m c t z (tail i) e1 e2

/-- What a point leaves in the activation's block, at an element. -/
theorem out4_apply (c : Dev nD) (t : Fin cfg0.N) (y : S512x1408.Idx) (i : S8192x2816.Idx)
    (e0 : (i 0).val = (t.val % 16) * 512 + (y 0).val) (e1 : (i 1).val = (t.val / 16) * 1408 + (y 1).val) :
    (out0_4 (iblk m c 0 t) (iblk m c 1 t) (iblk m c 2 t) y : EReal) = act (X0 m c) (X1 m c) i := by
  unfold out0_4 act
  rw [View.ld_unit_zero (S := S512x1024) hz2, View.ld_unit_zero (S := S1x1024x1408) hz3, View.ld_unit_zero (S := S1x1024x1408) hz3, View.canon_unit_zero (S := S512x1408) hz2]
  refine (pay5_apply (iblk m c 0 t) (iblk m c 1 t) (iblk m c 2 t) y).trans ?_
  exact congrArg₂ actOf (gate_blk m c t y i e0 e1) (up_blk m c t y i e0 e1)

/-- What a point writes back through window 3 is its block of the result array. -/
theorem flushed_eq3 (c : Dev nD) (t : Fin cfg0.N) :
    (dats m 0 c).flushed 3 t = ((cfg0.win 3).blk t).view.read (Elt Ideal) (result3 m c) := by
  rw [flushed3]
  funext y
  rw [View.read_apply]
  have h := idx3 t
  refine out3_apply m c t y _ ?_ ?_ ?_
  · show win0_3.index t 0 * 2 + 1 * (y 0).val = (y 0).val; rw [h.1]; omega
  · show win0_3.index t 1 * 512 + 1 * (y 1).val = _; rw [h.2.1]; omega
  · show win0_3.index t 2 * 1408 + 1 * (y 2).val = _; rw [h.2.2]; omega

/-- What a point writes back through window 4 is its block of the result array. -/
theorem flushed_eq4 (c : Dev nD) (t : Fin cfg0.N) :
    (dats m 0 c).flushed 4 t = ((cfg0.win 4).blk t).view.read (Elt Ideal) (result4 m c) := by
  rw [flushed4]
  funext y
  rw [View.read_apply]
  have h := idx4 t
  refine out4_apply m c t y _ ?_ ?_
  · show win0_4.index t 0 * 512 + 1 * (y 0).val = _; rw [h.1]; omega
  · show win0_4.index t 1 * 1408 + 1 * (y 1).val = _; rw [h.2]; omega

/-- The blocks of window 3 cover its array. -/
theorem cover3 (i : S2x8192x2816.Idx) : ∃ t : Fin cfg0.N, (cfg0.win 3).flush t = true ∧ i ∈ ((cfg0.win 3).blk t).view.set := by
  have h0 : (i 0).val < 2 := (i 0).isLt
  have h1 : (i 1).val < 8192 := (i 1).isLt
  have h2 : (i 2).val < 2816 := (i 2).isLt
  have hN : cfg0.N = 32 := N_0
  refine ⟨⟨(i 2).val / 1408 * 16 + (i 1).val / 512, by omega⟩, flush0_3 _, ?_⟩
  generalize ht : (⟨(i 2).val / 1408 * 16 + (i 1).val / 512, _⟩ : Fin cfg0.N) = t
  have hv : t.val = (i 2).val / 1408 * 16 + (i 1).val / 512 := by rw [← ht]
  have h := idx3 t
  show i ∈ ((View.whole main_v0_0).slice (win0_3.rect t)).set
  rw [View.set_slice_whole, Rect.mem_set_unit]
  intro a
  match a with
  | ⟨0, _⟩ => show win0_3.index t 0 * 2 ≤ (i 0).val ∧ (i 0).val < win0_3.index t 0 * 2 + 2; rw [h.1]; omega
  | ⟨1, _⟩ => show win0_3.index t 1 * 512 ≤ (i 1).val ∧ (i 1).val < win0_3.index t 1 * 512 + 512; rw [h.2.1]; omega
  | ⟨2, _⟩ => show win0_3.index t 2 * 1408 ≤ (i 2).val ∧ (i 2).val < win0_3.index t 2 * 1408 + 1408; rw [h.2.2]; omega

/-- The blocks of window 4 cover its array. -/
theorem cover4 (i : S8192x2816.Idx) : ∃ t : Fin cfg0.N, (cfg0.win 4).flush t = true ∧ i ∈ ((cfg0.win 4).blk t).view.set := by
  have h0 : (i 0).val < 8192 := (i 0).isLt
  have h1 : (i 1).val < 2816 := (i 1).isLt
  have hN : cfg0.N = 32 := N_0
  refine ⟨⟨(i 1).val / 1408 * 16 + (i 0).val / 512, by omega⟩, flush0_4 _, ?_⟩
  generalize ht : (⟨(i 1).val / 1408 * 16 + (i 0).val / 512, _⟩ : Fin cfg0.N) = t
  have hv : t.val = (i 1).val / 1408 * 16 + (i 0).val / 512 := by rw [← ht]
  have h := idx4 t
  show i ∈ ((View.whole main_v0_1).slice (win0_4.rect t)).set
  rw [View.set_slice_whole, Rect.mem_set_unit]
  intro a
  match a with
  | ⟨0, _⟩ => show win0_4.index t 0 * 512 ≤ (i 0).val ∧ (i 0).val < win0_4.index t 0 * 512 + 512; rw [h.1]; omega
  | ⟨1, _⟩ => show win0_4.index t 1 * 1408 ≤ (i 1).val ∧ (i 1).val < win0_4.index t 1 * 1408 + 1408; rw [h.2]; omega

/-- The run, with the result arrays read. -/
theorem run_result (ρ : Dev nD → PrngReg) : θ_run defs (onTc (τ := τ) (main (F := Ideal))) ⟨m, fun _ => 0, ρ⟩ fun r => ∀ c : Dev nD,
      r.2.mem (c.tc.loc main_v0_0) = result3 m c
      ∧ r.2.mem (c.tc.loc main_v0_1) = result4 m c
      ∧ r.2.mem (c.tc.loc main_arg0) = m (c.tc.loc main_arg0)
      ∧ r.2.mem (c.tc.loc main_arg1) = m (c.tc.loc main_arg1) :=
  (θ_run defs _ _).mono (fun _ h c => ⟨(h c).1.trans ((dats m 0 c).arrAt_eq_of_cover 3 (result3 m c) (fun t _ => flushed_eq3 m c t) cover3), (h c).2.1.trans ((dats m 0 c).arrAt_eq_of_cover 4 (result4 m c) (fun t _ => flushed_eq4 m c t) cover4), (h c).2.2⟩)
    (run_blocks m ρ)

end Cert.Kernel14Ideal.Up

end
-- ==== Proof.Eq14.lean ====
module

public import proofs.«01_k».proof.Defs
public import proofs.«01_k».proof.Proof.Arr14
public import proofs.«01_k».proof.Proof.Gen.Kernel14Ideal
public import proofs.«01_k».proof.Proof.Gen.Reference14Ideal
public import proofs.«01_k».proof.Proof.Gen.Reference14Ideal.Run
public import proofs.«01_k».proof.Proof.Gen.Reference14Ideal.Read

/-! `Kernel14` and its reference compute the same arrays over the extended reals. -/

@[expose] public section

set_option maxRecDepth 16384

noncomputable section

namespace Cert.Kernel14Ideal.Up

open Cert.Sig Cert.Kernel14Ideal Cert.Kernel14Ideal.Gen Cert.Kernel14Ideal.Value Idealize.ShloMosaic Idealize.ShloMosaic.TcCoe Idealize.SL.Sem

open Cert.Reference14Ideal.Read in
/-- The reference's gate argument is the kernel's. -/
theorem gate_stage (x : S8192x1024.Idx → EReal) (w : S4x1024x1408.Idx → EReal) (i : S8192x2816.Idx) : (val_main_v5 (F := Ideal) x w i : EReal) = gate x w i := by
  have h0 : (i 0).val < 8192 := (i 0).isLt
  have h1 : (i 1).val < 2816 := (i 1).isLt
  rw [val_main_v5_apply, val_main_v4_apply]
  refine Finset.sum_congr rfl fun k _ => ?_
  have hk := k.isLt
  rw [val_main_v3_apply, val_main_v2_apply]
  show x _ * w _ = _
  refine congrArg₂ (· * ·) (congrArg x (funext fun a => Fin.ext ?_)) (congrArg w (funext fun a => Fin.ext ?_))
  · match a with
    | ⟨0, _⟩ => rfl
    | ⟨1, _⟩ => rfl
  · match a with
    | ⟨0, _⟩ => show (k.val * 5632 + (i 1).val) / 1408 % 4 = (i 1).val / 1408; omega
    | ⟨1, _⟩ => show (k.val * 5632 + (i 1).val) / 5632 = k.val; omega
    | ⟨2, _⟩ => show (k.val * 5632 + (i 1).val) % 1408 = (i 1).val % 1408; omega

open Cert.Reference14Ideal.Read in
/-- The reference's gated factor is the kernel's. -/
theorem up_stage (x : S8192x1024.Idx → EReal) (w : S4x1024x1408.Idx → EReal) (i : S8192x2816.Idx) : (val_main_v6 (F := Ideal) x w i : EReal) = up x w i := by
  have h0 : (i 0).val < 8192 := (i 0).isLt
  have h1 : (i 1).val < 2816 := (i 1).isLt
  rw [val_main_v6_apply, val_main_v4_apply]
  refine Finset.sum_congr rfl fun k _ => ?_
  have hk := k.isLt
  rw [val_main_v3_apply, val_main_v2_apply]
  show x _ * w _ = _
  refine congrArg₂ (· * ·) (congrArg x (funext fun a => Fin.ext ?_)) (congrArg w (funext fun a => Fin.ext ?_))
  · match a with
    | ⟨0, _⟩ => rfl
    | ⟨1, _⟩ => rfl
  · match a with
    | ⟨0, _⟩ => show (k.val * 5632 + (2816 + (i 1).val)) / 1408 % 4 = (i 1).val / 1408 + 2; omega
    | ⟨1, _⟩ => show (k.val * 5632 + (2816 + (i 1).val)) / 5632 = k.val; omega
    | ⟨2, _⟩ => show (k.val * 5632 + (2816 + (i 1).val)) % 1408 = (i 1).val % 1408; omega

open Cert.Reference14Ideal.Read in
/-- The reference's activation is the kernel's. -/
theorem ref_act (x : S8192x1024.Idx → EReal) (w : S4x1024x1408.Idx → EReal) (i : S8192x2816.Idx) : (val_main_v13 (F := Ideal) x w i : EReal) = act x w i := by
  unfold act actOf
  rw [sK_eq, ← gate_stage, ← up_stage]
  unfold sR
  rw [← one_f32]
  rw [val_main_v13_apply, val_main_v12_apply, val_main_v11_apply, val_main_call0_v5_apply, val_main_call0_v4_apply, val_main_call0_v3_apply, val_main_call0_v2_apply]
  rfl

open Cert.Reference14Ideal.Read in
/-- The reference's stacked halves are the kernel's. -/
theorem ref_hidden (x : S8192x1024.Idx → EReal) (w : S4x1024x1408.Idx → EReal) (i : S2x8192x2816.Idx) : (val_main_v10 (F := Ideal) x w i : EReal) = hidden x w i := by
  have h0 : (i 0).val < 2 := (i 0).isLt
  let q : Cert.Reference14Ideal.S1x8192x2816.Idx := fun a => match a with
    | ⟨0, _⟩ => ⟨0, Nat.one_pos⟩
    | ⟨1, _⟩ => ⟨(i 1).val, (i 1).isLt⟩
    | ⟨2, _⟩ => ⟨(i 2).val, (i 2).isLt⟩
  show (val_main_v9 (F := Ideal) x w i : EReal) = _
  unfold hidden
  by_cases hi : (i 0).val = 0
  · have e : (val_main_v9 (F := Ideal) x w i : EReal) = val_main_v7 (F := Ideal) x w q := by
      unfold val_main_v9
      exact concatenate_pair_apply_left (s₁ := Cert.Reference14Ideal.S1x8192x2816) (s₂ := Cert.Reference14Ideal.S1x8192x2816) (0 : Fin 3) _ _ _ i rfl q (fun a => match a with
        | ⟨0, _⟩ => hi.symm
        | ⟨1, _⟩ => rfl
        | ⟨2, _⟩ => rfl)
    rw [if_pos hi, e, val_main_v7_apply, ← gate_stage]
    rfl
  · have e : (val_main_v9 (F := Ideal) x w i : EReal) = val_main_v8 (F := Ideal) x w q := by
      unfold val_main_v9
      exact concatenate_pair_apply_right (s₁ := Cert.Reference14Ideal.S1x8192x2816) (s₂ := Cert.Reference14Ideal.S1x8192x2816) (0 : Fin 3) _ _ _ i rfl rfl q (fun a => match a with
        | ⟨0, _⟩ => fun hn => absurd rfl hn
        | ⟨1, _⟩ => fun _ => rfl
        | ⟨2, _⟩ => fun _ => rfl) (by show 0 + 1 = (i 0).val; omega)
    rw [if_neg hi, e, val_main_v8_apply, ← up_stage]
    rfl

/-- The value claim: the kernel's arrays are the reference's, on every device. -/
theorem algebraic : Cert.algebraic_Kernel14Ideal_Reference14Ideal := by
  intro m ρ m' ρ' _ hag
  refine ⟨fun c => result3 m c, fun c => result4 m c, run_result m ρ, ?_⟩
  refine (θ_run Cert.Reference14Ideal.defs _ _).mono (fun r h c => ⟨?_, ?_, (h c).2.2⟩) (Cert.Reference14Ideal.Value.run (F := Ideal) m' ρ')
  · rw [(h c).1, (hag c).1, (hag c).2]
    refine (Cert.Reference14Ideal.Read.val_main_v10_eq (F := Ideal) _ _).trans ?_
    funext i
    exact ref_hidden (X0 m c) (X1 m c) i
  · rw [(h c).2.1, (hag c).1, (hag c).2]
    refine (Cert.Reference14Ideal.Read.val_main_v13_eq (F := Ideal) _ _).trans ?_
    funext i
    exact ref_act (X0 m c) (X1 m c) i

/-- The reference runs and leaves its arguments as they were. -/
theorem ref_frame : Cert.quiescent_Reference14Ideal := fun m ρ _ =>
  (θ_run Cert.Reference14Ideal.defs _ _).mono (fun r h => ⟨fun c => (h c).2.2, Idealize.ShloMosaic.sem_eq_zero_of_no_sems (by decide) r.2⟩)
    (Cert.Reference14Ideal.Value.run (F := Ideal) m ρ)

end Cert.Kernel14Ideal.Up

end
-- ==== Proof.Arr15.lean ====
module

public import proofs.«01_k».proof.Proof.Sums
public import proofs.«01_k».proof.Proof.Sig
public import proofs.«01_k».proof.Proof.Gen.Kernel15Ideal.Value
public import Idealize.ShloMosaic.Lib.IdealHost

/-! The three arrays `Kernel15` (the gated merge of the two branches) writes. -/

@[expose] public section

set_option maxRecDepth 16384

noncomputable section

namespace Cert.Kernel15Ideal.Merge

open Cert.Sig Cert.Kernel15Ideal Cert.Kernel15Ideal.Gen Cert.Kernel15Ideal.Value Idealize.ShloMosaic Idealize.ShloMosaic.TcCoe Idealize.SL.Sem

/-- What the arrays of every device hold. -/
abbrev Mem : Type := (ℓ : Loc nD τ sig) → Buf (Elt Ideal) ℓ

/-! ## The product over the extended reals -/

/-- The left operand's element the product reads at output `i` and contraction index `k`. -/
abbrev lidx (i : S512x1024.Idx) (k : Fin 1024) : S512x1024.Idx := fun a => match a with
  | ⟨0, _⟩ => ⟨(i 0).val, (i 0).isLt⟩
  | ⟨1, _⟩ => ⟨k.val, k.isLt⟩
/-- The right operand's. -/
abbrev ridx (i : S512x1024.Idx) (k : Fin 1024) : S1024x1024.Idx := fun a => match a with
  | ⟨0, _⟩ => ⟨k.val, k.isLt⟩
  | ⟨1, _⟩ => ⟨(i 1).val, (i 1).isLt⟩
/-- The matrix unit's product is the accumulator plus the sum of products. -/
theorem mm_apply (x : FVec Ideal S512x1024 .bf16) (y : FVec Ideal S1024x1024 .bf16) (acc : FVec Ideal S512x1024 .f32) (i : S512x1024.Idx) :
    matmul dot_S512x1024_S1024x1024_S512x1024_1_0_0_1_n_n none x y acc i = acc i + ∑ k : Fin 1024, x (lidx i k) * y (ridx i k) :=
  Cert.Sums.mm_apply _ 1024 rfl rfl x y acc i (lidx i) (ridx i) (fun _ _ h a => match a with | ⟨0, _⟩ => rfl | ⟨1, _⟩ => h)
    fun _ _ h a => match a with | ⟨0, _⟩ => h | ⟨1, _⟩ => rfl

/-- A product payload at an element. -/
theorem pay2_apply (x : Vec Ideal S512x1024 .bf16) (y : Vec Ideal S1024x1024 .bf16) (i : S512x1024.Idx) :
    (k0_pay2 x y i : EReal) = ∑ k : Fin 1024, (x (lidx i k) : EReal) * y (ridx i k) := by
  unfold k0_pay2
  rw [mm_apply]
  have z : (constant (F := Ideal) S512x1024 .f32 0x00000000#32 i : EReal) = 0 := Ideal.ofBits_zero_f32
  exact (congrArg (· + _) z).trans (zero_add _)

/-- A product payload at an element. -/
theorem pay3_apply (x : Vec Ideal S512x1024 .bf16) (y : Vec Ideal S1024x1024 .bf16) (i : S512x1024.Idx) :
    (k0_pay3 x y i : EReal) = ∑ k : Fin 1024, (x (lidx i k) : EReal) * y (ridx i k) := by
  unfold k0_pay3
  rw [mm_apply]
  have z : (constant (F := Ideal) S512x1024 .f32 0x00000000#32 i : EReal) = 0 := Ideal.ofBits_zero_f32
  exact (congrArg (· + _) z).trans (zero_add _)

/-- The stored merge at an element, of the two products and the gates' arguments. -/
theorem pay1_apply (x : Vec Ideal S512x1024 .bf16) (w : Vec Ideal S1024x1024 .bf16) (p : FVec Ideal S512x1024 .f32) (a b : Vec Ideal S512x1024 .f32) (i : S512x1024.Idx) :
    (k0_pay1 p (k0_pay4 x w a) (k0_pay5 b) (k0_pay6 b) (k0_pay7 (F := Ideal)) i : EReal) = sK (a i) * (∑ k : Fin 1024, (x (lidx i k) : EReal) * w (ridx i k)) + sK (b i) * (p i : EReal) := by
  rw [← pay2_apply]
  unfold k0_pay1 k0_pay4 k0_pay6 k0_pay5 k0_pay7 sK
  rw [← zero_f32, ← one_f32]
  rfl

/-- Argument 0, with extended reals as elements. -/
def X0 (m : Mem) (c : Dev nD) : S8192x7168.Idx → EReal := m (c.tc.loc main_arg0)
@[inherit_doc X0] def X1 (m : Mem) (c : Dev nD) : S8192x1024.Idx → EReal := m (c.tc.loc main_arg1)
@[inherit_doc X0] def X2 (m : Mem) (c : Dev nD) : S8192x1024.Idx → EReal := m (c.tc.loc main_arg2)
@[inherit_doc X0] def X3 (m : Mem) (c : Dev nD) : S1024x1024.Idx → EReal := m (c.tc.loc main_arg3)
@[inherit_doc X0] def X4 (m : Mem) (c : Dev nD) : S1024x1024.Idx → EReal := m (c.tc.loc main_arg4)

/-- Window 0's block at a point, with extended reals as elements. -/
def B0 (m : Mem) (c : Dev nD) (t : Fin cfg0.N) : S512x1024.Idx → EReal := iblk m c 0 t
/-- The printed index map of window 0, over the grid. -/
theorem idx0 : ∀ t : Fin grid0.N, win0_0.index t 0 = t.val ∧ win0_0.index t 1 = 5 := by decide +kernel

/-- Window 0's block at a point, read at an element, is the array at the block's offset plus the element. -/
theorem blk0_apply (m : Mem) (c : Dev nD) (t : Fin cfg0.N) (j : S512x1024.Idx) (a : S8192x7168.Idx)
    (e0 : (a 0).val = (t.val) * 512 + (j 0).val) (e1 : (a 1).val = (5) * 1024 + (j 1).val) :
    B0 m c t j = X0 m c a := by
  unfold B0 iblk
  rw [View.read_apply]
  refine congrArg (X0 m c) (funext fun x => Fin.ext ?_)
  have h := idx0 t
  match x with
  | ⟨0, _⟩ => show win0_0.index t 0 * 512 + 1 * (j 0).val = (a 0).val; rw [h.1, e0]; omega
  | ⟨1, _⟩ => show win0_0.index t 1 * 1024 + 1 * (j 1).val = (a 1).val; rw [h.2, e1]; omega

@[inherit_doc B0] def B1 (m : Mem) (c : Dev nD) (t : Fin cfg0.N) : S512x1024.Idx → EReal := iblk m c 1 t
@[inherit_doc idx0] theorem idx1 : ∀ t : Fin grid0.N, win0_1.index t 0 = t.val ∧ win0_1.index t 1 = 6 := by decide +kernel

@[inherit_doc blk0_apply] theorem blk1_apply (m : Mem) (c : Dev nD) (t : Fin cfg0.N) (j : S512x1024.Idx) (a : S8192x7168.Idx)
    (e0 : (a 0).val = (t.val) * 512 + (j 0).val) (e1 : (a 1).val = (6) * 1024 + (j 1).val) :
    B1 m c t j = X0 m c a := by
  unfold B1 iblk
  rw [View.read_apply]
  refine congrArg (X0 m c) (funext fun x => Fin.ext ?_)
  have h := idx1 t
  match x with
  | ⟨0, _⟩ => show win0_1.index t 0 * 512 + 1 * (j 0).val = (a 0).val; rw [h.1, e0]; omega
  | ⟨1, _⟩ => show win0_1.index t 1 * 1024 + 1 * (j 1).val = (a 1).val; rw [h.2, e1]; omega

@[inherit_doc B0] def B2 (m : Mem) (c : Dev nD) (t : Fin cfg0.N) : S512x1024.Idx → EReal := iblk m c 2 t
@[inherit_doc idx0] theorem idx2 : ∀ t : Fin grid0.N, win0_2.index t 0 = t.val ∧ win0_2.index t 1 = 0 := by decide +kernel

@[inherit_doc blk0_apply] theorem blk2_apply (m : Mem) (c : Dev nD) (t : Fin cfg0.N) (j : S512x1024.Idx) (a : S8192x1024.Idx)
    (e0 : (a 0).val = (t.val) * 512 + (j 0).val) (e1 : (a 1).val = (0) * 1024 + (j 1).val) :
    B2 m c t j = X1 m c a := by
  unfold B2 iblk
  rw [View.read_apply]
  refine congrArg (X1 m c) (funext fun x => Fin.ext ?_)
  have h := idx2 t
  match x with
  | ⟨0, _⟩ => show win0_2.index t 0 * 512 + 1 * (j 0).val = (a 0).val; rw [h.1, e0]; omega
  | ⟨1, _⟩ => show win0_2.index t 1 * 1024 + 1 * (j 1).val = (a 1).val; rw [h.2, e1]; omega

@[inherit_doc B0] def B3 (m : Mem) (c : Dev nD) (t : Fin cfg0.N) : S512x1024.Idx → EReal := iblk m c 3 t
@[inherit_doc idx0] theorem idx3 : ∀ t : Fin grid0.N, win0_3.index t 0 = t.val ∧ win0_3.index t 1 = 0 := by decide +kernel

@[inherit_doc blk0_apply] theorem blk3_apply (m : Mem) (c : Dev nD) (t : Fin cfg0.N) (j : S512x1024.Idx) (a : S8192x1024.Idx)
    (e0 : (a 0).val = (t.val) * 512 + (j 0).val) (e1 : (a 1).val = (0) * 1024 + (j 1).val) :
    B3 m c t j = X2 m c a := by
  unfold B3 iblk
  rw [View.read_apply]
  refine congrArg (X2 m c) (funext fun x => Fin.ext ?_)
  have h := idx3 t
  match x with
  | ⟨0, _⟩ => show win0_3.index t 0 * 512 + 1 * (j 0).val = (a 0).val; rw [h.1, e0]; omega
  | ⟨1, _⟩ => show win0_3.index t 1 * 1024 + 1 * (j 1).val = (a 1).val; rw [h.2, e1]; omega

@[inherit_doc B0] def B4 (m : Mem) (c : Dev nD) (t : Fin cfg0.N) : S1024x1024.Idx → EReal := iblk m c 4 t
@[inherit_doc idx0] theorem idx4 : ∀ t : Fin grid0.N, win0_4.index t 0 = 0 ∧ win0_4.index t 1 = 0 := by decide +kernel

@[inherit_doc blk0_apply] theorem blk4_apply (m : Mem) (c : Dev nD) (t : Fin cfg0.N) (j : S1024x1024.Idx) (a : S1024x1024.Idx)
    (e0 : (a 0).val = (0) * 1024 + (j 0).val) (e1 : (a 1).val = (0) * 1024 + (j 1).val) :
    B4 m c t j = X3 m c a := by
  unfold B4 iblk
  rw [View.read_apply]
  refine congrArg (X3 m c) (funext fun x => Fin.ext ?_)
  have h := idx4 t
  match x with
  | ⟨0, _⟩ => show win0_4.index t 0 * 1024 + 1 * (j 0).val = (a 0).val; rw [h.1, e0]; omega
  | ⟨1, _⟩ => show win0_4.index t 1 * 1024 + 1 * (j 1).val = (a 1).val; rw [h.2, e1]; omega

@[inherit_doc B0] def B5 (m : Mem) (c : Dev nD) (t : Fin cfg0.N) : S1024x1024.Idx → EReal := iblk m c 5 t
@[inherit_doc idx0] theorem idx5 : ∀ t : Fin grid0.N, win0_5.index t 0 = 0 ∧ win0_5.index t 1 = 0 := by decide +kernel

@[inherit_doc blk0_apply] theorem blk5_apply (m : Mem) (c : Dev nD) (t : Fin cfg0.N) (j : S1024x1024.Idx) (a : S1024x1024.Idx)
    (e0 : (a 0).val = (0) * 1024 + (j 0).val) (e1 : (a 1).val = (0) * 1024 + (j 1).val) :
    B5 m c t j = X4 m c a := by
  unfold B5 iblk
  rw [View.read_apply]
  refine congrArg (X4 m c) (funext fun x => Fin.ext ?_)
  have h := idx5 t
  match x with
  | ⟨0, _⟩ => show win0_5.index t 0 * 1024 + 1 * (j 0).val = (a 0).val; rw [h.1, e0]; omega
  | ⟨1, _⟩ => show win0_5.index t 1 * 1024 + 1 * (j 1).val = (a 1).val; rw [h.2, e1]; omega

/-- The factors' indices of a product at element `i` and contraction index `k`. -/
abbrev lArr (i : S8192x1024.Idx) (k : Fin 1024) : S8192x1024.Idx := fun a => match a with
  | ⟨0, _⟩ => ⟨(i 0).val, (i 0).isLt⟩
  | ⟨1, _⟩ => ⟨k.val, k.isLt⟩
@[inherit_doc lArr] abbrev rArr (i : S8192x1024.Idx) (k : Fin 1024) : S1024x1024.Idx := fun a => match a with
  | ⟨0, _⟩ => ⟨k.val, k.isLt⟩
  | ⟨1, _⟩ => ⟨(i 1).val, (i 1).isLt⟩
/-- A product. -/
def prod (x : S8192x1024.Idx → EReal) (w : S1024x1024.Idx → EReal) (i : S8192x1024.Idx) : EReal := ∑ k : Fin 1024, x (lArr i k) * w (rArr i k)
/-- An element's gates' arguments among the input projection's columns. -/
abbrev col5 (i : S8192x1024.Idx) : S8192x7168.Idx := fun a => match a with
  | ⟨0, _⟩ => ⟨(i 0).val, (i 0).isLt⟩
  | ⟨1, _⟩ => ⟨5120 + (i 1).val, by have h : (i 1).val < 1024 := (i 1).isLt; show _ < 7168; omega⟩
@[inherit_doc col5] abbrev col6 (i : S8192x1024.Idx) : S8192x7168.Idx := fun a => match a with
  | ⟨0, _⟩ => ⟨(i 0).val, (i 0).isLt⟩
  | ⟨1, _⟩ => ⟨6144 + (i 1).val, by have h : (i 1).val < 1024 := (i 1).isLt; show _ < 7168; omega⟩
/-- The merge. -/
def merged (p : S8192x7168.Idx → EReal) (x y : S8192x1024.Idx → EReal) (v w : S1024x1024.Idx → EReal) (i : S8192x1024.Idx) : EReal :=
  sK (p (col5 i)) * prod x v i + sK (p (col6 i)) * prod y w i

variable (m : Mem)

/-- The same as contents of the result arrays. -/ def result6 (c : Dev nD) : Buf (Elt Ideal) ((c : Thread nD τ).loc main_v0_0) := merged (X0 m c) (X1 m c) (X2 m c) (X3 m c) (X4 m c)
@[inherit_doc result6] def result7 (c : Dev nD) : Buf (Elt Ideal) ((c : Thread nD τ).loc main_v0_1) := prod (X1 m c) (X3 m c)
@[inherit_doc result6] def result8 (c : Dev nD) : Buf (Elt Ideal) ((c : Thread nD τ).loc main_v0_2) := prod (X2 m c) (X4 m c)

theorem hz2 : (![0, 0] : Fin 2 → Nat) = fun _ => 0 := funext fun a => by fin_cases a <;> rfl
theorem hz3 : (![0, 0, 0] : Fin 3 → Nat) = fun _ => 0 := funext fun a => by fin_cases a <;> rfl

@[inherit_doc idx0] theorem idx6 : ∀ t : Fin grid0.N, win0_6.index t 0 = t.val ∧ win0_6.index t 1 = 0 := by decide +kernel

@[inherit_doc idx0] theorem idx7 : ∀ t : Fin grid0.N, win0_7.index t 0 = t.val ∧ win0_7.index t 1 = 0 := by decide +kernel

@[inherit_doc idx0] theorem idx8 : ∀ t : Fin grid0.N, win0_8.index t 0 = t.val ∧ win0_8.index t 1 = 0 := by decide +kernel

/-- A product of a point's blocks is the arrays'. -/
theorem sb_blk (c : Dev nD) (t : Fin cfg0.N) (y : S512x1024.Idx) (i : S8192x1024.Idx)
    (e0 : (i 0).val = (t.val) * 512 + (y 0).val) (e1 : (i 1).val = (y 1).val) :
    (∑ k : Fin 1024, B2 m c t (lidx y k) * B4 m c t (ridx y k)) = prod (X1 m c) (X3 m c) i :=
  Finset.sum_congr rfl fun k _ => congrArg₂ (· * ·)
    (blk2_apply m c t (lidx y k) (lArr i k) e0 (by show k.val = 0 * 1024 + k.val; omega))
    (blk4_apply m c t (ridx y k) (rArr i k) (by show k.val = 0 * 1024 + k.val; omega) (by show (i 1).val = 0 * 1024 + (y 1).val; omega))

/-- A product of a point's blocks is the arrays'. -/
theorem cv_blk (c : Dev nD) (t : Fin cfg0.N) (y : S512x1024.Idx) (i : S8192x1024.Idx)
    (e0 : (i 0).val = (t.val) * 512 + (y 0).val) (e1 : (i 1).val = (y 1).val) :
    (∑ k : Fin 1024, B3 m c t (lidx y k) * B5 m c t (ridx y k)) = prod (X2 m c) (X4 m c) i :=
  Finset.sum_congr rfl fun k _ => congrArg₂ (· * ·)
    (blk3_apply m c t (lidx y k) (lArr i k) e0 (by show k.val = 0 * 1024 + k.val; omega))
    (blk5_apply m c t (ridx y k) (rArr i k) (by show k.val = 0 * 1024 + k.val; omega) (by show (i 1).val = 0 * 1024 + (y 1).val; omega))

/-- A gate's argument in a point's block. -/
theorem col5_blk (c : Dev nD) (t : Fin cfg0.N) (y : S512x1024.Idx) (i : S8192x1024.Idx)
    (e0 : (i 0).val = (t.val) * 512 + (y 0).val) (e1 : (i 1).val = (y 1).val) :
    B0 m c t y = X0 m c (col5 i) :=
  blk0_apply m c t y (col5 i) e0 (by show 5*1024 + (i 1).val = 5 * 1024 + (y 1).val; omega)

/-- A gate's argument in a point's block. -/
theorem col6_blk (c : Dev nD) (t : Fin cfg0.N) (y : S512x1024.Idx) (i : S8192x1024.Idx)
    (e0 : (i 0).val = (t.val) * 512 + (y 0).val) (e1 : (i 1).val = (y 1).val) :
    B1 m c t y = X0 m c (col6 i) :=
  blk1_apply m c t y (col6 i) e0 (by show 6*1024 + (i 1).val = 6 * 1024 + (y 1).val; omega)

/-- What a point leaves in window 6's block, at an element. -/
theorem out6_apply (c : Dev nD) (t : Fin cfg0.N) (y : S512x1024.Idx) (i : S8192x1024.Idx)
    (e0 : (i 0).val = (t.val) * 512 + (y 0).val) (e1 : (i 1).val = (y 1).val) :
    (out0_6 (iblk m c 0 t) (iblk m c 1 t) (iblk m c 2 t) (iblk m c 3 t) (iblk m c 4 t) (iblk m c 5 t) y : EReal) = merged (X0 m c) (X1 m c) (X2 m c) (X3 m c) (X4 m c) i := by
  unfold out0_6
  rw [View.ld_unit_zero (S := S512x1024) hz2, View.ld_unit_zero (S := S512x1024) hz2, View.ld_unit_zero (S := S512x1024) hz2, View.ld_unit_zero (S := S512x1024) hz2, View.ld_unit_zero (S := S1024x1024) hz2, View.ld_unit_zero (S := S1024x1024) hz2, View.canon_unit_zero (S := S512x1024) hz2]
  unfold merged
  refine (pay1_apply (iblk m c 2 t) (iblk m c 4 t) _ (iblk m c 0 t) (iblk m c 1 t) y).trans ?_
  exact congrArg₂ (· + ·) (congrArg₂ (· * ·) (congrArg sK (col5_blk m c t y i e0 e1)) (sb_blk m c t y i e0 e1))
    (congrArg₂ (· * ·) (congrArg sK (col6_blk m c t y i e0 e1)) ((pay3_apply (iblk m c 3 t) (iblk m c 5 t) y).trans (cv_blk m c t y i e0 e1)))
/-- What a point leaves in window 7's block, at an element. -/
theorem out7_apply (c : Dev nD) (t : Fin cfg0.N) (y : S512x1024.Idx) (i : S8192x1024.Idx)
    (e0 : (i 0).val = (t.val) * 512 + (y 0).val) (e1 : (i 1).val = (y 1).val) :
    (out0_7 (iblk m c 0 t) (iblk m c 1 t) (iblk m c 2 t) (iblk m c 3 t) (iblk m c 4 t) (iblk m c 5 t) y : EReal) = prod (X1 m c) (X3 m c) i := by
  unfold out0_7
  rw [View.ld_unit_zero (S := S512x1024) hz2, View.ld_unit_zero (S := S1024x1024) hz2, View.canon_unit_zero (S := S512x1024) hz2]
  exact (pay2_apply (iblk m c 2 t) (iblk m c 4 t) y).trans (sb_blk m c t y i e0 e1)
/-- What a point leaves in window 8's block, at an element. -/
theorem out8_apply (c : Dev nD) (t : Fin cfg0.N) (y : S512x1024.Idx) (i : S8192x1024.Idx)
    (e0 : (i 0).val = (t.val) * 512 + (y 0).val) (e1 : (i 1).val = (y 1).val) :
    (out0_8 (iblk m c 0 t) (iblk m c 1 t) (iblk m c 2 t) (iblk m c 3 t) (iblk m c 4 t) (iblk m c 5 t) y : EReal) = prod (X2 m c) (X4 m c) i := by
  unfold out0_8
  rw [View.ld_unit_zero (S := S512x1024) hz2, View.ld_unit_zero (S := S1024x1024) hz2, View.canon_unit_zero (S := S512x1024) hz2]
  exact (pay3_apply (iblk m c 3 t) (iblk m c 5 t) y).trans (cv_blk m c t y i e0 e1)
/-- What a point writes back through window 6 is its block of the result array. -/
theorem flushed_eq6 (c : Dev nD) (t : Fin cfg0.N) :
    (dats m 0 c).flushed 6 t = ((cfg0.win 6).blk t).view.read (Elt Ideal) (result6 m c) := by
  rw [flushed6]
  funext y
  rw [View.read_apply]
  have h := idx6 t
  refine out6_apply m c t y _ ?_ ?_
  · show win0_6.index t 0 * 512 + 1 * (y 0).val = _; rw [h.1]; omega
  · show win0_6.index t 1 * 1024 + 1 * (y 1).val = _; rw [h.2]; omega

/-- The blocks of window 6 cover its array. -/
theorem cover6 (i : S8192x1024.Idx) : ∃ t : Fin cfg0.N, (cfg0.win 6).flush t = true ∧ i ∈ ((cfg0.win 6).blk t).view.set := by
  have h0 : (i 0).val < 8192 := (i 0).isLt
  have h1 : (i 1).val < 1024 := (i 1).isLt
  have hN : cfg0.N = 16 := N_0
  refine ⟨⟨(i 0).val / 512, by omega⟩, flush0_6 _, ?_⟩
  generalize ht : (⟨(i 0).val / 512, _⟩ : Fin cfg0.N) = t
  have hv : t.val = (i 0).val / 512 := by rw [← ht]
  have h := idx6 t
  show i ∈ ((View.whole main_v0_0).slice (win0_6.rect t)).set
  rw [View.set_slice_whole, Rect.mem_set_unit]
  intro a
  match a with
  | ⟨0, _⟩ => show win0_6.index t 0 * 512 ≤ (i 0).val ∧ (i 0).val < win0_6.index t 0 * 512 + 512; rw [h.1]; omega
  | ⟨1, _⟩ => show win0_6.index t 1 * 1024 ≤ (i 1).val ∧ (i 1).val < win0_6.index t 1 * 1024 + 1024; rw [h.2]; omega

/-- What a point writes back through window 7 is its block of the result array. -/
theorem flushed_eq7 (c : Dev nD) (t : Fin cfg0.N) :
    (dats m 0 c).flushed 7 t = ((cfg0.win 7).blk t).view.read (Elt Ideal) (result7 m c) := by
  rw [flushed7]
  funext y
  rw [View.read_apply]
  have h := idx7 t
  refine out7_apply m c t y _ ?_ ?_
  · show win0_7.index t 0 * 512 + 1 * (y 0).val = _; rw [h.1]; omega
  · show win0_7.index t 1 * 1024 + 1 * (y 1).val = _; rw [h.2]; omega

/-- The blocks of window 7 cover its array. -/
theorem cover7 (i : S8192x1024.Idx) : ∃ t : Fin cfg0.N, (cfg0.win 7).flush t = true ∧ i ∈ ((cfg0.win 7).blk t).view.set := by
  have h0 : (i 0).val < 8192 := (i 0).isLt
  have h1 : (i 1).val < 1024 := (i 1).isLt
  have hN : cfg0.N = 16 := N_0
  refine ⟨⟨(i 0).val / 512, by omega⟩, flush0_7 _, ?_⟩
  generalize ht : (⟨(i 0).val / 512, _⟩ : Fin cfg0.N) = t
  have hv : t.val = (i 0).val / 512 := by rw [← ht]
  have h := idx7 t
  show i ∈ ((View.whole main_v0_1).slice (win0_7.rect t)).set
  rw [View.set_slice_whole, Rect.mem_set_unit]
  intro a
  match a with
  | ⟨0, _⟩ => show win0_7.index t 0 * 512 ≤ (i 0).val ∧ (i 0).val < win0_7.index t 0 * 512 + 512; rw [h.1]; omega
  | ⟨1, _⟩ => show win0_7.index t 1 * 1024 ≤ (i 1).val ∧ (i 1).val < win0_7.index t 1 * 1024 + 1024; rw [h.2]; omega

/-- What a point writes back through window 8 is its block of the result array. -/
theorem flushed_eq8 (c : Dev nD) (t : Fin cfg0.N) :
    (dats m 0 c).flushed 8 t = ((cfg0.win 8).blk t).view.read (Elt Ideal) (result8 m c) := by
  rw [flushed8]
  funext y
  rw [View.read_apply]
  have h := idx8 t
  refine out8_apply m c t y _ ?_ ?_
  · show win0_8.index t 0 * 512 + 1 * (y 0).val = _; rw [h.1]; omega
  · show win0_8.index t 1 * 1024 + 1 * (y 1).val = _; rw [h.2]; omega

/-- The blocks of window 8 cover its array. -/
theorem cover8 (i : S8192x1024.Idx) : ∃ t : Fin cfg0.N, (cfg0.win 8).flush t = true ∧ i ∈ ((cfg0.win 8).blk t).view.set := by
  have h0 : (i 0).val < 8192 := (i 0).isLt
  have h1 : (i 1).val < 1024 := (i 1).isLt
  have hN : cfg0.N = 16 := N_0
  refine ⟨⟨(i 0).val / 512, by omega⟩, flush0_8 _, ?_⟩
  generalize ht : (⟨(i 0).val / 512, _⟩ : Fin cfg0.N) = t
  have hv : t.val = (i 0).val / 512 := by rw [← ht]
  have h := idx8 t
  show i ∈ ((View.whole main_v0_2).slice (win0_8.rect t)).set
  rw [View.set_slice_whole, Rect.mem_set_unit]
  intro a
  match a with
  | ⟨0, _⟩ => show win0_8.index t 0 * 512 ≤ (i 0).val ∧ (i 0).val < win0_8.index t 0 * 512 + 512; rw [h.1]; omega
  | ⟨1, _⟩ => show win0_8.index t 1 * 1024 ≤ (i 1).val ∧ (i 1).val < win0_8.index t 1 * 1024 + 1024; rw [h.2]; omega

/-- The run, with the result arrays read. -/
theorem run_result (ρ : Dev nD → PrngReg) : θ_run defs (onTc (τ := τ) (main (F := Ideal))) ⟨m, fun _ => 0, ρ⟩ fun r => ∀ c : Dev nD,
      r.2.mem (c.tc.loc main_v0_0) = result6 m c
      ∧ r.2.mem (c.tc.loc main_v0_1) = result7 m c
      ∧ r.2.mem (c.tc.loc main_v0_2) = result8 m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun _ h c => ⟨(h c).1.trans ((dats m 0 c).arrAt_eq_of_cover 6 (result6 m c) (fun t _ => flushed_eq6 m c t) cover6), (h c).2.1.trans ((dats m 0 c).arrAt_eq_of_cover 7 (result7 m c) (fun t _ => flushed_eq7 m c t) cover7), (h c).2.2.1.trans ((dats m 0 c).arrAt_eq_of_cover 8 (result8 m c) (fun t _ => flushed_eq8 m c t) cover8), (h c).2.2.2⟩)
    (run_blocks m ρ)

end Cert.Kernel15Ideal.Merge

end
-- ==== Proof.Eq15.lean ====
module

public import proofs.«01_k».proof.Defs
public import proofs.«01_k».proof.Proof.Arr15
public import proofs.«01_k».proof.Proof.Gen.Kernel15Ideal
public import proofs.«01_k».proof.Proof.Gen.Reference15Ideal
public import proofs.«01_k».proof.Proof.Gen.Reference15Ideal.Run
public import proofs.«01_k».proof.Proof.Gen.Reference15Ideal.Read

/-! `Kernel15` and its reference compute the same arrays over the extended reals. -/

@[expose] public section

set_option maxRecDepth 16384

noncomputable section

namespace Cert.Kernel15Ideal.Merge

open Cert.Sig Cert.Kernel15Ideal Cert.Kernel15Ideal.Gen Cert.Kernel15Ideal.Value Idealize.ShloMosaic Idealize.ShloMosaic.TcCoe Idealize.SL.Sem

open Cert.Reference15Ideal.Read in
/-- A product of the reference is the kernel's. -/
theorem prod_stage2 (x : S8192x1024.Idx → EReal) (w : S1024x1024.Idx → EReal) (i : S8192x1024.Idx) : (val_main_v2 (F := Ideal) x w i : EReal) = prod x w i := by
  rw [val_main_v2_apply]
  refine Finset.sum_congr rfl fun k _ => ?_
  show x _ * w _ = _
  refine congrArg₂ (· * ·) (congrArg x (funext fun a => Fin.ext ?_)) (congrArg w (funext fun a => Fin.ext ?_))
  · match a with
    | ⟨0, _⟩ => rfl
    | ⟨1, _⟩ => rfl
  · match a with
    | ⟨0, _⟩ => rfl
    | ⟨1, _⟩ => rfl

open Cert.Reference15Ideal.Read in
/-- A product of the reference is the kernel's. -/
theorem prod_stage5 (x : S8192x1024.Idx → EReal) (w : S1024x1024.Idx → EReal) (i : S8192x1024.Idx) : (val_main_v5 (F := Ideal) x w i : EReal) = prod x w i := by
  rw [val_main_v5_apply]
  refine Finset.sum_congr rfl fun k _ => ?_
  show x _ * w _ = _
  refine congrArg₂ (· * ·) (congrArg x (funext fun a => Fin.ext ?_)) (congrArg w (funext fun a => Fin.ext ?_))
  · match a with
    | ⟨0, _⟩ => rfl
    | ⟨1, _⟩ => rfl
  · match a with
    | ⟨0, _⟩ => rfl
    | ⟨1, _⟩ => rfl

open Cert.Reference15Ideal.Read in
/-- A gate of the reference is the kernel's. -/
theorem gate_stage13 (p : S8192x7168.Idx → EReal) (i : S8192x1024.Idx) : (val_main_v13 (F := Ideal) p i : EReal) = sK (p (col5 i)) := by
  have e : (val_main_v6 (F := Ideal) p i : EReal) = p (col5 i) := by
    rw [val_main_v6_apply]
    exact congrArg p (funext fun a => Fin.ext (match a with
      | ⟨0, _⟩ => rfl
      | ⟨1, _⟩ => rfl))
  rw [sK_eq, ← e]
  unfold sR
  rw [← one_f32]
  rw [val_main_v13_apply, val_main_v12_apply, val_main_v11_apply, val_main_v10_apply]
  rfl

open Cert.Reference15Ideal.Read in
/-- A gate of the reference is the kernel's. -/
theorem gate_stage20 (p : S8192x7168.Idx → EReal) (i : S8192x1024.Idx) : (val_main_v20 (F := Ideal) p i : EReal) = sK (p (col6 i)) := by
  have e : (val_main_v7 (F := Ideal) p i : EReal) = p (col6 i) := by
    rw [val_main_v7_apply]
    exact congrArg p (funext fun a => Fin.ext (match a with
      | ⟨0, _⟩ => rfl
      | ⟨1, _⟩ => rfl))
  rw [sK_eq, ← e]
  unfold sR
  rw [← one_f32]
  rw [val_main_v20_apply, val_main_v19_apply, val_main_v18_apply, val_main_v17_apply]
  rfl

open Cert.Reference15Ideal.Read in
/-- The reference's merge is the kernel's. -/
theorem ref_merged (p : S8192x7168.Idx → EReal) (x y : S8192x1024.Idx → EReal) (v w : S1024x1024.Idx → EReal) (i : S8192x1024.Idx) :
    (val_main_v23 (F := Ideal) p x y v w i : EReal) = merged p x y v w i := by
  unfold merged
  rw [← gate_stage13, ← gate_stage20, ← prod_stage2, ← prod_stage5]
  rfl

/-- The value claim: the kernel's arrays are the reference's, on every device. -/
theorem algebraic : Cert.algebraic_Kernel15Ideal_Reference15Ideal := by
  intro m ρ m' ρ' _ hag
  refine ⟨fun c => result6 m c, fun c => result7 m c, fun c => result8 m c, run_result m ρ, ?_⟩
  refine (θ_run Cert.Reference15Ideal.defs _ _).mono (fun r h c => ⟨?_, ?_, ?_, (h c).2.2.2⟩) (Cert.Reference15Ideal.Value.run (F := Ideal) m' ρ')
  · rw [(h c).1, (hag c).1, (hag c).2.1, (hag c).2.2.1, (hag c).2.2.2.1, (hag c).2.2.2.2]
    refine (Cert.Reference15Ideal.Read.val_main_v23_eq (F := Ideal) _ _ _ _ _).trans ?_
    funext i
    exact ref_merged (X0 m c) (X1 m c) (X2 m c) (X3 m c) (X4 m c) i
  · rw [(h c).2.1, (hag c).2.1, (hag c).2.2.2.1]
    refine (Cert.Reference15Ideal.Read.val_main_v2_eq (F := Ideal) _ _).trans ?_
    funext i
    exact prod_stage2 (X1 m c) (X3 m c) i
  · rw [(h c).2.2.1, (hag c).2.2.1, (hag c).2.2.2.2]
    refine (Cert.Reference15Ideal.Read.val_main_v5_eq (F := Ideal) _ _).trans ?_
    funext i
    exact prod_stage5 (X2 m c) (X4 m c) i

/-- The reference runs and leaves its arguments as they were. -/
theorem ref_frame : Cert.quiescent_Reference15Ideal := fun m ρ _ =>
  (θ_run Cert.Reference15Ideal.defs _ _).mono (fun r h => ⟨fun c => (h c).2.2.2, Idealize.ShloMosaic.sem_eq_zero_of_no_sems (by decide) r.2⟩)
    (Cert.Reference15Ideal.Value.run (F := Ideal) m ρ)

end Cert.Kernel15Ideal.Merge

end
-- ==== Proof.Arr16.lean ====
module

public import proofs.«01_k».proof.Proof.Sums
public import proofs.«01_k».proof.Proof.Sig
public import proofs.«01_k».proof.Proof.Gen.Kernel16Ideal.Value
public import Idealize.ShloMosaic.Lib.IdealHost

/-! The three arrays `Kernel16` (the gradients of the gated merge) writes. -/

@[expose] public section

set_option maxRecDepth 16384

noncomputable section

namespace Cert.Kernel16Ideal.Merge

open Cert.Sig Cert.Kernel16Ideal Cert.Kernel16Ideal.Gen Cert.Kernel16Ideal.Value Idealize.ShloMosaic Idealize.ShloMosaic.TcCoe Idealize.SL.Sem

/-- What the arrays of every device hold. -/
abbrev Mem : Type := (ℓ : Loc nD τ sig) → Buf (Elt Ideal) ℓ

/-! ## The product over the extended reals -/

/-- The left operand's element the product reads at output `i` and contraction index `k`. -/
abbrev lidx (i : S512x1024.Idx) (k : Fin 1024) : S512x1024.Idx := fun a => match a with
  | ⟨0, _⟩ => ⟨(i 0).val, (i 0).isLt⟩
  | ⟨1, _⟩ => ⟨k.val, k.isLt⟩
/-- The right operand's. -/
abbrev ridx (i : S512x1024.Idx) (k : Fin 1024) : S1024x1024.Idx := fun a => match a with
  | ⟨0, _⟩ => ⟨(i 1).val, (i 1).isLt⟩
  | ⟨1, _⟩ => ⟨k.val, k.isLt⟩
/-- The matrix unit's product is the accumulator plus the sum of products. -/
theorem mm_apply (x : FVec Ideal S512x1024 .bf16) (y : FVec Ideal S1024x1024 .bf16) (acc : FVec Ideal S512x1024 .f32) (i : S512x1024.Idx) :
    matmul dot_S512x1024_S1024x1024_S512x1024_1_1_0_0_n_n none x y acc i = acc i + ∑ k : Fin 1024, x (lidx i k) * y (ridx i k) :=
  Cert.Sums.mm_apply _ 1024 rfl rfl x y acc i (lidx i) (ridx i) (fun _ _ h a => match a with | ⟨0, _⟩ => rfl | ⟨1, _⟩ => h)
    fun _ _ h a => match a with | ⟨0, _⟩ => rfl | ⟨1, _⟩ => h

/-- A product payload at an element. -/
theorem pay3_apply (x : Vec Ideal S512x1024 .bf16) (y : Vec Ideal S1024x1024 .bf16) (i : S512x1024.Idx) :
    (k0_pay3 x y i : EReal) = ∑ k : Fin 1024, (x (lidx i k) : EReal) * y (ridx i k) := by
  unfold k0_pay3
  rw [mm_apply]
  have z : (constant (F := Ideal) S512x1024 .f32 0x00000000#32 i : EReal) = 0 := Ideal.ofBits_zero_f32
  exact (congrArg (· + _) z).trans (zero_add _)

/-- The first gate's logistic function. -/
theorem pay4_apply (a : Vec Ideal S512x1024 .f32) (i : S512x1024.Idx) : (k0_pay4 a i : EReal) = sK (a i) := by
  unfold k0_pay4 sK
  rw [← zero_f32, ← one_f32]
  rfl

/-- The second gate's logistic function. -/
theorem pay5_apply (a : Vec Ideal S512x1024 .f32) (i : S512x1024.Idx) : (k0_pay5 a i : EReal) = sK (a i) := by
  unfold k0_pay5 sK
  rw [← zero_f32, ← one_f32]
  rfl

/-- The gradient by a gate's argument. -/
def dgate (d y a : EReal) : EReal := ((d * y) * sK a) * (1 - sK a)

/-- A stored gradient by a gate's argument at an element. -/
theorem pay1_apply (d : FVec Ideal S512x1024 .f32) (a z : Vec Ideal S512x1024 .f32) (i : S512x1024.Idx) :
    (k0_pay1 d (k0_pay4 a) z i : EReal) = dgate (d i) (z i) (a i) := by
  unfold dgate
  rw [← pay4_apply, ← one_f32]
  rfl

/-- A stored gradient by a gate's argument at an element. -/
theorem pay2_apply (d : FVec Ideal S512x1024 .f32) (a z : Vec Ideal S512x1024 .f32) (i : S512x1024.Idx) :
    (k0_pay2 d (k0_pay5 a) z i : EReal) = dgate (d i) (z i) (a i) := by
  unfold dgate
  rw [← pay5_apply, ← one_f32]
  rfl

/-- A stored gradient by a branch at an element. -/
theorem pay6_apply (x : Vec Ideal S512x1024 .bf16) (w : Vec Ideal S1024x1024 .bf16) (a : Vec Ideal S512x1024 .f32) (i : S512x1024.Idx) :
    (k0_pay6 x w a i : EReal) = (∑ k : Fin 1024, (x (lidx i k) : EReal) * w (ridx i k)) * sK (a i) := by
  rw [← pay3_apply, ← pay4_apply]
  rfl

/-- A stored gradient by a branch at an element. -/
theorem pay7_apply (x : Vec Ideal S512x1024 .bf16) (w : Vec Ideal S1024x1024 .bf16) (a : Vec Ideal S512x1024 .f32) (i : S512x1024.Idx) :
    (k0_pay7 x w a i : EReal) = (∑ k : Fin 1024, (x (lidx i k) : EReal) * w (ridx i k)) * sK (a i) := by
  rw [← pay3_apply, ← pay5_apply]
  rfl

/-- Argument 0, with extended reals as elements. -/
def X0 (m : Mem) (c : Dev nD) : S8192x7168.Idx → EReal := m (c.tc.loc main_arg0)
@[inherit_doc X0] def X1 (m : Mem) (c : Dev nD) : S8192x1024.Idx → EReal := m (c.tc.loc main_arg1)
@[inherit_doc X0] def X2 (m : Mem) (c : Dev nD) : S8192x1024.Idx → EReal := m (c.tc.loc main_arg2)
@[inherit_doc X0] def X3 (m : Mem) (c : Dev nD) : S8192x1024.Idx → EReal := m (c.tc.loc main_arg3)
@[inherit_doc X0] def X4 (m : Mem) (c : Dev nD) : S1024x1024.Idx → EReal := m (c.tc.loc main_arg4)

/-- Window 0's block at a point, with extended reals as elements. -/
def B0 (m : Mem) (c : Dev nD) (t : Fin cfg0.N) : S512x1024.Idx → EReal := iblk m c 0 t
/-- The printed index map of window 0, over the grid. -/
theorem idx0 : ∀ t : Fin grid0.N, win0_0.index t 0 = t.val ∧ win0_0.index t 1 = 5 := by decide +kernel

/-- Window 0's block at a point, read at an element, is the array at the block's offset plus the element. -/
theorem blk0_apply (m : Mem) (c : Dev nD) (t : Fin cfg0.N) (j : S512x1024.Idx) (a : S8192x7168.Idx)
    (e0 : (a 0).val = (t.val) * 512 + (j 0).val) (e1 : (a 1).val = (5) * 1024 + (j 1).val) :
    B0 m c t j = X0 m c a := by
  unfold B0 iblk
  rw [View.read_apply]
  refine congrArg (X0 m c) (funext fun x => Fin.ext ?_)
  have h := idx0 t
  match x with
  | ⟨0, _⟩ => show win0_0.index t 0 * 512 + 1 * (j 0).val = (a 0).val; rw [h.1, e0]; omega
  | ⟨1, _⟩ => show win0_0.index t 1 * 1024 + 1 * (j 1).val = (a 1).val; rw [h.2, e1]; omega

@[inherit_doc B0] def B1 (m : Mem) (c : Dev nD) (t : Fin cfg0.N) : S512x1024.Idx → EReal := iblk m c 1 t
@[inherit_doc idx0] theorem idx1 : ∀ t : Fin grid0.N, win0_1.index t 0 = t.val ∧ win0_1.index t 1 = 6 := by decide +kernel

@[inherit_doc blk0_apply] theorem blk1_apply (m : Mem) (c : Dev nD) (t : Fin cfg0.N) (j : S512x1024.Idx) (a : S8192x7168.Idx)
    (e0 : (a 0).val = (t.val) * 512 + (j 0).val) (e1 : (a 1).val = (6) * 1024 + (j 1).val) :
    B1 m c t j = X0 m c a := by
  unfold B1 iblk
  rw [View.read_apply]
  refine congrArg (X0 m c) (funext fun x => Fin.ext ?_)
  have h := idx1 t
  match x with
  | ⟨0, _⟩ => show win0_1.index t 0 * 512 + 1 * (j 0).val = (a 0).val; rw [h.1, e0]; omega
  | ⟨1, _⟩ => show win0_1.index t 1 * 1024 + 1 * (j 1).val = (a 1).val; rw [h.2, e1]; omega

@[inherit_doc B0] def B2 (m : Mem) (c : Dev nD) (t : Fin cfg0.N) : S512x1024.Idx → EReal := iblk m c 2 t
@[inherit_doc idx0] theorem idx2 : ∀ t : Fin grid0.N, win0_2.index t 0 = t.val ∧ win0_2.index t 1 = 0 := by decide +kernel

@[inherit_doc blk0_apply] theorem blk2_apply (m : Mem) (c : Dev nD) (t : Fin cfg0.N) (j : S512x1024.Idx) (a : S8192x1024.Idx)
    (e0 : (a 0).val = (t.val) * 512 + (j 0).val) (e1 : (a 1).val = (0) * 1024 + (j 1).val) :
    B2 m c t j = X1 m c a := by
  unfold B2 iblk
  rw [View.read_apply]
  refine congrArg (X1 m c) (funext fun x => Fin.ext ?_)
  have h := idx2 t
  match x with
  | ⟨0, _⟩ => show win0_2.index t 0 * 512 + 1 * (j 0).val = (a 0).val; rw [h.1, e0]; omega
  | ⟨1, _⟩ => show win0_2.index t 1 * 1024 + 1 * (j 1).val = (a 1).val; rw [h.2, e1]; omega

@[inherit_doc B0] def B3 (m : Mem) (c : Dev nD) (t : Fin cfg0.N) : S512x1024.Idx → EReal := iblk m c 3 t
@[inherit_doc idx0] theorem idx3 : ∀ t : Fin grid0.N, win0_3.index t 0 = t.val ∧ win0_3.index t 1 = 0 := by decide +kernel

@[inherit_doc blk0_apply] theorem blk3_apply (m : Mem) (c : Dev nD) (t : Fin cfg0.N) (j : S512x1024.Idx) (a : S8192x1024.Idx)
    (e0 : (a 0).val = (t.val) * 512 + (j 0).val) (e1 : (a 1).val = (0) * 1024 + (j 1).val) :
    B3 m c t j = X2 m c a := by
  unfold B3 iblk
  rw [View.read_apply]
  refine congrArg (X2 m c) (funext fun x => Fin.ext ?_)
  have h := idx3 t
  match x with
  | ⟨0, _⟩ => show win0_3.index t 0 * 512 + 1 * (j 0).val = (a 0).val; rw [h.1, e0]; omega
  | ⟨1, _⟩ => show win0_3.index t 1 * 1024 + 1 * (j 1).val = (a 1).val; rw [h.2, e1]; omega

@[inherit_doc B0] def B4 (m : Mem) (c : Dev nD) (t : Fin cfg0.N) : S512x1024.Idx → EReal := iblk m c 4 t
@[inherit_doc idx0] theorem idx4 : ∀ t : Fin grid0.N, win0_4.index t 0 = t.val ∧ win0_4.index t 1 = 0 := by decide +kernel

@[inherit_doc blk0_apply] theorem blk4_apply (m : Mem) (c : Dev nD) (t : Fin cfg0.N) (j : S512x1024.Idx) (a : S8192x1024.Idx)
    (e0 : (a 0).val = (t.val) * 512 + (j 0).val) (e1 : (a 1).val = (0) * 1024 + (j 1).val) :
    B4 m c t j = X3 m c a := by
  unfold B4 iblk
  rw [View.read_apply]
  refine congrArg (X3 m c) (funext fun x => Fin.ext ?_)
  have h := idx4 t
  match x with
  | ⟨0, _⟩ => show win0_4.index t 0 * 512 + 1 * (j 0).val = (a 0).val; rw [h.1, e0]; omega
  | ⟨1, _⟩ => show win0_4.index t 1 * 1024 + 1 * (j 1).val = (a 1).val; rw [h.2, e1]; omega

@[inherit_doc B0] def B5 (m : Mem) (c : Dev nD) (t : Fin cfg0.N) : S1024x1024.Idx → EReal := iblk m c 5 t
@[inherit_doc idx0] theorem idx5 : ∀ t : Fin grid0.N, win0_5.index t 0 = 0 ∧ win0_5.index t 1 = 0 := by decide +kernel

@[inherit_doc blk0_apply] theorem blk5_apply (m : Mem) (c : Dev nD) (t : Fin cfg0.N) (j : S1024x1024.Idx) (a : S1024x1024.Idx)
    (e0 : (a 0).val = (0) * 1024 + (j 0).val) (e1 : (a 1).val = (0) * 1024 + (j 1).val) :
    B5 m c t j = X4 m c a := by
  unfold B5 iblk
  rw [View.read_apply]
  refine congrArg (X4 m c) (funext fun x => Fin.ext ?_)
  have h := idx5 t
  match x with
  | ⟨0, _⟩ => show win0_5.index t 0 * 1024 + 1 * (j 0).val = (a 0).val; rw [h.1, e0]; omega
  | ⟨1, _⟩ => show win0_5.index t 1 * 1024 + 1 * (j 1).val = (a 1).val; rw [h.2, e1]; omega

/-- The factors' indices of a product at element `i` and contraction index `k`. -/
abbrev lArr (i : S8192x1024.Idx) (k : Fin 1024) : S8192x1024.Idx := fun a => match a with
  | ⟨0, _⟩ => ⟨(i 0).val, (i 0).isLt⟩
  | ⟨1, _⟩ => ⟨k.val, k.isLt⟩
@[inherit_doc lArr] abbrev rArr (i : S8192x1024.Idx) (k : Fin 1024) : S1024x1024.Idx := fun a => match a with
  | ⟨0, _⟩ => ⟨(i 1).val, (i 1).isLt⟩
  | ⟨1, _⟩ => ⟨k.val, k.isLt⟩
/-- A product. -/
def prod (x : S8192x1024.Idx → EReal) (w : S1024x1024.Idx → EReal) (i : S8192x1024.Idx) : EReal := ∑ k : Fin 1024, x (lArr i k) * w (rArr i k)
/-- An element's gates' arguments among the input projection's columns. -/
abbrev col5 (i : S8192x1024.Idx) : S8192x7168.Idx := fun a => match a with
  | ⟨0, _⟩ => ⟨(i 0).val, (i 0).isLt⟩
  | ⟨1, _⟩ => ⟨5120 + (i 1).val, by have h : (i 1).val < 1024 := (i 1).isLt; show _ < 7168; omega⟩
@[inherit_doc col5] abbrev col6 (i : S8192x1024.Idx) : S8192x7168.Idx := fun a => match a with
  | ⟨0, _⟩ => ⟨(i 0).val, (i 0).isLt⟩
  | ⟨1, _⟩ => ⟨6144 + (i 1).val, by have h : (i 1).val < 1024 := (i 1).isLt; show _ < 7168; omega⟩
/-- An element of a half of the gates' gradient. -/
abbrev left (i : S8192x2048.Idx) (h : (i 1).val < 1024) : S8192x1024.Idx := fun a => match a with
  | ⟨0, _⟩ => ⟨(i 0).val, (i 0).isLt⟩
  | ⟨1, _⟩ => ⟨(i 1).val, h⟩
@[inherit_doc left] abbrev right (i : S8192x2048.Idx) : S8192x1024.Idx := fun a => match a with
  | ⟨0, _⟩ => ⟨(i 0).val, (i 0).isLt⟩
  | ⟨1, _⟩ => ⟨(i 1).val - 1024, by have h : (i 1).val < 2048 := (i 1).isLt; show _ < 1024; omega⟩
/-- The gradients by the two branches, and by the two gates' arguments side by side. -/
def dfirst (p : S8192x7168.Idx → EReal) (d : S8192x1024.Idx → EReal) (w : S1024x1024.Idx → EReal) (i : S8192x1024.Idx) : EReal := prod d w i * sK (p (col5 i))
@[inherit_doc dfirst] def dsecond (p : S8192x7168.Idx → EReal) (d : S8192x1024.Idx → EReal) (w : S1024x1024.Idx → EReal) (i : S8192x1024.Idx) : EReal := prod d w i * sK (p (col6 i))
@[inherit_doc dfirst] def dgates (p : S8192x7168.Idx → EReal) (y z d : S8192x1024.Idx → EReal) (w : S1024x1024.Idx → EReal) (i : S8192x2048.Idx) : EReal :=
  if h : (i 1).val < 1024 then dgate (prod d w (left i h)) (y (left i h)) (p (col5 (left i h)))
  else dgate (prod d w (right i)) (z (right i)) (p (col6 (right i)))

variable (m : Mem)

/-- The same as contents of the result arrays. -/ def result6 (c : Dev nD) : Buf (Elt Ideal) ((c : Thread nD τ).loc main_v0_0) := dfirst (X0 m c) (X3 m c) (X4 m c)
@[inherit_doc result6] def result7 (c : Dev nD) : Buf (Elt Ideal) ((c : Thread nD τ).loc main_v0_1) := dsecond (X0 m c) (X3 m c) (X4 m c)
@[inherit_doc result6] def result8 (c : Dev nD) : Buf (Elt Ideal) ((c : Thread nD τ).loc main_v0_2) := dgates (X0 m c) (X1 m c) (X2 m c) (X3 m c) (X4 m c)

theorem hz2 : (![0, 0] : Fin 2 → Nat) = fun _ => 0 := funext fun a => by fin_cases a <;> rfl
theorem hz3 : (![0, 0, 0] : Fin 3 → Nat) = fun _ => 0 := funext fun a => by fin_cases a <;> rfl

@[inherit_doc idx0] theorem idx6 : ∀ t : Fin grid0.N, win0_6.index t 0 = t.val ∧ win0_6.index t 1 = 0 := by decide +kernel

@[inherit_doc idx0] theorem idx7 : ∀ t : Fin grid0.N, win0_7.index t 0 = t.val ∧ win0_7.index t 1 = 0 := by decide +kernel

@[inherit_doc idx0] theorem idx8 : ∀ t : Fin grid0.N, win0_8.index t 0 = t.val ∧ win0_8.index t 1 = 0 := by decide +kernel

/-- A product of a point's blocks is the arrays'. -/
theorem dm_blk (c : Dev nD) (t : Fin cfg0.N) (y : S512x1024.Idx) (i : S8192x1024.Idx)
    (e0 : (i 0).val = (t.val) * 512 + (y 0).val) (e1 : (i 1).val = (y 1).val) :
    (∑ k : Fin 1024, B4 m c t (lidx y k) * B5 m c t (ridx y k)) = prod (X3 m c) (X4 m c) i :=
  Finset.sum_congr rfl fun k _ => congrArg₂ (· * ·)
    (blk4_apply m c t (lidx y k) (lArr i k) e0 (by show k.val = 0 * 1024 + k.val; omega))
    (blk5_apply m c t (ridx y k) (rArr i k) (by show (i 1).val = 0 * 1024 + (y 1).val; omega) (by show k.val = 0 * 1024 + k.val; omega))

/-- A gate's argument in a point's block. -/
theorem col5_blk (c : Dev nD) (t : Fin cfg0.N) (y : S512x1024.Idx) (i : S8192x1024.Idx)
    (e0 : (i 0).val = (t.val) * 512 + (y 0).val) (e1 : (i 1).val = (y 1).val) :
    B0 m c t y = X0 m c (col5 i) :=
  blk0_apply m c t y (col5 i) e0 (by show 5*1024 + (i 1).val = 5 * 1024 + (y 1).val; omega)

/-- A gate's argument in a point's block. -/
theorem col6_blk (c : Dev nD) (t : Fin cfg0.N) (y : S512x1024.Idx) (i : S8192x1024.Idx)
    (e0 : (i 0).val = (t.val) * 512 + (y 0).val) (e1 : (i 1).val = (y 1).val) :
    B1 m c t y = X0 m c (col6 i) :=
  blk1_apply m c t y (col6 i) e0 (by show 6*1024 + (i 1).val = 6 * 1024 + (y 1).val; omega)

/-- A branch's element in a point's block. -/
theorem ysb_blk (c : Dev nD) (t : Fin cfg0.N) (y : S512x1024.Idx) (i : S8192x1024.Idx)
    (e0 : (i 0).val = (t.val) * 512 + (y 0).val) (e1 : (i 1).val = (y 1).val) :
    B2 m c t y = X1 m c i :=
  blk2_apply m c t y i e0 (by show (i 1).val = 0 * 1024 + (y 1).val; omega)

/-- A branch's element in a point's block. -/
theorem yc_blk (c : Dev nD) (t : Fin cfg0.N) (y : S512x1024.Idx) (i : S8192x1024.Idx)
    (e0 : (i 0).val = (t.val) * 512 + (y 0).val) (e1 : (i 1).val = (y 1).val) :
    B3 m c t y = X2 m c i :=
  blk3_apply m c t y i e0 (by show (i 1).val = 0 * 1024 + (y 1).val; omega)

/-- What a point leaves in window 6's block, at an element. -/
theorem out6_apply (c : Dev nD) (t : Fin cfg0.N) (y : S512x1024.Idx) (i : S8192x1024.Idx)
    (e0 : (i 0).val = (t.val) * 512 + (y 0).val) (e1 : (i 1).val = (y 1).val) :
    (out0_6 (iblk m c 0 t) (iblk m c 1 t) (iblk m c 2 t) (iblk m c 3 t) (iblk m c 4 t) (iblk m c 5 t) y : EReal) = dfirst (X0 m c) (X3 m c) (X4 m c) i := by
  unfold out0_6
  rw [View.ld_unit_zero (S := S512x1024) hz2, View.ld_unit_zero (S := S512x1024) hz2, View.ld_unit_zero (S := S1024x1024) hz2, View.canon_unit_zero (S := S512x1024) hz2]
  unfold dfirst
  refine (pay6_apply (iblk m c 4 t) (iblk m c 5 t) (iblk m c 0 t) y).trans ?_
  exact congrArg₂ (· * ·) (dm_blk m c t y i e0 e1) (congrArg sK (col5_blk m c t y i e0 e1))
/-- What a point leaves in window 7's block, at an element. -/
theorem out7_apply (c : Dev nD) (t : Fin cfg0.N) (y : S512x1024.Idx) (i : S8192x1024.Idx)
    (e0 : (i 0).val = (t.val) * 512 + (y 0).val) (e1 : (i 1).val = (y 1).val) :
    (out0_7 (iblk m c 0 t) (iblk m c 1 t) (iblk m c 2 t) (iblk m c 3 t) (iblk m c 4 t) (iblk m c 5 t) y : EReal) = dsecond (X0 m c) (X3 m c) (X4 m c) i := by
  unfold out0_7
  rw [View.ld_unit_zero (S := S512x1024) hz2, View.ld_unit_zero (S := S512x1024) hz2, View.ld_unit_zero (S := S1024x1024) hz2, View.canon_unit_zero (S := S512x1024) hz2]
  unfold dsecond
  refine (pay7_apply (iblk m c 4 t) (iblk m c 5 t) (iblk m c 1 t) y).trans ?_
  exact congrArg₂ (· * ·) (dm_blk m c t y i e0 e1) (congrArg sK (col6_blk m c t y i e0 e1))
/-- The two stores of a point, read in a half. -/
theorem stored_left (p0 p1 : Vec Ideal S512x1024 .bf16) (y : S512x2048.Idx) (x : S512x1024.Idx) (h0 : (y 0).val = (x 0).val) (h1 : (y 1).val = (x 1).val) :
    View.canon (Val := Elt Ideal) [⟨r0_3, p0⟩, ⟨r0_2, p1⟩] y = p1 x := by
  have hx : (x 1).val < 1024 := (x 1).isLt
  have hy : y = r0_2.emb x := by
    funext a
    apply Fin.ext
    match a with
    | ⟨0, _⟩ => show (y 0).val = 0 + 1 * (x 0).val; omega
    | ⟨1, _⟩ => show (y 1).val = 0 + 1 * (x 1).val; omega
  have hn : y ∉ r0_3.set := by
    rw [Rect.mem_set_unit]
    intro hh
    have : 1024 ≤ (y 1).val := (hh 1).1
    omega
  refine (View.canon_cons_of_not_mem (Val := Elt Ideal) ⟨r0_3, p0⟩ [⟨r0_2, p1⟩] hn).trans ?_
  rw [hy]
  exact View.canon_cons_emb (Val := Elt Ideal) r0_2 p1 [] x

/-- The two stores of a point, read in a half. -/
theorem stored_right (p0 p1 : Vec Ideal S512x1024 .bf16) (y : S512x2048.Idx) (x : S512x1024.Idx) (h0 : (y 0).val = (x 0).val) (h1 : (y 1).val = 1024 + (x 1).val) :
    View.canon (Val := Elt Ideal) [⟨r0_3, p0⟩, ⟨r0_2, p1⟩] y = p0 x := by
  have hx : (x 1).val < 1024 := (x 1).isLt
  have hy : y = r0_3.emb x := by
    funext a
    apply Fin.ext
    match a with
    | ⟨0, _⟩ => show (y 0).val = 0 + 1 * (x 0).val; omega
    | ⟨1, _⟩ => show (y 1).val = 1024 + 1 * (x 1).val; omega
  rw [hy]
  exact View.canon_cons_emb (Val := Elt Ideal) r0_3 p0 _ x

/-- What a point leaves in window 8's block, at an element. -/
theorem out8_apply (c : Dev nD) (t : Fin cfg0.N) (y : S512x2048.Idx) (i : S8192x2048.Idx)
    (e0 : (i 0).val = (t.val) * 512 + (y 0).val) (e1 : (i 1).val = (y 1).val) :
    (out0_8 (iblk m c 0 t) (iblk m c 1 t) (iblk m c 2 t) (iblk m c 3 t) (iblk m c 4 t) (iblk m c 5 t) y : EReal) = dgates (X0 m c) (X1 m c) (X2 m c) (X3 m c) (X4 m c) i := by
  have hy1 : (y 1).val < 2048 := (y 1).isLt
  unfold out0_8 dgates k0_pay8
  rw [View.ld_unit_zero (S := S512x1024) hz2, View.ld_unit_zero (S := S512x1024) hz2, View.ld_unit_zero (S := S512x1024) hz2, View.ld_unit_zero (S := S512x1024) hz2, View.ld_unit_zero (S := S512x1024) hz2, View.ld_unit_zero (S := S1024x1024) hz2]
  by_cases h : (i 1).val < 1024
  · rw [dif_pos h]
    let x : S512x1024.Idx := fun a => match a with
      | ⟨0, _⟩ => ⟨(y 0).val, (y 0).isLt⟩
      | ⟨1, _⟩ => ⟨(y 1).val, by show _ < 1024; omega⟩
    refine (stored_left _ _ y x rfl rfl).trans ?_
    refine (pay1_apply (k0_pay3 (iblk m c 4 t) (iblk m c 5 t)) (iblk m c 0 t) (iblk m c 2 t) x).trans ?_
    exact congr (congrArg₂ dgate ((pay3_apply (iblk m c 4 t) (iblk m c 5 t) x).trans (dm_blk m c t x (left i h) e0 e1)) (ysb_blk m c t x (left i h) e0 e1))
      (col5_blk m c t x (left i h) e0 e1)
  · rw [dif_neg h]
    let x : S512x1024.Idx := fun a => match a with
      | ⟨0, _⟩ => ⟨(y 0).val, (y 0).isLt⟩
      | ⟨1, _⟩ => ⟨(y 1).val - 1024, by show _ < 1024; omega⟩
    have e1' : (right i 1).val = (x 1).val := by show (i 1).val - 1024 = (y 1).val - 1024; omega
    refine (stored_right _ _ y x rfl (by show (y 1).val = 1024 + ((y 1).val - 1024); omega)).trans ?_
    refine (pay2_apply (k0_pay3 (iblk m c 4 t) (iblk m c 5 t)) (iblk m c 1 t) (iblk m c 3 t) x).trans ?_
    exact congr (congrArg₂ dgate ((pay3_apply (iblk m c 4 t) (iblk m c 5 t) x).trans (dm_blk m c t x (right i) e0 e1')) (yc_blk m c t x (right i) e0 e1'))
      (col6_blk m c t x (right i) e0 e1')

/-- What a point writes back through window 6 is its block of the result array. -/
theorem flushed_eq6 (c : Dev nD) (t : Fin cfg0.N) :
    (dats m 0 c).flushed 6 t = ((cfg0.win 6).blk t).view.read (Elt Ideal) (result6 m c) := by
  rw [flushed6]
  funext y
  rw [View.read_apply]
  have h := idx6 t
  refine out6_apply m c t y _ ?_ ?_
  · show win0_6.index t 0 * 512 + 1 * (y 0).val = _; rw [h.1]; omega
  · show win0_6.index t 1 * 1024 + 1 * (y 1).val = _; rw [h.2]; omega

/-- The blocks of window 6 cover its array. -/
theorem cover6 (i : S8192x1024.Idx) : ∃ t : Fin cfg0.N, (cfg0.win 6).flush t = true ∧ i ∈ ((cfg0.win 6).blk t).view.set := by
  have h0 : (i 0).val < 8192 := (i 0).isLt
  have h1 : (i 1).val < 1024 := (i 1).isLt
  have hN : cfg0.N = 16 := N_0
  refine ⟨⟨(i 0).val / 512, by omega⟩, flush0_6 _, ?_⟩
  generalize ht : (⟨(i 0).val / 512, _⟩ : Fin cfg0.N) = t
  have hv : t.val = (i 0).val / 512 := by rw [← ht]
  have h := idx6 t
  show i ∈ ((View.whole main_v0_0).slice (win0_6.rect t)).set
  rw [View.set_slice_whole, Rect.mem_set_unit]
  intro a
  match a with
  | ⟨0, _⟩ => show win0_6.index t 0 * 512 ≤ (i 0).val ∧ (i 0).val < win0_6.index t 0 * 512 + 512; rw [h.1]; omega
  | ⟨1, _⟩ => show win0_6.index t 1 * 1024 ≤ (i 1).val ∧ (i 1).val < win0_6.index t 1 * 1024 + 1024; rw [h.2]; omega

/-- What a point writes back through window 7 is its block of the result array. -/
theorem flushed_eq7 (c : Dev nD) (t : Fin cfg0.N) :
    (dats m 0 c).flushed 7 t = ((cfg0.win 7).blk t).view.read (Elt Ideal) (result7 m c) := by
  rw [flushed7]
  funext y
  rw [View.read_apply]
  have h := idx7 t
  refine out7_apply m c t y _ ?_ ?_
  · show win0_7.index t 0 * 512 + 1 * (y 0).val = _; rw [h.1]; omega
  · show win0_7.index t 1 * 1024 + 1 * (y 1).val = _; rw [h.2]; omega

/-- The blocks of window 7 cover its array. -/
theorem cover7 (i : S8192x1024.Idx) : ∃ t : Fin cfg0.N, (cfg0.win 7).flush t = true ∧ i ∈ ((cfg0.win 7).blk t).view.set := by
  have h0 : (i 0).val < 8192 := (i 0).isLt
  have h1 : (i 1).val < 1024 := (i 1).isLt
  have hN : cfg0.N = 16 := N_0
  refine ⟨⟨(i 0).val / 512, by omega⟩, flush0_7 _, ?_⟩
  generalize ht : (⟨(i 0).val / 512, _⟩ : Fin cfg0.N) = t
  have hv : t.val = (i 0).val / 512 := by rw [← ht]
  have h := idx7 t
  show i ∈ ((View.whole main_v0_1).slice (win0_7.rect t)).set
  rw [View.set_slice_whole, Rect.mem_set_unit]
  intro a
  match a with
  | ⟨0, _⟩ => show win0_7.index t 0 * 512 ≤ (i 0).val ∧ (i 0).val < win0_7.index t 0 * 512 + 512; rw [h.1]; omega
  | ⟨1, _⟩ => show win0_7.index t 1 * 1024 ≤ (i 1).val ∧ (i 1).val < win0_7.index t 1 * 1024 + 1024; rw [h.2]; omega

/-- What a point writes back through window 8 is its block of the result array. -/
theorem flushed_eq8 (c : Dev nD) (t : Fin cfg0.N) :
    (dats m 0 c).flushed 8 t = ((cfg0.win 8).blk t).view.read (Elt Ideal) (result8 m c) := by
  rw [flushed8]
  funext y
  rw [View.read_apply]
  have h := idx8 t
  refine out8_apply m c t y _ ?_ ?_
  · show win0_8.index t 0 * 512 + 1 * (y 0).val = _; rw [h.1]; omega
  · show win0_8.index t 1 * 2048 + 1 * (y 1).val = _; rw [h.2]; omega

/-- The blocks of window 8 cover its array. -/
theorem cover8 (i : S8192x2048.Idx) : ∃ t : Fin cfg0.N, (cfg0.win 8).flush t = true ∧ i ∈ ((cfg0.win 8).blk t).view.set := by
  have h0 : (i 0).val < 8192 := (i 0).isLt
  have h1 : (i 1).val < 2048 := (i 1).isLt
  have hN : cfg0.N = 16 := N_0
  refine ⟨⟨(i 0).val / 512, by omega⟩, flush0_8 _, ?_⟩
  generalize ht : (⟨(i 0).val / 512, _⟩ : Fin cfg0.N) = t
  have hv : t.val = (i 0).val / 512 := by rw [← ht]
  have h := idx8 t
  show i ∈ ((View.whole main_v0_2).slice (win0_8.rect t)).set
  rw [View.set_slice_whole, Rect.mem_set_unit]
  intro a
  match a with
  | ⟨0, _⟩ => show win0_8.index t 0 * 512 ≤ (i 0).val ∧ (i 0).val < win0_8.index t 0 * 512 + 512; rw [h.1]; omega
  | ⟨1, _⟩ => show win0_8.index t 1 * 2048 ≤ (i 1).val ∧ (i 1).val < win0_8.index t 1 * 2048 + 2048; rw [h.2]; omega

/-- The run, with the result arrays read. -/
theorem run_result (ρ : Dev nD → PrngReg) : θ_run defs (onTc (τ := τ) (main (F := Ideal))) ⟨m, fun _ => 0, ρ⟩ fun r => ∀ c : Dev nD,
      r.2.mem (c.tc.loc main_v0_0) = result6 m c
      ∧ r.2.mem (c.tc.loc main_v0_1) = result7 m c
      ∧ r.2.mem (c.tc.loc main_v0_2) = result8 m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun _ h c => ⟨(h c).1.trans ((dats m 0 c).arrAt_eq_of_cover 6 (result6 m c) (fun t _ => flushed_eq6 m c t) cover6), (h c).2.1.trans ((dats m 0 c).arrAt_eq_of_cover 7 (result7 m c) (fun t _ => flushed_eq7 m c t) cover7), (h c).2.2.1.trans ((dats m 0 c).arrAt_eq_of_cover 8 (result8 m c) (fun t _ => flushed_eq8 m c t) cover8), (h c).2.2.2⟩)
    (run_blocks m ρ)

end Cert.Kernel16Ideal.Merge

end
-- ==== Proof.Eq16.lean ====
module

public import proofs.«01_k».proof.Defs
public import proofs.«01_k».proof.Proof.Arr16
public import proofs.«01_k».proof.Proof.Gen.Kernel16Ideal
public import proofs.«01_k».proof.Proof.Gen.Reference16Ideal
public import proofs.«01_k».proof.Proof.Gen.Reference16Ideal.Run
public import proofs.«01_k».proof.Proof.Gen.Reference16Ideal.Read

/-! `Kernel16` and its reference compute the same arrays over the extended reals. -/

@[expose] public section

set_option maxRecDepth 16384

noncomputable section

namespace Cert.Kernel16Ideal.Merge

open Cert.Sig Cert.Kernel16Ideal Cert.Kernel16Ideal.Gen Cert.Kernel16Ideal.Value Idealize.ShloMosaic Idealize.ShloMosaic.TcCoe Idealize.SL.Sem

open Cert.Reference16Ideal.Read in
/-- A product of the reference is the kernel's. -/
theorem prod_stage26 (x : S8192x1024.Idx → EReal) (w : S1024x1024.Idx → EReal) (i : S8192x1024.Idx) : (val_main_v26 (F := Ideal) x w i : EReal) = prod x w i := by
  rw [val_main_v26_apply]
  refine Finset.sum_congr rfl fun k _ => ?_
  show x _ * w _ = _
  refine congrArg₂ (· * ·) (congrArg x (funext fun a => Fin.ext ?_)) (congrArg w (funext fun a => Fin.ext ?_))
  · match a with
    | ⟨0, _⟩ => rfl
    | ⟨1, _⟩ => rfl
  · match a with
    | ⟨0, _⟩ => rfl
    | ⟨1, _⟩ => rfl

open Cert.Reference16Ideal.Read in
/-- A gate of the reference is the kernel's. -/
theorem gate_stage8 (p : S8192x7168.Idx → EReal) (i : S8192x1024.Idx) : (val_main_v8 (F := Ideal) p i : EReal) = sK (p (col5 i)) := by
  have e : (val_main_v1 (F := Ideal) p i : EReal) = p (col5 i) := by
    rw [val_main_v1_apply]
    exact congrArg p (funext fun a => Fin.ext (match a with
      | ⟨0, _⟩ => rfl
      | ⟨1, _⟩ => rfl))
  rw [sK_eq, ← e]
  unfold sR
  rw [← one_f32]
  rw [val_main_v8_apply, val_main_v7_apply, val_main_v6_apply, val_main_v5_apply]
  rfl

open Cert.Reference16Ideal.Read in
/-- A gate of the reference is the kernel's. -/
theorem gate_stage18 (p : S8192x7168.Idx → EReal) (i : S8192x1024.Idx) : (val_main_v18 (F := Ideal) p i : EReal) = sK (p (col6 i)) := by
  have e : (val_main_v2 (F := Ideal) p i : EReal) = p (col6 i) := by
    rw [val_main_v2_apply]
    exact congrArg p (funext fun a => Fin.ext (match a with
      | ⟨0, _⟩ => rfl
      | ⟨1, _⟩ => rfl))
  rw [sK_eq, ← e]
  unfold sR
  rw [← one_f32]
  rw [val_main_v18_apply, val_main_v17_apply, val_main_v16_apply, val_main_v15_apply]
  rfl

open Cert.Reference16Ideal.Read in
/-- The reference's gradient by a branch is the kernel's. -/
theorem ref_dfirst (p : S8192x7168.Idx → EReal) (d : S8192x1024.Idx → EReal) (w : S1024x1024.Idx → EReal) (i : S8192x1024.Idx) : (val_main_v33 (F := Ideal) p d w i : EReal) = dfirst p d w i := by
  unfold dfirst
  rw [mul_comm, ← gate_stage8, ← prod_stage26]
  rfl

open Cert.Reference16Ideal.Read in
/-- The reference's gradient by a branch is the kernel's. -/
theorem ref_dsecond (p : S8192x7168.Idx → EReal) (d : S8192x1024.Idx → EReal) (w : S1024x1024.Idx → EReal) (i : S8192x1024.Idx) : (val_main_v34 (F := Ideal) p d w i : EReal) = dsecond p d w i := by
  unfold dsecond
  rw [mul_comm, ← gate_stage18, ← prod_stage26]
  rfl

open Cert.Reference16Ideal.Read in
/-- The reference's gradient by a gate's argument. -/
theorem dgate_stage32 (p : S8192x7168.Idx → EReal) (y d : S8192x1024.Idx → EReal) (w : S1024x1024.Idx → EReal) (i : S8192x1024.Idx) (a : EReal) (ha : (val_main_v8 (F := Ideal) p i : EReal) = sK a) :
    (val_main_v32 (F := Ideal) p y d w i : EReal) = dgate (prod d w i) (y i) a := by
  unfold dgate
  rw [mul_assoc (prod d w i * y i), ← ha, ← prod_stage26, ← one_f32]
  rw [val_main_v32_apply, val_main_v11_apply, val_main_v10_apply, val_main_v9_apply]
  rfl

open Cert.Reference16Ideal.Read in
/-- The reference's gradient by a gate's argument. -/
theorem dgate_stage29 (p : S8192x7168.Idx → EReal) (y d : S8192x1024.Idx → EReal) (w : S1024x1024.Idx → EReal) (i : S8192x1024.Idx) (a : EReal) (ha : (val_main_v18 (F := Ideal) p i : EReal) = sK a) :
    (val_main_v29 (F := Ideal) p y d w i : EReal) = dgate (prod d w i) (y i) a := by
  unfold dgate
  rw [mul_assoc (prod d w i * y i), ← ha, ← prod_stage26, ← one_f32]
  rw [val_main_v29_apply, val_main_v21_apply, val_main_v20_apply, val_main_v19_apply]
  rfl

open Cert.Reference16Ideal.Read in
/-- The reference's gradients by the gates' arguments are the kernel's. -/
theorem ref_dgates (p : S8192x7168.Idx → EReal) (y z d : S8192x1024.Idx → EReal) (w : S1024x1024.Idx → EReal) (i : S8192x2048.Idx) : (val_main_v36 (F := Ideal) p y z d w i : EReal) = dgates p y z d w i := by
  have h1 : (i 1).val < 2048 := (i 1).isLt
  show (val_main_v35 (F := Ideal) p y z d w i : EReal) = _
  unfold dgates
  by_cases hi : (i 1).val < 1024
  · have e : (val_main_v35 (F := Ideal) p y z d w i : EReal) = val_main_v32 (F := Ideal) p y d w (left i hi) := by
      unfold val_main_v35
      exact concatenate_pair_apply_left (s₁ := Cert.Reference16Ideal.S8192x1024) (s₂ := Cert.Reference16Ideal.S8192x1024) (1 : Fin 2) _ _ _ i rfl (left i hi) (fun a => match a with
        | ⟨0, _⟩ => rfl
        | ⟨1, _⟩ => rfl)
    rw [dif_pos hi, e]
    exact dgate_stage32 p y d w (left i hi) _ (gate_stage8 p _)
  · have e : (val_main_v35 (F := Ideal) p y z d w i : EReal) = val_main_v29 (F := Ideal) p z d w (right i) := by
      unfold val_main_v35
      exact concatenate_pair_apply_right (s₁ := Cert.Reference16Ideal.S8192x1024) (s₂ := Cert.Reference16Ideal.S8192x1024) (1 : Fin 2) _ _ _ i rfl rfl (right i) (fun a => match a with
        | ⟨0, _⟩ => fun _ => rfl
        | ⟨1, _⟩ => fun hn => absurd rfl hn) (by show ((i 1).val - 1024) + 1024 = (i 1).val; omega)
    rw [dif_neg hi, e]
    exact dgate_stage29 p z d w (right i) _ (gate_stage18 p _)

/-- The value claim: the kernel's arrays are the reference's, on every device. -/
theorem algebraic : Cert.algebraic_Kernel16Ideal_Reference16Ideal := by
  intro m ρ m' ρ' _ hag
  refine ⟨fun c => result6 m c, fun c => result7 m c, fun c => result8 m c, run_result m ρ, ?_⟩
  refine (θ_run Cert.Reference16Ideal.defs _ _).mono (fun r h c => ⟨?_, ?_, ?_, (h c).2.2.2⟩) (Cert.Reference16Ideal.Value.run (F := Ideal) m' ρ')
  · rw [(h c).1, (hag c).1, (hag c).2.2.2.1, (hag c).2.2.2.2]
    refine (Cert.Reference16Ideal.Read.val_main_v33_eq (F := Ideal) _ _ _).trans ?_
    funext i
    exact ref_dfirst (X0 m c) (X3 m c) (X4 m c) i
  · rw [(h c).2.1, (hag c).1, (hag c).2.2.2.1, (hag c).2.2.2.2]
    refine (Cert.Reference16Ideal.Read.val_main_v34_eq (F := Ideal) _ _ _).trans ?_
    funext i
    exact ref_dsecond (X0 m c) (X3 m c) (X4 m c) i
  · rw [(h c).2.2.1, (hag c).1, (hag c).2.1, (hag c).2.2.1, (hag c).2.2.2.1, (hag c).2.2.2.2]
    refine (Cert.Reference16Ideal.Read.val_main_v36_eq (F := Ideal) _ _ _ _ _).trans ?_
    funext i
    exact ref_dgates (X0 m c) (X1 m c) (X2 m c) (X3 m c) (X4 m c) i

/-- The reference runs and leaves its arguments as they were. -/
theorem ref_frame : Cert.quiescent_Reference16Ideal := fun m ρ _ =>
  (θ_run Cert.Reference16Ideal.defs _ _).mono (fun r h => ⟨fun c => (h c).2.2.2, Idealize.ShloMosaic.sem_eq_zero_of_no_sems (by decide) r.2⟩)
    (Cert.Reference16Ideal.Value.run (F := Ideal) m ρ)

end Cert.Kernel16Ideal.Merge

end
-- ==== Proof.Adam.lean ====
module

public import Idealize.ShloMosaic.Lib.IdealHost

/-! One element of one AdamW step. -/

@[expose] public section

noncomputable section

namespace Cert.Adam

open Idealize.ShloMosaic

variable {F : FTy → Type} [FloatOps F]

/-- The new first moment of a gradient and a first moment. -/
def newM (g m : F .f32) : F .f32 :=
  FloatOps.addf (FloatOps.mulf (Scalar.ofBits .f32 0x3F666666#32) m) (FloatOps.mulf (Scalar.ofBits .f32 0x3DCCCCCD#32) g)
/-- The new second moment. -/
def newV (g v : F .f32) : F .f32 :=
  FloatOps.addf (FloatOps.mulf (Scalar.ofBits .f32 0x3F7FBE77#32) v) (FloatOps.mulf (Scalar.ofBits .f32 0x3A83126F#32) (FloatOps.mulf g g))
/-- The step of a weight. -/
def delta (w g m v : F .f32) : F .f32 :=
  FloatOps.mulf (Scalar.ofBits .f32 0xBA83126F#32)
    (FloatOps.addf (FloatOps.divf (FloatOps.divf (newM g m) (Scalar.ofBits .f32 0x3F26BD02#32))
        (FloatOps.addf (FloatOps.sqrt (FloatOps.divf (newV g v) (Scalar.ofBits .f32 0x3C231ACC#32))) (Scalar.ofBits .f32 0x322BCC77#32)))
      (FloatOps.mulf (Scalar.ofBits .f32 0x3C23D70A#32) w))

end Cert.Adam

end
-- ==== Proof.Arr17.lean ====
module

public import proofs.«01_k».proof.Proof.Adam
public import proofs.«01_k».proof.Proof.Gen.Kernel17Ideal.Value
public import Idealize.ShloMosaic.Lib.Tactic

/-! The three arrays `Kernel17` (the optimiser's step of w_ada) writes. -/

@[expose] public section

set_option maxRecDepth 16384

noncomputable section

namespace Cert.Kernel17Ideal.Step

open Cert.Kernel17Ideal Cert.Kernel17Ideal.Gen Cert.Kernel17Ideal.Value Idealize.ShloMosaic Idealize.ShloMosaic.TcCoe Idealize.SL.Sem

/-- What the arrays of every device hold. -/
abbrev Mem : Type := (ℓ : Loc nD τ sig) → Buf (Elt Ideal) ℓ
local notation "𝕍" => Memref sig Kind.tc Space.vmem

theorem hz2 : (![0, 0] : Fin 2 → Nat) = fun _ => 0 := funext fun a => by fin_cases a <;> rfl

section AnyFloat

variable {F : FTy → Type} [FloatOps F]

/-- The blocks of the step, the new first and the new second moment a point leaves. -/
theorem outs (c : Dev nD) (i : grid0.Coords) (a1 : 𝕍 S256x2304 .f32) (h1 : a1.IsWhole) (a2 : 𝕍 S256x2304 .f32) (h2 : a2.IsWhole) (a3 : 𝕍 S256x2304 .f32) (h3 : a3.IsWhole) (a4 : 𝕍 S256x2304 .f32) (h4 : a4.IsWhole) (a6 : 𝕍 S256x2304 .f32) (h6 : a6.IsWhole) (a7 : 𝕍 S256x2304 .f32) (h7 : a7.IsWhole) (a8 : 𝕍 S256x2304 .f32) (h8 : a8.IsWhole)
    (x0 x1 x2 x3 : Vec F S256x2304 .f32) :
    out0_A_4 c i a1 h1 a2 h2 a3 h3 a4 h4 a6 h6 a7 h7 a8 h8 x0 x1 x2 x3 = k0_pay3 x1 x2 x3 x0
    ∧ out0_A_5 c i a1 h1 a2 h2 a3 h3 a4 h4 a6 h6 a7 h7 a8 h8 x0 x1 x2 x3 = k0_pay1 x1 x2
    ∧ out0_A_6 c i a1 h1 a2 h2 a3 h3 a4 h4 a6 h6 a7 h7 a8 h8 x0 x1 x2 x3 = k0_pay2 x1 x3 := by
  unfold out0_A_4 out0_A_5 out0_A_6
  rw [View.read_writes_eq_canon _ _ _ (cover0_A_4 c i a1 h1 a2 h2 a3 h3 a4 h4 a6 h6 a7 h7 a8 h8 x0 x1 x2 x3), View.read_writes_eq_canon _ _ _ (cover0_A_5 c i a1 h1 a2 h2 a3 h3 a4 h4 a6 h6 a7 h7 a8 h8 x0 x1 x2 x3), View.read_writes_eq_canon _ _ _ (cover0_A_6 c i a1 h1 a2 h2 a3 h3 a4 h4 a6 h6 a7 h7 a8 h8 x0 x1 x2 x3)]
  unfold kernelRun0_A
  dsimp only
  sl_unfold_words
  simp only [View.canon_unit_zero (S := S256x2304) hz2, View.readAt_eq_ld, h1.read_unread, h2.read_unread, h3.read_unread, h4.read_unread,
    View.ld_unit_zero (S := S256x2304) hz2, and_self]

end AnyFloat

/-- Argument `n`, as floats. -/
abbrev X0 (m : Mem) (c : Dev nD) : S1024x2304.Idx → Ideal .f32 := m (c.tc.loc main_arg0)
@[inherit_doc X0] abbrev X1 (m : Mem) (c : Dev nD) : S1024x2304.Idx → Ideal .f32 := m (c.tc.loc main_arg1)
@[inherit_doc X0] abbrev X2 (m : Mem) (c : Dev nD) : S1024x2304.Idx → Ideal .f32 := m (c.tc.loc main_arg2)
@[inherit_doc X0] abbrev X3 (m : Mem) (c : Dev nD) : S1024x2304.Idx → Ideal .f32 := m (c.tc.loc main_arg3)

variable (m : Mem)

/-- Result 0, as contents of its array. -/
def result4 (c : Dev nD) : Buf (Elt Ideal) ((c : Thread nD τ).loc main_v0_0) :=
  fun i => Cert.Adam.delta (F := Ideal) (X0 m c i) (X1 m c i) (X2 m c i) (X3 m c i)
/-- Result 1, as contents of its array. -/
def result5 (c : Dev nD) : Buf (Elt Ideal) ((c : Thread nD τ).loc main_v0_1) :=
  fun i => Cert.Adam.newM (F := Ideal) (X1 m c i) (X2 m c i)
/-- Result 2, as contents of its array. -/
def result6 (c : Dev nD) : Buf (Elt Ideal) ((c : Thread nD τ).loc main_v0_2) :=
  fun i => Cert.Adam.newV (F := Ideal) (X1 m c i) (X3 m c i)

/-- What a point writes back through window 4 is its block of the result array: every window reads the same rows. -/
theorem flushed_eq4 (c : Dev nD) (t : Fin cfg0.N) :
    (dats m 0 c).flushed 4 t = ((cfg0.win 4).blk t).view.read (Elt Ideal) (result4 m c) := by
  rw [Value.flushed4_A, (outs ..).1]
  rfl

/-- The printed index map of window 4, over the grid. -/
theorem idx4 : ∀ t : Fin grid0.N, win0_4.index t 0 = t.val ∧ win0_4.index t 1 = 0 := by decide +kernel

/-- The blocks of window 4 cover its array. -/
theorem cover4 (i : S1024x2304.Idx) : ∃ t : Fin cfg0.N, (cfg0.win 4).flush t = true ∧ i ∈ ((cfg0.win 4).blk t).view.set := by
  have h0 : (i 0).val < 1024 := (i 0).isLt
  have h1 : (i 1).val < 2304 := (i 1).isLt
  have hN : cfg0.N = 4 := N_0
  refine ⟨⟨(i 0).val / 256, by omega⟩, flush0_4 _, ?_⟩
  generalize ht : (⟨(i 0).val / 256, _⟩ : Fin cfg0.N) = t
  have hv : t.val = (i 0).val / 256 := by rw [← ht]
  have h := idx4 t
  show i ∈ ((View.whole main_v0_0).slice (win0_4.rect t)).set
  rw [View.set_slice_whole, Rect.mem_set_unit]
  intro a
  match a with
  | ⟨0, _⟩ => show win0_4.index t 0 * 256 ≤ (i 0).val ∧ (i 0).val < win0_4.index t 0 * 256 + 256; rw [h.1]; omega
  | ⟨1, _⟩ => show win0_4.index t 1 * 2304 ≤ (i 1).val ∧ (i 1).val < win0_4.index t 1 * 2304 + 2304; rw [h.2]; omega

@[inherit_doc flushed_eq4] theorem flushed_eq5 (c : Dev nD) (t : Fin cfg0.N) :
    (dats m 0 c).flushed 5 t = ((cfg0.win 5).blk t).view.read (Elt Ideal) (result5 m c) := by
  rw [Value.flushed5_A, (outs ..).2.1]
  rfl

@[inherit_doc cover4] theorem cover5 (i : S1024x2304.Idx) : ∃ t : Fin cfg0.N, (cfg0.win 5).flush t = true ∧ i ∈ ((cfg0.win 5).blk t).view.set :=
  cover4 i

@[inherit_doc flushed_eq4] theorem flushed_eq6 (c : Dev nD) (t : Fin cfg0.N) :
    (dats m 0 c).flushed 6 t = ((cfg0.win 6).blk t).view.read (Elt Ideal) (result6 m c) := by
  rw [Value.flushed6_A, (outs ..).2.2]
  rfl

@[inherit_doc cover4] theorem cover6 (i : S1024x2304.Idx) : ∃ t : Fin cfg0.N, (cfg0.win 6).flush t = true ∧ i ∈ ((cfg0.win 6).blk t).view.set :=
  cover4 i

/-- The run, with the result arrays read. -/
theorem run_result (ρ : Dev nD → PrngReg) : θ_run defs (onTc (τ := τ) (main (F := Ideal))) ⟨m, fun _ => 0, ρ⟩ fun r => ∀ c : Dev nD,
      r.2.mem (c.tc.loc main_v0_0) = result4 m c
      ∧ r.2.mem (c.tc.loc main_v0_1) = result5 m c
      ∧ r.2.mem (c.tc.loc main_v0_2) = result6 m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun _ h c => ⟨(h c).1.trans ((dats m 0 c).arrAt_eq_of_cover 4 (result4 m c) (fun t _ => flushed_eq4 m c t) cover4), (h c).2.1.trans ((dats m 0 c).arrAt_eq_of_cover 5 (result5 m c) (fun t _ => flushed_eq5 m c t) cover5), (h c).2.2.1.trans ((dats m 0 c).arrAt_eq_of_cover 6 (result6 m c) (fun t _ => flushed_eq6 m c t) cover6), (h c).2.2.2⟩)
    (run_blocks m ρ)

end Cert.Kernel17Ideal.Step

end
-- ==== Proof.Eq17.lean ====
module

public import proofs.«01_k».proof.Defs
public import proofs.«01_k».proof.Proof.Arr17
public import proofs.«01_k».proof.Proof.Gen.Kernel17Ideal
public import proofs.«01_k».proof.Proof.Gen.Reference17Ideal
public import proofs.«01_k».proof.Proof.Gen.Reference17Ideal.Run
public import proofs.«01_k».proof.Proof.Gen.Reference17Ideal.Read

/-! `Kernel17` and its reference compute the same arrays over the extended reals. -/

@[expose] public section

set_option maxRecDepth 16384

noncomputable section

namespace Cert.Kernel17Ideal.Step

open Cert.Kernel17Ideal Cert.Kernel17Ideal.Gen Cert.Kernel17Ideal.Value Idealize.ShloMosaic Idealize.ShloMosaic.TcCoe Idealize.SL.Sem

/-- The value claim: the kernel's arrays are the reference's, on every device. -/
theorem algebraic : Cert.algebraic_Kernel17Ideal_Reference17Ideal := by
  intro m ρ m' ρ' _ hag
  refine ⟨fun c => result4 m c, fun c => result5 m c, fun c => result6 m c, run_result m ρ, ?_⟩
  refine (θ_run Cert.Reference17Ideal.defs _ _).mono (fun r h c => ⟨?_, ?_, ?_, (h c).2.2.2⟩) (Cert.Reference17Ideal.Value.run (F := Ideal) m' ρ')
  · rw [(h c).1, (hag c).1, (hag c).2.1, (hag c).2.2.1, (hag c).2.2.2.1]
    refine (Cert.Reference17Ideal.Read.val_main_v23_eq (F := Ideal) _ _ _ _).trans ?_
    rfl
  · rw [(h c).2.1, (hag c).2.1, (hag c).2.2.1]
    refine (Cert.Reference17Ideal.Read.val_main_v4_eq (F := Ideal) _ _).trans ?_
    rfl
  · rw [(h c).2.2.1, (hag c).2.1, (hag c).2.2.2.1]
    refine (Cert.Reference17Ideal.Read.val_main_v10_eq (F := Ideal) _ _).trans ?_
    rfl

/-- The reference runs and leaves its arguments as they were. -/
theorem ref_frame : Cert.quiescent_Reference17Ideal := fun m ρ _ =>
  (θ_run Cert.Reference17Ideal.defs _ _).mono (fun r h => ⟨fun c => (h c).2.2.2, Idealize.ShloMosaic.sem_eq_zero_of_no_sems (by decide) r.2⟩)
    (Cert.Reference17Ideal.Value.run (F := Ideal) m ρ)

end Cert.Kernel17Ideal.Step

end
-- ==== Proof.Arr18.lean ====
module

public import proofs.«01_k».proof.Proof.Adam
public import proofs.«01_k».proof.Proof.Gen.Kernel18Ideal.Value
public import Idealize.ShloMosaic.Lib.Tactic

/-! The three arrays `Kernel18` (the optimiser's step of ffn1_w_gu and ffn2_w_gu) writes. -/

@[expose] public section

set_option maxRecDepth 16384

noncomputable section

namespace Cert.Kernel18Ideal.Step

open Cert.Kernel18Ideal Cert.Kernel18Ideal.Gen Cert.Kernel18Ideal.Value Idealize.ShloMosaic Idealize.ShloMosaic.TcCoe Idealize.SL.Sem

/-- What the arrays of every device hold. -/
abbrev Mem : Type := (ℓ : Loc nD τ sig) → Buf (Elt Ideal) ℓ
local notation "𝕍" => Memref sig Kind.tc Space.vmem

theorem hz2 : (![0, 0] : Fin 2 → Nat) = fun _ => 0 := funext fun a => by fin_cases a <;> rfl

section AnyFloat

variable {F : FTy → Type} [FloatOps F]

/-- The blocks of the step, the new first and the new second moment a point leaves. -/
theorem outs (c : Dev nD) (i : grid0.Coords) (a1 : 𝕍 S256x1408 .f32) (h1 : a1.IsWhole) (a2 : 𝕍 S256x1408 .f32) (h2 : a2.IsWhole) (a3 : 𝕍 S256x1408 .f32) (h3 : a3.IsWhole) (a4 : 𝕍 S256x1408 .f32) (h4 : a4.IsWhole) (a6 : 𝕍 S256x1408 .f32) (h6 : a6.IsWhole) (a7 : 𝕍 S256x1408 .f32) (h7 : a7.IsWhole) (a8 : 𝕍 S256x1408 .f32) (h8 : a8.IsWhole)
    (x0 x1 x2 x3 : Vec F S256x1408 .f32) :
    out0_A_4 c i a1 h1 a2 h2 a3 h3 a4 h4 a6 h6 a7 h7 a8 h8 x0 x1 x2 x3 = k0_pay3 x1 x2 x3 x0
    ∧ out0_A_5 c i a1 h1 a2 h2 a3 h3 a4 h4 a6 h6 a7 h7 a8 h8 x0 x1 x2 x3 = k0_pay1 x1 x2
    ∧ out0_A_6 c i a1 h1 a2 h2 a3 h3 a4 h4 a6 h6 a7 h7 a8 h8 x0 x1 x2 x3 = k0_pay2 x1 x3 := by
  unfold out0_A_4 out0_A_5 out0_A_6
  rw [View.read_writes_eq_canon _ _ _ (cover0_A_4 c i a1 h1 a2 h2 a3 h3 a4 h4 a6 h6 a7 h7 a8 h8 x0 x1 x2 x3), View.read_writes_eq_canon _ _ _ (cover0_A_5 c i a1 h1 a2 h2 a3 h3 a4 h4 a6 h6 a7 h7 a8 h8 x0 x1 x2 x3), View.read_writes_eq_canon _ _ _ (cover0_A_6 c i a1 h1 a2 h2 a3 h3 a4 h4 a6 h6 a7 h7 a8 h8 x0 x1 x2 x3)]
  unfold kernelRun0_A
  dsimp only
  sl_unfold_words
  simp only [View.canon_unit_zero (S := S256x1408) hz2, View.readAt_eq_ld, h1.read_unread, h2.read_unread, h3.read_unread, h4.read_unread,
    View.ld_unit_zero (S := S256x1408) hz2, and_self]

end AnyFloat

/-- Argument `n`, as floats. -/
abbrev X0 (m : Mem) (c : Dev nD) : S1024x1408.Idx → Ideal .f32 := m (c.tc.loc main_arg0)
@[inherit_doc X0] abbrev X1 (m : Mem) (c : Dev nD) : S1024x1408.Idx → Ideal .f32 := m (c.tc.loc main_arg1)
@[inherit_doc X0] abbrev X2 (m : Mem) (c : Dev nD) : S1024x1408.Idx → Ideal .f32 := m (c.tc.loc main_arg2)
@[inherit_doc X0] abbrev X3 (m : Mem) (c : Dev nD) : S1024x1408.Idx → Ideal .f32 := m (c.tc.loc main_arg3)

variable (m : Mem)

/-- Result 0, as contents of its array. -/
def result4 (c : Dev nD) : Buf (Elt Ideal) ((c : Thread nD τ).loc main_v0_0) :=
  fun i => Cert.Adam.delta (F := Ideal) (X0 m c i) (X1 m c i) (X2 m c i) (X3 m c i)
/-- Result 1, as contents of its array. -/
def result5 (c : Dev nD) : Buf (Elt Ideal) ((c : Thread nD τ).loc main_v0_1) :=
  fun i => Cert.Adam.newM (F := Ideal) (X1 m c i) (X2 m c i)
/-- Result 2, as contents of its array. -/
def result6 (c : Dev nD) : Buf (Elt Ideal) ((c : Thread nD τ).loc main_v0_2) :=
  fun i => Cert.Adam.newV (F := Ideal) (X1 m c i) (X3 m c i)

/-- What a point writes back through window 4 is its block of the result array: every window reads the same rows. -/
theorem flushed_eq4 (c : Dev nD) (t : Fin cfg0.N) :
    (dats m 0 c).flushed 4 t = ((cfg0.win 4).blk t).view.read (Elt Ideal) (result4 m c) := by
  rw [Value.flushed4_A, (outs ..).1]
  rfl

/-- The printed index map of window 4, over the grid. -/
theorem idx4 : ∀ t : Fin grid0.N, win0_4.index t 0 = t.val ∧ win0_4.index t 1 = 0 := by decide +kernel

/-- The blocks of window 4 cover its array. -/
theorem cover4 (i : S1024x1408.Idx) : ∃ t : Fin cfg0.N, (cfg0.win 4).flush t = true ∧ i ∈ ((cfg0.win 4).blk t).view.set := by
  have h0 : (i 0).val < 1024 := (i 0).isLt
  have h1 : (i 1).val < 1408 := (i 1).isLt
  have hN : cfg0.N = 4 := N_0
  refine ⟨⟨(i 0).val / 256, by omega⟩, flush0_4 _, ?_⟩
  generalize ht : (⟨(i 0).val / 256, _⟩ : Fin cfg0.N) = t
  have hv : t.val = (i 0).val / 256 := by rw [← ht]
  have h := idx4 t
  show i ∈ ((View.whole main_v0_0).slice (win0_4.rect t)).set
  rw [View.set_slice_whole, Rect.mem_set_unit]
  intro a
  match a with
  | ⟨0, _⟩ => show win0_4.index t 0 * 256 ≤ (i 0).val ∧ (i 0).val < win0_4.index t 0 * 256 + 256; rw [h.1]; omega
  | ⟨1, _⟩ => show win0_4.index t 1 * 1408 ≤ (i 1).val ∧ (i 1).val < win0_4.index t 1 * 1408 + 1408; rw [h.2]; omega

@[inherit_doc flushed_eq4] theorem flushed_eq5 (c : Dev nD) (t : Fin cfg0.N) :
    (dats m 0 c).flushed 5 t = ((cfg0.win 5).blk t).view.read (Elt Ideal) (result5 m c) := by
  rw [Value.flushed5_A, (outs ..).2.1]
  rfl

@[inherit_doc cover4] theorem cover5 (i : S1024x1408.Idx) : ∃ t : Fin cfg0.N, (cfg0.win 5).flush t = true ∧ i ∈ ((cfg0.win 5).blk t).view.set :=
  cover4 i

@[inherit_doc flushed_eq4] theorem flushed_eq6 (c : Dev nD) (t : Fin cfg0.N) :
    (dats m 0 c).flushed 6 t = ((cfg0.win 6).blk t).view.read (Elt Ideal) (result6 m c) := by
  rw [Value.flushed6_A, (outs ..).2.2]
  rfl

@[inherit_doc cover4] theorem cover6 (i : S1024x1408.Idx) : ∃ t : Fin cfg0.N, (cfg0.win 6).flush t = true ∧ i ∈ ((cfg0.win 6).blk t).view.set :=
  cover4 i

/-- The run, with the result arrays read. -/
theorem run_result (ρ : Dev nD → PrngReg) : θ_run defs (onTc (τ := τ) (main (F := Ideal))) ⟨m, fun _ => 0, ρ⟩ fun r => ∀ c : Dev nD,
      r.2.mem (c.tc.loc main_v0_0) = result4 m c
      ∧ r.2.mem (c.tc.loc main_v0_1) = result5 m c
      ∧ r.2.mem (c.tc.loc main_v0_2) = result6 m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun _ h c => ⟨(h c).1.trans ((dats m 0 c).arrAt_eq_of_cover 4 (result4 m c) (fun t _ => flushed_eq4 m c t) cover4), (h c).2.1.trans ((dats m 0 c).arrAt_eq_of_cover 5 (result5 m c) (fun t _ => flushed_eq5 m c t) cover5), (h c).2.2.1.trans ((dats m 0 c).arrAt_eq_of_cover 6 (result6 m c) (fun t _ => flushed_eq6 m c t) cover6), (h c).2.2.2⟩)
    (run_blocks m ρ)

end Cert.Kernel18Ideal.Step

end
-- ==== Proof.Eq18.lean ====
module

public import proofs.«01_k».proof.Defs
public import proofs.«01_k».proof.Proof.Arr18
public import proofs.«01_k».proof.Proof.Gen.Kernel18Ideal
public import proofs.«01_k».proof.Proof.Gen.Reference18Ideal
public import proofs.«01_k».proof.Proof.Gen.Reference18Ideal.Run
public import proofs.«01_k».proof.Proof.Gen.Reference18Ideal.Read

/-! `Kernel18` and its reference compute the same arrays over the extended reals. -/

@[expose] public section

set_option maxRecDepth 16384

noncomputable section

namespace Cert.Kernel18Ideal.Step

open Cert.Kernel18Ideal Cert.Kernel18Ideal.Gen Cert.Kernel18Ideal.Value Idealize.ShloMosaic Idealize.ShloMosaic.TcCoe Idealize.SL.Sem

/-- The value claim: the kernel's arrays are the reference's, on every device. -/
theorem algebraic : Cert.algebraic_Kernel18Ideal_Reference18Ideal := by
  intro m ρ m' ρ' _ hag
  refine ⟨fun c => result4 m c, fun c => result5 m c, fun c => result6 m c, run_result m ρ, ?_⟩
  refine (θ_run Cert.Reference18Ideal.defs _ _).mono (fun r h c => ⟨?_, ?_, ?_, (h c).2.2.2⟩) (Cert.Reference18Ideal.Value.run (F := Ideal) m' ρ')
  · rw [(h c).1, (hag c).1, (hag c).2.1, (hag c).2.2.1, (hag c).2.2.2.1]
    refine (Cert.Reference18Ideal.Read.val_main_v23_eq (F := Ideal) _ _ _ _).trans ?_
    rfl
  · rw [(h c).2.1, (hag c).2.1, (hag c).2.2.1]
    refine (Cert.Reference18Ideal.Read.val_main_v4_eq (F := Ideal) _ _).trans ?_
    rfl
  · rw [(h c).2.2.1, (hag c).2.1, (hag c).2.2.2.1]
    refine (Cert.Reference18Ideal.Read.val_main_v10_eq (F := Ideal) _ _).trans ?_
    rfl

/-- The reference runs and leaves its arguments as they were. -/
theorem ref_frame : Cert.quiescent_Reference18Ideal := fun m ρ _ =>
  (θ_run Cert.Reference18Ideal.defs _ _).mono (fun r h => ⟨fun c => (h c).2.2.2, Idealize.ShloMosaic.sem_eq_zero_of_no_sems (by decide) r.2⟩)
    (Cert.Reference18Ideal.Value.run (F := Ideal) m ρ)

end Cert.Kernel18Ideal.Step

end
-- ==== Proof.Arr19.lean ====
module

public import proofs.«01_k».proof.Proof.Adam
public import proofs.«01_k».proof.Proof.Gen.Kernel19Ideal.Value
public import Idealize.ShloMosaic.Lib.Tactic

/-! The three arrays `Kernel19` (the optimiser's step of ffn1_w_down and ffn2_w_down) writes. -/

@[expose] public section

set_option maxRecDepth 16384

noncomputable section

namespace Cert.Kernel19Ideal.Step

open Cert.Kernel19Ideal Cert.Kernel19Ideal.Gen Cert.Kernel19Ideal.Value Idealize.ShloMosaic Idealize.ShloMosaic.TcCoe Idealize.SL.Sem

/-- What the arrays of every device hold. -/
abbrev Mem : Type := (ℓ : Loc nD τ sig) → Buf (Elt Ideal) ℓ
local notation "𝕍" => Memref sig Kind.tc Space.vmem

theorem hz2 : (![0, 0] : Fin 2 → Nat) = fun _ => 0 := funext fun a => by fin_cases a <;> rfl

section AnyFloat

variable {F : FTy → Type} [FloatOps F]

/-- The blocks of the step, the new first and the new second moment a point leaves. -/
theorem outs (c : Dev nD) (i : grid0.Coords) (a1 : 𝕍 S352x1024 .f32) (h1 : a1.IsWhole) (a2 : 𝕍 S352x1024 .f32) (h2 : a2.IsWhole) (a3 : 𝕍 S352x1024 .f32) (h3 : a3.IsWhole) (a4 : 𝕍 S352x1024 .f32) (h4 : a4.IsWhole) (a6 : 𝕍 S352x1024 .f32) (h6 : a6.IsWhole) (a7 : 𝕍 S352x1024 .f32) (h7 : a7.IsWhole) (a8 : 𝕍 S352x1024 .f32) (h8 : a8.IsWhole)
    (x0 x1 x2 x3 : Vec F S352x1024 .f32) :
    out0_A_4 c i a1 h1 a2 h2 a3 h3 a4 h4 a6 h6 a7 h7 a8 h8 x0 x1 x2 x3 = k0_pay3 x1 x2 x3 x0
    ∧ out0_A_5 c i a1 h1 a2 h2 a3 h3 a4 h4 a6 h6 a7 h7 a8 h8 x0 x1 x2 x3 = k0_pay1 x1 x2
    ∧ out0_A_6 c i a1 h1 a2 h2 a3 h3 a4 h4 a6 h6 a7 h7 a8 h8 x0 x1 x2 x3 = k0_pay2 x1 x3 := by
  unfold out0_A_4 out0_A_5 out0_A_6
  rw [View.read_writes_eq_canon _ _ _ (cover0_A_4 c i a1 h1 a2 h2 a3 h3 a4 h4 a6 h6 a7 h7 a8 h8 x0 x1 x2 x3), View.read_writes_eq_canon _ _ _ (cover0_A_5 c i a1 h1 a2 h2 a3 h3 a4 h4 a6 h6 a7 h7 a8 h8 x0 x1 x2 x3), View.read_writes_eq_canon _ _ _ (cover0_A_6 c i a1 h1 a2 h2 a3 h3 a4 h4 a6 h6 a7 h7 a8 h8 x0 x1 x2 x3)]
  unfold kernelRun0_A
  dsimp only
  sl_unfold_words
  simp only [View.canon_unit_zero (S := S352x1024) hz2, View.readAt_eq_ld, h1.read_unread, h2.read_unread, h3.read_unread, h4.read_unread,
    View.ld_unit_zero (S := S352x1024) hz2, and_self]

end AnyFloat

/-- Argument `n`, as floats. -/
abbrev X0 (m : Mem) (c : Dev nD) : S704x1024.Idx → Ideal .f32 := m (c.tc.loc main_arg0)
@[inherit_doc X0] abbrev X1 (m : Mem) (c : Dev nD) : S704x1024.Idx → Ideal .f32 := m (c.tc.loc main_arg1)
@[inherit_doc X0] abbrev X2 (m : Mem) (c : Dev nD) : S704x1024.Idx → Ideal .f32 := m (c.tc.loc main_arg2)
@[inherit_doc X0] abbrev X3 (m : Mem) (c : Dev nD) : S704x1024.Idx → Ideal .f32 := m (c.tc.loc main_arg3)

variable (m : Mem)

/-- Result 0, as contents of its array. -/
def result4 (c : Dev nD) : Buf (Elt Ideal) ((c : Thread nD τ).loc main_v0_0) :=
  fun i => Cert.Adam.delta (F := Ideal) (X0 m c i) (X1 m c i) (X2 m c i) (X3 m c i)
/-- Result 1, as contents of its array. -/
def result5 (c : Dev nD) : Buf (Elt Ideal) ((c : Thread nD τ).loc main_v0_1) :=
  fun i => Cert.Adam.newM (F := Ideal) (X1 m c i) (X2 m c i)
/-- Result 2, as contents of its array. -/
def result6 (c : Dev nD) : Buf (Elt Ideal) ((c : Thread nD τ).loc main_v0_2) :=
  fun i => Cert.Adam.newV (F := Ideal) (X1 m c i) (X3 m c i)

/-- What a point writes back through window 4 is its block of the result array: every window reads the same rows. -/
theorem flushed_eq4 (c : Dev nD) (t : Fin cfg0.N) :
    (dats m 0 c).flushed 4 t = ((cfg0.win 4).blk t).view.read (Elt Ideal) (result4 m c) := by
  rw [Value.flushed4_A, (outs ..).1]
  rfl

/-- The printed index map of window 4, over the grid. -/
theorem idx4 : ∀ t : Fin grid0.N, win0_4.index t 0 = t.val ∧ win0_4.index t 1 = 0 := by decide +kernel

/-- The blocks of window 4 cover its array. -/
theorem cover4 (i : S704x1024.Idx) : ∃ t : Fin cfg0.N, (cfg0.win 4).flush t = true ∧ i ∈ ((cfg0.win 4).blk t).view.set := by
  have h0 : (i 0).val < 704 := (i 0).isLt
  have h1 : (i 1).val < 1024 := (i 1).isLt
  have hN : cfg0.N = 2 := N_0
  refine ⟨⟨(i 0).val / 352, by omega⟩, flush0_4 _, ?_⟩
  generalize ht : (⟨(i 0).val / 352, _⟩ : Fin cfg0.N) = t
  have hv : t.val = (i 0).val / 352 := by rw [← ht]
  have h := idx4 t
  show i ∈ ((View.whole main_v0_0).slice (win0_4.rect t)).set
  rw [View.set_slice_whole, Rect.mem_set_unit]
  intro a
  match a with
  | ⟨0, _⟩ => show win0_4.index t 0 * 352 ≤ (i 0).val ∧ (i 0).val < win0_4.index t 0 * 352 + 352; rw [h.1]; omega
  | ⟨1, _⟩ => show win0_4.index t 1 * 1024 ≤ (i 1).val ∧ (i 1).val < win0_4.index t 1 * 1024 + 1024; rw [h.2]; omega

@[inherit_doc flushed_eq4] theorem flushed_eq5 (c : Dev nD) (t : Fin cfg0.N) :
    (dats m 0 c).flushed 5 t = ((cfg0.win 5).blk t).view.read (Elt Ideal) (result5 m c) := by
  rw [Value.flushed5_A, (outs ..).2.1]
  rfl

@[inherit_doc cover4] theorem cover5 (i : S704x1024.Idx) : ∃ t : Fin cfg0.N, (cfg0.win 5).flush t = true ∧ i ∈ ((cfg0.win 5).blk t).view.set :=
  cover4 i

@[inherit_doc flushed_eq4] theorem flushed_eq6 (c : Dev nD) (t : Fin cfg0.N) :
    (dats m 0 c).flushed 6 t = ((cfg0.win 6).blk t).view.read (Elt Ideal) (result6 m c) := by
  rw [Value.flushed6_A, (outs ..).2.2]
  rfl

@[inherit_doc cover4] theorem cover6 (i : S704x1024.Idx) : ∃ t : Fin cfg0.N, (cfg0.win 6).flush t = true ∧ i ∈ ((cfg0.win 6).blk t).view.set :=
  cover4 i

/-- The run, with the result arrays read. -/
theorem run_result (ρ : Dev nD → PrngReg) : θ_run defs (onTc (τ := τ) (main (F := Ideal))) ⟨m, fun _ => 0, ρ⟩ fun r => ∀ c : Dev nD,
      r.2.mem (c.tc.loc main_v0_0) = result4 m c
      ∧ r.2.mem (c.tc.loc main_v0_1) = result5 m c
      ∧ r.2.mem (c.tc.loc main_v0_2) = result6 m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun _ h c => ⟨(h c).1.trans ((dats m 0 c).arrAt_eq_of_cover 4 (result4 m c) (fun t _ => flushed_eq4 m c t) cover4), (h c).2.1.trans ((dats m 0 c).arrAt_eq_of_cover 5 (result5 m c) (fun t _ => flushed_eq5 m c t) cover5), (h c).2.2.1.trans ((dats m 0 c).arrAt_eq_of_cover 6 (result6 m c) (fun t _ => flushed_eq6 m c t) cover6), (h c).2.2.2⟩)
    (run_blocks m ρ)

end Cert.Kernel19Ideal.Step

end
-- ==== Proof.Eq19.lean ====
module

public import proofs.«01_k».proof.Defs
public import proofs.«01_k».proof.Proof.Arr19
public import proofs.«01_k».proof.Proof.Gen.Kernel19Ideal
public import proofs.«01_k».proof.Proof.Gen.Reference19Ideal
public import proofs.«01_k».proof.Proof.Gen.Reference19Ideal.Run
public import proofs.«01_k».proof.Proof.Gen.Reference19Ideal.Read

/-! `Kernel19` and its reference compute the same arrays over the extended reals. -/

@[expose] public section

set_option maxRecDepth 16384

noncomputable section

namespace Cert.Kernel19Ideal.Step

open Cert.Kernel19Ideal Cert.Kernel19Ideal.Gen Cert.Kernel19Ideal.Value Idealize.ShloMosaic Idealize.ShloMosaic.TcCoe Idealize.SL.Sem

/-- The value claim: the kernel's arrays are the reference's, on every device. -/
theorem algebraic : Cert.algebraic_Kernel19Ideal_Reference19Ideal := by
  intro m ρ m' ρ' _ hag
  refine ⟨fun c => result4 m c, fun c => result5 m c, fun c => result6 m c, run_result m ρ, ?_⟩
  refine (θ_run Cert.Reference19Ideal.defs _ _).mono (fun r h c => ⟨?_, ?_, ?_, (h c).2.2.2⟩) (Cert.Reference19Ideal.Value.run (F := Ideal) m' ρ')
  · rw [(h c).1, (hag c).1, (hag c).2.1, (hag c).2.2.1, (hag c).2.2.2.1]
    refine (Cert.Reference19Ideal.Read.val_main_v23_eq (F := Ideal) _ _ _ _).trans ?_
    rfl
  · rw [(h c).2.1, (hag c).2.1, (hag c).2.2.1]
    refine (Cert.Reference19Ideal.Read.val_main_v4_eq (F := Ideal) _ _).trans ?_
    rfl
  · rw [(h c).2.2.1, (hag c).2.1, (hag c).2.2.2.1]
    refine (Cert.Reference19Ideal.Read.val_main_v10_eq (F := Ideal) _ _).trans ?_
    rfl

/-- The reference runs and leaves its arguments as they were. -/
theorem ref_frame : Cert.quiescent_Reference19Ideal := fun m ρ _ =>
  (θ_run Cert.Reference19Ideal.defs _ _).mono (fun r h => ⟨fun c => (h c).2.2.2, Idealize.ShloMosaic.sem_eq_zero_of_no_sems (by decide) r.2⟩)
    (Cert.Reference19Ideal.Value.run (F := Ideal) m ρ)

end Cert.Kernel19Ideal.Step

end
-- ==== Proof.Arr20.lean ====
module

public import proofs.«01_k».proof.Proof.Adam
public import proofs.«01_k».proof.Proof.Gen.Kernel20Ideal.Value
public import Idealize.ShloMosaic.Lib.Tactic

/-! The three arrays `Kernel20` (the optimiser's step of w_in) writes. -/

@[expose] public section

set_option maxRecDepth 16384

noncomputable section

namespace Cert.Kernel20Ideal.Step

open Cert.Kernel20Ideal Cert.Kernel20Ideal.Gen Cert.Kernel20Ideal.Value Idealize.ShloMosaic Idealize.ShloMosaic.TcCoe Idealize.SL.Sem

/-- What the arrays of every device hold. -/
abbrev Mem : Type := (ℓ : Loc nD τ sig) → Buf (Elt Ideal) ℓ
local notation "𝕍" => Memref sig Kind.tc Space.vmem

theorem hz2 : (![0, 0] : Fin 2 → Nat) = fun _ => 0 := funext fun a => by fin_cases a <;> rfl

section AnyFloat

variable {F : FTy → Type} [FloatOps F]

/-- The blocks of the step, the new first and the new second moment a point leaves. -/
theorem outs (c : Dev nD) (i : grid0.Coords) (a1 : 𝕍 S256x1792 .f32) (h1 : a1.IsWhole) (a2 : 𝕍 S256x1792 .f32) (h2 : a2.IsWhole) (a3 : 𝕍 S256x1792 .f32) (h3 : a3.IsWhole) (a4 : 𝕍 S256x1792 .f32) (h4 : a4.IsWhole) (a6 : 𝕍 S256x1792 .f32) (h6 : a6.IsWhole) (a7 : 𝕍 S256x1792 .f32) (h7 : a7.IsWhole) (a8 : 𝕍 S256x1792 .f32) (h8 : a8.IsWhole)
    (x0 x1 x2 x3 : Vec F S256x1792 .f32) :
    out0_A_4 c i a1 h1 a2 h2 a3 h3 a4 h4 a6 h6 a7 h7 a8 h8 x0 x1 x2 x3 = k0_pay3 x1 x2 x3 x0
    ∧ out0_A_5 c i a1 h1 a2 h2 a3 h3 a4 h4 a6 h6 a7 h7 a8 h8 x0 x1 x2 x3 = k0_pay1 x1 x2
    ∧ out0_A_6 c i a1 h1 a2 h2 a3 h3 a4 h4 a6 h6 a7 h7 a8 h8 x0 x1 x2 x3 = k0_pay2 x1 x3 := by
  unfold out0_A_4 out0_A_5 out0_A_6
  rw [View.read_writes_eq_canon _ _ _ (cover0_A_4 c i a1 h1 a2 h2 a3 h3 a4 h4 a6 h6 a7 h7 a8 h8 x0 x1 x2 x3), View.read_writes_eq_canon _ _ _ (cover0_A_5 c i a1 h1 a2 h2 a3 h3 a4 h4 a6 h6 a7 h7 a8 h8 x0 x1 x2 x3), View.read_writes_eq_canon _ _ _ (cover0_A_6 c i a1 h1 a2 h2 a3 h3 a4 h4 a6 h6 a7 h7 a8 h8 x0 x1 x2 x3)]
  unfold kernelRun0_A
  dsimp only
  sl_unfold_words
  simp only [View.canon_unit_zero (S := S256x1792) hz2, View.readAt_eq_ld, h1.read_unread, h2.read_unread, h3.read_unread, h4.read_unread,
    View.ld_unit_zero (S := S256x1792) hz2, and_self]

end AnyFloat

/-- Argument `n`, as floats. -/
abbrev X0 (m : Mem) (c : Dev nD) : S1024x1792.Idx → Ideal .f32 := m (c.tc.loc main_arg0)
@[inherit_doc X0] abbrev X1 (m : Mem) (c : Dev nD) : S1024x1792.Idx → Ideal .f32 := m (c.tc.loc main_arg1)
@[inherit_doc X0] abbrev X2 (m : Mem) (c : Dev nD) : S1024x1792.Idx → Ideal .f32 := m (c.tc.loc main_arg2)
@[inherit_doc X0] abbrev X3 (m : Mem) (c : Dev nD) : S1024x1792.Idx → Ideal .f32 := m (c.tc.loc main_arg3)

variable (m : Mem)

/-- Result 0, as contents of its array. -/
def result4 (c : Dev nD) : Buf (Elt Ideal) ((c : Thread nD τ).loc main_v0_0) :=
  fun i => Cert.Adam.delta (F := Ideal) (X0 m c i) (X1 m c i) (X2 m c i) (X3 m c i)
/-- Result 1, as contents of its array. -/
def result5 (c : Dev nD) : Buf (Elt Ideal) ((c : Thread nD τ).loc main_v0_1) :=
  fun i => Cert.Adam.newM (F := Ideal) (X1 m c i) (X2 m c i)
/-- Result 2, as contents of its array. -/
def result6 (c : Dev nD) : Buf (Elt Ideal) ((c : Thread nD τ).loc main_v0_2) :=
  fun i => Cert.Adam.newV (F := Ideal) (X1 m c i) (X3 m c i)

/-- What a point writes back through window 4 is its block of the result array: every window reads the same rows. -/
theorem flushed_eq4 (c : Dev nD) (t : Fin cfg0.N) :
    (dats m 0 c).flushed 4 t = ((cfg0.win 4).blk t).view.read (Elt Ideal) (result4 m c) := by
  rw [Value.flushed4_A, (outs ..).1]
  rfl

/-- The printed index map of window 4, over the grid. -/
theorem idx4 : ∀ t : Fin grid0.N, win0_4.index t 0 = t.val ∧ win0_4.index t 1 = 0 := by decide +kernel

/-- The blocks of window 4 cover its array. -/
theorem cover4 (i : S1024x1792.Idx) : ∃ t : Fin cfg0.N, (cfg0.win 4).flush t = true ∧ i ∈ ((cfg0.win 4).blk t).view.set := by
  have h0 : (i 0).val < 1024 := (i 0).isLt
  have h1 : (i 1).val < 1792 := (i 1).isLt
  have hN : cfg0.N = 4 := N_0
  refine ⟨⟨(i 0).val / 256, by omega⟩, flush0_4 _, ?_⟩
  generalize ht : (⟨(i 0).val / 256, _⟩ : Fin cfg0.N) = t
  have hv : t.val = (i 0).val / 256 := by rw [← ht]
  have h := idx4 t
  show i ∈ ((View.whole main_v0_0).slice (win0_4.rect t)).set
  rw [View.set_slice_whole, Rect.mem_set_unit]
  intro a
  match a with
  | ⟨0, _⟩ => show win0_4.index t 0 * 256 ≤ (i 0).val ∧ (i 0).val < win0_4.index t 0 * 256 + 256; rw [h.1]; omega
  | ⟨1, _⟩ => show win0_4.index t 1 * 1792 ≤ (i 1).val ∧ (i 1).val < win0_4.index t 1 * 1792 + 1792; rw [h.2]; omega

@[inherit_doc flushed_eq4] theorem flushed_eq5 (c : Dev nD) (t : Fin cfg0.N) :
    (dats m 0 c).flushed 5 t = ((cfg0.win 5).blk t).view.read (Elt Ideal) (result5 m c) := by
  rw [Value.flushed5_A, (outs ..).2.1]
  rfl

@[inherit_doc cover4] theorem cover5 (i : S1024x1792.Idx) : ∃ t : Fin cfg0.N, (cfg0.win 5).flush t = true ∧ i ∈ ((cfg0.win 5).blk t).view.set :=
  cover4 i

@[inherit_doc flushed_eq4] theorem flushed_eq6 (c : Dev nD) (t : Fin cfg0.N) :
    (dats m 0 c).flushed 6 t = ((cfg0.win 6).blk t).view.read (Elt Ideal) (result6 m c) := by
  rw [Value.flushed6_A, (outs ..).2.2]
  rfl

@[inherit_doc cover4] theorem cover6 (i : S1024x1792.Idx) : ∃ t : Fin cfg0.N, (cfg0.win 6).flush t = true ∧ i ∈ ((cfg0.win 6).blk t).view.set :=
  cover4 i

/-- The run, with the result arrays read. -/
theorem run_result (ρ : Dev nD → PrngReg) : θ_run defs (onTc (τ := τ) (main (F := Ideal))) ⟨m, fun _ => 0, ρ⟩ fun r => ∀ c : Dev nD,
      r.2.mem (c.tc.loc main_v0_0) = result4 m c
      ∧ r.2.mem (c.tc.loc main_v0_1) = result5 m c
      ∧ r.2.mem (c.tc.loc main_v0_2) = result6 m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun _ h c => ⟨(h c).1.trans ((dats m 0 c).arrAt_eq_of_cover 4 (result4 m c) (fun t _ => flushed_eq4 m c t) cover4), (h c).2.1.trans ((dats m 0 c).arrAt_eq_of_cover 5 (result5 m c) (fun t _ => flushed_eq5 m c t) cover5), (h c).2.2.1.trans ((dats m 0 c).arrAt_eq_of_cover 6 (result6 m c) (fun t _ => flushed_eq6 m c t) cover6), (h c).2.2.2⟩)
    (run_blocks m ρ)

end Cert.Kernel20Ideal.Step

end
-- ==== Proof.Eq20.lean ====
module

public import proofs.«01_k».proof.Defs
public import proofs.«01_k».proof.Proof.Arr20
public import proofs.«01_k».proof.Proof.Gen.Kernel20Ideal
public import proofs.«01_k».proof.Proof.Gen.Reference20Ideal
public import proofs.«01_k».proof.Proof.Gen.Reference20Ideal.Run
public import proofs.«01_k».proof.Proof.Gen.Reference20Ideal.Read

/-! `Kernel20` and its reference compute the same arrays over the extended reals. -/

@[expose] public section

set_option maxRecDepth 16384

noncomputable section

namespace Cert.Kernel20Ideal.Step

open Cert.Kernel20Ideal Cert.Kernel20Ideal.Gen Cert.Kernel20Ideal.Value Idealize.ShloMosaic Idealize.ShloMosaic.TcCoe Idealize.SL.Sem

/-- The value claim: the kernel's arrays are the reference's, on every device. -/
theorem algebraic : Cert.algebraic_Kernel20Ideal_Reference20Ideal := by
  intro m ρ m' ρ' _ hag
  refine ⟨fun c => result4 m c, fun c => result5 m c, fun c => result6 m c, run_result m ρ, ?_⟩
  refine (θ_run Cert.Reference20Ideal.defs _ _).mono (fun r h c => ⟨?_, ?_, ?_, (h c).2.2.2⟩) (Cert.Reference20Ideal.Value.run (F := Ideal) m' ρ')
  · rw [(h c).1, (hag c).1, (hag c).2.1, (hag c).2.2.1, (hag c).2.2.2.1]
    refine (Cert.Reference20Ideal.Read.val_main_v23_eq (F := Ideal) _ _ _ _).trans ?_
    rfl
  · rw [(h c).2.1, (hag c).2.1, (hag c).2.2.1]
    refine (Cert.Reference20Ideal.Read.val_main_v4_eq (F := Ideal) _ _).trans ?_
    rfl
  · rw [(h c).2.2.1, (hag c).2.1, (hag c).2.2.2.1]
    refine (Cert.Reference20Ideal.Read.val_main_v10_eq (F := Ideal) _ _).trans ?_
    rfl

/-- The reference runs and leaves its arguments as they were. -/
theorem ref_frame : Cert.quiescent_Reference20Ideal := fun m ρ _ =>
  (θ_run Cert.Reference20Ideal.defs _ _).mono (fun r h => ⟨fun c => (h c).2.2.2, Idealize.ShloMosaic.sem_eq_zero_of_no_sems (by decide) r.2⟩)
    (Cert.Reference20Ideal.Value.run (F := Ideal) m ρ)

end Cert.Kernel20Ideal.Step

end
-- ==== Proof.Arr21.lean ====
module

public import proofs.«01_k».proof.Proof.Adam
public import proofs.«01_k».proof.Proof.Gen.Kernel21Ideal.Value
public import Idealize.ShloMosaic.Lib.Tactic

/-! The three arrays `Kernel21` (the optimiser's step of w_sb_out, w_conv_out and w_out) writes. -/

@[expose] public section

set_option maxRecDepth 16384

noncomputable section

namespace Cert.Kernel21Ideal.Step

open Cert.Kernel21Ideal Cert.Kernel21Ideal.Gen Cert.Kernel21Ideal.Value Idealize.ShloMosaic Idealize.ShloMosaic.TcCoe Idealize.SL.Sem

/-- What the arrays of every device hold. -/
abbrev Mem : Type := (ℓ : Loc nD τ sig) → Buf (Elt Ideal) ℓ
local notation "𝕍" => Memref sig Kind.tc Space.vmem

theorem hz2 : (![0, 0] : Fin 2 → Nat) = fun _ => 0 := funext fun a => by fin_cases a <;> rfl

section AnyFloat

variable {F : FTy → Type} [FloatOps F]

/-- The blocks of the step, the new first and the new second moment a point leaves. -/
theorem outs (c : Dev nD) (i : grid0.Coords) (a1 : 𝕍 S256x1024 .f32) (h1 : a1.IsWhole) (a2 : 𝕍 S256x1024 .f32) (h2 : a2.IsWhole) (a3 : 𝕍 S256x1024 .f32) (h3 : a3.IsWhole) (a4 : 𝕍 S256x1024 .f32) (h4 : a4.IsWhole) (a6 : 𝕍 S256x1024 .f32) (h6 : a6.IsWhole) (a7 : 𝕍 S256x1024 .f32) (h7 : a7.IsWhole) (a8 : 𝕍 S256x1024 .f32) (h8 : a8.IsWhole)
    (x0 x1 x2 x3 : Vec F S256x1024 .f32) :
    out0_A_4 c i a1 h1 a2 h2 a3 h3 a4 h4 a6 h6 a7 h7 a8 h8 x0 x1 x2 x3 = k0_pay3 x1 x2 x3 x0
    ∧ out0_A_5 c i a1 h1 a2 h2 a3 h3 a4 h4 a6 h6 a7 h7 a8 h8 x0 x1 x2 x3 = k0_pay1 x1 x2
    ∧ out0_A_6 c i a1 h1 a2 h2 a3 h3 a4 h4 a6 h6 a7 h7 a8 h8 x0 x1 x2 x3 = k0_pay2 x1 x3 := by
  unfold out0_A_4 out0_A_5 out0_A_6
  rw [View.read_writes_eq_canon _ _ _ (cover0_A_4 c i a1 h1 a2 h2 a3 h3 a4 h4 a6 h6 a7 h7 a8 h8 x0 x1 x2 x3), View.read_writes_eq_canon _ _ _ (cover0_A_5 c i a1 h1 a2 h2 a3 h3 a4 h4 a6 h6 a7 h7 a8 h8 x0 x1 x2 x3), View.read_writes_eq_canon _ _ _ (cover0_A_6 c i a1 h1 a2 h2 a3 h3 a4 h4 a6 h6 a7 h7 a8 h8 x0 x1 x2 x3)]
  unfold kernelRun0_A
  dsimp only
  sl_unfold_words
  simp only [View.canon_unit_zero (S := S256x1024) hz2, View.readAt_eq_ld, h1.read_unread, h2.read_unread, h3.read_unread, h4.read_unread,
    View.ld_unit_zero (S := S256x1024) hz2, and_self]

end AnyFloat

/-- Argument `n`, as floats. -/
abbrev X0 (m : Mem) (c : Dev nD) : S256x1024.Idx → Ideal .f32 := m (c.tc.loc main_arg0)
@[inherit_doc X0] abbrev X1 (m : Mem) (c : Dev nD) : S256x1024.Idx → Ideal .f32 := m (c.tc.loc main_arg1)
@[inherit_doc X0] abbrev X2 (m : Mem) (c : Dev nD) : S256x1024.Idx → Ideal .f32 := m (c.tc.loc main_arg2)
@[inherit_doc X0] abbrev X3 (m : Mem) (c : Dev nD) : S256x1024.Idx → Ideal .f32 := m (c.tc.loc main_arg3)

variable (m : Mem)

/-- Result 0, as contents of its array. -/
def result4 (c : Dev nD) : Buf (Elt Ideal) ((c : Thread nD τ).loc main_v0_0) :=
  fun i => Cert.Adam.delta (F := Ideal) (X0 m c i) (X1 m c i) (X2 m c i) (X3 m c i)
/-- Result 1, as contents of its array. -/
def result5 (c : Dev nD) : Buf (Elt Ideal) ((c : Thread nD τ).loc main_v0_1) :=
  fun i => Cert.Adam.newM (F := Ideal) (X1 m c i) (X2 m c i)
/-- Result 2, as contents of its array. -/
def result6 (c : Dev nD) : Buf (Elt Ideal) ((c : Thread nD τ).loc main_v0_2) :=
  fun i => Cert.Adam.newV (F := Ideal) (X1 m c i) (X3 m c i)

/-- What a point writes back through window 4 is its block of the result array: every window reads the same rows. -/
theorem flushed_eq4 (c : Dev nD) (t : Fin cfg0.N) :
    (dats m 0 c).flushed 4 t = ((cfg0.win 4).blk t).view.read (Elt Ideal) (result4 m c) := by
  rw [Value.flushed4_A, (outs ..).1]
  rfl

/-- The printed index map of window 4, over the grid. -/
theorem idx4 : ∀ t : Fin grid0.N, win0_4.index t 0 = t.val ∧ win0_4.index t 1 = 0 := by decide +kernel

/-- The blocks of window 4 cover its array. -/
theorem cover4 (i : S256x1024.Idx) : ∃ t : Fin cfg0.N, (cfg0.win 4).flush t = true ∧ i ∈ ((cfg0.win 4).blk t).view.set := by
  have h0 : (i 0).val < 256 := (i 0).isLt
  have h1 : (i 1).val < 1024 := (i 1).isLt
  have hN : cfg0.N = 1 := N_0
  refine ⟨⟨(i 0).val / 256, by omega⟩, flush0_4 _, ?_⟩
  generalize ht : (⟨(i 0).val / 256, _⟩ : Fin cfg0.N) = t
  have hv : t.val = (i 0).val / 256 := by rw [← ht]
  have h := idx4 t
  show i ∈ ((View.whole main_v0_0).slice (win0_4.rect t)).set
  rw [View.set_slice_whole, Rect.mem_set_unit]
  intro a
  match a with
  | ⟨0, _⟩ => show win0_4.index t 0 * 256 ≤ (i 0).val ∧ (i 0).val < win0_4.index t 0 * 256 + 256; rw [h.1]; omega
  | ⟨1, _⟩ => show win0_4.index t 1 * 1024 ≤ (i 1).val ∧ (i 1).val < win0_4.index t 1 * 1024 + 1024; rw [h.2]; omega

@[inherit_doc flushed_eq4] theorem flushed_eq5 (c : Dev nD) (t : Fin cfg0.N) :
    (dats m 0 c).flushed 5 t = ((cfg0.win 5).blk t).view.read (Elt Ideal) (result5 m c) := by
  rw [Value.flushed5_A, (outs ..).2.1]
  rfl

@[inherit_doc cover4] theorem cover5 (i : S256x1024.Idx) : ∃ t : Fin cfg0.N, (cfg0.win 5).flush t = true ∧ i ∈ ((cfg0.win 5).blk t).view.set :=
  cover4 i

@[inherit_doc flushed_eq4] theorem flushed_eq6 (c : Dev nD) (t : Fin cfg0.N) :
    (dats m 0 c).flushed 6 t = ((cfg0.win 6).blk t).view.read (Elt Ideal) (result6 m c) := by
  rw [Value.flushed6_A, (outs ..).2.2]
  rfl

@[inherit_doc cover4] theorem cover6 (i : S256x1024.Idx) : ∃ t : Fin cfg0.N, (cfg0.win 6).flush t = true ∧ i ∈ ((cfg0.win 6).blk t).view.set :=
  cover4 i

/-- The run, with the result arrays read. -/
theorem run_result (ρ : Dev nD → PrngReg) : θ_run defs (onTc (τ := τ) (main (F := Ideal))) ⟨m, fun _ => 0, ρ⟩ fun r => ∀ c : Dev nD,
      r.2.mem (c.tc.loc main_v0_0) = result4 m c
      ∧ r.2.mem (c.tc.loc main_v0_1) = result5 m c
      ∧ r.2.mem (c.tc.loc main_v0_2) = result6 m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun _ h c => ⟨(h c).1.trans ((dats m 0 c).arrAt_eq_of_cover 4 (result4 m c) (fun t _ => flushed_eq4 m c t) cover4), (h c).2.1.trans ((dats m 0 c).arrAt_eq_of_cover 5 (result5 m c) (fun t _ => flushed_eq5 m c t) cover5), (h c).2.2.1.trans ((dats m 0 c).arrAt_eq_of_cover 6 (result6 m c) (fun t _ => flushed_eq6 m c t) cover6), (h c).2.2.2⟩)
    (run_blocks m ρ)

end Cert.Kernel21Ideal.Step

end
-- ==== Proof.Eq21.lean ====
module

public import proofs.«01_k».proof.Defs
public import proofs.«01_k».proof.Proof.Arr21
public import proofs.«01_k».proof.Proof.Gen.Kernel21Ideal
public import proofs.«01_k».proof.Proof.Gen.Reference21Ideal
public import proofs.«01_k».proof.Proof.Gen.Reference21Ideal.Run
public import proofs.«01_k».proof.Proof.Gen.Reference21Ideal.Read

/-! `Kernel21` and its reference compute the same arrays over the extended reals. -/

@[expose] public section

set_option maxRecDepth 16384

noncomputable section

namespace Cert.Kernel21Ideal.Step

open Cert.Kernel21Ideal Cert.Kernel21Ideal.Gen Cert.Kernel21Ideal.Value Idealize.ShloMosaic Idealize.ShloMosaic.TcCoe Idealize.SL.Sem

/-- The value claim: the kernel's arrays are the reference's, on every device. -/
theorem algebraic : Cert.algebraic_Kernel21Ideal_Reference21Ideal := by
  intro m ρ m' ρ' _ hag
  refine ⟨fun c => result4 m c, fun c => result5 m c, fun c => result6 m c, run_result m ρ, ?_⟩
  refine (θ_run Cert.Reference21Ideal.defs _ _).mono (fun r h c => ⟨?_, ?_, ?_, (h c).2.2.2⟩) (Cert.Reference21Ideal.Value.run (F := Ideal) m' ρ')
  · rw [(h c).1, (hag c).1, (hag c).2.1, (hag c).2.2.1, (hag c).2.2.2.1]
    refine (Cert.Reference21Ideal.Read.val_main_v23_eq (F := Ideal) _ _ _ _).trans ?_
    rfl
  · rw [(h c).2.1, (hag c).2.1, (hag c).2.2.1]
    refine (Cert.Reference21Ideal.Read.val_main_v4_eq (F := Ideal) _ _).trans ?_
    rfl
  · rw [(h c).2.2.1, (hag c).2.1, (hag c).2.2.2.1]
    refine (Cert.Reference21Ideal.Read.val_main_v10_eq (F := Ideal) _ _).trans ?_
    rfl

/-- The reference runs and leaves its arguments as they were. -/
theorem ref_frame : Cert.quiescent_Reference21Ideal := fun m ρ _ =>
  (θ_run Cert.Reference21Ideal.defs _ _).mono (fun r h => ⟨fun c => (h c).2.2.2, Idealize.ShloMosaic.sem_eq_zero_of_no_sems (by decide) r.2⟩)
    (Cert.Reference21Ideal.Value.run (F := Ideal) m ρ)

end Cert.Kernel21Ideal.Step

end
-- ==== Proof.Arr22.lean ====
module

public import proofs.«01_k».proof.Proof.Adam
public import proofs.«01_k».proof.Proof.Gen.Kernel22Ideal.Value
public import Idealize.ShloMosaic.Lib.Tactic

/-! The three arrays `Kernel22` (the optimiser's step of a vector) writes. -/

@[expose] public section

set_option maxRecDepth 16384

noncomputable section

namespace Cert.Kernel22Ideal.Step

open Cert.Kernel22Ideal Cert.Kernel22Ideal.Gen Cert.Kernel22Ideal.Value Idealize.ShloMosaic Idealize.ShloMosaic.TcCoe Idealize.SL.Sem

/-- What the arrays of every device hold. -/
abbrev Mem : Type := (ℓ : Loc nD τ sig) → Buf (Elt Ideal) ℓ
local notation "𝕍" => Memref sig Kind.tc Space.vmem

theorem hz2 : (![0, 0] : Fin 2 → Nat) = fun _ => 0 := funext fun a => by fin_cases a <;> rfl

section AnyFloat

variable {F : FTy → Type} [FloatOps F]

/-- The blocks of the step, the new first and the new second moment a point leaves. -/
theorem outs (c : Dev nD) (i : grid0.Coords) (a1 : 𝕍 S1x1024 .f32) (h1 : a1.IsWhole) (a2 : 𝕍 S1x1024 .f32) (h2 : a2.IsWhole) (a3 : 𝕍 S1x1024 .f32) (h3 : a3.IsWhole) (a4 : 𝕍 S1x1024 .f32) (h4 : a4.IsWhole) (a6 : 𝕍 S1x1024 .f32) (h6 : a6.IsWhole) (a7 : 𝕍 S1x1024 .f32) (h7 : a7.IsWhole) (a8 : 𝕍 S1x1024 .f32) (h8 : a8.IsWhole)
    (x0 x1 x2 x3 : Vec F S1x1024 .f32) :
    out0_A_4 c i a1 h1 a2 h2 a3 h3 a4 h4 a6 h6 a7 h7 a8 h8 x0 x1 x2 x3 = k0_pay3 x1 x2 x3 x0
    ∧ out0_A_5 c i a1 h1 a2 h2 a3 h3 a4 h4 a6 h6 a7 h7 a8 h8 x0 x1 x2 x3 = k0_pay1 x1 x2
    ∧ out0_A_6 c i a1 h1 a2 h2 a3 h3 a4 h4 a6 h6 a7 h7 a8 h8 x0 x1 x2 x3 = k0_pay2 x1 x3 := by
  unfold out0_A_4 out0_A_5 out0_A_6
  rw [View.read_writes_eq_canon _ _ _ (cover0_A_4 c i a1 h1 a2 h2 a3 h3 a4 h4 a6 h6 a7 h7 a8 h8 x0 x1 x2 x3), View.read_writes_eq_canon _ _ _ (cover0_A_5 c i a1 h1 a2 h2 a3 h3 a4 h4 a6 h6 a7 h7 a8 h8 x0 x1 x2 x3), View.read_writes_eq_canon _ _ _ (cover0_A_6 c i a1 h1 a2 h2 a3 h3 a4 h4 a6 h6 a7 h7 a8 h8 x0 x1 x2 x3)]
  unfold kernelRun0_A
  dsimp only
  sl_unfold_words
  simp only [View.canon_unit_zero (S := S1x1024) hz2, View.readAt_eq_ld, h1.read_unread, h2.read_unread, h3.read_unread, h4.read_unread,
    View.ld_unit_zero (S := S1x1024) hz2, and_self]

end AnyFloat

/-- Argument `n`, as floats. -/
abbrev X0 (m : Mem) (c : Dev nD) : S1x1024.Idx → Ideal .f32 := m (c.tc.loc main_arg0)
@[inherit_doc X0] abbrev X1 (m : Mem) (c : Dev nD) : S1x1024.Idx → Ideal .f32 := m (c.tc.loc main_arg1)
@[inherit_doc X0] abbrev X2 (m : Mem) (c : Dev nD) : S1x1024.Idx → Ideal .f32 := m (c.tc.loc main_arg2)
@[inherit_doc X0] abbrev X3 (m : Mem) (c : Dev nD) : S1x1024.Idx → Ideal .f32 := m (c.tc.loc main_arg3)

variable (m : Mem)

/-- Result 0, as contents of its array. -/
def result4 (c : Dev nD) : Buf (Elt Ideal) ((c : Thread nD τ).loc main_v0_0) :=
  fun i => Cert.Adam.delta (F := Ideal) (X0 m c i) (X1 m c i) (X2 m c i) (X3 m c i)
/-- Result 1, as contents of its array. -/
def result5 (c : Dev nD) : Buf (Elt Ideal) ((c : Thread nD τ).loc main_v0_1) :=
  fun i => Cert.Adam.newM (F := Ideal) (X1 m c i) (X2 m c i)
/-- Result 2, as contents of its array. -/
def result6 (c : Dev nD) : Buf (Elt Ideal) ((c : Thread nD τ).loc main_v0_2) :=
  fun i => Cert.Adam.newV (F := Ideal) (X1 m c i) (X3 m c i)

/-- What a point writes back through window 4 is its block of the result array: every window reads the same rows. -/
theorem flushed_eq4 (c : Dev nD) (t : Fin cfg0.N) :
    (dats m 0 c).flushed 4 t = ((cfg0.win 4).blk t).view.read (Elt Ideal) (result4 m c) := by
  rw [Value.flushed4_A, (outs ..).1]
  rfl

/-- The printed index map of window 4, over the grid. -/
theorem idx4 : ∀ t : Fin grid0.N, win0_4.index t 0 = t.val ∧ win0_4.index t 1 = 0 := by decide +kernel

/-- The blocks of window 4 cover its array. -/
theorem cover4 (i : S1x1024.Idx) : ∃ t : Fin cfg0.N, (cfg0.win 4).flush t = true ∧ i ∈ ((cfg0.win 4).blk t).view.set := by
  have h0 : (i 0).val < 1 := (i 0).isLt
  have h1 : (i 1).val < 1024 := (i 1).isLt
  have hN : cfg0.N = 1 := N_0
  refine ⟨⟨(i 0).val / 1, by omega⟩, flush0_4 _, ?_⟩
  generalize ht : (⟨(i 0).val / 1, _⟩ : Fin cfg0.N) = t
  have hv : t.val = (i 0).val / 1 := by rw [← ht]
  have h := idx4 t
  show i ∈ ((View.whole main_v0_0).slice (win0_4.rect t)).set
  rw [View.set_slice_whole, Rect.mem_set_unit]
  intro a
  match a with
  | ⟨0, _⟩ => show win0_4.index t 0 * 1 ≤ (i 0).val ∧ (i 0).val < win0_4.index t 0 * 1 + 1; rw [h.1]; omega
  | ⟨1, _⟩ => show win0_4.index t 1 * 1024 ≤ (i 1).val ∧ (i 1).val < win0_4.index t 1 * 1024 + 1024; rw [h.2]; omega

@[inherit_doc flushed_eq4] theorem flushed_eq5 (c : Dev nD) (t : Fin cfg0.N) :
    (dats m 0 c).flushed 5 t = ((cfg0.win 5).blk t).view.read (Elt Ideal) (result5 m c) := by
  rw [Value.flushed5_A, (outs ..).2.1]
  rfl

@[inherit_doc cover4] theorem cover5 (i : S1x1024.Idx) : ∃ t : Fin cfg0.N, (cfg0.win 5).flush t = true ∧ i ∈ ((cfg0.win 5).blk t).view.set :=
  cover4 i

@[inherit_doc flushed_eq4] theorem flushed_eq6 (c : Dev nD) (t : Fin cfg0.N) :
    (dats m 0 c).flushed 6 t = ((cfg0.win 6).blk t).view.read (Elt Ideal) (result6 m c) := by
  rw [Value.flushed6_A, (outs ..).2.2]
  rfl

@[inherit_doc cover4] theorem cover6 (i : S1x1024.Idx) : ∃ t : Fin cfg0.N, (cfg0.win 6).flush t = true ∧ i ∈ ((cfg0.win 6).blk t).view.set :=
  cover4 i

/-- The run, with the result arrays read. -/
theorem run_result (ρ : Dev nD → PrngReg) : θ_run defs (onTc (τ := τ) (main (F := Ideal))) ⟨m, fun _ => 0, ρ⟩ fun r => ∀ c : Dev nD,
      r.2.mem (c.tc.loc main_v0_0) = result4 m c
      ∧ r.2.mem (c.tc.loc main_v0_1) = result5 m c
      ∧ r.2.mem (c.tc.loc main_v0_2) = result6 m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun _ h c => ⟨(h c).1.trans ((dats m 0 c).arrAt_eq_of_cover 4 (result4 m c) (fun t _ => flushed_eq4 m c t) cover4), (h c).2.1.trans ((dats m 0 c).arrAt_eq_of_cover 5 (result5 m c) (fun t _ => flushed_eq5 m c t) cover5), (h c).2.2.1.trans ((dats m 0 c).arrAt_eq_of_cover 6 (result6 m c) (fun t _ => flushed_eq6 m c t) cover6), (h c).2.2.2⟩)
    (run_blocks m ρ)

end Cert.Kernel22Ideal.Step

end
-- ==== Proof.Eq22.lean ====
module

public import proofs.«01_k».proof.Defs
public import proofs.«01_k».proof.Proof.Arr22
public import proofs.«01_k».proof.Proof.Gen.Kernel22Ideal
public import proofs.«01_k».proof.Proof.Gen.Reference22Ideal
public import proofs.«01_k».proof.Proof.Gen.Reference22Ideal.Run
public import proofs.«01_k».proof.Proof.Gen.Reference22Ideal.Read

/-! `Kernel22` and its reference compute the same arrays over the extended reals. -/

@[expose] public section

set_option maxRecDepth 16384

noncomputable section

namespace Cert.Kernel22Ideal.Step

open Cert.Kernel22Ideal Cert.Kernel22Ideal.Gen Cert.Kernel22Ideal.Value Idealize.ShloMosaic Idealize.ShloMosaic.TcCoe Idealize.SL.Sem

/-- The value claim: the kernel's arrays are the reference's, on every device. -/
theorem algebraic : Cert.algebraic_Kernel22Ideal_Reference22Ideal := by
  intro m ρ m' ρ' _ hag
  refine ⟨fun c => result4 m c, fun c => result5 m c, fun c => result6 m c, run_result m ρ, ?_⟩
  refine (θ_run Cert.Reference22Ideal.defs _ _).mono (fun r h c => ⟨?_, ?_, ?_, (h c).2.2.2⟩) (Cert.Reference22Ideal.Value.run (F := Ideal) m' ρ')
  · rw [(h c).1, (hag c).1, (hag c).2.1, (hag c).2.2.1, (hag c).2.2.2.1]
    refine (Cert.Reference22Ideal.Read.val_main_v23_eq (F := Ideal) _ _ _ _).trans ?_
    rfl
  · rw [(h c).2.1, (hag c).2.1, (hag c).2.2.1]
    refine (Cert.Reference22Ideal.Read.val_main_v4_eq (F := Ideal) _ _).trans ?_
    rfl
  · rw [(h c).2.2.1, (hag c).2.1, (hag c).2.2.2.1]
    refine (Cert.Reference22Ideal.Read.val_main_v10_eq (F := Ideal) _ _).trans ?_
    rfl

/-- The reference runs and leaves its arguments as they were. -/
theorem ref_frame : Cert.quiescent_Reference22Ideal := fun m ρ _ =>
  (θ_run Cert.Reference22Ideal.defs _ _).mono (fun r h => ⟨fun c => (h c).2.2.2, Idealize.ShloMosaic.sem_eq_zero_of_no_sems (by decide) r.2⟩)
    (Cert.Reference22Ideal.Value.run (F := Ideal) m ρ)

end Cert.Kernel22Ideal.Step

end
-- ==== Proof.Arr23.lean ====
module

public import proofs.«01_k».proof.Proof.Adam
public import proofs.«01_k».proof.Proof.Gen.Kernel23Ideal.Value
public import Idealize.ShloMosaic.Lib.Tactic

/-! The three arrays `Kernel23` (the optimiser's step of b_ada) writes. -/

@[expose] public section

set_option maxRecDepth 16384

noncomputable section

namespace Cert.Kernel23Ideal.Step

open Cert.Kernel23Ideal Cert.Kernel23Ideal.Gen Cert.Kernel23Ideal.Value Idealize.ShloMosaic Idealize.ShloMosaic.TcCoe Idealize.SL.Sem

/-- What the arrays of every device hold. -/
abbrev Mem : Type := (ℓ : Loc nD τ sig) → Buf (Elt Ideal) ℓ
local notation "𝕍" => Memref sig Kind.tc Space.vmem

theorem hz2 : (![0, 0] : Fin 2 → Nat) = fun _ => 0 := funext fun a => by fin_cases a <;> rfl

section AnyFloat

variable {F : FTy → Type} [FloatOps F]

/-- The blocks of the step, the new first and the new second moment a point leaves. -/
theorem outs (c : Dev nD) (i : grid0.Coords) (a1 : 𝕍 S1x9216 .f32) (h1 : a1.IsWhole) (a2 : 𝕍 S1x9216 .f32) (h2 : a2.IsWhole) (a3 : 𝕍 S1x9216 .f32) (h3 : a3.IsWhole) (a4 : 𝕍 S1x9216 .f32) (h4 : a4.IsWhole) (a6 : 𝕍 S1x9216 .f32) (h6 : a6.IsWhole) (a7 : 𝕍 S1x9216 .f32) (h7 : a7.IsWhole) (a8 : 𝕍 S1x9216 .f32) (h8 : a8.IsWhole)
    (x0 x1 x2 x3 : Vec F S1x9216 .f32) :
    out0_A_4 c i a1 h1 a2 h2 a3 h3 a4 h4 a6 h6 a7 h7 a8 h8 x0 x1 x2 x3 = k0_pay3 x1 x2 x3 x0
    ∧ out0_A_5 c i a1 h1 a2 h2 a3 h3 a4 h4 a6 h6 a7 h7 a8 h8 x0 x1 x2 x3 = k0_pay1 x1 x2
    ∧ out0_A_6 c i a1 h1 a2 h2 a3 h3 a4 h4 a6 h6 a7 h7 a8 h8 x0 x1 x2 x3 = k0_pay2 x1 x3 := by
  unfold out0_A_4 out0_A_5 out0_A_6
  rw [View.read_writes_eq_canon _ _ _ (cover0_A_4 c i a1 h1 a2 h2 a3 h3 a4 h4 a6 h6 a7 h7 a8 h8 x0 x1 x2 x3), View.read_writes_eq_canon _ _ _ (cover0_A_5 c i a1 h1 a2 h2 a3 h3 a4 h4 a6 h6 a7 h7 a8 h8 x0 x1 x2 x3), View.read_writes_eq_canon _ _ _ (cover0_A_6 c i a1 h1 a2 h2 a3 h3 a4 h4 a6 h6 a7 h7 a8 h8 x0 x1 x2 x3)]
  unfold kernelRun0_A
  dsimp only
  sl_unfold_words
  simp only [View.canon_unit_zero (S := S1x9216) hz2, View.readAt_eq_ld, h1.read_unread, h2.read_unread, h3.read_unread, h4.read_unread,
    View.ld_unit_zero (S := S1x9216) hz2, and_self]

end AnyFloat

/-- Argument `n`, as floats. -/
abbrev X0 (m : Mem) (c : Dev nD) : S1x9216.Idx → Ideal .f32 := m (c.tc.loc main_arg0)
@[inherit_doc X0] abbrev X1 (m : Mem) (c : Dev nD) : S1x9216.Idx → Ideal .f32 := m (c.tc.loc main_arg1)
@[inherit_doc X0] abbrev X2 (m : Mem) (c : Dev nD) : S1x9216.Idx → Ideal .f32 := m (c.tc.loc main_arg2)
@[inherit_doc X0] abbrev X3 (m : Mem) (c : Dev nD) : S1x9216.Idx → Ideal .f32 := m (c.tc.loc main_arg3)

variable (m : Mem)

/-- Result 0, as contents of its array. -/
def result4 (c : Dev nD) : Buf (Elt Ideal) ((c : Thread nD τ).loc main_v0_0) :=
  fun i => Cert.Adam.delta (F := Ideal) (X0 m c i) (X1 m c i) (X2 m c i) (X3 m c i)
/-- Result 1, as contents of its array. -/
def result5 (c : Dev nD) : Buf (Elt Ideal) ((c : Thread nD τ).loc main_v0_1) :=
  fun i => Cert.Adam.newM (F := Ideal) (X1 m c i) (X2 m c i)
/-- Result 2, as contents of its array. -/
def result6 (c : Dev nD) : Buf (Elt Ideal) ((c : Thread nD τ).loc main_v0_2) :=
  fun i => Cert.Adam.newV (F := Ideal) (X1 m c i) (X3 m c i)

/-- What a point writes back through window 4 is its block of the result array: every window reads the same rows. -/
theorem flushed_eq4 (c : Dev nD) (t : Fin cfg0.N) :
    (dats m 0 c).flushed 4 t = ((cfg0.win 4).blk t).view.read (Elt Ideal) (result4 m c) := by
  rw [Value.flushed4_A, (outs ..).1]
  rfl

/-- The printed index map of window 4, over the grid. -/
theorem idx4 : ∀ t : Fin grid0.N, win0_4.index t 0 = t.val ∧ win0_4.index t 1 = 0 := by decide +kernel

/-- The blocks of window 4 cover its array. -/
theorem cover4 (i : S1x9216.Idx) : ∃ t : Fin cfg0.N, (cfg0.win 4).flush t = true ∧ i ∈ ((cfg0.win 4).blk t).view.set := by
  have h0 : (i 0).val < 1 := (i 0).isLt
  have h1 : (i 1).val < 9216 := (i 1).isLt
  have hN : cfg0.N = 1 := N_0
  refine ⟨⟨(i 0).val / 1, by omega⟩, flush0_4 _, ?_⟩
  generalize ht : (⟨(i 0).val / 1, _⟩ : Fin cfg0.N) = t
  have hv : t.val = (i 0).val / 1 := by rw [← ht]
  have h := idx4 t
  show i ∈ ((View.whole main_v0_0).slice (win0_4.rect t)).set
  rw [View.set_slice_whole, Rect.mem_set_unit]
  intro a
  match a with
  | ⟨0, _⟩ => show win0_4.index t 0 * 1 ≤ (i 0).val ∧ (i 0).val < win0_4.index t 0 * 1 + 1; rw [h.1]; omega
  | ⟨1, _⟩ => show win0_4.index t 1 * 9216 ≤ (i 1).val ∧ (i 1).val < win0_4.index t 1 * 9216 + 9216; rw [h.2]; omega

@[inherit_doc flushed_eq4] theorem flushed_eq5 (c : Dev nD) (t : Fin cfg0.N) :
    (dats m 0 c).flushed 5 t = ((cfg0.win 5).blk t).view.read (Elt Ideal) (result5 m c) := by
  rw [Value.flushed5_A, (outs ..).2.1]
  rfl

@[inherit_doc cover4] theorem cover5 (i : S1x9216.Idx) : ∃ t : Fin cfg0.N, (cfg0.win 5).flush t = true ∧ i ∈ ((cfg0.win 5).blk t).view.set :=
  cover4 i

@[inherit_doc flushed_eq4] theorem flushed_eq6 (c : Dev nD) (t : Fin cfg0.N) :
    (dats m 0 c).flushed 6 t = ((cfg0.win 6).blk t).view.read (Elt Ideal) (result6 m c) := by
  rw [Value.flushed6_A, (outs ..).2.2]
  rfl

@[inherit_doc cover4] theorem cover6 (i : S1x9216.Idx) : ∃ t : Fin cfg0.N, (cfg0.win 6).flush t = true ∧ i ∈ ((cfg0.win 6).blk t).view.set :=
  cover4 i

/-- The run, with the result arrays read. -/
theorem run_result (ρ : Dev nD → PrngReg) : θ_run defs (onTc (τ := τ) (main (F := Ideal))) ⟨m, fun _ => 0, ρ⟩ fun r => ∀ c : Dev nD,
      r.2.mem (c.tc.loc main_v0_0) = result4 m c
      ∧ r.2.mem (c.tc.loc main_v0_1) = result5 m c
      ∧ r.2.mem (c.tc.loc main_v0_2) = result6 m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun _ h c => ⟨(h c).1.trans ((dats m 0 c).arrAt_eq_of_cover 4 (result4 m c) (fun t _ => flushed_eq4 m c t) cover4), (h c).2.1.trans ((dats m 0 c).arrAt_eq_of_cover 5 (result5 m c) (fun t _ => flushed_eq5 m c t) cover5), (h c).2.2.1.trans ((dats m 0 c).arrAt_eq_of_cover 6 (result6 m c) (fun t _ => flushed_eq6 m c t) cover6), (h c).2.2.2⟩)
    (run_blocks m ρ)

end Cert.Kernel23Ideal.Step

end
-- ==== Proof.Eq23.lean ====
module

public import proofs.«01_k».proof.Defs
public import proofs.«01_k».proof.Proof.Arr23
public import proofs.«01_k».proof.Proof.Gen.Kernel23Ideal
public import proofs.«01_k».proof.Proof.Gen.Reference23Ideal
public import proofs.«01_k».proof.Proof.Gen.Reference23Ideal.Run
public import proofs.«01_k».proof.Proof.Gen.Reference23Ideal.Read

/-! `Kernel23` and its reference compute the same arrays over the extended reals. -/

@[expose] public section

set_option maxRecDepth 16384

noncomputable section

namespace Cert.Kernel23Ideal.Step

open Cert.Kernel23Ideal Cert.Kernel23Ideal.Gen Cert.Kernel23Ideal.Value Idealize.ShloMosaic Idealize.ShloMosaic.TcCoe Idealize.SL.Sem

/-- The value claim: the kernel's arrays are the reference's, on every device. -/
theorem algebraic : Cert.algebraic_Kernel23Ideal_Reference23Ideal := by
  intro m ρ m' ρ' _ hag
  refine ⟨fun c => result4 m c, fun c => result5 m c, fun c => result6 m c, run_result m ρ, ?_⟩
  refine (θ_run Cert.Reference23Ideal.defs _ _).mono (fun r h c => ⟨?_, ?_, ?_, (h c).2.2.2⟩) (Cert.Reference23Ideal.Value.run (F := Ideal) m' ρ')
  · rw [(h c).1, (hag c).1, (hag c).2.1, (hag c).2.2.1, (hag c).2.2.2.1]
    refine (Cert.Reference23Ideal.Read.val_main_v23_eq (F := Ideal) _ _ _ _).trans ?_
    rfl
  · rw [(h c).2.1, (hag c).2.1, (hag c).2.2.1]
    refine (Cert.Reference23Ideal.Read.val_main_v4_eq (F := Ideal) _ _).trans ?_
    rfl
  · rw [(h c).2.2.1, (hag c).2.1, (hag c).2.2.2.1]
    refine (Cert.Reference23Ideal.Read.val_main_v10_eq (F := Ideal) _ _).trans ?_
    rfl

/-- The reference runs and leaves its arguments as they were. -/
theorem ref_frame : Cert.quiescent_Reference23Ideal := fun m ρ _ =>
  (θ_run Cert.Reference23Ideal.defs _ _).mono (fun r h => ⟨fun c => (h c).2.2.2, Idealize.ShloMosaic.sem_eq_zero_of_no_sems (by decide) r.2⟩)
    (Cert.Reference23Ideal.Value.run (F := Ideal) m ρ)

end Cert.Kernel23Ideal.Step

end
-- ==== Proof.Arr24.lean ====
module

public import proofs.«01_k».proof.Proof.Adam
public import proofs.«01_k».proof.Proof.Gen.Kernel24Ideal.Value
public import Idealize.ShloMosaic.Lib.Tactic

/-! The three arrays `Kernel24` (the optimiser's step of conv_w) writes. -/

@[expose] public section

set_option maxRecDepth 16384

noncomputable section

namespace Cert.Kernel24Ideal.Step

open Cert.Kernel24Ideal Cert.Kernel24Ideal.Gen Cert.Kernel24Ideal.Value Idealize.ShloMosaic Idealize.ShloMosaic.TcCoe Idealize.SL.Sem

/-- What the arrays of every device hold. -/
abbrev Mem : Type := (ℓ : Loc nD τ sig) → Buf (Elt Ideal) ℓ
local notation "𝕍" => Memref sig Kind.tc Space.vmem

theorem hz2 : (![0, 0] : Fin 2 → Nat) = fun _ => 0 := funext fun a => by fin_cases a <;> rfl

section AnyFloat

variable {F : FTy → Type} [FloatOps F]

/-- The blocks of the step, the new first and the new second moment a point leaves. -/
theorem outs (c : Dev nD) (i : grid0.Coords) (a1 : 𝕍 S31x256 .f32) (h1 : a1.IsWhole) (a2 : 𝕍 S31x256 .f32) (h2 : a2.IsWhole) (a3 : 𝕍 S31x256 .f32) (h3 : a3.IsWhole) (a4 : 𝕍 S31x256 .f32) (h4 : a4.IsWhole) (a6 : 𝕍 S31x256 .f32) (h6 : a6.IsWhole) (a7 : 𝕍 S31x256 .f32) (h7 : a7.IsWhole) (a8 : 𝕍 S31x256 .f32) (h8 : a8.IsWhole)
    (x0 x1 x2 x3 : Vec F S31x256 .f32) :
    out0_A_4 c i a1 h1 a2 h2 a3 h3 a4 h4 a6 h6 a7 h7 a8 h8 x0 x1 x2 x3 = k0_pay3 x1 x2 x3 x0
    ∧ out0_A_5 c i a1 h1 a2 h2 a3 h3 a4 h4 a6 h6 a7 h7 a8 h8 x0 x1 x2 x3 = k0_pay1 x1 x2
    ∧ out0_A_6 c i a1 h1 a2 h2 a3 h3 a4 h4 a6 h6 a7 h7 a8 h8 x0 x1 x2 x3 = k0_pay2 x1 x3 := by
  unfold out0_A_4 out0_A_5 out0_A_6
  rw [View.read_writes_eq_canon _ _ _ (cover0_A_4 c i a1 h1 a2 h2 a3 h3 a4 h4 a6 h6 a7 h7 a8 h8 x0 x1 x2 x3), View.read_writes_eq_canon _ _ _ (cover0_A_5 c i a1 h1 a2 h2 a3 h3 a4 h4 a6 h6 a7 h7 a8 h8 x0 x1 x2 x3), View.read_writes_eq_canon _ _ _ (cover0_A_6 c i a1 h1 a2 h2 a3 h3 a4 h4 a6 h6 a7 h7 a8 h8 x0 x1 x2 x3)]
  unfold kernelRun0_A
  dsimp only
  sl_unfold_words
  simp only [View.canon_unit_zero (S := S31x256) hz2, View.readAt_eq_ld, h1.read_unread, h2.read_unread, h3.read_unread, h4.read_unread,
    View.ld_unit_zero (S := S31x256) hz2, and_self]

end AnyFloat

/-- Argument `n`, as floats. -/
abbrev X0 (m : Mem) (c : Dev nD) : S31x256.Idx → Ideal .f32 := m (c.tc.loc main_arg0)
@[inherit_doc X0] abbrev X1 (m : Mem) (c : Dev nD) : S31x256.Idx → Ideal .f32 := m (c.tc.loc main_arg1)
@[inherit_doc X0] abbrev X2 (m : Mem) (c : Dev nD) : S31x256.Idx → Ideal .f32 := m (c.tc.loc main_arg2)
@[inherit_doc X0] abbrev X3 (m : Mem) (c : Dev nD) : S31x256.Idx → Ideal .f32 := m (c.tc.loc main_arg3)

variable (m : Mem)

/-- Result 0, as contents of its array. -/
def result4 (c : Dev nD) : Buf (Elt Ideal) ((c : Thread nD τ).loc main_v0_0) :=
  fun i => Cert.Adam.delta (F := Ideal) (X0 m c i) (X1 m c i) (X2 m c i) (X3 m c i)
/-- Result 1, as contents of its array. -/
def result5 (c : Dev nD) : Buf (Elt Ideal) ((c : Thread nD τ).loc main_v0_1) :=
  fun i => Cert.Adam.newM (F := Ideal) (X1 m c i) (X2 m c i)
/-- Result 2, as contents of its array. -/
def result6 (c : Dev nD) : Buf (Elt Ideal) ((c : Thread nD τ).loc main_v0_2) :=
  fun i => Cert.Adam.newV (F := Ideal) (X1 m c i) (X3 m c i)

/-- What a point writes back through window 4 is its block of the result array: every window reads the same rows. -/
theorem flushed_eq4 (c : Dev nD) (t : Fin cfg0.N) :
    (dats m 0 c).flushed 4 t = ((cfg0.win 4).blk t).view.read (Elt Ideal) (result4 m c) := by
  rw [Value.flushed4_A, (outs ..).1]
  rfl

/-- The printed index map of window 4, over the grid. -/
theorem idx4 : ∀ t : Fin grid0.N, win0_4.index t 0 = t.val ∧ win0_4.index t 1 = 0 := by decide +kernel

/-- The blocks of window 4 cover its array. -/
theorem cover4 (i : S31x256.Idx) : ∃ t : Fin cfg0.N, (cfg0.win 4).flush t = true ∧ i ∈ ((cfg0.win 4).blk t).view.set := by
  have h0 : (i 0).val < 31 := (i 0).isLt
  have h1 : (i 1).val < 256 := (i 1).isLt
  have hN : cfg0.N = 1 := N_0
  refine ⟨⟨(i 0).val / 31, by omega⟩, flush0_4 _, ?_⟩
  generalize ht : (⟨(i 0).val / 31, _⟩ : Fin cfg0.N) = t
  have hv : t.val = (i 0).val / 31 := by rw [← ht]
  have h := idx4 t
  show i ∈ ((View.whole main_v0_0).slice (win0_4.rect t)).set
  rw [View.set_slice_whole, Rect.mem_set_unit]
  intro a
  match a with
  | ⟨0, _⟩ => show win0_4.index t 0 * 31 ≤ (i 0).val ∧ (i 0).val < win0_4.index t 0 * 31 + 31; rw [h.1]; omega
  | ⟨1, _⟩ => show win0_4.index t 1 * 256 ≤ (i 1).val ∧ (i 1).val < win0_4.index t 1 * 256 + 256; rw [h.2]; omega

@[inherit_doc flushed_eq4] theorem flushed_eq5 (c : Dev nD) (t : Fin cfg0.N) :
    (dats m 0 c).flushed 5 t = ((cfg0.win 5).blk t).view.read (Elt Ideal) (result5 m c) := by
  rw [Value.flushed5_A, (outs ..).2.1]
  rfl

@[inherit_doc cover4] theorem cover5 (i : S31x256.Idx) : ∃ t : Fin cfg0.N, (cfg0.win 5).flush t = true ∧ i ∈ ((cfg0.win 5).blk t).view.set :=
  cover4 i

@[inherit_doc flushed_eq4] theorem flushed_eq6 (c : Dev nD) (t : Fin cfg0.N) :
    (dats m 0 c).flushed 6 t = ((cfg0.win 6).blk t).view.read (Elt Ideal) (result6 m c) := by
  rw [Value.flushed6_A, (outs ..).2.2]
  rfl

@[inherit_doc cover4] theorem cover6 (i : S31x256.Idx) : ∃ t : Fin cfg0.N, (cfg0.win 6).flush t = true ∧ i ∈ ((cfg0.win 6).blk t).view.set :=
  cover4 i

/-- The run, with the result arrays read. -/
theorem run_result (ρ : Dev nD → PrngReg) : θ_run defs (onTc (τ := τ) (main (F := Ideal))) ⟨m, fun _ => 0, ρ⟩ fun r => ∀ c : Dev nD,
      r.2.mem (c.tc.loc main_v0_0) = result4 m c
      ∧ r.2.mem (c.tc.loc main_v0_1) = result5 m c
      ∧ r.2.mem (c.tc.loc main_v0_2) = result6 m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun _ h c => ⟨(h c).1.trans ((dats m 0 c).arrAt_eq_of_cover 4 (result4 m c) (fun t _ => flushed_eq4 m c t) cover4), (h c).2.1.trans ((dats m 0 c).arrAt_eq_of_cover 5 (result5 m c) (fun t _ => flushed_eq5 m c t) cover5), (h c).2.2.1.trans ((dats m 0 c).arrAt_eq_of_cover 6 (result6 m c) (fun t _ => flushed_eq6 m c t) cover6), (h c).2.2.2⟩)
    (run_blocks m ρ)

end Cert.Kernel24Ideal.Step

end
-- ==== Proof.Eq24.lean ====
module

public import proofs.«01_k».proof.Defs
public import proofs.«01_k».proof.Proof.Arr24
public import proofs.«01_k».proof.Proof.Gen.Kernel24Ideal
public import proofs.«01_k».proof.Proof.Gen.Reference24Ideal
public import proofs.«01_k».proof.Proof.Gen.Reference24Ideal.Run
public import proofs.«01_k».proof.Proof.Gen.Reference24Ideal.Read

/-! `Kernel24` and its reference compute the same arrays over the extended reals. -/

@[expose] public section

set_option maxRecDepth 16384

noncomputable section

namespace Cert.Kernel24Ideal.Step

open Cert.Kernel24Ideal Cert.Kernel24Ideal.Gen Cert.Kernel24Ideal.Value Idealize.ShloMosaic Idealize.ShloMosaic.TcCoe Idealize.SL.Sem

/-- The value claim: the kernel's arrays are the reference's, on every device. -/
theorem algebraic : Cert.algebraic_Kernel24Ideal_Reference24Ideal := by
  intro m ρ m' ρ' _ hag
  refine ⟨fun c => result4 m c, fun c => result5 m c, fun c => result6 m c, run_result m ρ, ?_⟩
  refine (θ_run Cert.Reference24Ideal.defs _ _).mono (fun r h c => ⟨?_, ?_, ?_, (h c).2.2.2⟩) (Cert.Reference24Ideal.Value.run (F := Ideal) m' ρ')
  · rw [(h c).1, (hag c).1, (hag c).2.1, (hag c).2.2.1, (hag c).2.2.2.1]
    refine (Cert.Reference24Ideal.Read.val_main_v23_eq (F := Ideal) _ _ _ _).trans ?_
    rfl
  · rw [(h c).2.1, (hag c).2.1, (hag c).2.2.1]
    refine (Cert.Reference24Ideal.Read.val_main_v4_eq (F := Ideal) _ _).trans ?_
    rfl
  · rw [(h c).2.2.1, (hag c).2.1, (hag c).2.2.2.1]
    refine (Cert.Reference24Ideal.Read.val_main_v10_eq (F := Ideal) _ _).trans ?_
    rfl

/-- The reference runs and leaves its arguments as they were. -/
theorem ref_frame : Cert.quiescent_Reference24Ideal := fun m ρ _ =>
  (θ_run Cert.Reference24Ideal.defs _ _).mono (fun r h => ⟨fun c => (h c).2.2.2, Idealize.ShloMosaic.sem_eq_zero_of_no_sems (by decide) r.2⟩)
    (Cert.Reference24Ideal.Value.run (F := Ideal) m ρ)

end Cert.Kernel24Ideal.Step

end
-- ==== Proof.Mod25.lean ====
module

public import proofs.«01_k».proof.Proof.Sums
public import proofs.«01_k».proof.Proof.Gen.Kernel25Ideal.Value
public import Idealize.ShloMosaic.Lib.VecWindow
public import Idealize.ShloMosaic.Lib.Pipeline.Value
public import Idealize.ShloMosaic.PureOps.Ideal.Laws
public import Idealize.ShloMosaic.Lib.IdealHost
public import Idealize.ShloMosaic.Lib.Tactic

/-! What `Kernel25` (the backward pass of the first modulation) leaves at each grid point: its block of the gradient, and
    the two rows of sums it adds to. -/

@[expose] public section

set_option maxRecDepth 16384

noncomputable section

namespace Cert.Kernel25Ideal.Mod

open Cert.Kernel25Ideal Cert.Kernel25Ideal.Gen Idealize.ShloMosaic Idealize.ShloMosaic.TcCoe Idealize.SL.Sem

local notation "𝕍" => Memref sig Kind.tc Space.vmem

section AnyFloat

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Row `0` of the block of sums. -/
abbrev row0 (x : Vec F S1x8x1024 .f32) : Vec F S1x1x1024 .f32 := VecWindow.window x ![0, 0, 0] S1x1x1024.size inb_S1x8x1024_S1x1x1024_0_0_0
/-- Row `1` of the block of sums. -/
abbrev row1 (x : Vec F S1x8x1024 .f32) : Vec F S1x1x1024 .f32 := VecWindow.window x ![0, 1, 0] S1x1x1024.size inb_S1x8x1024_S1x1x1024_0_1_0
/-- The row of the modulation that holds the scale. -/
abbrev scaleRow (x : Vec F S1x9x1024 .f32) : Vec F S1x1x1024 .f32 := VecWindow.window x ![0, 1, 0] S1x1x1024.size inb_S1x9x1024_S1x1x1024_0_1_0

/-- One point's step on the block of sums: row `0` and row `1` are replaced. -/
def step (xo : Vec F S1x8x1024 .f32) (du x : Vec F S512x1024 .f32) : Vec F S1x8x1024 .f32 :=
  VecWindow.put (VecWindow.put xo ![0, 0, 0] S1x1x1024.size (k0_pay4 du (row0 xo))) ![0, 1, 0] S1x1x1024.size (k0_pay1 (k0_pay5 du (row1 xo) x))

/-- The block of the gradient a sample's first point leaves. -/
theorem out_A (c : Dev nD) (i : grid0.Coords) (a2 : 𝕍 S512x1024 .f32) (h2 : a2.IsWhole) (a3 : 𝕍 S512x1024 .f32) (h3 : a3.IsWhole) (a4 : 𝕍 S512x1024 .f32) (h4 : a4.IsWhole) (a5 : 𝕍 S1x9x1024 .f32) (h5 : a5.IsWhole) (a6 : 𝕍 S512x1024 .f32) (h6 : a6.IsWhole) (a7 : 𝕍 S1x8x1024 .f32) (h7 : a7.IsWhole) (hc : cond0_0 i)
    (x0 x1 x2 : Vec F S512x1024 .f32) (x3 : Vec F S1x9x1024 .f32) : out0_A_4 c i a2 h2 a3 h3 a4 h4 a5 h5 a6 h6 a7 h7 hc x0 x1 x2 x3 = k0_pay2 (scaleRow x3) x1 x0 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  simp only [View.canon_unit_zero (S := S512x1024) hz2, View.readAt_eq_ld, h2.read_unread, h3.read_unread, h5.read_unread, View.ld_unit_zero (S := S512x1024) hz2]
  rfl

/-- The block of the gradient a later point leaves. -/
theorem out_B (c : Dev nD) (i : grid0.Coords) (a2 : 𝕍 S512x1024 .f32) (h2 : a2.IsWhole) (a3 : 𝕍 S512x1024 .f32) (h3 : a3.IsWhole) (a4 : 𝕍 S512x1024 .f32) (h4 : a4.IsWhole) (a5 : 𝕍 S1x9x1024 .f32) (h5 : a5.IsWhole) (a6 : 𝕍 S512x1024 .f32) (h6 : a6.IsWhole) (a7 : 𝕍 S1x8x1024 .f32) (h7 : a7.IsWhole) (hc : ¬cond0_0 i)
    (x0 x1 x2 : Vec F S512x1024 .f32) (x3 : Vec F S1x9x1024 .f32) (xo : Vec F S1x8x1024 .f32) : out0_B_4 c i a2 h2 a3 h3 a4 h4 a5 h5 a6 h6 a7 h7 hc x0 x1 x2 x3 xo = k0_pay2 (scaleRow x3) x1 x0 := by
  unfold out0_B_4
  rw [View.read_writes_eq_canon _ _ _ (cover0_B_4 c i a2 h2 a3 h3 a4 h4 a5 h5 a6 h6 a7 h7 hc x0 x1 x2 x3 xo)]
  unfold kernelRun0_B
  dsimp only
  sl_unfold_words
  simp only [View.canon_unit_zero (S := S512x1024) hz2, View.readAt_eq_ld, h2.read_unread, h3.read_unread, h5.read_unread, View.ld_unit_zero (S := S512x1024) hz2]
  rfl

/-- The sums a later point leaves: one step on what it found. -/
theorem sums_B (c : Dev nD) (i : grid0.Coords) (a2 : 𝕍 S512x1024 .f32) (h2 : a2.IsWhole) (a3 : 𝕍 S512x1024 .f32) (h3 : a3.IsWhole) (a4 : 𝕍 S512x1024 .f32) (h4 : a4.IsWhole) (a5 : 𝕍 S1x9x1024 .f32) (h5 : a5.IsWhole) (a6 : 𝕍 S512x1024 .f32) (h6 : a6.IsWhole) (a7 : 𝕍 S1x8x1024 .f32) (h7 : a7.IsWhole) (hc : ¬cond0_0 i)
    (x0 x1 x2 : Vec F S512x1024 .f32) (x3 : Vec F S1x9x1024 .f32) (xo : Vec F S1x8x1024 .f32) : out0_B_5 c i a2 h2 a3 h3 a4 h4 a5 h5 a6 h6 a7 h7 hc x0 x1 x2 x3 xo = step xo x1 x2 := by
  unfold out0_B_5
  unfold kernelRun0_B
  dsimp only
  sl_unfold_words
  rw [View.read_writes_cons_put _ _ _ _ _ rfl, View.read_writes_cons_put _ _ _ _ _ rfl]
  simp only [View.writes_nil, View.readAt_eq_ld, h3.read_unread, h4.read_unread, h7.read_unread, View.ld_unit_zero (S := S512x1024) hz2]
  rfl

/-- The sums a sample's first point leaves: one step on zeros. -/
theorem sums_A (c : Dev nD) (i : grid0.Coords) (a2 : 𝕍 S512x1024 .f32) (h2 : a2.IsWhole) (a3 : 𝕍 S512x1024 .f32) (h3 : a3.IsWhole) (a4 : 𝕍 S512x1024 .f32) (h4 : a4.IsWhole) (a5 : 𝕍 S1x9x1024 .f32) (h5 : a5.IsWhole) (a6 : 𝕍 S512x1024 .f32) (h6 : a6.IsWhole) (a7 : 𝕍 S1x8x1024 .f32) (h7 : a7.IsWhole) (hc : cond0_0 i)
    (x0 x1 x2 : Vec F S512x1024 .f32) (x3 : Vec F S1x9x1024 .f32) : out0_A_5 c i a2 h2 a3 h3 a4 h4 a5 h5 a6 h6 a7 h7 hc x0 x1 x2 x3 = step k0_pay3 x1 x2 := by
  unfold out0_A_5
  unfold kernelRun0_A
  dsimp only
  sl_unfold_words
  rw [View.read_writes_cons_put _ _ _ _ _ rfl, View.read_writes_cons_put _ _ _ _ _ rfl]
  have e : ∀ v : View sig .tc .vmem S1x8x1024 .f32, v.read (Elt F) (v.writes (Elt F) v.junk [⟨Rect.unit ![0, 0, 0] ![1, 8, 1024] inb_S1x8x1024_S1x8x1024_0_0_0, k0_pay3⟩]) = k0_pay3 :=
    fun v => View.read_writes_full v _ _ _ _
  have d : ∀ w, View.ld (Val := Elt F) (VecWindow.put (s := S1x8x1024) (k0_pay3 (F := F)) ![0, 0, 0] ![1, 1, 1024] w) (Rect.unit ![0, 1, 0] ![1, 1, 1024] inb_S1x8x1024_S1x1x1024_0_1_0) = row1 k0_pay3 :=
    fun w => VecWindow.window_put_of_disjoint (s := S1x8x1024) _ _ _ _ _ _ _ 1 (Or.inr (by decide))
  simp only [View.readCov, View.readAt_eq_ld, h3.read_unread, h4.read_unread, View.ld_unit_zero (S := S512x1024) hz2]
  rw [e VO0_5, e a7.view, View.read_writes_cons_put a7.view _ _ _ _ rfl, e a7.view, d]
  rfl

variable (m : (ℓ : Loc nD τ sig) → Buf (Elt F) ℓ)

/-- After the last of a sample's four points, the sums hold four steps taken from zeros. -/
theorem outsAt_last (c : Dev nD) (n : ℕ) (h0 : 4 * n + 3 < cfg0.N) :
    (outsAt0 m c (4 * n + 3) h0).2 = step (step (step (step k0_pay3
      (iblk m c 1 ⟨4 * n, by omega⟩) (iblk m c 2 ⟨4 * n, by omega⟩))
      (iblk m c 1 ⟨4 * n + 1, by omega⟩) (iblk m c 2 ⟨4 * n + 1, by omega⟩))
      (iblk m c 1 ⟨4 * n + 2, by omega⟩) (iblk m c 2 ⟨4 * n + 2, by omega⟩))
      (iblk m c 1 ⟨4 * n + 3, h0⟩) (iblk m c 2 ⟨4 * n + 3, h0⟩) := by
  have e0 : (outsAt0 m c (4 * n) (by omega)).2 = step k0_pay3 (iblk m c 1 ⟨4 * n, by omega⟩) (iblk m c 2 ⟨4 * n, by omega⟩) := by
    have e := congrArg Prod.snd (outsAt0_A m c ⟨4 * n, by omega⟩ (by dsimp only; omega))
    rw [sums_A] at e
    exact e
  have e1 : (outsAt0 m c (4 * n + 1) (by omega)).2 = step (outsAt0 m c (4 * n) (by omega)).2 (iblk m c 1 ⟨4 * n + 1, by omega⟩) (iblk m c 2 ⟨4 * n + 1, by omega⟩) := by
    have e := congrArg Prod.snd (outsAt0_B m c ⟨4 * n + 1, by omega⟩ (by dsimp only; omega))
    rw [sums_B] at e
    exact e
  have e2 : (outsAt0 m c (4 * n + 2) (by omega)).2 = step (outsAt0 m c (4 * n + 1) (by omega)).2 (iblk m c 1 ⟨4 * n + 2, by omega⟩) (iblk m c 2 ⟨4 * n + 2, by omega⟩) := by
    have e := congrArg Prod.snd (outsAt0_B m c ⟨4 * n + 2, by omega⟩ (by dsimp only; omega))
    rw [sums_B] at e
    exact e
  have e := congrArg Prod.snd (outsAt0_B m c ⟨4 * n + 3, h0⟩ (by dsimp only; omega))
  rw [sums_B] at e
  rw [← e0, ← e1, ← e2]
  exact e

/-- Every point leaves its block of the gradient. -/
theorem flushed_grad (c : Dev nD) (t : Fin cfg0.N) :
    (dats m 0 c).flushed 4 t = (cfg0.win 4).cut (grid0.coords t) (k0_pay2 (scaleRow (iblk m c 3 t)) (iblk m c 1 t) (iblk m c 0 t)) := by
  by_cases h : t.val % 4 = 0
  · rw [Value.flushed4_A m c t h, out_A]
  · rw [Value.flushed4_B m c t h, out_B]

end AnyFloat

/-- The element of a row of sums that meets a block's element. -/
abbrev at1 (i : S512x1024.Idx) : S1x1x1024.Idx := fun a => match a with
  | ⟨0, _⟩ => ⟨0, Nat.one_pos⟩
  | ⟨1, _⟩ => ⟨0, Nat.one_pos⟩
  | ⟨2, _⟩ => ⟨(i 1).val, (i 1).isLt⟩
/-- The scale in the modulation's block. -/
abbrev at9 (i : S512x1024.Idx) : S1x9x1024.Idx := fun a => match a with
  | ⟨0, _⟩ => ⟨0, Nat.one_pos⟩
  | ⟨1, _⟩ => ⟨1, by show 1 < 9; omega⟩
  | ⟨2, _⟩ => ⟨(i 1).val, (i 1).isLt⟩
/-- Row `k` of a block, at the column of an element of the sums. -/
abbrev rowAt (j : Fin 1024) (k : Fin 512) : S512x1024.Idx := fun a => match a with
  | ⟨0, _⟩ => ⟨k.val, k.isLt⟩
  | ⟨1, _⟩ => ⟨j.val, j.isLt⟩

/-- The gradient of one element: what came in, plus the modulated one's gradient times one plus the scale. -/
def grad {F : FTy → Type} [FloatOps F] (dx du scale : F .f32) : F .f32 :=
  FloatOps.addf dx (FloatOps.mulf du (FloatOps.addf (FloatOps.ofBits .f32 0x3F800000#32) scale))

section AnyFloat

variable {F : FTy → Type} [FloatOps F]

/-- What the body stores as the gradient, element by element. -/
theorem pay2_apply (x3 : Vec F S1x9x1024 .f32) (du dx : Vec F S512x1024 .f32) (i : S512x1024.Idx) :
    k0_pay2 (scaleRow x3) du dx i = grad (dx i) (du i) (x3 (at9 i)) := by
  have d : shapeCast S1x1024 (scaleRow x3) shapeCasts_S1x1x1024_S1x1024 (fun a => match a with | ⟨0, _⟩ => ⟨0, Nat.one_pos⟩ | ⟨1, _⟩ => ⟨(i 1).val, (i 1).isLt⟩) = scaleRow x3 (at1 i) :=
    Cert.Sums.drop_one _ _ _ (at1 i) rfl rfl
  have e : scaleRow x3 (at1 i) = x3 (at9 i) := congrArg x3 (funext fun a => Fin.ext (by
    match a with
    | ⟨0, _⟩ => rfl
    | ⟨1, _⟩ => rfl
    | ⟨2, _⟩ => show 0 + 1 * (i 1).val = (i 1).val; omega))
  unfold k0_pay2 grad
  rw [← e, ← d]
  refine congrArg (FloatOps.addf (dx i)) (congrArg (FloatOps.mulf (du i)) ?_)
  exact broadcastTo_apply _ broadcasts_S1x1024_S512x1024 i _ (fun a => match a with
    | ⟨0, _⟩ => by show 0 = if (1 : Nat) = 1 then 0 else _; rw [if_pos rfl]
    | ⟨1, _⟩ => by show (i 1).val = if (1024 : Nat) = 1 then 0 else (i 1).val; rw [if_neg (by decide)])

end AnyFloat

/-! ## The sums over the extended reals -/

/-- The sum of a block's rows. -/
theorem colsum (v : FVec Ideal S512x1024 .f32) (j : S1x1024.Idx) :
    shapeCast S1x1024 (multiReduction .add [0] S1024 v 0x00000000#32 reduces_S512x1024_S1024 (.inl rfl) rfl) shapeCasts_S1024_S1x1024 j
      = ∑ k : Fin 512, (v (rowAt (j 1) k) : EReal) := by
  refine (shapeCast_addUnit_apply ![1024] _ shapeCasts_S1024_S1x1024 j).trans ?_
  refine (Ideal.multiReduction_add_single (a := 0) v _ _ _ _ _).trans (Finset.sum_congr rfl fun k _ => congrArg v (funext fun a => Fin.ext ?_))
  match a with
  | ⟨0, _⟩ => rfl
  | ⟨1, _⟩ => rfl

/-- A row kept as a vector of one row, and back. -/
theorem addRow (v : S1x1x1024.Idx → EReal) (w : S1x1024.Idx → EReal) (i : S1x1x1024.Idx) (j : S1x1024.Idx) (e0 : (i 1).val = (j 0).val) (e : (i 2).val = (j 1).val) :
    shapeCast S1x1x1024 (addf (F := Ideal) (φ := .f32) (shapeCast S1x1024 v shapeCasts_S1x1x1024_S1x1024) w) shapeCasts_S1x1024_S1x1x1024 i = v i + w j := by
  refine (Cert.Sums.add_one _ _ i j e0 e).trans ?_
  exact congrArg (· + w j) (Cert.Sums.drop_one v _ j i e0 e)

/-- The element of a vector of one row that meets an element of a row of sums. -/
abbrev flat (i : S1x1x1024.Idx) : S1x1024.Idx := fun a => match a with
  | ⟨0, _⟩ => ⟨(i 1).val, (i 1).isLt⟩
  | ⟨1, _⟩ => ⟨(i 2).val, (i 2).isLt⟩

/-- Row `0`'s step: the block's rows are added. -/
theorem pay4_apply (du : S512x1024.Idx → EReal) (v : S1x1x1024.Idx → EReal) (i : S1x1x1024.Idx) :
    k0_pay4 (F := Ideal) du v i = v i + ∑ k : Fin 512, du (rowAt (i 2) k) := by
  unfold k0_pay4
  exact (addRow v _ i (flat i) rfl rfl).trans (congrArg (v i + ·) (colsum du (flat i)))

/-- Row `1`'s step: the products' rows are added. -/
theorem pay5_apply (du x : S512x1024.Idx → EReal) (v : S1x1x1024.Idx → EReal) (i : S1x1x1024.Idx) :
    k0_pay1 (F := Ideal) (k0_pay5 du v x) i = v i + ∑ k : Fin 512, du (rowAt (i 2) k) * x (rowAt (i 2) k) := by
  unfold k0_pay1 k0_pay5
  exact (addRow v _ i (flat i) rfl rfl).trans (congrArg (v i + ·) (colsum (fun a => du a * x a) (flat i)))

/-- What one block adds to an element of the sums. -/
def sums (du x : S512x1024.Idx → EReal) (y : S1x8x1024.Idx) : EReal :=
  if (y 1).val = 0 then ∑ k : Fin 512, du (rowAt (y 2) k) else if (y 1).val = 1 then ∑ k : Fin 512, du (rowAt (y 2) k) * x (rowAt (y 2) k) else 0

/-- One point's step, element by element: the block's sums are added. -/
theorem step_apply (xo : S1x8x1024.Idx → EReal) (du x : S512x1024.Idx → EReal) (y : S1x8x1024.Idx) :
    step (F := Ideal) xo du x y = xo y + sums du x y := by
  have h0 : (y 0).val < 1 := (y 0).isLt
  have h2 : (y 2).val < 1024 := (y 2).isLt
  have hm : ∀ r : ℕ, (y 1).val = r → ∀ a : Fin 3, (![0, r, 0] : Fin 3 → ℕ) a ≤ (y a).val ∧ (y a).val < (![0, r, 0] : Fin 3 → ℕ) a + S1x1x1024.size a := fun r hr a => by
    match a with
    | ⟨0, _⟩ => exact ⟨Nat.zero_le _, show (y 0).val < 0 + 1 by omega⟩
    | ⟨1, _⟩ => exact ⟨show r ≤ (y 1).val by omega, show (y 1).val < r + 1 by omega⟩
    | ⟨2, _⟩ => exact ⟨Nat.zero_le _, show (y 2).val < 0 + 1024 by omega⟩
  have hn : ∀ r : ℕ, (y 1).val ≠ r → ¬ ∀ a : Fin 3, (![0, r, 0] : Fin 3 → ℕ) a ≤ (y a).val ∧ (y a).val < (![0, r, 0] : Fin 3 → ℕ) a + S1x1x1024.size a := fun r hr h => by
    have h1 : r ≤ (y 1).val ∧ (y 1).val < r + 1 := h 1
    omega
  unfold step VecWindow.put sums
  by_cases e1 : (y 1).val = 1
  · rw [dif_pos (hm 1 e1), if_neg (by omega), if_pos e1, pay5_apply]
    refine congrArg₂ (· + ·) (congrArg xo (funext fun a => Fin.ext ?_)) rfl
    match a with
    | ⟨0, _⟩ => show 0 + 1 * ((y 0).val - 0) = (y 0).val; omega
    | ⟨1, _⟩ => show 1 + 1 * ((y 1).val - 1) = (y 1).val; omega
    | ⟨2, _⟩ => show 0 + 1 * ((y 2).val - 0) = (y 2).val; omega
  · rw [dif_neg (hn 1 e1)]
    by_cases e0 : (y 1).val = 0
    · rw [dif_pos (hm 0 e0), if_pos e0, pay4_apply]
      refine congrArg₂ (· + ·) (congrArg xo (funext fun a => Fin.ext ?_)) rfl
      match a with
      | ⟨0, _⟩ => show 0 + 1 * ((y 0).val - 0) = (y 0).val; omega
      | ⟨1, _⟩ => show 0 + 1 * ((y 1).val - 0) = (y 1).val; omega
      | ⟨2, _⟩ => show 0 + 1 * ((y 2).val - 0) = (y 2).val; omega
    · rw [dif_neg (hn 0 e0), if_neg e0, if_neg e1, add_zero]

/-- The sums start from zeros. -/
theorem pay3_apply (y : S1x8x1024.Idx) : (k0_pay3 (F := Ideal) y : EReal) = 0 := by
  unfold k0_pay3
  exact (Cert.Sums.add_one _ _ y (fun a => match a with | ⟨0, _⟩ => ⟨(y 1).val, (y 1).isLt⟩ | ⟨1, _⟩ => ⟨(y 2).val, (y 2).isLt⟩) rfl rfl).trans Ideal.ofBits_zero_f32

end Cert.Kernel25Ideal.Mod

end
-- ==== Proof.Arr25.lean ====
module

public import proofs.«01_k».proof.Proof.Mod25

/-! The two arrays `Kernel25` (the backward pass of the first modulation) writes: the gradient, and the sums over each sample. -/

@[expose] public section

set_option maxRecDepth 16384

noncomputable section

namespace Cert.Kernel25Ideal.Mod

open Cert.Kernel25Ideal Cert.Kernel25Ideal.Gen Cert.Kernel25Ideal.Value Idealize.ShloMosaic Idealize.ShloMosaic.TcCoe Idealize.SL.Sem

/-- What the arrays of every device hold. -/
abbrev Mem : Type := (ℓ : Loc nD τ sig) → Buf (Elt Ideal) ℓ

/-- Argument `n`, as floats. -/
abbrev X0 (m : Mem) (c : Dev nD) : S8192x1024.Idx → Ideal .f32 := m (c.tc.loc main_arg0)
@[inherit_doc X0] abbrev X1 (m : Mem) (c : Dev nD) : S8192x1024.Idx → Ideal .f32 := m (c.tc.loc main_arg1)
@[inherit_doc X0] abbrev X2 (m : Mem) (c : Dev nD) : S8192x1024.Idx → Ideal .f32 := m (c.tc.loc main_arg2)
@[inherit_doc X0] abbrev X3 (m : Mem) (c : Dev nD) : S4x9x1024.Idx → Ideal .f32 := m (c.tc.loc main_arg3)

/-- The scale of the sample an element of the array lies in. -/
abbrev scaleAt (i : S8192x1024.Idx) : S4x9x1024.Idx := fun a => match a with
  | ⟨0, _⟩ => ⟨(i 0).val / 2048, by have h : (i 0).val < 8192 := (i 0).isLt; show (i 0).val / 2048 < 4; omega⟩
  | ⟨1, _⟩ => ⟨1, by show 1 < 9; omega⟩
  | ⟨2, _⟩ => ⟨(i 1).val, (i 1).isLt⟩
/-- Row `k` of a sample, at the column of an element of the sums. -/
abbrev tokAt (y : S4x8x1024.Idx) (k : Fin 2048) : S8192x1024.Idx := fun a => match a with
  | ⟨0, _⟩ => ⟨2048 * (y 0).val + k.val, by have h : (y 0).val < 4 := (y 0).isLt; have := k.isLt; show 2048 * (y 0).val + k.val < 8192; omega⟩
  | ⟨1, _⟩ => ⟨(y 2).val, (y 2).isLt⟩

/-- The sums over a sample: of the incoming gradient, of its product with `x`, and zeros. -/
def total (du x : S8192x1024.Idx → EReal) (y : S4x8x1024.Idx) : EReal :=
  if (y 1).val = 0 then ∑ k : Fin 2048, du (tokAt y k) else if (y 1).val = 1 then ∑ k : Fin 2048, du (tokAt y k) * x (tokAt y k) else 0

variable (m : Mem)

/-- The gradient, as contents of its array. -/
def result4 (c : Dev nD) : Buf (Elt Ideal) ((c : Thread nD τ).loc main_v0_0) :=
  fun i => grad (F := Ideal) (X0 m c i) (X1 m c i) (X3 m c (scaleAt i))
/-- The sums, as contents of their array. -/
def result5 (c : Dev nD) : Buf (Elt Ideal) ((c : Thread nD τ).loc main_v0_1) :=
  fun y => total (X1 m c) (X2 m c) y

/-- The printed index map of window 0, over the grid. -/
theorem idx0 : ∀ t : Fin grid0.N, win0_0.index t 0 = t.val ∧ win0_0.index t 1 = 0 := by decide +kernel
@[inherit_doc idx0] theorem idx1 : ∀ t : Fin grid0.N, win0_1.index t 0 = t.val ∧ win0_1.index t 1 = 0 := by decide +kernel
@[inherit_doc idx0] theorem idx2 : ∀ t : Fin grid0.N, win0_2.index t 0 = t.val ∧ win0_2.index t 1 = 0 := by decide +kernel
@[inherit_doc idx0] theorem idx3 : ∀ t : Fin grid0.N, win0_3.index t 0 = t.val / 4 ∧ win0_3.index t 1 = 0 ∧ win0_3.index t 2 = 0 := by decide +kernel
@[inherit_doc idx0] theorem idx4 : ∀ t : Fin grid0.N, win0_4.index t 0 = t.val ∧ win0_4.index t 1 = 0 := by decide +kernel
@[inherit_doc idx0] theorem idx5 : ∀ t : Fin grid0.N, win0_5.index t 0 = t.val / 4 ∧ win0_5.index t 1 = 0 ∧ win0_5.index t 2 = 0 := by decide +kernel

/-- The block of the gradient that came in, read at an element. -/
theorem blk0_apply (c : Dev nD) (t : Fin cfg0.N) (j : S512x1024.Idx) (a : S8192x1024.Idx)
    (e0 : (a 0).val = t.val * 512 + (j 0).val) (e1 : (a 1).val = (j 1).val) :
    (iblk m c 0 t : S512x1024.Idx → Ideal .f32) j = X0 m c a := by
  unfold iblk
  rw [View.read_apply]
  refine congrArg (X0 m c) (funext fun x => Fin.ext ?_)
  have h := idx0 t
  match x with
  | ⟨0, _⟩ => show win0_0.index t 0 * 512 + 1 * (j 0).val = (a 0).val; rw [h.1, e0]; omega
  | ⟨1, _⟩ => show win0_0.index t 1 * 1024 + 1 * (j 1).val = (a 1).val; rw [h.2, e1]; omega

/-- The block of the modulated array's gradient, read at an element. -/
theorem blk1_apply (c : Dev nD) (t : Fin cfg0.N) (j : S512x1024.Idx) (a : S8192x1024.Idx)
    (e0 : (a 0).val = t.val * 512 + (j 0).val) (e1 : (a 1).val = (j 1).val) :
    (iblk m c 1 t : S512x1024.Idx → Ideal .f32) j = X1 m c a := by
  unfold iblk
  rw [View.read_apply]
  refine congrArg (X1 m c) (funext fun x => Fin.ext ?_)
  have h := idx1 t
  match x with
  | ⟨0, _⟩ => show win0_1.index t 0 * 512 + 1 * (j 0).val = (a 0).val; rw [h.1, e0]; omega
  | ⟨1, _⟩ => show win0_1.index t 1 * 1024 + 1 * (j 1).val = (a 1).val; rw [h.2, e1]; omega

/-- The block of `x`, read at an element. -/
theorem blk2_apply (c : Dev nD) (t : Fin cfg0.N) (j : S512x1024.Idx) (a : S8192x1024.Idx)
    (e0 : (a 0).val = t.val * 512 + (j 0).val) (e1 : (a 1).val = (j 1).val) :
    (iblk m c 2 t : S512x1024.Idx → Ideal .f32) j = X2 m c a := by
  unfold iblk
  rw [View.read_apply]
  refine congrArg (X2 m c) (funext fun x => Fin.ext ?_)
  have h := idx2 t
  match x with
  | ⟨0, _⟩ => show win0_2.index t 0 * 512 + 1 * (j 0).val = (a 0).val; rw [h.1, e0]; omega
  | ⟨1, _⟩ => show win0_2.index t 1 * 1024 + 1 * (j 1).val = (a 1).val; rw [h.2, e1]; omega

/-- The block of the modulation at a point, read at an element. -/
theorem blk3_apply (c : Dev nD) (t : Fin cfg0.N) (j : S1x9x1024.Idx) (a : S4x9x1024.Idx)
    (e0 : (a 0).val = t.val / 4) (e1 : (a 1).val = (j 1).val) (e2 : (a 2).val = (j 2).val) :
    (iblk m c 3 t : S1x9x1024.Idx → Ideal .f32) j = X3 m c a := by
  unfold iblk
  rw [View.read_apply]
  refine congrArg (X3 m c) (funext fun x => Fin.ext ?_)
  have h := idx3 t
  have h0 : (j 0).val < 1 := (j 0).isLt
  match x with
  | ⟨0, _⟩ => show win0_3.index t 0 * 1 + 1 * (j 0).val = (a 0).val; rw [h.1, e0]; omega
  | ⟨1, _⟩ => show win0_3.index t 1 * 9 + 1 * (j 1).val = (a 1).val; rw [h.2.1, e1]; omega
  | ⟨2, _⟩ => show win0_3.index t 2 * 1024 + 1 * (j 2).val = (a 2).val; rw [h.2.2, e2]; omega

/-- What a point leaves of the gradient, at an element, is the result at the element's place in the array. -/
theorem grad_eq (c : Dev nD) (t : Fin cfg0.N) (y : S512x1024.Idx) (i : S8192x1024.Idx)
    (e0 : (i 0).val = t.val * 512 + (y 0).val) (e1 : (i 1).val = (y 1).val) :
    k0_pay2 (F := Ideal) (scaleRow (iblk m c 3 t)) (iblk m c 1 t) (iblk m c 0 t) y = result4 m c i := by
  have hN : cfg0.N = 16 := N_0
  have ht := t.isLt
  have hy : (y 0).val < 512 := (y 0).isLt
  rw [pay2_apply]
  exact congr (congrArg₂ grad (blk0_apply m c t y i e0 e1) (blk1_apply m c t y i e0 e1))
    (blk3_apply m c t (at9 y) (scaleAt i) (by show (i 0).val / 2048 = _; omega) rfl e1)

/-- What a point writes back of the gradient is its block of the result array. -/
theorem flushed_eq4 (c : Dev nD) (t : Fin cfg0.N) :
    (dats m 0 c).flushed 4 t = ((cfg0.win 4).blk t).view.read (Elt Ideal) (result4 m c) := by
  rw [flushed_grad]
  funext y
  rw [View.read_apply]
  have h := idx4 t
  refine grad_eq m c t y _ ?_ ?_
  · show win0_4.index t 0 * 512 + 1 * (y 0).val = _; rw [h.1]; omega
  · show win0_4.index t 1 * 1024 + 1 * (y 1).val = _; rw [h.2]; omega

/-- The blocks of the gradient cover its array. -/
theorem cover4 (i : S8192x1024.Idx) : ∃ t : Fin cfg0.N, (cfg0.win 4).flush t = true ∧ i ∈ ((cfg0.win 4).blk t).view.set := by
  have h0 : (i 0).val < 8192 := (i 0).isLt
  have h1 : (i 1).val < 1024 := (i 1).isLt
  have hN : cfg0.N = 16 := N_0
  refine ⟨⟨(i 0).val / 512, by omega⟩, flush0_4 _, ?_⟩
  generalize ht : (⟨(i 0).val / 512, _⟩ : Fin cfg0.N) = t
  have hv : t.val = (i 0).val / 512 := by rw [← ht]
  have h := idx4 t
  show i ∈ ((View.whole main_v0_0).slice (win0_4.rect t)).set
  rw [View.set_slice_whole, Rect.mem_set_unit]
  intro a
  match a with
  | ⟨0, _⟩ => show win0_4.index t 0 * 512 ≤ (i 0).val ∧ (i 0).val < win0_4.index t 0 * 512 + 512; rw [h.1]; omega
  | ⟨1, _⟩ => show win0_4.index t 1 * 1024 ≤ (i 1).val ∧ (i 1).val < win0_4.index t 1 * 1024 + 1024; rw [h.2]; omega

/-- The block of the modulated array's gradient at a point, as numbers. -/
abbrev B1 (c : Dev nD) (t : Fin cfg0.N) : S512x1024.Idx → EReal := iblk m c 1 t
/-- The block of `x` at a point, as numbers. -/
abbrev B2 (c : Dev nD) (t : Fin cfg0.N) : S512x1024.Idx → EReal := iblk m c 2 t

/-- The four blocks' sums of a sample, added onto zero, are the sums over the sample. -/
theorem sums_eq (c : Dev nD) (n : ℕ) (hn : 4 * n + 3 < cfg0.N) (y : S1x8x1024.Idx) (i : S4x8x1024.Idx)
    (e0 : (i 0).val = n) (e1 : (i 1).val = (y 1).val) (e2 : (i 2).val = (y 2).val) :
    ((outsAt0 m c (4 * n + 3) hn).2 y : EReal) = result5 m c i := by
  rw [outsAt_last]
  refine (step_apply _ _ _ y).trans ?_
  rw [step_apply, step_apply, step_apply, pay3_apply, zero_add]
  unfold result5 total sums
  by_cases h0 : (y 1).val = 0
  · rw [if_pos h0, if_pos h0, if_pos h0, if_pos h0, if_pos (e1.trans h0)]
    refine (Cert.Sums.sum_four (M := EReal) (N := 2048) (n := 512) rfl (fun k => X1 m c (tokAt i k)) (fun q k => B1 m c ⟨4 * n + q.val, by have := q.isLt; omega⟩ (rowAt (y 2) k)) ?_).symm
    intro q k hb
    have hq := q.isLt
    have hk := k.isLt
    exact (blk1_apply m c _ (rowAt (y 2) k) (tokAt i ⟨512 * q.val + k.val, hb⟩) (by show 2048 * (i 0).val + (512 * q.val + k.val) = (4 * n + q.val) * 512 + k.val; omega) e2).symm
  · rw [if_neg h0, if_neg h0, if_neg h0, if_neg h0, if_neg (fun h => h0 (e1.symm.trans h))]
    by_cases h1 : (y 1).val = 1
    · rw [if_pos h1, if_pos h1, if_pos h1, if_pos h1, if_pos (e1.trans h1)]
      refine (Cert.Sums.sum_four (M := EReal) (N := 2048) (n := 512) rfl (fun k => (fun p q : EReal => p * q) (X1 m c (tokAt i k)) (X2 m c (tokAt i k)))
        (fun q k => B1 m c ⟨4 * n + q.val, by have := q.isLt; omega⟩ (rowAt (y 2) k) * B2 m c ⟨4 * n + q.val, by have := q.isLt; omega⟩ (rowAt (y 2) k)) ?_).symm
      intro q k hb
      have hq := q.isLt
      have hk := k.isLt
      have hq4 : 4 * n + q.val < cfg0.N := by omega
      have a1 : B1 m c ⟨4 * n + q.val, hq4⟩ (rowAt (y 2) k) = X1 m c (tokAt i ⟨512 * q.val + k.val, hb⟩) :=
        blk1_apply m c ⟨4 * n + q.val, hq4⟩ (rowAt (y 2) k) (tokAt i ⟨512 * q.val + k.val, hb⟩) (by show 2048 * (i 0).val + (512 * q.val + k.val) = (4 * n + q.val) * 512 + k.val; omega) e2
      have a2 : B2 m c ⟨4 * n + q.val, hq4⟩ (rowAt (y 2) k) = X2 m c (tokAt i ⟨512 * q.val + k.val, hb⟩) :=
        blk2_apply m c ⟨4 * n + q.val, hq4⟩ (rowAt (y 2) k) (tokAt i ⟨512 * q.val + k.val, hb⟩) (by show 2048 * (i 0).val + (512 * q.val + k.val) = (4 * n + q.val) * 512 + k.val; omega) e2
      rw [a1, a2]
    · rw [if_neg h1, if_neg h1, if_neg h1, if_neg h1, if_neg (fun h => h1 (e1.symm.trans h))]
      simp only [add_zero]

/-- What a point writes back of the sums is its block of the result array. -/
theorem flushed_eq5 (c : Dev nD) (t : Fin cfg0.N) (hf : (cfg0.win 5).flush t = true) :
    (dats m 0 c).flushed 5 t = ((cfg0.win 5).blk t).view.read (Elt Ideal) (result5 m c) := by
  rw [flushed5]
  have h3 : t.val % 4 = 3 := by have := (flush0_5 t).mp hf; omega
  have hN : cfg0.N = 16 := N_0
  have htl := t.isLt
  have hn : 4 * (t.val / 4) + 3 < cfg0.N := by omega
  have ht : t = ⟨4 * (t.val / 4) + 3, hn⟩ := Fin.ext (by dsimp only; omega)
  funext y
  rw [View.read_apply]
  have h := idx5 t
  have hy : (y 0).val < 1 := (y 0).isLt
  have he : (outsAt0 m c t.val t.isLt).2 = (outsAt0 m c (4 * (t.val / 4) + 3) hn).2 := by
    have : ∀ (a b : ℕ) (ha : a < cfg0.N) (hb : b < cfg0.N), a = b → outsAt0 m c a ha = outsAt0 m c b hb := fun a b ha hb e => by subst e; rfl
    rw [this t.val (4 * (t.val / 4) + 3) t.isLt hn (by omega)]
  rw [he]
  refine sums_eq m c (t.val / 4) hn y _ ?_ ?_ ?_
  · show win0_5.index t 0 * 1 + 1 * (y 0).val = _; rw [h.1]; omega
  · show win0_5.index t 1 * 8 + 1 * (y 1).val = _; rw [h.2.1]; omega
  · show win0_5.index t 2 * 1024 + 1 * (y 2).val = _; rw [h.2.2]; omega

/-- The blocks of the sums cover their array. -/
theorem cover5 (i : S4x8x1024.Idx) : ∃ t : Fin cfg0.N, (cfg0.win 5).flush t = true ∧ i ∈ ((cfg0.win 5).blk t).view.set := by
  have h0 : (i 0).val < 4 := (i 0).isLt
  have h1 : (i 1).val < 8 := (i 1).isLt
  have h2 : (i 2).val < 1024 := (i 2).isLt
  have hN : cfg0.N = 16 := N_0
  refine ⟨⟨4 * (i 0).val + 3, by omega⟩, (flush0_5 _).mpr (by dsimp only; omega), ?_⟩
  generalize ht : (⟨4 * (i 0).val + 3, _⟩ : Fin cfg0.N) = t
  have hv : t.val = 4 * (i 0).val + 3 := by rw [← ht]
  have h := idx5 t
  show i ∈ ((View.whole main_v0_1).slice (win0_5.rect t)).set
  rw [View.set_slice_whole, Rect.mem_set_unit]
  intro a
  match a with
  | ⟨0, _⟩ => show win0_5.index t 0 * 1 ≤ (i 0).val ∧ (i 0).val < win0_5.index t 0 * 1 + 1; rw [h.1]; omega
  | ⟨1, _⟩ => show win0_5.index t 1 * 8 ≤ (i 1).val ∧ (i 1).val < win0_5.index t 1 * 8 + 8; rw [h.2.1]; omega
  | ⟨2, _⟩ => show win0_5.index t 2 * 1024 ≤ (i 2).val ∧ (i 2).val < win0_5.index t 2 * 1024 + 1024; rw [h.2.2]; omega

/-- The run, with the result arrays read. -/
theorem run_result (ρ : Dev nD → PrngReg) : θ_run defs (onTc (τ := τ) (main (F := Ideal))) ⟨m, fun _ => 0, ρ⟩ fun r => ∀ c : Dev nD,
      r.2.mem (c.tc.loc main_v0_0) = result4 m c
      ∧ r.2.mem (c.tc.loc main_v0_1) = result5 m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => ⟨(h c).1.trans ((dats m 0 c).arrAt_eq_of_cover 4 (result4 m c) (fun t _ => flushed_eq4 m c t) cover4),
      (h c).2.1.trans ((dats m 0 c).arrAt_eq_of_cover 5 (result5 m c) (fun t ht => flushed_eq5 m c t ht) cover5), (h c).2.2⟩)
    (run_blocks m ρ)

end Cert.Kernel25Ideal.Mod

end
-- ==== Proof.Eq25.lean ====
module

public import proofs.«01_k».proof.Defs
public import proofs.«01_k».proof.Proof.Arr25
public import proofs.«01_k».proof.Proof.Gen.Kernel25Ideal
public import proofs.«01_k».proof.Proof.Gen.Reference25Ideal
public import proofs.«01_k».proof.Proof.Gen.Reference25Ideal.Run
public import proofs.«01_k».proof.Proof.Gen.Reference25Ideal.Read

/-! `Kernel25` and its reference compute the same two arrays over the extended reals. -/

@[expose] public section

set_option maxRecDepth 16384

noncomputable section

namespace Cert.Kernel25Ideal.Mod

open Cert.Kernel25Ideal Cert.Kernel25Ideal.Gen Cert.Kernel25Ideal.Value Idealize.ShloMosaic Idealize.ShloMosaic.TcCoe Idealize.SL.Sem Cert.Reference25Ideal.Read

/-- The reference's gradient at an element, of the sample the element lies in. -/
theorem ref_grad (x0 x1 : S8192x1024.Idx → Ideal .f32) (x3 : S4x9x1024.Idx → Ideal .f32) (i : S8192x1024.Idx) :
    val_main_v20 (F := Ideal) x0 x1 x3 i = grad (F := Ideal) (x0 i) (x1 i) (x3 (scaleAt i)) := by
  have h0 : (i 0).val < 8192 := (i 0).isLt
  have h1 : (i 1).val < 1024 := (i 1).isLt
  rw [val_main_v20_apply, val_main_v19_apply, val_main_v16_apply, val_main_v15_apply, val_main_v9_apply, val_main_v4_apply, val_main_v3_apply, val_main_cst_apply,
    val_main_v1_apply]
  unfold grad
  have ex : x1 (idx_main_v9 (idx_main_v19 i)) = x1 i := congrArg x1 (funext fun a => Fin.ext (by
    match a with
    | ⟨0, _⟩ => show _ = (i 0).val; dsimp only [idx_main_v9, idx_main_v19]; omega
    | ⟨1, _⟩ => show _ = (i 1).val; dsimp only [idx_main_v9, idx_main_v19]; omega))
  have e1 : x3 (idx_main_v1 (idx_main_v15 (idx_main_v19 i))) = x3 (scaleAt i) := congrArg x3 (funext fun a => Fin.ext (by
    match a with
    | ⟨0, _⟩ => dsimp only [idx_main_v1, idx_main_v15, idx_main_v19, scaleAt]; omega
    | ⟨1, _⟩ => rfl
    | ⟨2, _⟩ => dsimp only [idx_main_v1, idx_main_v15, idx_main_v19, scaleAt]; omega))
  rw [ex, e1]

/-- The reference's sum of the incoming gradient over a sample. -/
theorem ref_sum0 (x1 : S8192x1024.Idx → EReal) (j : Cert.Reference25Ideal.S4x1x1024.Idx) (y : S4x8x1024.Idx) (e0 : (j 0).val = (y 0).val) (e2 : (j 2).val = (y 2).val) :
    (val_main_v11 (F := Ideal) x1 j : EReal) = ∑ k : Fin 2048, x1 (tokAt y k) := by
  have h0 : (j 0).val < 4 := (j 0).isLt
  have h1 : (j 1).val < 1 := (j 1).isLt
  have h2 : (j 2).val < 1024 := (j 2).isLt
  rw [val_main_v11_apply, val_main_v10_apply]
  refine (congrArg (· + _) Ideal.ofBits_zero_f32).trans ((zero_add _).trans (Finset.sum_congr rfl fun k _ => ?_))
  have hk := k.isLt
  rw [val_main_v9_apply]
  refine congrArg x1 (funext fun a => Fin.ext ?_)
  match a with
  | ⟨0, _⟩ => dsimp only [idx_main_v9, idx_main_v10, idx_main_v11, tokAt]; omega
  | ⟨1, _⟩ => dsimp only [idx_main_v9, idx_main_v10, idx_main_v11, tokAt]; omega

/-- The reference's sum of the products over a sample. -/
theorem ref_sum1 (x1 x2 : S8192x1024.Idx → EReal) (j : Cert.Reference25Ideal.S4x1x1024.Idx) (y : S4x8x1024.Idx) (e0 : (j 0).val = (y 0).val) (e2 : (j 2).val = (y 2).val) :
    (val_main_v14 (F := Ideal) x1 x2 j : EReal) = ∑ k : Fin 2048, x1 (tokAt y k) * x2 (tokAt y k) := by
  have h0 : (j 0).val < 4 := (j 0).isLt
  have h1 : (j 1).val < 1 := (j 1).isLt
  have h2 : (j 2).val < 1024 := (j 2).isLt
  rw [val_main_v14_apply, val_main_v13_apply]
  refine (congrArg (· + _) Ideal.ofBits_zero_f32).trans ((zero_add _).trans (Finset.sum_congr rfl fun k _ => ?_))
  have hk := k.isLt
  have e : idx_main_v9 (idx_main_v13 (idx_main_v14 j) k) = tokAt y k := funext fun a => Fin.ext (by
    match a with
    | ⟨0, _⟩ => dsimp only [idx_main_v9, idx_main_v13, idx_main_v14, tokAt]; omega
    | ⟨1, _⟩ => dsimp only [idx_main_v9, idx_main_v13, idx_main_v14, tokAt]; omega)
  rw [val_main_v12_apply, val_main_v2_apply, val_main_v9_apply, e]
  refine (mul_comm (x2 _) (x1 _)).trans (congrArg (x1 (tokAt y k) * ·) (congrArg x2 ?_))
  exact e

/-- The reference's three parts of the sums: the two sums over each sample, and zeros. -/
theorem ref_total (x1 x2 : S8192x1024.Idx → EReal) (y : S4x8x1024.Idx) :
    (val_main_v18 (F := Ideal) x1 x2 y : EReal) = total x1 x2 y := by
  have hy : (y 1).val < 8 := (y 1).isLt
  unfold val_main_v18 total
  by_cases h0 : (y 1).val = 0
  · rw [if_pos h0]
    refine (concatenate_apply_piece 1 _ _ y 0 (by show 0 < 3; omega) Cert.Reference25Ideal.S4x1x1024 (val_main_v11 (F := Ideal) x1) rfl rfl 0 rfl
      (fun a => match a with | ⟨0, _⟩ => y 0 | ⟨1, _⟩ => ⟨0, Nat.one_pos⟩ | ⟨2, _⟩ => y 2) (fun b hb => ?_) (by show 0 + 0 = (y 1).val; omega)).trans
      (ref_sum0 x1 _ y rfl rfl)
    match b with
    | ⟨0, _⟩ => rfl
    | ⟨1, _⟩ => exact absurd rfl hb
    | ⟨2, _⟩ => rfl
  · rw [if_neg h0]
    by_cases h1 : (y 1).val = 1
    · rw [if_pos h1]
      refine (concatenate_apply_piece 1 _ _ y 1 (by show 1 < 3; omega) Cert.Reference25Ideal.S4x1x1024 (val_main_v14 (F := Ideal) x1 x2) rfl rfl 1 rfl
        (fun a => match a with | ⟨0, _⟩ => y 0 | ⟨1, _⟩ => ⟨0, Nat.one_pos⟩ | ⟨2, _⟩ => y 2) (fun b hb => ?_) (by show 1 + 0 = (y 1).val; omega)).trans
        (ref_sum1 x1 x2 _ y rfl rfl)
      match b with
      | ⟨0, _⟩ => rfl
      | ⟨1, _⟩ => exact absurd rfl hb
      | ⟨2, _⟩ => rfl
    · rw [if_neg h1]
      refine (concatenate_apply_piece 1 _ _ y 2 (by show 2 < 3; omega) Cert.Reference25Ideal.S4x6x1024 (val_main_v17 (F := Ideal)) rfl rfl 2 rfl
        (fun a => match a with | ⟨0, _⟩ => y 0 | ⟨1, _⟩ => ⟨(y 1).val - 2, by show (y 1).val - 2 < 6; omega⟩ | ⟨2, _⟩ => y 2) (fun b hb => ?_)
        (by show 2 + ((y 1).val - 2) = (y 1).val; omega)).trans ?_
      · match b with
        | ⟨0, _⟩ => rfl
        | ⟨1, _⟩ => exact absurd rfl hb
        | ⟨2, _⟩ => rfl
      · rw [val_main_v17_apply]
        exact Ideal.ofBits_zero_f32

/-- The value claim: the kernel's arrays are the reference's, on every device. -/
theorem algebraic : Cert.algebraic_Kernel25Ideal_Reference25Ideal := by
  intro m ρ m' ρ' _ hag
  refine ⟨fun c => result4 m c, fun c => result5 m c, run_result m ρ, ?_⟩
  refine (θ_run Cert.Reference25Ideal.defs _ _).mono (fun r h c => ⟨?_, ?_, (h c).2.2⟩) (Cert.Reference25Ideal.Value.run (F := Ideal) m' ρ')
  · rw [(h c).1, (hag c).1, (hag c).2.1, (hag c).2.2.2]
    refine (val_main_v20_eq (F := Ideal) _ _ _).trans ?_
    funext i
    exact ref_grad (X0 m c) (X1 m c) (X3 m c) i
  · rw [(h c).2.1, (hag c).2.1, (hag c).2.2.1]
    refine (val_main_v18_eq (F := Ideal) _ _).trans ?_
    funext y
    exact ref_total (X1 m c) (X2 m c) y

/-- The reference runs and leaves its arguments as they were. -/
theorem ref_frame : Cert.quiescent_Reference25Ideal := fun m ρ _ =>
  (θ_run Cert.Reference25Ideal.defs _ _).mono (fun r h => ⟨fun c => (h c).2.2, Idealize.ShloMosaic.sem_eq_zero_of_no_sems (by decide) r.2⟩)
    (Cert.Reference25Ideal.Value.run (F := Ideal) m ρ)

end Cert.Kernel25Ideal.Mod

end
-- ==== Proof.Arr26.lean ====
module

public import proofs.«01_k».proof.Proof.Sums
public import proofs.«01_k».proof.Proof.Gen.Kernel26Ideal.Value
public import Idealize.ShloMosaic.PureOps.Ideal.Laws

/-! The array `Kernel26` (the first modulation, `x (1 + scale) + shift` per sample) writes. -/

@[expose] public section

set_option maxRecDepth 16384

noncomputable section

namespace Cert.Kernel26Ideal.Mod

open Cert.Kernel26Ideal Cert.Kernel26Ideal.Gen Cert.Kernel26Ideal.Value Idealize.ShloMosaic Idealize.ShloMosaic.TcCoe Idealize.SL.Sem

/-- What the arrays of every device hold. -/
abbrev Mem : Type := (ℓ : Loc nD τ sig) → Buf (Elt Ideal) ℓ

theorem hz2 : (![0, 0] : Fin 2 → Nat) = fun _ => 0 := funext fun a => by fin_cases a <;> rfl

/-- The element of a row of the modulation that meets a block's element. -/
abbrev at1 (i : S512x1024.Idx) : S1x1x1024.Idx := fun a => match a with
  | ⟨0, _⟩ => ⟨0, Nat.one_pos⟩
  | ⟨1, _⟩ => ⟨0, Nat.one_pos⟩
  | ⟨2, _⟩ => ⟨(i 1).val, (i 1).isLt⟩
/-- Row `r` of the modulation's block. -/
abbrev at9 (i : S512x1024.Idx) (r : Fin 9) : S1x9x1024.Idx := fun a => match a with
  | ⟨0, _⟩ => ⟨0, Nat.one_pos⟩
  | ⟨1, _⟩ => r
  | ⟨2, _⟩ => ⟨(i 1).val, (i 1).isLt⟩
/-- Row `r` of the modulation of the sample an element of the array lies in. -/
abbrev modAt (i : S8192x1024.Idx) (r : Fin 9) : S4x9x1024.Idx := fun a => match a with
  | ⟨0, _⟩ => ⟨(i 0).val / 2048, by have h : (i 0).val < 8192 := (i 0).isLt; show (i 0).val / 2048 < 4; omega⟩
  | ⟨1, _⟩ => r
  | ⟨2, _⟩ => ⟨(i 1).val, (i 1).isLt⟩

section AnyFloat

variable {F : FTy → Type} [FloatOps F]

/-- The modulation of one element. -/
def modulated (x shift scale : F .f32) : F .bf16 :=
  FloatOps.truncf .bf16 bitsLt_bf16_f32 (FloatOps.addf (FloatOps.mulf x (FloatOps.addf (FloatOps.ofBits .f32 0x3F800000#32) scale)) shift)

/-- A row of the modulation, spread over a block's rows. -/
theorem spread (w : FVec F S1x1024 .f32) (i : S512x1024.Idx) (k : S1x1024.Idx) (h0 : (k 0).val = 0) (h1 : (k 1).val = (i 1).val) :
    broadcastTo S512x1024 w broadcasts_S1x1024_S512x1024 i = w k :=
  broadcastTo_apply w broadcasts_S1x1024_S512x1024 i k (fun a => match a with
    | ⟨0, _⟩ => by show (k 0).val = if (1 : Nat) = 1 then 0 else _; rw [if_pos rfl, h0]
    | ⟨1, _⟩ => by show (k 1).val = if (1024 : Nat) = 1 then 0 else (i 1).val; rw [if_neg (by decide), h1])

/-- What the body stores, element by element. -/
theorem pay1_apply (v0 v2 : Vec F S1x1x1024 .f32) (v4 : Vec F S512x1024 .f32) (i : S512x1024.Idx) :
    k0_pay1 v0 v2 v4 i = modulated (v4 i) (v0 (at1 i)) (v2 (at1 i)) := by
  have d : ∀ v : Vec F S1x1x1024 .f32, shapeCast S1x1024 v shapeCasts_S1x1x1024_S1x1024 (fun a => match a with | ⟨0, _⟩ => ⟨0, Nat.one_pos⟩ | ⟨1, _⟩ => ⟨(i 1).val, (i 1).isLt⟩) = v (at1 i) :=
    fun v => Cert.Sums.drop_one v _ _ (at1 i) rfl rfl
  unfold k0_pay1 modulated
  rw [← d v0, ← d v2, ← spread (shapeCast S1x1024 v0 shapeCasts_S1x1x1024_S1x1024) i _ rfl rfl]
  refine congrArg (FloatOps.truncf .bf16 bitsLt_bf16_f32) (congrArg (FloatOps.addf · _) (congrArg (FloatOps.mulf (v4 i)) ?_))
  exact spread (addf (broadcast S1x1024 (FloatOps.ofBits .f32 0x3F800000#32)) (shapeCast S1x1024 v2 shapeCasts_S1x1x1024_S1x1024)) i _ rfl rfl

/-- What a point leaves, element by element. -/
theorem out_apply (x0 : Vec F S512x1024 .f32) (x1 : Vec F S1x9x1024 .f32) (i : S512x1024.Idx) :
    out0_2 x0 x1 i = modulated (x0 i) (x1 (at9 i 0)) (x1 (at9 i 1)) := by
  unfold out0_2
  rw [View.canon_unit_zero (S := S512x1024) hz2, View.ld_unit_zero (S := S512x1024) hz2, pay1_apply]
  refine congrArg₂ (modulated (x0 i)) (congrArg x1 (funext fun a => Fin.ext ?_)) (congrArg x1 (funext fun a => Fin.ext ?_))
  · match a with
    | ⟨0, _⟩ => rfl
    | ⟨1, _⟩ => rfl
    | ⟨2, _⟩ => show 0 + 1 * (i 1).val = (i 1).val; omega
  · match a with
    | ⟨0, _⟩ => rfl
    | ⟨1, _⟩ => rfl
    | ⟨2, _⟩ => show 0 + 1 * (i 1).val = (i 1).val; omega

end AnyFloat

/-- Argument `n`, as floats. -/
abbrev X0 (m : Mem) (c : Dev nD) : S8192x1024.Idx → Ideal .f32 := m (c.tc.loc main_arg0)
@[inherit_doc X0] abbrev X1 (m : Mem) (c : Dev nD) : S4x9x1024.Idx → Ideal .f32 := m (c.tc.loc main_arg1)

variable (m : Mem)

/-- The result, as contents of its array. -/
def result (c : Dev nD) : Buf (Elt Ideal) ((c : Thread nD τ).loc main_v0) :=
  fun i => modulated (F := Ideal) (X0 m c i) (X1 m c (modAt i 0)) (X1 m c (modAt i 1))

/-- The printed index maps over the grid. -/
theorem idx (t : Fin cfg0.N) : (win0_0.index t 0 = t.val ∧ win0_0.index t 1 = 0)
      ∧ (win0_1.index t 0 = t.val / 4 ∧ win0_1.index t 1 = 0 ∧ win0_1.index t 2 = 0) ∧ win0_2.index t 0 = t.val ∧ win0_2.index t 1 = 0 :=
  (by decide +kernel : ∀ t : Fin grid0.N, (win0_0.index t 0 = t.val ∧ win0_0.index t 1 = 0)
      ∧ (win0_1.index t 0 = t.val / 4 ∧ win0_1.index t 1 = 0 ∧ win0_1.index t 2 = 0) ∧ win0_2.index t 0 = t.val ∧ win0_2.index t 1 = 0) t

/-- The block of `x` at a point, read at an element. -/
theorem blk0_apply (c : Dev nD) (t : Fin cfg0.N) (j : S512x1024.Idx) (a : S8192x1024.Idx)
    (e0 : (a 0).val = t.val * 512 + (j 0).val) (e1 : (a 1).val = (j 1).val) :
    (iblk m c 0 t : S512x1024.Idx → Ideal .f32) j = X0 m c a := by
  unfold iblk
  rw [View.read_apply]
  refine congrArg (X0 m c) (funext fun x => Fin.ext ?_)
  have h := idx t
  match x with
  | ⟨0, _⟩ => show win0_0.index t 0 * 512 + 1 * (j 0).val = (a 0).val; rw [h.1.1, e0]; omega
  | ⟨1, _⟩ => show win0_0.index t 1 * 1024 + 1 * (j 1).val = (a 1).val; rw [h.1.2, e1]; omega

/-- The block of the modulation at a point, read at an element. -/
theorem blk1_apply (c : Dev nD) (t : Fin cfg0.N) (j : S1x9x1024.Idx) (a : S4x9x1024.Idx)
    (e0 : (a 0).val = t.val / 4) (e1 : (a 1).val = (j 1).val) (e2 : (a 2).val = (j 2).val) :
    (iblk m c 1 t : S1x9x1024.Idx → Ideal .f32) j = X1 m c a := by
  unfold iblk
  rw [View.read_apply]
  refine congrArg (X1 m c) (funext fun x => Fin.ext ?_)
  have h := idx t
  have h0 : (j 0).val < 1 := (j 0).isLt
  match x with
  | ⟨0, _⟩ => show win0_1.index t 0 * 1 + 1 * (j 0).val = (a 0).val; rw [h.2.1.1, e0]; omega
  | ⟨1, _⟩ => show win0_1.index t 1 * 9 + 1 * (j 1).val = (a 1).val; rw [h.2.1.2.1, e1]; omega
  | ⟨2, _⟩ => show win0_1.index t 2 * 1024 + 1 * (j 2).val = (a 2).val; rw [h.2.1.2.2, e2]; omega

/-- What a point leaves at an element is the result at the element's place in the array. -/
theorem out_eq (c : Dev nD) (t : Fin cfg0.N) (y : S512x1024.Idx) (i : S8192x1024.Idx)
    (e0 : (i 0).val = t.val * 512 + (y 0).val) (e1 : (i 1).val = (y 1).val) :
    out0_2 (F := Ideal) (iblk m c 0 t) (iblk m c 1 t) y = result m c i := by
  have hN : cfg0.N = 16 := N_0
  have ht := t.isLt
  have hy : (y 0).val < 512 := (y 0).isLt
  rw [out_apply]
  exact congr (congrArg₂ modulated (blk0_apply m c t y i e0 e1)
    (blk1_apply m c t (at9 y 0) (modAt i 0) (by show (i 0).val / 2048 = _; omega) rfl e1))
    (blk1_apply m c t (at9 y 1) (modAt i 1) (by show (i 0).val / 2048 = _; omega) rfl e1)

/-- What a point writes back is its block of the result array. -/
theorem flushed_eq (c : Dev nD) (t : Fin cfg0.N) :
    (dats m 0 c).flushed 2 t = ((cfg0.win 2).blk t).view.read (Elt Ideal) (result m c) := by
  rw [flushed2]
  funext y
  rw [View.read_apply]
  have h := idx t
  refine out_eq m c t y _ ?_ ?_
  · show win0_2.index t 0 * 512 + 1 * (y 0).val = _; rw [h.2.2.1]; omega
  · show win0_2.index t 1 * 1024 + 1 * (y 1).val = _; rw [h.2.2.2]; omega

/-- The blocks of window 2 cover its array. -/
theorem cover2 (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hN : cfg0.N = 16 := N_0
  refine ⟨⟨(i 0).val / 512, by omega⟩, flush0_2 _, ?_⟩
  generalize ht : (⟨(i 0).val / 512, _⟩ : Fin cfg0.N) = t
  have hv : t.val = (i 0).val / 512 := by rw [← ht]
  have h := idx t
  show i ∈ ((View.whole main_v0).slice (win0_2.rect t)).set
  rw [View.set_slice_whole, Rect.mem_set_unit]
  intro a
  match a with
  | ⟨0, _⟩ => show win0_2.index t 0 * 512 ≤ (i 0).val ∧ (i 0).val < win0_2.index t 0 * 512 + 512; rw [h.2.2.1]; omega
  | ⟨1, _⟩ => show win0_2.index t 1 * 1024 ≤ (i 1).val ∧ (i 1).val < win0_2.index t 1 * 1024 + 1024; rw [h.2.2.2]; omega

/-- The run, with the result array read. -/
theorem run_result (ρ : Dev nD → PrngReg) : θ_run defs (onTc (τ := τ) (main (F := Ideal))) ⟨m, fun _ => 0, ρ⟩ fun r => ∀ c : Dev nD,
      r.2.mem (c.tc.loc main_v0) = result m c
      ∧ r.2.mem (c.tc.loc main_arg0) = m (c.tc.loc main_arg0)
      ∧ r.2.mem (c.tc.loc main_arg1) = m (c.tc.loc main_arg1) :=
  (θ_run defs _ _).mono (fun _ h c => ⟨(h c).1.trans ((dats m 0 c).arrAt_eq_of_cover 2 (result m c) (fun t _ => flushed_eq m c t) cover2), (h c).2⟩)
    (run_blocks m ρ)

end Cert.Kernel26Ideal.Mod

end
-- ==== Proof.Eq26.lean ====
module

public import proofs.«01_k».proof.Defs
public import proofs.«01_k».proof.Proof.Arr26
public import proofs.«01_k».proof.Proof.Gen.Kernel26Ideal
public import proofs.«01_k».proof.Proof.Gen.Reference26Ideal
public import proofs.«01_k».proof.Proof.Gen.Reference26Ideal.Run
public import proofs.«01_k».proof.Proof.Gen.Reference26Ideal.Read

/-! `Kernel26` and its reference compute the same array over the extended reals. -/

@[expose] public section

set_option maxRecDepth 16384

noncomputable section

namespace Cert.Kernel26Ideal.Mod

open Cert.Kernel26Ideal Cert.Kernel26Ideal.Gen Cert.Kernel26Ideal.Value Idealize.ShloMosaic Idealize.ShloMosaic.TcCoe Idealize.SL.Sem

open Cert.Reference26Ideal.Read in
/-- The reference's result at an element is the same modulation, of the sample the element lies in. -/
theorem ref_apply (x : S8192x1024.Idx → Ideal .f32) (y : S4x9x1024.Idx → Ideal .f32) (i : S8192x1024.Idx) :
    val_main_v10 (F := Ideal) x y i = modulated (F := Ideal) (x i) (y (modAt i 0)) (y (modAt i 1)) := by
  have h0 : (i 0).val < 8192 := (i 0).isLt
  have h1 : (i 1).val < 1024 := (i 1).isLt
  rw [val_main_v10_apply, val_main_v9_apply, val_main_v8_apply, val_main_v7_apply, val_main_v1_apply, val_main_v6_apply, val_main_v5_apply, val_main_v4_apply,
    val_main_v3_apply, val_main_cst_apply, val_main_v2_apply, val_main_v0_apply]
  unfold modulated
  have ex : x (idx_main_v0 (idx_main_v9 i)) = x i := congrArg x (funext fun a => Fin.ext (by
    match a with
    | ⟨0, _⟩ => show _ = (i 0).val; dsimp only [idx_main_v0, idx_main_v9]; omega
    | ⟨1, _⟩ => show _ = (i 1).val; dsimp only [idx_main_v0, idx_main_v9]; omega))
  have e0 : y (idx_main_v1 (idx_main_v7 (idx_main_v9 i))) = y (modAt i 0) := congrArg y (funext fun a => Fin.ext (by
    match a with
    | ⟨0, _⟩ => dsimp only [idx_main_v1, idx_main_v7, idx_main_v9, modAt]; omega
    | ⟨1, _⟩ => rfl
    | ⟨2, _⟩ => dsimp only [idx_main_v1, idx_main_v7, idx_main_v9, modAt]; omega))
  have e1 : y (idx_main_v2 (idx_main_v5 (idx_main_v9 i))) = y (modAt i 1) := congrArg y (funext fun a => Fin.ext (by
    match a with
    | ⟨0, _⟩ => dsimp only [idx_main_v2, idx_main_v5, idx_main_v9, modAt]; omega
    | ⟨1, _⟩ => rfl
    | ⟨2, _⟩ => dsimp only [idx_main_v2, idx_main_v5, idx_main_v9, modAt]; omega))
  rw [ex, e0, e1]

/-- The value claim: the kernel's array is the reference's, on every device. -/
theorem algebraic : Cert.algebraic_Kernel26Ideal_Reference26Ideal := by
  intro m ρ m' ρ' _ hag
  refine ⟨fun c => result m c, run_result m ρ, ?_⟩
  refine (θ_run Cert.Reference26Ideal.defs _ _).mono (fun r h c => ⟨?_, (h c).2⟩) (Cert.Reference26Ideal.Value.run (F := Ideal) m' ρ')
  rw [(h c).1, (hag c).1, (hag c).2]
  refine (Cert.Reference26Ideal.Read.val_main_v10_eq (F := Ideal) _ _).trans ?_
  funext i
  exact ref_apply (X0 m c) (X1 m c) i

/-- The reference runs and leaves its arguments as they were. -/
theorem ref_frame : Cert.quiescent_Reference26Ideal := fun m ρ _ =>
  (θ_run Cert.Reference26Ideal.defs _ _).mono (fun r h => ⟨fun c => (h c).2, Idealize.ShloMosaic.sem_eq_zero_of_no_sems (by decide) r.2⟩)
    (Cert.Reference26Ideal.Value.run (F := Ideal) m ρ)

end Cert.Kernel26Ideal.Mod

end
-- ==== Proof.Arr2.lean ====
module

public import proofs.«01_k».proof.Proof.Sums
public import proofs.«01_k».proof.Proof.Gate
public import proofs.«01_k».proof.Proof.Gen.Kernel2Ideal.Value
public import Idealize.ShloMosaic.Lib.IdealHost

/-! The array `Kernel2` writes: at every element the backward product through the down projection, times the gate's gradient. -/

@[expose] public section

set_option maxRecDepth 16384

noncomputable section

namespace Cert.Kernel2Ideal.Gated

open Cert.Kernel2Ideal Cert.Kernel2Ideal.Gen Cert.Kernel2Ideal.Value Idealize.ShloMosaic Idealize.ShloMosaic.TcCoe Idealize.SL.Sem

/-- What the arrays of every device hold. -/
abbrev Mem : Type := (ℓ : Loc nD τ sig) → Buf (Elt Ideal) ℓ

/-! ## The products over the extended reals -/

/-- The left operand's element the product reads at output `i` and contraction index `k`. -/
abbrev lidx (i : S512x1408.Idx) (k : Fin 1024) : S512x1024.Idx := fun a => match a with
  | ⟨0, _⟩ => ⟨(i 0).val, (i 0).isLt⟩
  | ⟨1, _⟩ => ⟨k.val, k.isLt⟩
/-- The right operand's. -/
abbrev ridx (i : S512x1408.Idx) (k : Fin 1024) : S1408x1024.Idx := fun a => match a with
  | ⟨0, _⟩ => ⟨(i 1).val, (i 1).isLt⟩
  | ⟨1, _⟩ => ⟨k.val, k.isLt⟩
/-- The matrix unit's product is the accumulator plus the sum of products. -/
theorem mm_apply (x : FVec Ideal S512x1024 .bf16) (y : FVec Ideal S1408x1024 .bf16) (acc : FVec Ideal S512x1408 .f32) (i : S512x1408.Idx) :
    matmul dot_S512x1024_S1408x1024_S512x1408_1_1_0_0_n_n none x y acc i = acc i + ∑ k : Fin 1024, x (lidx i k) * y (ridx i k) :=
  Cert.Sums.mm_apply _ 1024 rfl rfl x y acc i (lidx i) (ridx i) (fun _ _ h a => match a with | ⟨0, _⟩ => rfl | ⟨1, _⟩ => h)
    fun _ _ h a => match a with | ⟨0, _⟩ => rfl | ⟨1, _⟩ => h

/-- The gate's logistic function as the kernel computes it: the exponential of minus the absolute value, chosen by the sign. -/
def sK (a : EReal) : EReal :=
  Ideal.div (Scalar.select (Ideal.cmp .oge a 0) 1 (Ideal.exp (0 - max a (-a)))) (1 + Ideal.exp (0 - max a (-a)))

/-- The first half of the result: the gradient by the gate's argument. -/
def da (p a g : EReal) : EReal := (p * g) * (sK a * (1 + a * (1 - sK a)))

/-- The second half: the gradient by the gated factor. -/
def dg (p a : EReal) : EReal := p * (a * sK a)

/-- The unit constant of the printed programs. -/
theorem one_f32 : (FloatOps.ofBits .f32 0x3F800000#32 : Ideal .f32) = (1 : EReal) := Ideal.ofBits_one_f32
theorem zero_f32 : (FloatOps.ofBits .f32 0x00000000#32 : Ideal .f32) = (0 : EReal) := Ideal.ofBits_zero_f32

/-- The product payload at an element. -/
theorem pay2_apply (x : Vec Ideal S512x1024 .bf16) (y : Vec Ideal S1408x1024 .bf16) (i : S512x1408.Idx) :
    (k0_pay2 x y i : EReal) = ∑ k : Fin 1024, (x (lidx i k) : EReal) * y (ridx i k) := by
  unfold k0_pay2
  rw [mm_apply]
  show (FloatOps.ofBits .f32 0x00000000#32 : Ideal .f32) + _ = _
  rw [zero_f32, zero_add]

/-- The gate's argument at an element. -/
theorem pay3_apply (x : Vec Ideal S1x512x1408 .bf16) (i : S512x1408.Idx) (j : S1x512x1408.Idx) (e0 : (j 1).val = (i 0).val) (e1 : (j 2).val = (i 1).val) :
    (k0_pay3 x i : EReal) = x j := by
  unfold k0_pay3
  exact Cert.Sums.drop_one x _ i j e0 e1

/-- The stored first half at an element. -/
theorem pay4_apply (x : Vec Ideal S512x1024 .bf16) (y : Vec Ideal S1408x1024 .bf16) (a g : Vec Ideal S1x512x1408 .bf16) (j : S1x512x1408.Idx)
    (i : S512x1408.Idx) (e0 : (j 1).val = (i 0).val) (e1 : (j 2).val = (i 1).val) :
    (k0_pay4 x y a g j : EReal) = da (∑ k : Fin 1024, (x (lidx i k) : EReal) * y (ridx i k)) (a j) (g j) := by
  rw [← pay2_apply, ← pay3_apply a i j e0 e1]
  have hg : (shapeCast S512x1408 g shapeCasts_S1x512x1408_S512x1408 i : EReal) = g j := Cert.Sums.drop_one g _ i j e0 e1
  rw [← hg]
  unfold k0_pay4
  refine (Cert.Sums.add_one _ _ j i e0 e1).trans ?_
  unfold da sK
  rw [← zero_f32, ← one_f32]
  rfl

/-- The stored second half at an element. -/
theorem pay1_apply (p a t : FVec Ideal S512x1408 .f32) (j : S1x512x1408.Idx) (i : S512x1408.Idx) (e0 : (j 1).val = (i 0).val) (e1 : (j 2).val = (i 1).val)
    (ht : (t i : EReal) = Ideal.exp (0 - max (a i : EReal) (-(a i : EReal)))) :
    (k0_pay1 p a t j : EReal) = dg (p i) (a i) := by
  unfold k0_pay1
  refine (Cert.Sums.add_one _ _ j i e0 e1).trans ?_
  unfold dg sK
  rw [← ht, ← zero_f32, ← one_f32]
  rfl

/-- The exponential both halves share. -/
theorem pay5_apply (x : Vec Ideal S1x512x1408 .bf16) (i : S512x1408.Idx) :
    (k0_pay5 x i : EReal) = Ideal.exp (0 - max (k0_pay3 x i : EReal) (-(k0_pay3 x i : EReal))) := by
  rw [← zero_f32]
  rfl

/-- The three operands, with extended reals as elements; and a window's block. -/
def X0 (m : Mem) (c : Dev nD) : S8192x1024.Idx → EReal := m (c.tc.loc main_arg0)
@[inherit_doc X0] def X1 (m : Mem) (c : Dev nD) : S2816x1024.Idx → EReal := m (c.tc.loc main_arg1)
@[inherit_doc X0] def X2 (m : Mem) (c : Dev nD) : S2x8192x2816.Idx → EReal := m (c.tc.loc main_arg2)
@[inherit_doc X0] def B0 (m : Mem) (c : Dev nD) (t : Fin cfg0.N) : S512x1024.Idx → EReal := iblk m c 0 t
@[inherit_doc X0] def B1 (m : Mem) (c : Dev nD) (t : Fin cfg0.N) : S1408x1024.Idx → EReal := iblk m c 1 t
@[inherit_doc X0] def B2 (m : Mem) (c : Dev nD) (t : Fin cfg0.N) : S2x512x1408.Idx → EReal := iblk m c 2 t

/-- The printed index map of window 0, over the grid. -/
theorem idx0 : ∀ t : Fin grid0.N, win0_0.index t 0 = t.val % 16 ∧ win0_0.index t 1 = 0 := by decide +kernel

/-- Window 0's block at a point, read at an element, is the array at the block's offset plus the element. -/
theorem blk0_apply (m : Mem) (c : Dev nD) (t : Fin cfg0.N) (j : S512x1024.Idx) (a : S8192x1024.Idx)
    (e0 : (a 0).val = (t.val % 16) * 512 + (j 0).val) (e1 : (a 1).val = (0) * 1024 + (j 1).val) :
    B0 m c t j = X0 m c a := by
  unfold B0 iblk
  rw [View.read_apply]
  refine congrArg (X0 m c) (funext fun x => Fin.ext ?_)
  have h := idx0 t
  match x with
  | ⟨0, _⟩ => show win0_0.index t 0 * 512 + 1 * (j 0).val = (a 0).val; rw [h.1, e0]; omega
  | ⟨1, _⟩ => show win0_0.index t 1 * 1024 + 1 * (j 1).val = (a 1).val; rw [h.2, e1]; omega

@[inherit_doc idx0] theorem idx1 : ∀ t : Fin grid0.N, win0_1.index t 0 = t.val / 16 ∧ win0_1.index t 1 = 0 := by decide +kernel

@[inherit_doc blk0_apply] theorem blk1_apply (m : Mem) (c : Dev nD) (t : Fin cfg0.N) (j : S1408x1024.Idx) (a : S2816x1024.Idx)
    (e0 : (a 0).val = (t.val / 16) * 1408 + (j 0).val) (e1 : (a 1).val = (0) * 1024 + (j 1).val) :
    B1 m c t j = X1 m c a := by
  unfold B1 iblk
  rw [View.read_apply]
  refine congrArg (X1 m c) (funext fun x => Fin.ext ?_)
  have h := idx1 t
  match x with
  | ⟨0, _⟩ => show win0_1.index t 0 * 1408 + 1 * (j 0).val = (a 0).val; rw [h.1, e0]; omega
  | ⟨1, _⟩ => show win0_1.index t 1 * 1024 + 1 * (j 1).val = (a 1).val; rw [h.2, e1]; omega

@[inherit_doc idx0] theorem idx2 : ∀ t : Fin grid0.N, win0_2.index t 0 = 0 ∧ win0_2.index t 1 = t.val % 16 ∧ win0_2.index t 2 = t.val / 16 := by decide +kernel

@[inherit_doc blk0_apply] theorem blk2_apply (m : Mem) (c : Dev nD) (t : Fin cfg0.N) (j : S2x512x1408.Idx) (a : S2x8192x2816.Idx)
    (e0 : (a 0).val = (0) * 2 + (j 0).val) (e1 : (a 1).val = (t.val % 16) * 512 + (j 1).val) (e2 : (a 2).val = (t.val / 16) * 1408 + (j 2).val) :
    B2 m c t j = X2 m c a := by
  unfold B2 iblk
  rw [View.read_apply]
  refine congrArg (X2 m c) (funext fun x => Fin.ext ?_)
  have h := idx2 t
  match x with
  | ⟨0, _⟩ => show win0_2.index t 0 * 2 + 1 * (j 0).val = (a 0).val; rw [h.1, e0]; omega
  | ⟨1, _⟩ => show win0_2.index t 1 * 512 + 1 * (j 1).val = (a 1).val; rw [h.2.1, e1]; omega
  | ⟨2, _⟩ => show win0_2.index t 2 * 1408 + 1 * (j 2).val = (a 2).val; rw [h.2.2, e2]; omega

/-- The indices the backward product reads, for row `r` and column `q` of the hidden layer. -/
abbrev lArr (i : S2x8192x2816.Idx) (k : Fin 1024) : S8192x1024.Idx := fun a => match a with
  | ⟨0, _⟩ => ⟨(i 1).val, (i 1).isLt⟩
  | ⟨1, _⟩ => ⟨k.val, k.isLt⟩
@[inherit_doc lArr] abbrev rArr (i : S2x8192x2816.Idx) (k : Fin 1024) : S2816x1024.Idx := fun a => match a with
  | ⟨0, _⟩ => ⟨(i 2).val, (i 2).isLt⟩
  | ⟨1, _⟩ => ⟨k.val, k.isLt⟩
/-- The element of half `h` in `i`'s row and column. -/
abbrev half (h : Fin 2) (i : S2x8192x2816.Idx) : S2x8192x2816.Idx := fun a => match a with
  | ⟨0, _⟩ => ⟨h.val, h.isLt⟩
  | ⟨1, _⟩ => ⟨(i 1).val, (i 1).isLt⟩
  | ⟨2, _⟩ => ⟨(i 2).val, (i 2).isLt⟩

/-- The array `Kernel2` writes, of its three operands. -/
def gradH (x : S8192x1024.Idx → EReal) (w : S2816x1024.Idx → EReal) (h : S2x8192x2816.Idx → EReal) (i : S2x8192x2816.Idx) : EReal :=
  if (i 0).val = 0 then da (∑ k : Fin 1024, x (lArr i k) * w (rArr i k)) (h (half 0 i)) (h (half 1 i))
  else dg (∑ k : Fin 1024, x (lArr i k) * w (rArr i k)) (h (half 0 i))

variable (m : Mem)

/-- The same as contents of the result array. -/
def result (c : Dev nD) : Buf (Elt Ideal) ((c : Thread nD τ).loc main_v0) := gradH (X0 m c) (X1 m c) (X2 m c)

theorem hz : (![0, 0] : Fin 2 → Nat) = fun _ => 0 := funext fun a => by fin_cases a <;> rfl

/-- The printed index map of the result's window. -/
theorem idx3 : ∀ t : Fin grid0.N, win0_3.index t 0 = 0 ∧ win0_3.index t 1 = t.val % 16 ∧ win0_3.index t 2 = t.val / 16 := by decide +kernel

/-- The two stores of a point, read in the first half. -/
theorem stored_first (p0 p1 : Vec Ideal S1x512x1408 .bf16) (y : S2x512x1408.Idx) (x : S1x512x1408.Idx) (h0 : (y 0).val = 0) (h1 : (y 1).val = (x 1).val) (h2 : (y 2).val = (x 2).val) :
    View.canon (Val := Elt Ideal) [⟨r0_3, p0⟩, ⟨r0_2, p1⟩] y = p1 x := by
  have hn : y ∉ r0_3.set := by
    rw [Rect.mem_set_unit]
    intro hh
    have : 1 ≤ (y 0).val := (hh 0).1
    omega
  have hx : (x 0).val < 1 := (x 0).isLt
  have hy : y = r0_2.emb x := by
    funext a
    apply Fin.ext
    match a with
    | ⟨0, _⟩ => show (y 0).val = 0 + 1 * (x 0).val; omega
    | ⟨1, _⟩ => show (y 1).val = 0 + 1 * (x 1).val; omega
    | ⟨2, _⟩ => show (y 2).val = 0 + 1 * (x 2).val; omega
  refine (View.canon_cons_of_not_mem (Val := Elt Ideal) ⟨r0_3, p0⟩ [⟨r0_2, p1⟩] hn).trans ?_
  rw [hy]
  exact View.canon_cons_emb (Val := Elt Ideal) r0_2 p1 [] x

/-- And in the second half. -/
theorem stored_second (p0 p1 : Vec Ideal S1x512x1408 .bf16) (y : S2x512x1408.Idx) (x : S1x512x1408.Idx) (h0 : (y 0).val = 1) (h1 : (y 1).val = (x 1).val) (h2 : (y 2).val = (x 2).val) :
    View.canon (Val := Elt Ideal) [⟨r0_3, p0⟩, ⟨r0_2, p1⟩] y = p0 x := by
  have hx : (x 0).val < 1 := (x 0).isLt
  have hy : y = r0_3.emb x := by
    funext a
    apply Fin.ext
    match a with
    | ⟨0, _⟩ => show (y 0).val = 1 + 1 * (x 0).val; omega
    | ⟨1, _⟩ => show (y 1).val = 0 + 1 * (x 1).val; omega
    | ⟨2, _⟩ => show (y 2).val = 0 + 1 * (x 2).val; omega
  rw [hy]
  exact View.canon_cons_emb (Val := Elt Ideal) r0_3 p0 _ x

/-- What a point leaves in the result's block, at an element. -/
theorem out_apply (c : Dev nD) (t : Fin cfg0.N) (y : S2x512x1408.Idx) (i : S2x8192x2816.Idx)
    (e0 : (i 0).val = (y 0).val) (e1 : (i 1).val = (t.val % 16) * 512 + (y 1).val) (e2 : (i 2).val = (t.val / 16) * 1408 + (y 2).val) :
    (out0_3 (iblk m c 0 t) (iblk m c 1 t) (iblk m c 2 t) y : EReal) = gradH (X0 m c) (X1 m c) (X2 m c) i := by
  have hy0 : (y 0).val < 2 := (y 0).isLt
  let x : S1x512x1408.Idx := fun a => match a with
    | ⟨0, _⟩ => ⟨0, Nat.one_pos⟩
    | ⟨1, _⟩ => ⟨(y 1).val, (y 1).isLt⟩
    | ⟨2, _⟩ => ⟨(y 2).val, (y 2).isLt⟩
  let z : S512x1408.Idx := fun a => match a with
    | ⟨0, _⟩ => ⟨(y 1).val, (y 1).isLt⟩
    | ⟨1, _⟩ => ⟨(y 2).val, (y 2).isLt⟩
  have hsum : (∑ k : Fin 1024, B0 m c t (lidx z k) * B1 m c t (ridx z k)) = ∑ k : Fin 1024, X0 m c (lArr i k) * X1 m c (rArr i k) :=
    Finset.sum_congr rfl fun k _ => congrArg₂ (· * ·)
      (blk0_apply m c t (lidx z k) (lArr i k) e1 (by show k.val = 0 * 1024 + k.val; omega))
      (blk1_apply m c t (ridx z k) (rArr i k) e2 (by show k.val = 0 * 1024 + k.val; omega))
  have ha : (View.ld (iblk m c 2 t) r0_2 x : EReal) = X2 m c (half 0 i) :=
    blk2_apply m c t _ (half 0 i) rfl (e1.trans (by show _ = _ + (0 + 1 * (y 1).val); omega)) (e2.trans (by show _ = _ + (0 + 1 * (y 2).val); omega))
  have hg : (View.ld (iblk m c 2 t) r0_3 x : EReal) = X2 m c (half 1 i) :=
    blk2_apply m c t _ (half 1 i) rfl (e1.trans (by show _ = _ + (0 + 1 * (y 1).val); omega)) (e2.trans (by show _ = _ + (0 + 1 * (y 2).val); omega))
  unfold out0_3 gradH
  rw [View.ld_unit_zero hz, View.ld_unit_zero hz]
  by_cases h : (y 0).val = 0
  · rw [if_pos (e0.trans h)]
    refine (stored_first _ _ y x h rfl rfl).trans ?_
    refine (pay4_apply (iblk m c 0 t) (iblk m c 1 t) _ _ x z rfl rfl).trans ?_
    exact congr (congr (congrArg da hsum) ha) hg
  · rw [if_neg (fun h' => h (e0.symm.trans h'))]
    refine (stored_second _ _ y x (by omega) rfl rfl).trans ?_
    refine (pay1_apply _ _ _ x z rfl rfl (pay5_apply _ z)).trans ?_
    exact congr (congrArg dg ((pay2_apply (iblk m c 0 t) (iblk m c 1 t) z).trans hsum)) ((pay3_apply _ z x rfl rfl).trans ha)

/-- What a point writes back is its block of the result array. -/
theorem flushed_eq (c : Dev nD) (t : Fin cfg0.N) :
    (dats m 0 c).flushed 3 t = ((cfg0.win 3).blk t).view.read (Elt Ideal) (result m c) := by
  rw [flushed3]
  funext y
  rw [View.read_apply]
  have h := idx3 t
  refine out_apply m c t y _ ?_ ?_ ?_
  · show win0_3.index t 0 * 2 + 1 * (y 0).val = (y 0).val; rw [h.1]; omega
  · show win0_3.index t 1 * 512 + 1 * (y 1).val = _; rw [h.2.1]; omega
  · show win0_3.index t 2 * 1408 + 1 * (y 2).val = _; rw [h.2.2]; omega

/-- The blocks cover the result array. -/
theorem cover (i : S2x8192x2816.Idx) : ∃ t : Fin cfg0.N, (cfg0.win 3).flush t = true ∧ i ∈ ((cfg0.win 3).blk t).view.set := by
  have h0 : (i 0).val < 2 := (i 0).isLt
  have h1 : (i 1).val < 8192 := (i 1).isLt
  have h2 : (i 2).val < 2816 := (i 2).isLt
  have hN : cfg0.N = 32 := N_0
  refine ⟨⟨(i 2).val / 1408 * 16 + (i 1).val / 512, by omega⟩, flush0_3 _, ?_⟩
  generalize ht : (⟨(i 2).val / 1408 * 16 + (i 1).val / 512, _⟩ : Fin cfg0.N) = t
  have hv : t.val = (i 2).val / 1408 * 16 + (i 1).val / 512 := by rw [← ht]
  have h := idx3 t
  show i ∈ ((View.whole main_v0).slice (win0_3.rect t)).set
  rw [View.set_slice_whole, Rect.mem_set_unit]
  intro a
  match a with
  | ⟨0, _⟩ => show win0_3.index t 0 * 2 ≤ (i 0).val ∧ (i 0).val < win0_3.index t 0 * 2 + 2; rw [h.1]; omega
  | ⟨1, _⟩ => show win0_3.index t 1 * 512 ≤ (i 1).val ∧ (i 1).val < win0_3.index t 1 * 512 + 512; rw [h.2.1]; omega
  | ⟨2, _⟩ => show win0_3.index t 2 * 1408 ≤ (i 2).val ∧ (i 2).val < win0_3.index t 2 * 1408 + 1408; rw [h.2.2]; omega

/-- The run, with the result array read. -/
theorem run_result (ρ : Dev nD → PrngReg) : θ_run defs (onTc (τ := τ) (main (F := Ideal))) ⟨m, fun _ => 0, ρ⟩ fun r => ∀ c : Dev nD,
      r.2.mem (c.tc.loc main_v0) = result m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun _ h c => ⟨(h c).1.trans ((dats m 0 c).arrAt_eq_of_cover 3 (result m c) (fun t _ => flushed_eq m c t) cover), (h c).2⟩)
    (run_blocks m ρ)

end Cert.Kernel2Ideal.Gated

end
-- ==== Proof.Eq2.lean ====
module

public import proofs.«01_k».proof.Defs
public import proofs.«01_k».proof.Proof.Arr2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2

/-! `Kernel2` and its reference compute the same array over the extended reals, at finite operands. -/

@[expose] public section

set_option maxRecDepth 16384

noncomputable section

namespace Cert.Kernel2Ideal.Gated

open Cert.Kernel2Ideal Cert.Kernel2Ideal.Gen Cert.Kernel2Ideal.Value Idealize.ShloMosaic Idealize.ShloMosaic.TcCoe Idealize.SL.Sem

/-- The kernel's logistic function at a real number. -/
theorem sK_real (a : ℝ) : sK (a : EReal) = (Cert.Gate.sg a : EReal) := by
  rw [← Cert.Gate.folded a]
  unfold sK
  refine congrArg (fun x => Ideal.div x _) ?_
  by_cases h : (0 : EReal) ≤ (a : EReal)
  · rw [if_pos h]
    show (if BitVec.ofBool (decide ((0 : EReal) ≤ (a : EReal))) = 1 then (1 : EReal) else _) = 1
    rw [decide_eq_true h]
    rfl
  · rw [if_neg h]
    show (if BitVec.ofBool (decide ((0 : EReal) ≤ (a : EReal))) = 1 then (1 : EReal) else _) = _
    rw [decide_eq_false h]
    rfl

/-- The reference's logistic function. -/
def sR (a : EReal) : EReal := Ideal.div 1 (1 + Ideal.exp (-a))

open Cert.Reference2Ideal.Read in
/-- The reference's gate stages at an element, of the two halves of the hidden layer. -/
theorem gate_stage (h : S2x8192x2816.Idx → EReal) (j : Cert.Reference2Ideal.S8192x2816.Idx) :
    (val_main_v8_2 (F := Ideal) h j : EReal) = sR (val_main_v2 (F := Ideal) h j : EReal) := by
  unfold sR
  rw [← one_f32]
  rw [val_main_v8_2_apply, val_main_call0_v3_apply, val_main_call0_v4_apply, val_main_call0_v2_apply]
  rfl

open Cert.Reference2Ideal.Read in
/-- The gate's argument is the first half's element. -/
theorem arg_stage (h : S2x8192x2816.Idx → EReal) (i : S2x8192x2816.Idx) (j : Cert.Reference2Ideal.S8192x2816.Idx) (e0 : (j 0).val = (i 1).val) (e1 : (j 1).val = (i 2).val) :
    (val_main_v2 (F := Ideal) h j : EReal) = h (half 0 i) := by
  show (val_main_v1 (F := Ideal) h j : EReal) = _
  rw [val_main_v1_apply, val_main_v0_apply]
  refine congrArg h (funext fun a => Fin.ext ?_)
  have h0 : (i 1).val < 8192 := (i 1).isLt
  have h1 : (i 2).val < 2816 := (i 2).isLt
  match a with
  | ⟨0, _⟩ => rfl
  | ⟨1, _⟩ => show ((j 0).val * 2816 + (j 1).val) / 2816 % 8192 = (i 1).val; rw [e0, e1]; omega
  | ⟨2, _⟩ => show ((j 0).val * 2816 + (j 1).val) % 2816 = (i 2).val; rw [e0, e1]; omega

open Cert.Reference2Ideal.Read in
/-- The gated factor is the second half's element. -/
theorem fac_stage (h : S2x8192x2816.Idx → EReal) (i : S2x8192x2816.Idx) (j : Cert.Reference2Ideal.S8192x2816.Idx) (e0 : (j 0).val = (i 1).val) (e1 : (j 1).val = (i 2).val) :
    (val_main_v5 (F := Ideal) h j : EReal) = h (half 1 i) := by
  show (val_main_v4 (F := Ideal) h j : EReal) = _
  rw [val_main_v4_apply, val_main_v3_apply]
  refine congrArg h (funext fun a => Fin.ext ?_)
  have h0 : (i 1).val < 8192 := (i 1).isLt
  have h1 : (i 2).val < 2816 := (i 2).isLt
  match a with
  | ⟨0, _⟩ => rfl
  | ⟨1, _⟩ => show ((j 0).val * 2816 + (j 1).val) / 2816 % 8192 = (i 1).val; rw [e0, e1]; omega
  | ⟨2, _⟩ => show ((j 0).val * 2816 + (j 1).val) % 2816 = (i 2).val; rw [e0, e1]; omega

open Cert.Reference2Ideal.Read in
/-- The reference's backward product at an element. -/
theorem prod_stage (x : S8192x1024.Idx → EReal) (w : S2816x1024.Idx → EReal) (i : S2x8192x2816.Idx) (j : Cert.Reference2Ideal.S8192x2816.Idx) (e0 : (j 0).val = (i 1).val) (e1 : (j 1).val = (i 2).val) :
    (val_main_v11 (F := Ideal) x w j : EReal) = ∑ k : Fin 1024, x (lArr i k) * w (rArr i k) := by
  rw [val_main_v11_apply]
  refine Finset.sum_congr rfl fun k _ => ?_
  show x _ * w _ = _
  refine congrArg₂ (· * ·) (congrArg x (funext fun a => Fin.ext ?_)) (congrArg w (funext fun a => Fin.ext ?_))
  · match a with
    | ⟨0, _⟩ => exact e0
    | ⟨1, _⟩ => rfl
  · match a with
    | ⟨0, _⟩ => exact e1
    | ⟨1, _⟩ => rfl

open Cert.Reference2Ideal.Read in
/-- The reference's result at an element of either half. -/
theorem ref_first (x : S8192x1024.Idx → EReal) (w : S2816x1024.Idx → EReal) (h : S2x8192x2816.Idx → EReal) (i : S2x8192x2816.Idx) (hi : (i 0).val = 0) :
    (val_main_v18 (F := Ideal) x w h i : EReal)
      = ((∑ k : Fin 1024, x (lArr i k) * w (rArr i k)) * h (half 1 i)) * sR (h (half 0 i))
        + (h (half 0 i) * ((∑ k : Fin 1024, x (lArr i k) * w (rArr i k)) * h (half 1 i))) * (sR (h (half 0 i)) * (1 - sR (h (half 0 i)))) := by
  let q : Cert.Reference2Ideal.S1x8192x2816.Idx := fun a => match a with
    | ⟨0, _⟩ => ⟨0, Nat.one_pos⟩
    | ⟨1, _⟩ => ⟨(i 1).val, (i 1).isLt⟩
    | ⟨2, _⟩ => ⟨(i 2).val, (i 2).isLt⟩
  have e : (val_main_v17 (F := Ideal) x w h i : EReal) = val_main_v15 (F := Ideal) x w h q := by
    unfold val_main_v17
    exact concatenate_pair_apply_left (s₁ := Cert.Reference2Ideal.S1x8192x2816) (s₂ := Cert.Reference2Ideal.S1x8192x2816) (0 : Fin 3) _ _ _ i rfl q (fun a => match a with
      | ⟨0, _⟩ => hi.symm
      | ⟨1, _⟩ => rfl
      | ⟨2, _⟩ => rfl)
  show (val_main_v17 (F := Ideal) x w h i : EReal) = _
  rw [e, val_main_v15_apply, ← arg_stage h i (idx_main_v15 q) rfl rfl, ← fac_stage h i (idx_main_v15 q) rfl rfl, ← prod_stage x w i (idx_main_v15 q) rfl rfl,
    ← gate_stage, ← one_f32]
  rw [val_main_v14_apply, val_main_call1_v1_apply, val_main_call1_v2_apply, val_main_call1_v0_apply, val_main_v13_apply, val_main_v8_1_apply, val_main_call0_v7_apply, val_main_call0_v6_apply]
  rfl

open Cert.Reference2Ideal.Read in
@[inherit_doc ref_first] theorem ref_second (x : S8192x1024.Idx → EReal) (w : S2816x1024.Idx → EReal) (h : S2x8192x2816.Idx → EReal) (i : S2x8192x2816.Idx) (hi : (i 0).val = 1) :
    (val_main_v18 (F := Ideal) x w h i : EReal)
      = (h (half 0 i) * sR (h (half 0 i))) * ∑ k : Fin 1024, x (lArr i k) * w (rArr i k) := by
  let q : Cert.Reference2Ideal.S1x8192x2816.Idx := fun a => match a with
    | ⟨0, _⟩ => ⟨0, Nat.one_pos⟩
    | ⟨1, _⟩ => ⟨(i 1).val, (i 1).isLt⟩
    | ⟨2, _⟩ => ⟨(i 2).val, (i 2).isLt⟩
  have e : (val_main_v17 (F := Ideal) x w h i : EReal) = val_main_v16 (F := Ideal) x w h q := by
    unfold val_main_v17
    exact concatenate_pair_apply_right (s₁ := Cert.Reference2Ideal.S1x8192x2816) (s₂ := Cert.Reference2Ideal.S1x8192x2816) (0 : Fin 3) _ _ _ i rfl rfl q (fun a => match a with
      | ⟨0, _⟩ => fun hn => absurd rfl hn
      | ⟨1, _⟩ => fun _ => rfl
      | ⟨2, _⟩ => fun _ => rfl) (by show 0 + 1 = (i 0).val; omega)
  show (val_main_v17 (F := Ideal) x w h i : EReal) = _
  rw [e, val_main_v16_apply, ← arg_stage h i (idx_main_v16 q) rfl rfl, ← prod_stage x w i (idx_main_v16 q) rfl rfl, ← gate_stage]
  rw [val_main_v12_apply, val_main_v8_0_apply]
  rfl

/-- The reference's result is the kernel's, where the operands are real. -/
theorem ref_apply (x : S8192x1024.Idx → EReal) (w : S2816x1024.Idx → EReal) (h : S2x8192x2816.Idx → EReal)
    (hx : ∀ i, ∃ r : ℝ, x i = r) (hw : ∀ i, ∃ r : ℝ, w i = r) (hh : ∀ i, ∃ r : ℝ, h i = r) (i : S2x8192x2816.Idx) :
    (Cert.Reference2Ideal.Read.val_main_v18 (F := Ideal) x w h i : EReal) = gradH x w h i := by
  obtain ⟨p, hp⟩ := Cert.Gate.sum_real (fun k => x (lArr i k)) (fun k => w (rArr i k)) (fun k => hx _) (fun k => hw _)
  obtain ⟨a, ha⟩ := hh (half 0 i)
  obtain ⟨g, hg⟩ := hh (half 1 i)
  have hs : sR (a : EReal) = (Cert.Gate.sg a : EReal) := Cert.Gate.plain a
  have hlt : (i 0).val < 2 := (i 0).isLt
  unfold gradH
  by_cases hi : (i 0).val = 0
  · rw [if_pos hi, ref_first x w h i hi, hp, ha, hg, hs]
    unfold da
    rw [sK_real, ← EReal.coe_mul]
    exact (Cert.Gate.slope (p * g) a (Cert.Gate.sg a)).symm
  · rw [if_neg hi, ref_second x w h i (by omega), hp, ha, hs]
    unfold dg
    rw [sK_real, mul_comm]

/-- A comparison of a difference with zero that holds everywhere makes every element real. -/
theorem real_of_cmp (x : EReal) (h : Ideal.cmp .oeq (x - x) 0 = 1#1) : ∃ r : ℝ, x = r := by
  refine Cert.Gate.real_of_sub x ?_
  by_contra hn
  have : Ideal.cmp .oeq (x - x) 0 = BitVec.ofBool (decide (x - x = 0)) := rfl
  rw [this, decide_eq_false hn] at h
  exact absurd h (by decide)

/-- The precondition makes the operands real. -/
theorem pre_real (x : S8192x1024.Idx → EReal) (w : S2816x1024.Idx → EReal) (h : S2x8192x2816.Idx → EReal)
    (hp : (Cert.Pre_finite2.fn (F := Ideal) x w h).1 = (fun _ => 1#1) ∧ (Cert.Pre_finite2.fn (F := Ideal) x w h).2.1 = (fun _ => 1#1) ∧ (Cert.Pre_finite2.fn (F := Ideal) x w h).2.2 = (fun _ => 1#1)) :
    (∀ i, ∃ r : ℝ, x i = r) ∧ (∀ i, ∃ r : ℝ, w i = r) ∧ (∀ i, ∃ r : ℝ, h i = r) := by
  obtain ⟨h0, h1, h2⟩ := hp
  refine ⟨fun i => real_of_cmp _ ?_, fun i => real_of_cmp _ ?_, fun i => real_of_cmp _ ?_⟩
  · rw [← zero_f32]; exact congrFun h0 i
  · rw [← zero_f32]; exact congrFun h1 i
  · rw [← zero_f32]; exact congrFun h2 i

/-- The value claim: the kernel's array is the reference's, on every device. -/
theorem algebraic : Cert.algebraic_Kernel2Ideal_Reference2Ideal_pre_finite2 := by
  intro m ρ m' ρ' hpre hag
  refine ⟨fun c => result m c, run_result m ρ, ?_⟩
  refine (θ_run Cert.Reference2Ideal.defs _ _).mono (fun r h c => ⟨?_, (h c).2⟩) (Cert.Reference2Ideal.Value.run (F := Ideal) m' ρ')
  rw [(h c).1, (hag c).1, (hag c).2.1, (hag c).2.2]
  refine (Cert.Reference2Ideal.Read.val_main_v18_eq (F := Ideal) _ _ _).trans ?_
  obtain ⟨hx, hw, hh⟩ := pre_real (X0 m c) (X1 m c) (X2 m c) (hpre c)
  funext i
  exact ref_apply (X0 m c) (X1 m c) (X2 m c) hx hw hh i

end Cert.Kernel2Ideal.Gated

end
-- ==== Proof.lean ====
module

public import proofs.«01_k».proof.Defs
public import proofs.«01_k».proof.Proof.P.Frame
public import proofs.«01_k».proof.Proof.PI.Frame
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Eq3
public import proofs.«01_k».proof.Proof.Gen.Kernel4
public import proofs.«01_k».proof.Proof.Gen.Kernel4.Frame
public import proofs.«01_k».proof.Proof.Eq4
public import proofs.«01_k».proof.Proof.Gen.Kernel5
public import proofs.«01_k».proof.Proof.Gen.Kernel5.Frame
public import proofs.«01_k».proof.Proof.Eq5
public import proofs.«01_k».proof.Proof.Gen.Kernel6
public import proofs.«01_k».proof.Proof.Gen.Kernel6.Frame
public import proofs.«01_k».proof.Proof.Eq6
public import proofs.«01_k».proof.Proof.Gen.Kernel7
public import proofs.«01_k».proof.Proof.Gen.Kernel7.Frame
public import proofs.«01_k».proof.Proof.Eq7
public import proofs.«01_k».proof.Proof.Gen.Kernel8
public import proofs.«01_k».proof.Proof.Gen.Kernel8.Frame
public import proofs.«01_k».proof.Proof.Eq8
public import proofs.«01_k».proof.Proof.Gen.Kernel9
public import proofs.«01_k».proof.Proof.Gen.Kernel9.Frame
public import proofs.«01_k».proof.Proof.Eq9
public import proofs.«01_k».proof.Proof.Gen.Kernel10
public import proofs.«01_k».proof.Proof.Gen.Kernel10.Frame
public import proofs.«01_k».proof.Proof.Eq10
public import proofs.«01_k».proof.Proof.Gen.Kernel11
public import proofs.«01_k».proof.Proof.Gen.Kernel11.Frame
public import proofs.«01_k».proof.Proof.Eq11
public import proofs.«01_k».proof.Proof.Gen.Kernel12
public import proofs.«01_k».proof.Proof.Gen.Kernel12.Frame
public import proofs.«01_k».proof.Proof.Eq12
public import proofs.«01_k».proof.Proof.Gen.Kernel13
public import proofs.«01_k».proof.Proof.Gen.Kernel13.Frame
public import proofs.«01_k».proof.Proof.Eq13
public import proofs.«01_k».proof.Proof.Gen.Kernel14
public import proofs.«01_k».proof.Proof.Gen.Kernel14.Frame
public import proofs.«01_k».proof.Proof.Eq14
public import proofs.«01_k».proof.Proof.Gen.Kernel15
public import proofs.«01_k».proof.Proof.Gen.Kernel15.Frame
public import proofs.«01_k».proof.Proof.Eq15
public import proofs.«01_k».proof.Proof.Gen.Kernel16
public import proofs.«01_k».proof.Proof.Gen.Kernel16.Frame
public import proofs.«01_k».proof.Proof.Eq16
public import proofs.«01_k».proof.Proof.Gen.Kernel17
public import proofs.«01_k».proof.Proof.Gen.Kernel17.Frame
public import proofs.«01_k».proof.Proof.Eq17
public import proofs.«01_k».proof.Proof.Gen.Kernel18
public import proofs.«01_k».proof.Proof.Gen.Kernel18.Frame
public import proofs.«01_k».proof.Proof.Eq18
public import proofs.«01_k».proof.Proof.Gen.Kernel19
public import proofs.«01_k».proof.Proof.Gen.Kernel19.Frame
public import proofs.«01_k».proof.Proof.Eq19
public import proofs.«01_k».proof.Proof.Gen.Kernel20
public import proofs.«01_k».proof.Proof.Gen.Kernel20.Frame
public import proofs.«01_k».proof.Proof.Eq20
public import proofs.«01_k».proof.Proof.Gen.Kernel21
public import proofs.«01_k».proof.Proof.Gen.Kernel21.Frame
public import proofs.«01_k».proof.Proof.Eq21
public import proofs.«01_k».proof.Proof.Gen.Kernel22
public import proofs.«01_k».proof.Proof.Gen.Kernel22.Frame
public import proofs.«01_k».proof.Proof.Eq22
public import proofs.«01_k».proof.Proof.Gen.Kernel23
public import proofs.«01_k».proof.Proof.Gen.Kernel23.Frame
public import proofs.«01_k».proof.Proof.Eq23
public import proofs.«01_k».proof.Proof.Gen.Kernel24
public import proofs.«01_k».proof.Proof.Gen.Kernel24.Frame
public import proofs.«01_k».proof.Proof.Eq24
public import proofs.«01_k».proof.Proof.Gen.Kernel25
public import proofs.«01_k».proof.Proof.Gen.Kernel25.Frame
public import proofs.«01_k».proof.Proof.Eq25
public import proofs.«01_k».proof.Proof.Gen.Kernel26
public import proofs.«01_k».proof.Proof.Gen.Kernel26.Frame
public import proofs.«01_k».proof.Proof.Eq26
public import proofs.«01_k».proof.Proof.Eq2
public import proofs.«01_k».proof.Proof.Gen.Pre_finite2
public import Idealize.ShloMosaic.Adequacy
public import Idealize.ShloMosaic.Init

/-! The claims, each from the module that proves it. -/

@[expose] public section

noncomputable section

namespace Cert.Proof

open Idealize.ShloMosaic Idealize.SL.Sem

/-- The attention reference runs and leaves its arguments as they were. -/
theorem frame_r : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The reference of the gated product's backward call runs and leaves its arguments as they were. -/
theorem frame_r2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Pre_finite2.Gen.facts,
    fun m ρ _ => Cert.Kernel.Att.frame m ρ, fun m ρ _ => Cert.KernelIdeal.Att.frame m ρ, frame_r,
    fun m ρ _ => Cert.Kernel2.Gen.frame m ρ, fun m ρ _ => Cert.Kernel2Ideal.Gen.frame m ρ, fun m ρ _ => Cert.Kernel2Ideal.Gen.frame m ρ,
    frame_r2, fun m ρ _ => frame_r2 m ρ trivial,
    fun m ρ _ => Cert.Kernel3.Gen.frame m ρ, fun m ρ _ => Cert.Kernel3Ideal.Gen.frame m ρ, Cert.Kernel3Ideal.Prod.ref_frame,
    fun m ρ _ => Cert.Kernel4.Gen.frame m ρ, fun m ρ _ => Cert.Kernel4Ideal.Gen.frame m ρ, Cert.Kernel4Ideal.Prod.ref_frame,
    fun m ρ _ => Cert.Kernel5.Gen.frame m ρ, fun m ρ _ => Cert.Kernel5Ideal.Gen.frame m ρ, Cert.Kernel5Ideal.Prod.ref_frame,
    fun m ρ _ => Cert.Kernel6.Gen.frame m ρ, fun m ρ _ => Cert.Kernel6Ideal.Gen.frame m ρ, Cert.Kernel6Ideal.Prod.ref_frame,
    fun m ρ _ => Cert.Kernel7.Gen.frame m ρ, fun m ρ _ => Cert.Kernel7Ideal.Gen.frame m ρ, Cert.Kernel7Ideal.Prod.ref_frame,
    fun m ρ _ => Cert.Kernel8.Gen.frame m ρ, fun m ρ _ => Cert.Kernel8Ideal.Gen.frame m ρ, Cert.Kernel8Ideal.Prod.ref_frame,
    fun m ρ _ => Cert.Kernel9.Gen.frame m ρ, fun m ρ _ => Cert.Kernel9Ideal.Gen.frame m ρ, Cert.Kernel9Ideal.Prod.ref_frame,
    fun m ρ _ => Cert.Kernel10.Gen.frame m ρ, fun m ρ _ => Cert.Kernel10Ideal.Gen.frame m ρ, Cert.Kernel10Ideal.Prod.ref_frame,
    fun m ρ _ => Cert.Kernel11.Gen.frame m ρ, fun m ρ _ => Cert.Kernel11Ideal.Gen.frame m ρ, Cert.Kernel11Ideal.Prod.ref_frame,
    fun m ρ _ => Cert.Kernel12.Gen.frame m ρ, fun m ρ _ => Cert.Kernel12Ideal.Gen.frame m ρ, Cert.Kernel12Ideal.Prod.ref_frame,
    fun m ρ _ => Cert.Kernel13.Gen.frame m ρ, fun m ρ _ => Cert.Kernel13Ideal.Gen.frame m ρ, Cert.Kernel13Ideal.Prod.ref_frame,
    fun m ρ _ => Cert.Kernel14.Gen.frame m ρ, fun m ρ _ => Cert.Kernel14Ideal.Gen.frame m ρ, Cert.Kernel14Ideal.Up.ref_frame,
    fun m ρ _ => Cert.Kernel15.Gen.frame m ρ, fun m ρ _ => Cert.Kernel15Ideal.Gen.frame m ρ, Cert.Kernel15Ideal.Merge.ref_frame,
    fun m ρ _ => Cert.Kernel16.Gen.frame m ρ, fun m ρ _ => Cert.Kernel16Ideal.Gen.frame m ρ, Cert.Kernel16Ideal.Merge.ref_frame,
    fun m ρ _ => Cert.Kernel17.Gen.frame m ρ, fun m ρ _ => Cert.Kernel17Ideal.Gen.frame m ρ, Cert.Kernel17Ideal.Step.ref_frame,
    fun m ρ _ => Cert.Kernel18.Gen.frame m ρ, fun m ρ _ => Cert.Kernel18Ideal.Gen.frame m ρ, Cert.Kernel18Ideal.Step.ref_frame,
    fun m ρ _ => Cert.Kernel19.Gen.frame m ρ, fun m ρ _ => Cert.Kernel19Ideal.Gen.frame m ρ, Cert.Kernel19Ideal.Step.ref_frame,
    fun m ρ _ => Cert.Kernel20.Gen.frame m ρ, fun m ρ _ => Cert.Kernel20Ideal.Gen.frame m ρ, Cert.Kernel20Ideal.Step.ref_frame,
    fun m ρ _ => Cert.Kernel21.Gen.frame m ρ, fun m ρ _ => Cert.Kernel21Ideal.Gen.frame m ρ, Cert.Kernel21Ideal.Step.ref_frame,
    fun m ρ _ => Cert.Kernel22.Gen.frame m ρ, fun m ρ _ => Cert.Kernel22Ideal.Gen.frame m ρ, Cert.Kernel22Ideal.Step.ref_frame,
    fun m ρ _ => Cert.Kernel23.Gen.frame m ρ, fun m ρ _ => Cert.Kernel23Ideal.Gen.frame m ρ, Cert.Kernel23Ideal.Step.ref_frame,
    fun m ρ _ => Cert.Kernel24.Gen.frame m ρ, fun m ρ _ => Cert.Kernel24Ideal.Gen.frame m ρ, Cert.Kernel24Ideal.Step.ref_frame,
    fun m ρ _ => Cert.Kernel25.Gen.frame m ρ, fun m ρ _ => Cert.Kernel25Ideal.Gen.frame m ρ, Cert.Kernel25Ideal.Mod.ref_frame,
    fun m ρ _ => Cert.Kernel26.Gen.frame m ρ, fun m ρ _ => Cert.Kernel26Ideal.Gen.frame m ρ, Cert.Kernel26Ideal.Mod.ref_frame,
    IdealRules.named_const.statement Cert.KernelIdeal.κ "mask" .f32 0xF149F2CA#32 ⊥ rfl,
    trivial, Cert.Kernel2Ideal.Gated.algebraic,
    trivial, Cert.Kernel3Ideal.Prod.algebraic,
    trivial, Cert.Kernel4Ideal.Prod.algebraic,
    trivial, Cert.Kernel5Ideal.Prod.algebraic,
    trivial, Cert.Kernel6Ideal.Prod.algebraic,
    trivial, Cert.Kernel7Ideal.Prod.algebraic,
    trivial, Cert.Kernel8Ideal.Prod.algebraic,
    trivial, Cert.Kernel9Ideal.Prod.algebraic,
    trivial, Cert.Kernel10Ideal.Prod.algebraic,
    trivial, Cert.Kernel11Ideal.Prod.algebraic,
    trivial, Cert.Kernel12Ideal.Prod.algebraic,
    trivial, Cert.Kernel13Ideal.Prod.algebraic,
    trivial, Cert.Kernel14Ideal.Up.algebraic,
    trivial, Cert.Kernel15Ideal.Merge.algebraic,
    trivial, Cert.Kernel16Ideal.Merge.algebraic,
    trivial, Cert.Kernel17Ideal.Step.algebraic,
    trivial, Cert.Kernel18Ideal.Step.algebraic,
    trivial, Cert.Kernel19Ideal.Step.algebraic,
    trivial, Cert.Kernel20Ideal.Step.algebraic,
    trivial, Cert.Kernel21Ideal.Step.algebraic,
    trivial, Cert.Kernel22Ideal.Step.algebraic,
    trivial, Cert.Kernel23Ideal.Step.algebraic,
    trivial, Cert.Kernel24Ideal.Step.algebraic,
    trivial, Cert.Kernel25Ideal.Mod.algebraic,
    trivial, Cert.Kernel26Ideal.Mod.algebraic⟩

end Cert.Proof

end
